-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_scan_regular [hPre_scan_regular : Cert.Pre_scan_regular.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_scan_regular.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).1 = (fun _ => 1#1)
    ∧ (Cert.Pre_scan_regular.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).2.1 = (fun _ => 1#1)
    ∧ (Cert.Pre_scan_regular.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).2.2.1 = (fun _ => 1#1)
    ∧ (Cert.Pre_scan_regular.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).2.2.2.1 = (fun _ => 1#1)
    ∧ (Cert.Pre_scan_regular.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).2.2.2.2.1 = (fun _ => 1#1)
    ∧ (Cert.Pre_scan_regular.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).2.2.2.2.2.1 = (fun _ => 1#1)
    ∧ (Cert.Pre_scan_regular.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).2.2.2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_scan_regular [hPre_scan_regular : Cert.Pre_scan_regular.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_scan_regular.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))).1 = (fun _ => 1#1)
    ∧ (Cert.Pre_scan_regular.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))).2.1 = (fun _ => 1#1)
    ∧ (Cert.Pre_scan_regular.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))).2.2.1 = (fun _ => 1#1)
    ∧ (Cert.Pre_scan_regular.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))).2.2.2.1 = (fun _ => 1#1)
    ∧ (Cert.Pre_scan_regular.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))).2.2.2.2.1 = (fun _ => 1#1)
    ∧ (Cert.Pre_scan_regular.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))).2.2.2.2.2.1 = (fun _ => 1#1)
    ∧ (Cert.Pre_scan_regular.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))).2.2.2.2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Kernel5Ideal_pre_scan_regular [hKernel5Ideal : Cert.Kernel5Ideal.Facts] [hPre_scan_regular : Cert.Pre_scan_regular.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_scan_regular m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Reference5Ideal_pre_scan_regular [hReference5Ideal : Cert.Reference5Ideal.Facts] [hPre_scan_regular : Cert.Pre_scan_regular.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_scan_regular m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def preserves_Kernel_KernelIdeal : Prop :=
  True

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v37) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v11_0)) (v1 : (c : Dev Cert.Kernel3Ideal.nD) → Buf (Elt Ideal) ((c.tc : Thread Cert.Kernel3Ideal.nD Cert.Kernel3Ideal.τ).loc Cert.Kernel3Ideal.main_v13)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11_0) = v0 c
          ∧ r.2.mem ((c.tc : Thread Cert.Kernel3Ideal.nD Cert.Kernel3Ideal.τ).loc Cert.Kernel3Ideal.main_v13) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v70) = v0 c
          ∧ r.2.mem ((c.tc : Thread Cert.Reference3Ideal.nD Cert.Reference3Ideal.τ).loc Cert.Reference3Ideal.main_v71) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v61_0)) (v1 : (c : Dev Cert.Kernel4Ideal.nD) → Buf (Elt Ideal) ((c.tc : Thread Cert.Kernel4Ideal.nD Cert.Kernel4Ideal.τ).loc Cert.Kernel4Ideal.main_v65)) (v2 : (c : Dev Cert.Kernel4Ideal.nD) → Buf (Elt Ideal) ((c.tc : Thread Cert.Kernel4Ideal.nD Cert.Kernel4Ideal.τ).loc Cert.Kernel4Ideal.main_v68)) (v3 : (c : Dev Cert.Kernel4Ideal.nD) → Buf (Elt Ideal) ((c.tc : Thread Cert.Kernel4Ideal.nD Cert.Kernel4Ideal.τ).loc Cert.Kernel4Ideal.main_v72)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v61_0) = v0 c
          ∧ r.2.mem ((c.tc : Thread Cert.Kernel4Ideal.nD Cert.Kernel4Ideal.τ).loc Cert.Kernel4Ideal.main_v65) = v1 c
          ∧ r.2.mem ((c.tc : Thread Cert.Kernel4Ideal.nD Cert.Kernel4Ideal.τ).loc Cert.Kernel4Ideal.main_v68) = v2 c
          ∧ r.2.mem ((c.tc : Thread Cert.Kernel4Ideal.nD Cert.Kernel4Ideal.τ).loc Cert.Kernel4Ideal.main_v72) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v141) = v0 c
          ∧ r.2.mem ((c.tc : Thread Cert.Reference4Ideal.nD Cert.Reference4Ideal.τ).loc Cert.Reference4Ideal.main_v142) = v1 c
          ∧ r.2.mem ((c.tc : Thread Cert.Reference4Ideal.nD Cert.Reference4Ideal.τ).loc Cert.Reference4Ideal.main_v143) = v2 c
          ∧ r.2.mem ((c.tc : Thread Cert.Reference4Ideal.nD Cert.Reference4Ideal.τ).loc Cert.Reference4Ideal.main_v144) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal_pre_scan_regular [hKernel5Ideal : Cert.Kernel5Ideal.Facts] [hReference5Ideal : Cert.Reference5Ideal.Facts] [hPre_scan_regular : Cert.Pre_scan_regular.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_scan_regular m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v22)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v22) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v66) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v8)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v24) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_scores_finite : Cert.Pre_scores_finite.Facts) (hPre_scan_regular : Cert.Pre_scan_regular.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_scan_regular (hKernel5Ideal := hKernel5Ideal) (hPre_scan_regular := hPre_scan_regular)
    ∧ quiescent_Reference5Ideal (hReference5Ideal := hReference5Ideal)
    ∧ quiescent_Reference5Ideal_pre_scan_regular (hReference5Ideal := hReference5Ideal) (hPre_scan_regular := hPre_scan_regular)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_scan_regular (hKernel5Ideal := hKernel5Ideal) (hReference5Ideal := hReference5Ideal) (hPre_scan_regular := hPre_scan_regular)
    ∧ preserves_Kernel6_Kernel6Ideal
    ∧ algebraic_Kernel6Ideal_Reference6Ideal (hKernel6Ideal := hKernel6Ideal) (hReference6Ideal := hReference6Ideal)
-- ==== Pre_scan_regular.lean ====
abbrev S2x8192x512 : Shape := ⟨3, ![2, 8192, 512]⟩
abbrev S2x32x64 : Shape := ⟨3, ![2, 32, 64]⟩
abbrev S2x32 : Shape := ⟨2, ![2, 32]⟩
abbrev S2x32x64x16 : Shape := ⟨4, ![2, 32, 64, 16]⟩
abbrev S2x32x16x64 : Shape := ⟨4, ![2, 32, 16, 64]⟩
abbrev S_ : Shape := ⟨0, ![]⟩

class Facts : Prop where
  bcast_S_S2x8192x512 : S_.BroadcastsInDim S2x8192x512 (![] : Fin 0 → Fin S2x8192x512.rank)
  bcast_S_S2x32x64x16 : S_.BroadcastsInDim S2x32x64x16 (![] : Fin 0 → Fin S2x32x64x16.rank)
  bcast_S_S2x32x16x64 : S_.BroadcastsInDim S2x32x16x64 (![] : Fin 0 → Fin S2x32x16x64.rank)
  bcast_S_S2x32 : S_.BroadcastsInDim S2x32 (![] : Fin 0 → Fin S2x32.rank)
  bcast_S_S2x32x64 : S_.BroadcastsInDim S2x32x64 (![] : Fin 0 → Fin S2x32x64.rank)

variable [Facts]

def fn_part1 {F : FTy → Type} [FloatOps F] (main_arg1 : FVec F S2x32x64 .f32) (main_arg2 : FVec F S2x32x64 .f32) (main_v2 : IVec S2x8192x512 1) (main_v5 : IVec S2x32x64x16 1) (main_v8 : IVec S2x32x64x16 1) (main_v11 : IVec S2x32x16x64 1) (main_v14 : IVec S2x32x16x64 1) (main_v16 : IVec S2x32 1) (main_cst_5 : FVec F S_ .f32) : IVec S2x8192x512 1 × IVec S2x32x64x16 1 × IVec S2x32x64x16 1 × IVec S2x32x16x64 1 × IVec S2x32x16x64 1 × IVec S2x32 1 × IVec S2x32x64 1 :=
  let main_v17 : FVec F S2x32x64 .f32 := broadcastInDim S2x32x64 ![] bcast_S_S2x32x64 main_cst_5
  let main_v18 : IVec S2x32x64 1 := cmpf .une main_arg1 main_v17
  let main_cst_6 : FVec F S_ .f32 := constant S_ .f32 0x00000000#32
  let main_v19 : FVec F S2x32x64 .f32 := broadcastInDim S2x32x64 ![] bcast_S_S2x32x64 main_cst_6
  let main_v20 : IVec S2x32x64 1 := cmpf .une main_arg2 main_v19
  let main_v21 : IVec S2x32x64 1 := ori main_v18 main_v20
  (main_v2, main_v5, main_v8, main_v11, main_v14, main_v16, main_v21)

def fn {F : FTy → Type} [FloatOps F] (main_arg0 : FVec F S2x8192x512 .f32) (main_arg1 : FVec F S2x32x64 .f32) (main_arg2 : FVec F S2x32x64 .f32) (main_arg3 : FVec F S2x32 .f32) (main_arg4 : FVec F S2x32x64x16 .f32) (main_arg5 : FVec F S2x32x64x16 .f32) (main_arg6 : FVec F S2x32x16x64 .f32) (main_arg7 : FVec F S2x32x16x64 .f32) : IVec S2x8192x512 1 × IVec S2x32x64x16 1 × IVec S2x32x64x16 1 × IVec S2x32x16x64 1 × IVec S2x32x16x64 1 × IVec S2x32 1 × IVec S2x32x64 1 :=
  let main_v0 : FVec F S2x8192x512 .f32 := Host.absf main_arg0
  let main_cst : FVec F S_ .f32 := constant S_ .f32 0x7F800000#32
  let main_v1 : FVec F S2x8192x512 .f32 := broadcastInDim S2x8192x512 ![] bcast_S_S2x8192x512 main_cst
  let main_v2 : IVec S2x8192x512 1 := cmpf .olt main_v0 main_v1
  let main_v3 : FVec F S2x32x64x16 .f32 := Host.absf main_arg4
  let main_cst_0 : FVec F S_ .f32 := constant S_ .f32 0x7F800000#32
  let main_v4 : FVec F S2x32x64x16 .f32 := broadcastInDim S2x32x64x16 ![] bcast_S_S2x32x64x16 main_cst_0
  let main_v5 : IVec S2x32x64x16 1 := cmpf .olt main_v3 main_v4
  let main_v6 : FVec F S2x32x64x16 .f32 := Host.absf main_arg5
  let main_cst_1 : FVec F S_ .f32 := constant S_ .f32 0x7F800000#32
  let main_v7 : FVec F S2x32x64x16 .f32 := broadcastInDim S2x32x64x16 ![] bcast_S_S2x32x64x16 main_cst_1
  let main_v8 : IVec S2x32x64x16 1 := cmpf .olt main_v6 main_v7
  let main_v9 : FVec F S2x32x16x64 .f32 := Host.absf main_arg6
  let main_cst_2 : FVec F S_ .f32 := constant S_ .f32 0x7F800000#32
  let main_v10 : FVec F S2x32x16x64 .f32 := broadcastInDim S2x32x16x64 ![] bcast_S_S2x32x16x64 main_cst_2
  let main_v11 : IVec S2x32x16x64 1 := cmpf .olt main_v9 main_v10
  let main_v12 : FVec F S2x32x16x64 .f32 := Host.absf main_arg7
  let main_cst_3 : FVec F S_ .f32 := constant S_ .f32 0x7F800000#32
  let main_v13 : FVec F S2x32x16x64 .f32 := broadcastInDim S2x32x16x64 ![] bcast_S_S2x32x16x64 main_cst_3
  let main_v14 : IVec S2x32x16x64 1 := cmpf .olt main_v12 main_v13
  let main_cst_4 : FVec F S_ .f32 := constant S_ .f32 0x7F800000#32
  let main_v15 : FVec F S2x32 .f32 := broadcastInDim S2x32 ![] bcast_S_S2x32 main_cst_4
  let main_v16 : IVec S2x32 1 := cmpf .olt main_arg3 main_v15
  let main_cst_5 : FVec F S_ .f32 := constant S_ .f32 0x00000000#32
  fn_part1 (F := F) main_arg1 main_arg2 main_v2 main_v5 main_v8 main_v11 main_v14 main_v16 main_cst_5
-- ==== Pre_scores_finite.lean ====
abbrev S2x8192x8x64 : Shape := ⟨4, ![2, 8192, 8, 64]⟩
abbrev S2x8192x2x64 : Shape := ⟨4, ![2, 8192, 2, 64]⟩
abbrev S_ : Shape := ⟨0, ![]⟩

class Facts : Prop where
  bcast_S_S2x8192x8x64 : S_.BroadcastsInDim S2x8192x8x64 (![] : Fin 0 → Fin S2x8192x8x64.rank)
  bcast_S_S2x8192x2x64 : S_.BroadcastsInDim S2x8192x2x64 (![] : Fin 0 → Fin S2x8192x2x64.rank)

variable [Facts]

def fn {F : FTy → Type} [FloatOps F] (main_arg0 : FVec F S2x8192x8x64 .f32) (main_arg1 : FVec F S2x8192x2x64 .f32) (main_arg2 : FVec F S2x8192x2x64 .f32) : IVec S2x8192x8x64 1 × IVec S2x8192x2x64 1 :=
  let main_v0 : FVec F S2x8192x8x64 .f32 := Host.absf main_arg0
  let main_cst : FVec F S_ .f32 := constant S_ .f32 0x7F800000#32
  let main_v1 : FVec F S2x8192x8x64 .f32 := broadcastInDim S2x8192x8x64 ![] bcast_S_S2x8192x8x64 main_cst
  let main_v2 : IVec S2x8192x8x64 1 := cmpf .olt main_v0 main_v1
  let main_v3 : FVec F S2x8192x2x64 .f32 := Host.absf main_arg1
  let main_cst_0 : FVec F S_ .f32 := constant S_ .f32 0x7F800000#32
  let main_v4 : FVec F S2x8192x2x64 .f32 := broadcastInDim S2x8192x2x64 ![] bcast_S_S2x8192x2x64 main_cst_0
  let main_v5 : IVec S2x8192x2x64 1 := cmpf .olt main_v3 main_v4
  (main_v2, main_v5)
-- ==== Kernel.lean ====
abbrev S2x8192x8x64 : Shape := ⟨4, ![2, 8192, 8, 64]⟩
abbrev S2x8192x2x64 : Shape := ⟨4, ![2, 8192, 2, 64]⟩
abbrev S16384x512 : Shape := ⟨2, ![16384, 512]⟩
abbrev S_ : Shape := ⟨0, ![]⟩
abbrev S512x16384 : Shape := ⟨2, ![512, 16384]⟩
abbrev S16384x2x64 : Shape := ⟨3, ![16384, 2, 64]⟩
abbrev S2x16384x64 : Shape := ⟨3, ![2, 16384, 64]⟩
abbrev S32x512x2x64 : Shape := ⟨4, ![32, 512, 2, 64]⟩
abbrev S2x32x64x512 : Shape := ⟨4, ![2, 32, 64, 512]⟩
abbrev S2x32x16x512 : Shape := ⟨4, ![2, 32, 16, 512]⟩
abbrev S2x32x80x512 : Shape := ⟨4, ![2, 32, 80, 512]⟩
abbrev S256x1024 : Shape := ⟨2, ![256, 1024]⟩
abbrev S1x8192x64 : Shape := ⟨3, ![1, 8192, 64]⟩
abbrev S1x16x80x512 : Shape := ⟨4, ![1, 16, 80, 512]⟩
abbrev S1024x256 : Shape := ⟨2, ![1024, 256]⟩
abbrev S64x4096 : Shape := ⟨2, ![64, 4096]⟩
abbrev S8x4096 : Shape := ⟨2, ![8, 4096]⟩
abbrev S128x4096 : Shape := ⟨2, ![128, 4096]⟩
abbrev S512x4096 : Shape := ⟨2, ![512, 4096]⟩
abbrev S64x1024 : Shape := ⟨2, ![64, 1024]⟩
abbrev S1x512x64 : Shape := ⟨3, ![1, 512, 64]⟩
abbrev S512x64 : Shape := ⟨2, ![512, 64]⟩
abbrev S4096 : Shape := ⟨1, ![4096]⟩
abbrev S1x4096 : Shape := ⟨2, ![1, 4096]⟩
abbrev S80x4096 : Shape := ⟨2, ![80, 4096]⟩
abbrev S1x1x80x512 : Shape := ⟨4, ![1, 1, 80, 512]⟩
abbrev S80x512 : Shape := ⟨2, ![80, 512]⟩
abbrev S4096x128 : Shape := ⟨2, ![4096, 128]⟩
abbrev S1024x64 : Shape := ⟨2, ![1024, 64]⟩

abbrev nBuf : Space → Nat
  | .hbm => 30
  | .vmem => 13
  | .smem => 0
  | _ => 0

abbrev bufTy : (tb : Table) → Fin (tcTables nBuf tb) → BufTy
  | .hbm, ⟨0, _⟩ => ⟨S2x8192x8x64, .f32⟩
  | .hbm, ⟨1, _⟩ => ⟨S2x8192x2x64, .f32⟩
  | .hbm, ⟨2, _⟩ => ⟨S2x8192x2x64, .f32⟩
  | .hbm, ⟨3, _⟩ => ⟨S16384x512, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S16384x512, .f32⟩
  | .hbm, ⟨9, _⟩ => ⟨S16384x512, .f32⟩
  | .hbm, ⟨10, _⟩ => ⟨S512x16384, .f32⟩
  | .hbm, ⟨11, _⟩ => ⟨S512x16384, .bf16⟩
  | .hbm, ⟨12, _⟩ => ⟨S16384x2x64, .f32⟩
  | .hbm, ⟨13, _⟩ => ⟨S2x16384x64, .f32⟩
  | .hbm, ⟨14, _⟩ => ⟨S2x16384x64, .bf16⟩
  | .hbm, ⟨15, _⟩ => ⟨S32x512x2x64, .f32⟩
  | .hbm, ⟨16, _⟩ => ⟨S2x32x64x512, .f32⟩
  | .hbm, ⟨17, _⟩ => ⟨S2x32x16x512, .i32⟩
  | .hbm, ⟨18, _⟩ => ⟨S_, .i32⟩
  | .hbm, ⟨19, _⟩ => ⟨S2x32x16x512, .i32⟩
  | .hbm, ⟨20, _⟩ => ⟨S2x32x16x512, .i1⟩
  | .hbm, ⟨21, _⟩ => ⟨S_, .f32⟩
  | .hbm, ⟨22, _⟩ => ⟨S_, .f32⟩
  | .hbm, ⟨23, _⟩ => ⟨S2x32x16x512, .f32⟩
  | .hbm, ⟨24, _⟩ => ⟨S2x32x16x512, .f32⟩
  | .hbm, ⟨25, _⟩ => ⟨S2x32x16x512, .f32⟩
  | .hbm, ⟨26, _⟩ => ⟨S2x32x16x512, .f32⟩
  | .hbm, ⟨27, _⟩ => ⟨S2x32x80x512, .f32⟩
  | .hbm, ⟨28, _⟩ => ⟨S2x32x80x512, .bf16⟩
  | .hbm, ⟨29, _⟩ => ⟨S16384x512, .f32⟩
  | .local _ .vmem, ⟨0, _⟩ => ⟨S256x1024, .bf16⟩
  | .local _ .vmem, ⟨1, _⟩ => ⟨S256x1024, .bf16⟩
  | .local _ .vmem, ⟨2, _⟩ => ⟨S1x8192x64, .bf16⟩
  | .local _ .vmem, ⟨3, _⟩ => ⟨S1x8192x64, .bf16⟩
  | .local _ .vmem, ⟨4, _⟩ => ⟨S1x16x80x512, .bf16⟩
  | .local _ .vmem, ⟨5, _⟩ => ⟨S1x16x80x512, .bf16⟩
  | .local _ .vmem, ⟨6, _⟩ => ⟨S1024x256, .f32⟩
  | .local _ .vmem, ⟨7, _⟩ => ⟨S1024x256, .f32⟩
  | .local _ .vmem, ⟨8, _⟩ => ⟨S64x4096, .bf16⟩
  | .local _ .vmem, ⟨9, _⟩ => ⟨S8x4096, .f32⟩
  | .local _ .vmem, ⟨10, _⟩ => ⟨S128x4096, .f32⟩
  | .local _ .vmem, ⟨11, _⟩ => ⟨S512x4096, .f32⟩
  | .local _ .vmem, ⟨12, _⟩ => ⟨S512x4096, .f32⟩
  | _, _ => ⟨S2x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 8], ![false, false, false]⟩

def k0_mult1 : BitVec 32 :=
  let c0_i32 : BitVec 32 := 0#32
  c0_i32
@[reducible] def k0_t1_loop : Scf.Loop 32 :=
  let c0_i32_18 : BitVec 32 := 0#32
  let c7_i32 : BitVec 32 := 7#32
  let v35 : BitVec 32 := Scalar.addi c0_i32_18 c7_i32
  let c1_i32 : BitVec 32 := 1#32
  ⟨c0_i32_18, v35, c1_i32⟩
def k0_mult2 (k0_t1 : Fin k0_t1_loop.trips) : BitVec 32 :=
  let c2_i32 : BitVec 32 := 2#32
  let c0_i32_18 : BitVec 32 := 0#32
  let c1_i32 : BitVec 32 := 1#32
  let arg12 : BitVec 32 := Scf.iv c0_i32_18 c1_i32 k0_t1
  let v110 : BitVec 32 := Scalar.muli c2_i32 arg12
  let c1_i32_61 : BitVec 32 := 1#32
  let v111 : BitVec 32 := Scalar.addi v110 c1_i32_61
  let c512_i32 : BitVec 32 := 512#32
  let v112 : BitVec 32 := Scalar.muli v111 c512_i32
  v112
def k0_off1 (k0_t1 : Fin k0_t1_loop.trips) (c1_i32_61 : BitVec 32) : Fin 3 → Nat :=
  let c0_62 : Index := 0#32
  let c2_i32 : BitVec 32 := 2#32
  let c0_i32_18 : BitVec 32 := 0#32
  let c1_i32 : BitVec 32 := 1#32
  let arg12 : BitVec 32 := Scf.iv c0_i32_18 c1_i32 k0_t1
  let v110 : BitVec 32 := Scalar.muli c2_i32 arg12
  let v111 : BitVec 32 := Scalar.addi v110 c1_i32_61
  let c512_i32 : BitVec 32 := 512#32
  let v112 : BitVec 32 := Scalar.muli v111 c512_i32
  let v113 : BitVec 32 := v112
  let v114 : Index := Scalar.indexCast v113
  let c0_63 : Index := 0#32
  ![0, v114.toNat, 0]
def k0_off2 (k0_t1 : Fin k0_t1_loop.trips) : Fin 4 → Nat :=
  let c0_77 : Index := 0#32
  let c2_i32_69 : BitVec 32 := 2#32
  let c0_i32_18 : BitVec 32 := 0#32
  let c1_i32 : BitVec 32 := 1#32
  let arg12 : BitVec 32 := Scf.iv c0_i32_18 c1_i32 k0_t1
  let v122 : BitVec 32 := Scalar.muli c2_i32_69 arg12
  let v139 : Index := Scalar.indexCast v122
  let c0_78 : Index := 0#32
  let c0_79 : Index := 0#32
  ![0, v139.toNat, 0, 0]
def k0_mult3 (k0_t1 : Fin k0_t1_loop.trips) : BitVec 32 :=
  let c2_i32_85 : BitVec 32 := 2#32
  let c0_i32_18 : BitVec 32 := 0#32
  let c1_i32 : BitVec 32 := 1#32
  let arg12 : BitVec 32 := Scf.iv c0_i32_18 c1_i32 k0_t1
  let v151 : BitVec 32 := Scalar.muli c2_i32_85 arg12
  let c2_i32_86 : BitVec 32 := 2#32
  let v152 : BitVec 32 := Scalar.addi v151 c2_i32_86
  let c512_i32_87 : BitVec 32 := 512#32
  let v153 : BitVec 32 := Scalar.muli v152 c512_i32_87
  v153
def k0_off3 (k0_t1 : Fin k0_t1_loop.trips) : Fin 4 → Nat :=
  let c0_104 : Index := 0#32
  let c2_i32_95 : BitVec 32 := 2#32
  let c0_i32_18 : BitVec 32 := 0#32
  let c1_i32 : BitVec 32 := 1#32
  let arg12 : BitVec 32 := Scf.iv c0_i32_18 c1_i32 k0_t1
  let v163 : BitVec 32 := Scalar.muli c2_i32_95 arg12
  let c1_i32_96 : BitVec 32 := 1#32
  let v164 : BitVec 32 := Scalar.addi v163 c1_i32_96
  let v181 : Index := Scalar.indexCast v164
  let c0_105 : Index := 0#32
  let c0_106 : Index := 0#32
  ![0, v181.toNat, 0, 0]
def k0_mult4 : BitVec 32 :=
  let c7680_i32 : BitVec 32 := 7680#32
  c7680_i32
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![arg1.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16x80x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S2x8192x8x64 : Shape := ⟨4, ![2, 8192, 8, 64]⟩
abbrev S2x8192x2x64 : Shape := ⟨4, ![2, 8192, 2, 64]⟩
abbrev S2x8192x2x4x64 : Shape := ⟨5, ![2, 8192, 2, 4, 64]⟩
abbrev S2x2x8192x8192x4 : Shape := ⟨5, ![2, 2, 8192, 8192, 4]⟩
abbrev S2x2x4x8192x8192 : Shape := ⟨5, ![2, 2, 4, 8192, 8192]⟩
abbrev S_ : Shape := ⟨0, ![]⟩
abbrev S2x2x4x8192 : Shape := ⟨4, ![2, 2, 4, 8192]⟩
abbrev S2x2x4x8192x1 : Shape := ⟨5, ![2, 2, 4, 8192, 1]⟩
abbrev S2x2x64x4x8192 : Shape := ⟨5, ![2, 2, 64, 4, 8192]⟩
abbrev S16384x512 : Shape := ⟨2, ![16384, 512]⟩

abbrev nBuf : Space → Nat
  | .hbm => 26
  | .vmem => 0
  | .smem => 0
  | _ => 0

abbrev bufTy : (tb : Table) → Fin (tcTables nBuf tb) → BufTy
  | .hbm, ⟨0, _⟩ => ⟨S2x8192x8x64, .f32⟩
  | .hbm, ⟨1, _⟩ => ⟨S2x8192x2x64, .f32⟩
  | .hbm, ⟨2, _⟩ => ⟨S2x8192x2x64, .f32⟩
  | .hbm, ⟨3, _⟩ => ⟨S2x8192x2x4x64, .f32⟩
  | .hbm, ⟨4, _⟩ => ⟨S2x2x8192x8192x4, .f32⟩
  | .hbm, ⟨5, _⟩ => ⟨S2x2x4x8192x8192, .f32⟩
  | .hbm, ⟨6, _⟩ => ⟨S_, .f32⟩
  | .hbm, ⟨7, _⟩ => ⟨S2x2x4x8192x8192, .f32⟩
  | .hbm, ⟨8, _⟩ => ⟨S2x2x4x8192x8192, .f32⟩
  | .hbm, ⟨9, _⟩ => ⟨S_, .f32⟩
  | .hbm, ⟨10, _⟩ => ⟨S2x2x4x8192, .f32⟩
  | .hbm, ⟨11, _⟩ => ⟨S_, .f32⟩
  | .hbm, ⟨12, _⟩ => ⟨S2x2x4x8192, .f32⟩
  | .hbm, ⟨13, _⟩ => ⟨S2x2x4x8192, .f32⟩
  | .hbm, ⟨14, _⟩ => ⟨S2x2x4x8192x1, .f32⟩
  | .hbm, ⟨15, _⟩ => ⟨S2x2x4x8192x8192, .f32⟩
  | .hbm, ⟨16, _⟩ => ⟨S2x2x4x8192x8192, .f32⟩
  | .hbm, ⟨17, _⟩ => ⟨S2x2x4x8192x8192, .f32⟩
  | .hbm, ⟨18, _⟩ => ⟨S_, .f32⟩
  | .hbm, ⟨19, _⟩ => ⟨S2x2x4x8192, .f32⟩
  | .hbm, ⟨20, _⟩ => ⟨S2x2x4x8192x1, .f32⟩
  | .hbm, ⟨21, _⟩ => ⟨S2x2x4x8192x8192, .f32⟩
  | .hbm, ⟨22, _⟩ => ⟨S2x2x4x8192x8192, .f32⟩
  | .hbm, ⟨23, _⟩ => ⟨S2x2x64x4x8192, .f32⟩
  | .hbm, ⟨24, _⟩ => ⟨S2x8192x2x4x64, .f32⟩
  | .hbm, ⟨25, _⟩ => ⟨S16384x512, .f32⟩
  | _, _ => ⟨S2x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel2.lean ====
abbrev S2x8192x1024 : Shape := ⟨3, ![2, 8192, 1024]⟩
abbrev S2x8192x256 : Shape := ⟨3, ![2, 8192, 256]⟩
abbrev S1024 : Shape := ⟨1, ![1024]⟩
abbrev S1024x1024 : Shape := ⟨2, ![1024, 1024]⟩
abbrev S256x1024 : Shape := ⟨2, ![256, 1024]⟩
abbrev S16384x1024 : Shape := ⟨2, ![16384, 1024]⟩
abbrev S1024x16384 : Shape := ⟨2, ![1024, 16384]⟩
abbrev S16384x256 : Shape := ⟨2, ![16384, 256]⟩
abbrev S1x1024 : Shape := ⟨2, ![1, 1024]⟩
abbrev S512x1024 : Shape := ⟨2, ![512, 1024]⟩
abbrev S1024x512 : Shape := ⟨2, ![1024, 512]⟩
abbrev S512x256 : Shape := ⟨2, ![512, 256]⟩
abbrev S512 : Shape := ⟨1, ![512]⟩
abbrev S512x1 : Shape := ⟨2, ![512, 1]⟩

abbrev nBuf : Space → Nat
  | .hbm => 16
  | .vmem => 12
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x8192x256, .f32⟩
  | .hbm, ⟨3, _⟩ => ⟨S1024, .f32⟩
  | .hbm, ⟨4, _⟩ => ⟨S1024x1024, .f32⟩
  | .hbm, ⟨5, _⟩ => ⟨S256x1024, .f32⟩
  | .hbm, ⟨6, _⟩ => ⟨S1024, .f32⟩
  | .hbm, ⟨7, _⟩ => ⟨S16384x1024, .f32⟩
  | .hbm, ⟨8, _⟩ => ⟨S16384x1024, .f32⟩
  | .hbm, ⟨9, _⟩ => ⟨S1024x16384, .f32⟩
  | .hbm, ⟨10, _⟩ => ⟨S16384x256, .f32⟩
  | .hbm, ⟨11, _⟩ => ⟨S1x1024, .f32⟩
  | .hbm, ⟨12, _⟩ => ⟨S1024x1024, .bf16⟩
  | .hbm, ⟨13, _⟩ => ⟨S256x1024, .bf16⟩
  | .hbm, ⟨14, _⟩ => ⟨S1x1024, .f32⟩
  | .hbm, ⟨15, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x512, .f32⟩
  | .local _ .vmem, ⟨3, _⟩ => ⟨S1024x512, .f32⟩
  | .local _ .vmem, ⟨4, _⟩ => ⟨S512x256, .f32⟩
  | .local _ .vmem, ⟨5, _⟩ => ⟨S512x256, .f32⟩
  | .local _ .vmem, ⟨6, _⟩ => ⟨S1x1024, .f32⟩
  | .local _ .vmem, ⟨7, _⟩ => ⟨S1024x1024, .bf16⟩
  | .local _ .vmem, ⟨8, _⟩ => ⟨S256x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S2x8192x1024 : Shape := ⟨3, ![2, 8192, 1024]⟩
abbrev S2x8192x256 : Shape := ⟨3, ![2, 8192, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S16384x1024 : Shape := ⟨2, ![16384, 1024]⟩

abbrev nBuf : Space → Nat
  | .hbm => 53
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x8192x256, .f32⟩
  | .hbm, ⟨3, _⟩ => ⟨S1024, .f32⟩
  | .hbm, ⟨4, _⟩ => ⟨S1024x1024, .f32⟩
  | .hbm, ⟨5, _⟩ => ⟨S256x1024, .f32⟩
  | .hbm, ⟨6, _⟩ => ⟨S1024, .f32⟩
  | .hbm, ⟨7, _⟩ => ⟨S2x8192x1024, .f32⟩
  | .hbm, ⟨8, _⟩ => ⟨S2x8192x1024, .f32⟩
  | .hbm, ⟨9, _⟩ => ⟨S_, .f32⟩
  | .hbm, ⟨10, _⟩ => ⟨S2x8192, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S2x8192x1, .f32⟩
  | .hbm, ⟨19, _⟩ => ⟨S2x8192x1024, .f32⟩
  | .hbm, ⟨20, _⟩ => ⟨S2x8192x1024, .f32⟩
  | .hbm, ⟨21, _⟩ => ⟨S1x1x1024, .f32⟩
  | .hbm, ⟨22, _⟩ => ⟨S2x8192x1024, .f32⟩
  | .hbm, ⟨23, _⟩ => ⟨S2x8192x1024, .f32⟩
  | .hbm, ⟨24, _⟩ => ⟨S2x8192x1024, .f32⟩
  | .hbm, ⟨25, _⟩ => ⟨S2x8192x1024, .f32⟩
  | .hbm, ⟨26, _⟩ => ⟨S2x8192x1024, .f32⟩
  | .hbm, ⟨27, _⟩ => ⟨S_, .f32⟩
  | .hbm, ⟨28, _⟩ => ⟨S2x8192x1024, .f32⟩
  | .hbm, ⟨29, _⟩ => ⟨S2x8192x1024, .f32⟩
  | .hbm, ⟨30, _⟩ => ⟨S_, .f32⟩
  | .hbm, ⟨31, _⟩ => ⟨S2x8192x1024, .f32⟩
  | .hbm, ⟨32, _⟩ => ⟨S2x8192x1024, .f32⟩
  | .hbm, ⟨33, _⟩ => ⟨S2x8192x1024, .f32⟩
  | .hbm, ⟨34, _⟩ => ⟨S2x8192x1024, .f32⟩
  | .hbm, ⟨35, _⟩ => ⟨S2x8192x1024, .f32⟩
  | .hbm, ⟨36, _⟩ => ⟨S2x8192x1024, .f32⟩
  | .hbm, ⟨37, _⟩ => ⟨S_, .f32⟩
  | .hbm, ⟨38, _⟩ => ⟨S2x8192, .f32⟩
  | .hbm, ⟨39, _⟩ => ⟨S2x8192x1, .f32⟩
  | .hbm, ⟨40, _⟩ => ⟨S_, .f32⟩
  | .hbm, ⟨41, _⟩ => ⟨S2x8192x1, .f32⟩
  | .hbm, ⟨42, _⟩ => ⟨S2x8192x1, .f32⟩
  | .hbm, ⟨43, _⟩ => ⟨S_, .f32⟩
  | .hbm, ⟨44, _⟩ => ⟨S2x8192x1, .f32⟩
  | .hbm, ⟨45, _⟩ => ⟨S2x8192x1, .f32⟩
  | .hbm, ⟨46, _⟩ => ⟨S2x8192x1, .f32⟩
  | .hbm, ⟨47, _⟩ => ⟨S2x8192x1024, .f32⟩
  | .hbm, ⟨48, _⟩ => ⟨S2x8192x1024, .f32⟩
  | .hbm, ⟨49, _⟩ => ⟨S1x1x1024, .f32⟩
  | .hbm, ⟨50, _⟩ => ⟨S2x8192x1024, .f32⟩
  | .hbm, ⟨51, _⟩ => ⟨S2x8192x1024, .f32⟩
  | .hbm, ⟨52, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩

abbrev nD : Nat := 1
abbrev τ : Topo := Topo.v7x

variable {F : FTy → Type} [FloatOps F]
-- ==== Kernel3.lean ====
abbrev S2x8192x1024 : Shape := ⟨3, ![2, 8192, 1024]⟩
abbrev S2x8192x512 : Shape := ⟨3, ![2, 8192, 512]⟩
abbrev S512 : Shape := ⟨1, ![512]⟩
abbrev S512x512 : Shape := ⟨2, ![512, 512]⟩
abbrev S1024x1024 : Shape := ⟨2, ![1024, 1024]⟩
abbrev S1024 : Shape := ⟨1, ![1024]⟩
abbrev S16384x1024 : Shape := ⟨2, ![16384, 1024]⟩
abbrev S16384x512 : Shape := ⟨2, ![16384, 512]⟩
abbrev S1x512 : Shape := ⟨2, ![1, 512]⟩
abbrev S1x1024 : Shape := ⟨2, ![1, 1024]⟩
abbrev S1024x16384 : Shape := ⟨2, ![1024, 16384]⟩
abbrev S512x1024 : Shape := ⟨2, ![512, 1024]⟩
abbrev S1024x512 : Shape := ⟨2, ![1024, 512]⟩
abbrev S512x1 : Shape := ⟨2, ![512, 1]⟩

abbrev nBuf : Space → Nat
  | .hbm => 26
  | .vmem => 19
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x512, .f32⟩
  | .hbm, ⟨3, _⟩ => ⟨S2x8192x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S1024x1024, .f32⟩
  | .hbm, ⟨10, _⟩ => ⟨S1024, .f32⟩
  | .hbm, ⟨11, _⟩ => ⟨S16384x1024, .f32⟩
  | .hbm, ⟨12, _⟩ => ⟨S16384x512, .f32⟩
  | .hbm, ⟨13, _⟩ => ⟨S16384x512, .f32⟩
  | .hbm, ⟨14, _⟩ => ⟨S16384x512, .f32⟩
  | .hbm, ⟨15, _⟩ => ⟨S1x512, .f32⟩
  | .hbm, ⟨16, _⟩ => ⟨S512x512, .bf16⟩
  | .hbm, ⟨17, _⟩ => ⟨S1x512, .f32⟩
  | .hbm, ⟨18, _⟩ => ⟨S1x512, .f32⟩
  | .hbm, ⟨19, _⟩ => ⟨S1x512, .f32⟩
  | .hbm, ⟨20, _⟩ => ⟨S1024x1024, .bf16⟩
  | .hbm, ⟨21, _⟩ => ⟨S1x1024, .f32⟩
  | .hbm, ⟨22, _⟩ => ⟨S16384x1024, .f32⟩
  | .hbm, ⟨23, _⟩ => ⟨S1024x16384, .bf16⟩
  | .hbm, ⟨24, _⟩ => ⟨S16384x1024, .bf16⟩
  | .hbm, ⟨25, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x512, .f32⟩
  | .local _ .vmem, ⟨9, _⟩ => ⟨S512x512, .bf16⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1024x1024, .bf16⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S1024x512, .bf16⟩
  | .local _ .vmem, ⟨18, _⟩ => ⟨S1024x512, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_v12 : Ref sig .tc := ⟨.hbm, 24, rfl⟩
abbrev main_v13 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference3Ideal.lean ====
abbrev S2x8192x1024 : Shape := ⟨3, ![2, 8192, 1024]⟩
abbrev S2x8192x512 : Shape := ⟨3, ![2, 8192, 512]⟩
abbrev S512 : Shape := ⟨1, ![512]⟩
abbrev S512x512 : Shape := ⟨2, ![512, 512]⟩
abbrev S1024x1024 : Shape := ⟨2, ![1024, 1024]⟩
abbrev S1024 : Shape := ⟨1, ![1024]⟩
abbrev S1x1x512 : Shape := ⟨3, ![1, 1, 512]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S16384x1024 : Shape := ⟨2, ![16384, 1024]⟩

abbrev nBuf : Space → Nat
  | .hbm => 98
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x512, .f32⟩
  | .hbm, ⟨3, _⟩ => ⟨S2x8192x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S1024x1024, .f32⟩
  | .hbm, ⟨10, _⟩ => ⟨S1024, .f32⟩
  | .hbm, ⟨11, _⟩ => ⟨S1x1x512, .f32⟩
  | .hbm, ⟨12, _⟩ => ⟨S2x8192x512, .f32⟩
  | .hbm, ⟨13, _⟩ => ⟨S2x8192x512, .f32⟩
  | .hbm, ⟨14, _⟩ => ⟨S2x8192x512, .f32⟩
  | .hbm, ⟨15, _⟩ => ⟨S2x8192x512, .f32⟩
  | .hbm, ⟨16, _⟩ => ⟨S2x8192x512, .f32⟩
  | .hbm, ⟨17, _⟩ => ⟨S_, .f32⟩
  | .hbm, ⟨18, _⟩ => ⟨S2x8192x512, .f32⟩
  | .hbm, ⟨19, _⟩ => ⟨S2x8192x512, .f32⟩
  | .hbm, ⟨20, _⟩ => ⟨S2x8192x512, .f32⟩
  | .hbm, ⟨21, _⟩ => ⟨S_, .f32⟩
  | .hbm, ⟨22, _⟩ => ⟨S2x8192x512, .f32⟩
  | .hbm, ⟨23, _⟩ => ⟨S2x8192x512, .f32⟩
  | .hbm, ⟨24, _⟩ => ⟨S2x8192x512, .f32⟩
  | .hbm, ⟨25, _⟩ => ⟨S_, .f32⟩
  | .hbm, ⟨26, _⟩ => ⟨S2x8192x512, .f32⟩
  | .hbm, ⟨27, _⟩ => ⟨S2x8192x512, .f32⟩
  | .hbm, ⟨28, _⟩ => ⟨S_, .f32⟩
  | .hbm, ⟨29, _⟩ => ⟨S2x8192x512, .f32⟩
  | .hbm, ⟨30, _⟩ => ⟨S2x8192x512, .f32⟩
  | .hbm, ⟨31, _⟩ => ⟨S2x8192x512, .f32⟩
  | .hbm, ⟨32, _⟩ => ⟨S2x8192x512, .f32⟩
  | .hbm, ⟨33, _⟩ => ⟨S1x1x512, .f32⟩
  | .hbm, ⟨34, _⟩ => ⟨S2x8192x512, .f32⟩
  | .hbm, ⟨35, _⟩ => ⟨S2x8192x512, .f32⟩
  | .hbm, ⟨36, _⟩ => ⟨S2x8192x512, .f32⟩
  | .hbm, ⟨37, _⟩ => ⟨S2x8192x512, .f32⟩
  | .hbm, ⟨38, _⟩ => ⟨S_, .f32⟩
  | .hbm, ⟨39, _⟩ => ⟨S2x8192x512, .f32⟩
  | .hbm, ⟨40, _⟩ => ⟨S2x8192x512, .f32⟩
  | .hbm, ⟨41, _⟩ => ⟨S_, .f32⟩
  | .hbm, ⟨42, _⟩ => ⟨S2x8192x512, .f32⟩
  | .hbm, ⟨43, _⟩ => ⟨S2x8192x512, .f32⟩
  | .hbm, ⟨44, _⟩ => ⟨S2x8192x512, .f32⟩
  | .hbm, ⟨45, _⟩ => ⟨S2x8192x512, .f32⟩
  | .hbm, ⟨46, _⟩ => ⟨S_, .f32⟩
  | .hbm, ⟨47, _⟩ => ⟨S2x8192, .f32⟩
  | .hbm, ⟨48, _⟩ => ⟨S2x8192x1, .f32⟩
  | .hbm, ⟨49, _⟩ => ⟨S_, .f32⟩
  | .hbm, ⟨50, _⟩ => ⟨S2x8192x1, .f32⟩
  | .hbm, ⟨51, _⟩ => ⟨S2x8192x1, .f32⟩
  | .hbm, ⟨52, _⟩ => ⟨S_, .f32⟩
  | .hbm, ⟨53, _⟩ => ⟨S2x8192x1, .f32⟩
  | .hbm, ⟨54, _⟩ => ⟨S2x8192x1, .f32⟩
  | .hbm, ⟨55, _⟩ => ⟨S2x8192x1, .f32⟩
  | .hbm, ⟨56, _⟩ => ⟨S2x8192x512, .f32⟩
  | .hbm, ⟨57, _⟩ => ⟨S2x8192x512, .f32⟩
  | .hbm, ⟨58, _⟩ => ⟨S1x1x512, .f32⟩
  | .hbm, ⟨59, _⟩ => ⟨S2x8192x512, .f32⟩
  | .hbm, ⟨60, _⟩ => ⟨S2x8192x512, .f32⟩
  | .hbm, ⟨61, _⟩ => ⟨S2x8192x512, .f32⟩
  | .hbm, ⟨62, _⟩ => ⟨S_, .f32⟩
  | .hbm, ⟨63, _⟩ => ⟨S2x8192, .f32⟩
  | .hbm, ⟨64, _⟩ => ⟨S2x8192x1, .f32⟩
  | .hbm, ⟨65, _⟩ => ⟨S_, .f32⟩
  | .hbm, ⟨66, _⟩ => ⟨S2x8192x1, .f32⟩
  | .hbm, ⟨67, _⟩ => ⟨S2x8192x1, .f32⟩
  | .hbm, ⟨68, _⟩ => ⟨S_, .f32⟩
  | .hbm, ⟨69, _⟩ => ⟨S2x8192x1, .f32⟩
  | .hbm, ⟨70, _⟩ => ⟨S2x8192x1, .f32⟩
  | .hbm, ⟨71, _⟩ => ⟨S2x8192x1, .f32⟩
  | .hbm, ⟨72, _⟩ => ⟨S2x8192x512, .f32⟩
  | .hbm, ⟨73, _⟩ => ⟨S2x8192x512, .f32⟩
  | .hbm, ⟨74, _⟩ => ⟨S1x1x512, .f32⟩
  | .hbm, ⟨75, _⟩ => ⟨S2x8192x512, .f32⟩
  | .hbm, ⟨76, _⟩ => ⟨S2x8192x512, .f32⟩
  | .hbm, ⟨77, _⟩ => ⟨S2x8192x1024, .f32⟩
  | .hbm, ⟨78, _⟩ => ⟨S2x8192x1024, .f32⟩
  | .hbm, ⟨79, _⟩ => ⟨S2x8192x1024, .f32⟩
  | .hbm, ⟨80, _⟩ => ⟨S2x8192x1024, .f32⟩
  | .hbm, ⟨81, _⟩ => ⟨S_, .f32⟩
  | .hbm, ⟨82, _⟩ => ⟨S2x8192, .f32⟩
  | .hbm, ⟨83, _⟩ => ⟨S2x8192x1, .f32⟩
  | .hbm, ⟨84, _⟩ => ⟨S_, .f32⟩
  | .hbm, ⟨85, _⟩ => ⟨S2x8192x1, .f32⟩
  | .hbm, ⟨86, _⟩ => ⟨S2x8192x1, .f32⟩
  | .hbm, ⟨87, _⟩ => ⟨S_, .f32⟩
  | .hbm, ⟨88, _⟩ => ⟨S2x8192x1, .f32⟩
  | .hbm, ⟨89, _⟩ => ⟨S2x8192x1, .f32⟩
  | .hbm, ⟨90, _⟩ => ⟨S2x8192x1, .f32⟩
  | .hbm, ⟨91, _⟩ => ⟨S2x8192x1024, .f32⟩
  | .hbm, ⟨92, _⟩ => ⟨S2x8192x1024, .f32⟩
  | .hbm, ⟨93, _⟩ => ⟨S1x1x1024, .f32⟩
  | .hbm, ⟨94, _⟩ => ⟨S2x8192x1024, .f32⟩
  | .hbm, ⟨95, _⟩ => ⟨S2x8192x1024, .f32⟩
  | .hbm, ⟨96, _⟩ => ⟨S16384x1024, .f32⟩
  | .hbm, ⟨97, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_cst_10 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_cst_12 : Ref sig .tc := ⟨.hbm, 84, rfl⟩
abbrev main_v60 : Ref sig .tc := ⟨.hbm, 85, rfl⟩
abbrev main_v61 : Ref sig .tc := ⟨.hbm, 86, rfl⟩
abbrev main_cst_13 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩

abbrev nD : Nat := 1
abbrev τ : Topo := Topo.v7x

variable {F : FTy → Type} [FloatOps F]
-- ==== Kernel4.lean ====
abbrev S2x8192x1024 : Shape := ⟨3, ![2, 8192, 1024]⟩
abbrev S1024 : Shape := ⟨1, ![1024]⟩
abbrev S1024x1280 : Shape := ⟨2, ![1024, 1280]⟩
abbrev S64 : Shape := ⟨1, ![64]⟩
abbrev S128 : Shape := ⟨1, ![128]⟩
abbrev S128x64 : Shape := ⟨2, ![128, 64]⟩
abbrev S8192 : Shape := ⟨1, ![8192]⟩
abbrev S1x64 : Shape := ⟨2, ![1, 64]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x64 : Shape := ⟨2, ![8192, 64]⟩
abbrev S1x8192x1x64 : Shape := ⟨4, ![1, 8192, 1, 64]⟩
abbrev S1x8192x8x64 : Shape := ⟨4, ![1, 8192, 8, 64]⟩
abbrev S8192x512 : Shape := ⟨2, ![8192, 512]⟩
abbrev S8x8 : Shape := ⟨2, ![8, 8]⟩
abbrev S64x64 : Shape := ⟨2, ![64, 64]⟩
abbrev S8x1x8x1 : Shape := ⟨4, ![8, 1, 8, 1]⟩
abbrev S1x64x1x64 : Shape := ⟨4, ![1, 64, 1, 64]⟩
abbrev S8x64x8x64 : Shape := ⟨4, ![8, 64, 8, 64]⟩
abbrev S512x512 : Shape := ⟨2, ![512, 512]⟩
abbrev S16384x1024 : Shape := ⟨2, ![16384, 1024]⟩
abbrev S1x1024 : Shape := ⟨2, ![1, 1024]⟩
abbrev S8x64 : Shape := ⟨2, ![8, 64]⟩
abbrev S512 : Shape := ⟨1, ![512]⟩
abbrev S1x512 : Shape := ⟨2, ![1, 512]⟩
abbrev S2x64 : Shape := ⟨2, ![2, 64]⟩
abbrev S1x128 : Shape := ⟨2, ![1, 128]⟩
abbrev S16384x512 : Shape := ⟨2, ![16384, 512]⟩
abbrev S512x16384 : Shape := ⟨2, ![512, 16384]⟩
abbrev S2x16384x64 : Shape := ⟨3, ![2, 16384, 64]⟩
abbrev S2x32x80x512 : Shape := ⟨4, ![2, 32, 80, 512]⟩
abbrev S512x1024 : Shape := ⟨2, ![512, 1024]⟩
abbrev S2x512x64 : Shape := ⟨3, ![2, 512, 64]⟩
abbrev S2x1x80x512 : Shape := ⟨4, ![2, 1, 80, 512]⟩
abbrev S512x1 : Shape := ⟨2, ![512, 1]⟩
abbrev S512x1280 : Shape := ⟨2, ![512, 1280]⟩
abbrev S512x128 : Shape := ⟨2, ![512, 128]⟩
abbrev S128x128 : Shape := ⟨2, ![128, 128]⟩
abbrev S128x512 : Shape := ⟨2, ![128, 512]⟩
abbrev S16x512 : Shape := ⟨2, ![16, 512]⟩
abbrev S512x64 : Shape := ⟨2, ![512, 64]⟩
abbrev S1x512x64 : Shape := ⟨3, ![1, 512, 64]⟩
abbrev S64x512 : Shape := ⟨2, ![64, 512]⟩
abbrev S80x512 : Shape := ⟨2, ![80, 512]⟩
abbrev S1x1x80x512 : Shape := ⟨4, ![1, 1, 80, 512]⟩
abbrev S16384x2x64 : Shape := ⟨3, ![16384, 2, 64]⟩
abbrev S16384x128 : Shape := ⟨2, ![16384, 128]⟩
abbrev S2x32x64x512 : Shape := ⟨4, ![2, 32, 64, 512]⟩
abbrev S32x512x2x64 : Shape := ⟨4, ![32, 512, 2, 64]⟩

abbrev nBuf : Space → Nat
  | .hbm => 92
  | .vmem => 21
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x1280, .f32⟩
  | .hbm, ⟨3, _⟩ => ⟨S64, .f32⟩
  | .hbm, ⟨4, _⟩ => ⟨S64, .f32⟩
  | .hbm, ⟨5, _⟩ => ⟨S128, .i32⟩
  | .hbm, ⟨6, _⟩ => ⟨S128x64, .i32⟩
  | .hbm, ⟨7, _⟩ => ⟨S8192, .i32⟩
  | .hbm, ⟨8, _⟩ => ⟨S8192, .f32⟩
  | .hbm, ⟨9, _⟩ => ⟨S64, .i32⟩
  | .hbm, ⟨10, _⟩ => ⟨S1x64, .i32⟩
  | .hbm, ⟨11, _⟩ => ⟨S128x64, .i32⟩
  | .hbm, ⟨12, _⟩ => ⟨S8192, .i32⟩
  | .hbm, ⟨13, _⟩ => ⟨S8192, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S8192x1, .f32⟩
  | .hbm, ⟨23, _⟩ => ⟨S1x16, .f32⟩
  | .hbm, ⟨24, _⟩ => ⟨S8192x16, .f32⟩
  | .hbm, ⟨25, _⟩ => ⟨S8192x16, .f32⟩
  | .hbm, ⟨26, _⟩ => ⟨S8192x16, .f32⟩
  | .hbm, ⟨27, _⟩ => ⟨S8192x1, .f32⟩
  | .hbm, ⟨28, _⟩ => ⟨S1x16, .f32⟩
  | .hbm, ⟨29, _⟩ => ⟨S8192x16, .f32⟩
  | .hbm, ⟨30, _⟩ => ⟨S8192x16, .f32⟩
  | .hbm, ⟨31, _⟩ => ⟨S8192x16, .f32⟩
  | .hbm, ⟨32, _⟩ => ⟨S8192x16, .f32⟩
  | .hbm, ⟨33, _⟩ => ⟨S8192x16, .f32⟩
  | .hbm, ⟨34, _⟩ => ⟨S8192x64, .f32⟩
  | .hbm, ⟨35, _⟩ => ⟨S8192x16, .f32⟩
  | .hbm, ⟨36, _⟩ => ⟨S8192x16, .f32⟩
  | .hbm, ⟨37, _⟩ => ⟨S8192x16, .f32⟩
  | .hbm, ⟨38, _⟩ => ⟨S8192x16, .f32⟩
  | .hbm, ⟨39, _⟩ => ⟨S8192x16, .f32⟩
  | .hbm, ⟨40, _⟩ => ⟨S8192x16, .f32⟩
  | .hbm, ⟨41, _⟩ => ⟨S8192x64, .f32⟩
  | .hbm, ⟨42, _⟩ => ⟨S1x8192x1x64, .f32⟩
  | .hbm, ⟨43, _⟩ => ⟨S1x8192x8x64, .f32⟩
  | .hbm, ⟨44, _⟩ => ⟨S8192x512, .f32⟩
  | .hbm, ⟨45, _⟩ => ⟨S1x8192x1x64, .f32⟩
  | .hbm, ⟨46, _⟩ => ⟨S1x8192x8x64, .f32⟩
  | .hbm, ⟨47, _⟩ => ⟨S8192x512, .f32⟩
  | .hbm, ⟨48, _⟩ => ⟨S8x8, .i32⟩
  | .hbm, ⟨49, _⟩ => ⟨S8x8, .i32⟩
  | .hbm, ⟨50, _⟩ => ⟨S_, .i32⟩
  | .hbm, ⟨51, _⟩ => ⟨S8x8, .i32⟩
  | .hbm, ⟨52, _⟩ => ⟨S8x8, .i32⟩
  | .hbm, ⟨53, _⟩ => ⟨S8x8, .i1⟩
  | .hbm, ⟨54, _⟩ => ⟨S8x8, .f32⟩
  | .hbm, ⟨55, _⟩ => ⟨S_, .f32⟩
  | .hbm, ⟨56, _⟩ => ⟨S64x64, .f32⟩
  | .hbm, ⟨57, _⟩ => ⟨S8x1x8x1, .f32⟩
  | .hbm, ⟨58, _⟩ => ⟨S1x64x1x64, .f32⟩
  | .hbm, ⟨59, _⟩ => ⟨S8x64x8x64, .f32⟩
  | .hbm, ⟨60, _⟩ => ⟨S8x64x8x64, .f32⟩
  | .hbm, ⟨61, _⟩ => ⟨S8x64x8x64, .f32⟩
  | .hbm, ⟨62, _⟩ => ⟨S512x512, .f32⟩
  | .hbm, ⟨63, _⟩ => ⟨S512x512, .bf16⟩
  | .hbm, ⟨64, _⟩ => ⟨S16384x1024, .f32⟩
  | .hbm, ⟨65, _⟩ => ⟨S1x1024, .f32⟩
  | .hbm, ⟨66, _⟩ => ⟨S1024x1280, .bf16⟩
  | .hbm, ⟨67, _⟩ => ⟨S1x64, .f32⟩
  | .hbm, ⟨68, _⟩ => ⟨S8x64, .f32⟩
  | .hbm, ⟨69, _⟩ => ⟨S512, .f32⟩
  | .hbm, ⟨70, _⟩ => ⟨S1x512, .f32⟩
  | .hbm, ⟨71, _⟩ => ⟨S1x64, .f32⟩
  | .hbm, ⟨72, _⟩ => ⟨S2x64, .f32⟩
  | .hbm, ⟨73, _⟩ => ⟨S128, .f32⟩
  | .hbm, ⟨74, _⟩ => ⟨S1x128, .f32⟩
  | .hbm, ⟨75, _⟩ => ⟨S16384x512, .f32⟩
  | .hbm, ⟨76, _⟩ => ⟨S16384x512, .bf16⟩
  | .hbm, ⟨77, _⟩ => ⟨S512x16384, .bf16⟩
  | .hbm, ⟨78, _⟩ => ⟨S2x16384x64, .bf16⟩
  | .hbm, ⟨79, _⟩ => ⟨S2x32x80x512, .bf16⟩
  | .hbm, ⟨80, _⟩ => ⟨S512x16384, .f32⟩
  | .hbm, ⟨81, _⟩ => ⟨S16384x512, .f32⟩
  | .hbm, ⟨82, _⟩ => ⟨S_, .f32⟩
  | .hbm, ⟨83, _⟩ => ⟨S16384x512, .f32⟩
  | .hbm, ⟨84, _⟩ => ⟨S16384x512, .f32⟩
  | .hbm, ⟨85, _⟩ => ⟨S2x16384x64, .f32⟩
  | .hbm, ⟨86, _⟩ => ⟨S16384x2x64, .f32⟩
  | .hbm, ⟨87, _⟩ => ⟨S16384x128, .f32⟩
  | .hbm, ⟨88, _⟩ => ⟨S2x32x64x512, .bf16⟩
  | .hbm, ⟨89, _⟩ => ⟨S2x32x64x512, .f32⟩
  | .hbm, ⟨90, _⟩ => ⟨S32x512x2x64, .f32⟩
  | .hbm, ⟨91, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1280, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x512, .f32⟩
  | .local _ .vmem, ⟨9, _⟩ => ⟨S1x128, .f32⟩
  | .local _ .vmem, ⟨10, _⟩ => ⟨S512x512, .bf16⟩
  | .local _ .vmem, ⟨11, _⟩ => ⟨S512x512, .f32⟩
  | .local _ .vmem, ⟨12, _⟩ => ⟨S512x512, .f32⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S2x512x64, .bf16⟩
  | .local _ .vmem, ⟨18, _⟩ => ⟨S2x512x64, .bf16⟩
  | .local _ .vmem, ⟨19, _⟩ => ⟨S2x1x80x512, .bf16⟩
  | .local _ .vmem, ⟨20, _⟩ => ⟨S2x1x80x512, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_c : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_cst_1 : Ref sig .tc := ⟨.hbm, 55, rfl⟩
abbrev main_v47 : Ref sig .tc := ⟨.hbm, 56, rfl⟩
abbrev main_call0_v0 : Ref sig .tc := ⟨.hbm, 57, rfl⟩
abbrev main_call0_v1 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61_0 : Ref sig .tc := ⟨.hbm, 75, rfl⟩
abbrev main_v61_1 : Ref sig .tc := ⟨.hbm, 76, rfl⟩
abbrev main_v61_2 : Ref sig .tc := ⟨.hbm, 77, rfl⟩
abbrev main_v61_3 : Ref sig .tc := ⟨.hbm, 78, rfl⟩
abbrev main_v61_4 : Ref sig .tc := ⟨.hbm, 79, rfl⟩
abbrev main_v62 : Ref sig .tc := ⟨.hbm, 80, rfl⟩
abbrev main_v63 : Ref sig .tc := ⟨.hbm, 81, rfl⟩
abbrev main_cst_2 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1280 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x512x64 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x1x80x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference4Ideal.lean ====
abbrev S2x8192x1024 : Shape := ⟨3, ![2, 8192, 1024]⟩
abbrev S1024 : Shape := ⟨1, ![1024]⟩
abbrev S1024x1280 : Shape := ⟨2, ![1024, 1280]⟩
abbrev S64 : Shape := ⟨1, ![64]⟩
abbrev S128 : Shape := ⟨1, ![128]⟩
abbrev S128x64 : Shape := ⟨2, ![128, 64]⟩
abbrev S8192 : Shape := ⟨1, ![8192]⟩
abbrev S1x64 : Shape := ⟨2, ![1, 64]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S2x8192 : Shape := ⟨2, ![2, 8192]⟩
abbrev S2x8192x1 : Shape := ⟨3, ![2, 8192, 1]⟩
abbrev S1x1x1024 : Shape := ⟨3, ![1, 1, 1024]⟩
abbrev S2x8192x1280 : Shape := ⟨3, ![2, 8192, 1280]⟩
abbrev S2x8192x512 : Shape := ⟨3, ![2, 8192, 512]⟩
abbrev S2x8192x8x64 : Shape := ⟨4, ![2, 8192, 8, 64]⟩
abbrev S2x8192x128 : Shape := ⟨3, ![2, 8192, 128]⟩
abbrev S2x8192x2x64 : Shape := ⟨4, ![2, 8192, 2, 64]⟩
abbrev S2x8192x8 : Shape := ⟨3, ![2, 8192, 8]⟩
abbrev S2x8192x8x1 : Shape := ⟨4, ![2, 8192, 8, 1]⟩
abbrev S1x1x1x64 : Shape := ⟨4, ![1, 1, 1, 64]⟩
abbrev S2x8192x8x32 : Shape := ⟨4, ![2, 8192, 8, 32]⟩
abbrev S1x8192x1x16 : Shape := ⟨4, ![1, 8192, 1, 16]⟩
abbrev S2x8192x8x16 : Shape := ⟨4, ![2, 8192, 8, 16]⟩
abbrev S2x8192x2 : Shape := ⟨3, ![2, 8192, 2]⟩
abbrev S2x8192x2x1 : Shape := ⟨4, ![2, 8192, 2, 1]⟩
abbrev S2x8192x2x32 : Shape := ⟨4, ![2, 8192, 2, 32]⟩
abbrev S2x8192x2x16 : Shape := ⟨4, ![2, 8192, 2, 16]⟩
abbrev S16384x512 : Shape := ⟨2, ![16384, 512]⟩
abbrev S16384x128 : Shape := ⟨2, ![16384, 128]⟩

abbrev nBuf : Space → Nat
  | .hbm => 161
  | .vmem => 0
  | .smem => 0
  | _ => 0

abbrev hbmTy0_0 (i : Nat) : BufTy := match i % 128 with
  | 0 => ⟨S2x8192x1024, .f32⟩
  | 1 => ⟨S1024, .f32⟩
  | 2 => ⟨S1024x1280, .f32⟩
  | 3 => ⟨S64, .f32⟩
  | 4 => ⟨S64, .f32⟩
  | 5 => ⟨S128, .i32⟩
  | 6 => ⟨S128x64, .i32⟩
  | 7 => ⟨S8192, .i32⟩
  | 8 => ⟨S8192, .f32⟩
  | 9 => ⟨S64, .i32⟩
  | 10 => ⟨S1x64, .i32⟩
  | 11 => ⟨S128x64, .i32⟩
  | 12 => ⟨S8192, .i32⟩
  | 13 => ⟨S8192, .f32⟩
  | 14 => ⟨S16, .f32⟩
  | 15 => ⟨S16, .f32⟩
  | 16 => ⟨S_, .f32⟩
  | 17 => ⟨S16, .f32⟩
  | 18 => ⟨S16, .f32⟩
  | 19 => ⟨S_, .f32⟩
  | 20 => ⟨S16, .f32⟩
  | 21 => ⟨S16, .f32⟩
  | 22 => ⟨S8192x1, .f32⟩
  | 23 => ⟨S1x16, .f32⟩
  | 24 => ⟨S8192x16, .f32⟩
  | 25 => ⟨S8192x16, .f32⟩
  | 26 => ⟨S8192x16, .f32⟩
  | 27 => ⟨S8192x1, .f32⟩
  | 28 => ⟨S1x16, .f32⟩
  | 29 => ⟨S8192x16, .f32⟩
  | 30 => ⟨S8192x16, .f32⟩
  | 31 => ⟨S8192x16, .f32⟩
  | 32 => ⟨S8192x16, .f32⟩
  | 33 => ⟨S8192x16, .f32⟩
  | 34 => ⟨S8192x16, .f32⟩
  | 35 => ⟨S8192x16, .f32⟩
  | 36 => ⟨S2x8192x1024, .f32⟩
  | 37 => ⟨S_, .f32⟩
  | 38 => ⟨S2x8192, .f32⟩
  | 39 => ⟨S2x8192x1, .f32⟩
  | 40 => ⟨S_, .f32⟩
  | 41 => ⟨S2x8192x1, .f32⟩
  | 42 => ⟨S2x8192x1, .f32⟩
  | 43 => ⟨S_, .f32⟩
  | 44 => ⟨S2x8192x1, .f32⟩
  | 45 => ⟨S2x8192x1, .f32⟩
  | 46 => ⟨S2x8192x1, .f32⟩
  | 47 => ⟨S2x8192x1024, .f32⟩
  | 48 => ⟨S2x8192x1024, .f32⟩
  | 49 => ⟨S1x1x1024, .f32⟩
  | 50 => ⟨S2x8192x1024, .f32⟩
  | 51 => ⟨S2x8192x1024, .f32⟩
  | 52 => ⟨S2x8192x1280, .f32⟩
  | 53 => ⟨S2x8192x512, .f32⟩
  | 54 => ⟨S2x8192x512, .f32⟩
  | 55 => ⟨S2x8192x8x64, .f32⟩
  | 56 => ⟨S2x8192x128, .f32⟩
  | 57 => ⟨S2x8192x2x64, .f32⟩
  | 58 => ⟨S2x8192x128, .f32⟩
  | 59 => ⟨S2x8192x8x64, .f32⟩
  | 60 => ⟨S_, .f32⟩
  | 61 => ⟨S2x8192x8, .f32⟩
  | 62 => ⟨S2x8192x8x1, .f32⟩
  | 63 => ⟨S_, .f32⟩
  | 64 => ⟨S2x8192x8x1, .f32⟩
  | 65 => ⟨S2x8192x8x1, .f32⟩
  | 66 => ⟨S_, .f32⟩
  | 67 => ⟨S2x8192x8x1, .f32⟩
  | 68 => ⟨S2x8192x8x1, .f32⟩
  | 69 => ⟨S2x8192x8x1, .f32⟩
  | 70 => ⟨S2x8192x8x64, .f32⟩
  | 71 => ⟨S2x8192x8x64, .f32⟩
  | 72 => ⟨S1x1x1x64, .f32⟩
  | 73 => ⟨S2x8192x8x64, .f32⟩
  | 74 => ⟨S2x8192x8x64, .f32⟩
  | 75 => ⟨S2x8192x8x32, .f32⟩
  | 76 => ⟨S1x8192x1x16, .f32⟩
  | 77 => ⟨S1x8192x1x16, .f32⟩
  | 78 => ⟨S2x8192x8x16, .f32⟩
  | 79 => ⟨S2x8192x8x16, .f32⟩
  | 80 => ⟨S2x8192x8x16, .f32⟩
  | 81 => ⟨S2x8192x8x16, .f32⟩
  | 82 => ⟨S2x8192x8x16, .f32⟩
  | 83 => ⟨S2x8192x8x16, .f32⟩
  | 84 => ⟨S2x8192x8x16, .f32⟩
  | 85 => ⟨S2x8192x8x16, .f32⟩
  | 86 => ⟨S2x8192x8x16, .f32⟩
  | 87 => ⟨S2x8192x8x16, .f32⟩
  | 88 => ⟨S2x8192x8x16, .f32⟩
  | 89 => ⟨S2x8192x8x16, .f32⟩
  | 90 => ⟨S2x8192x8x32, .f32⟩
  | 91 => ⟨S2x8192x8x32, .f32⟩
  | 92 => ⟨S1x8192x1x16, .f32⟩
  | 93 => ⟨S1x8192x1x16, .f32⟩
  | 94 => ⟨S2x8192x8x16, .f32⟩
  | 95 => ⟨S2x8192x8x16, .f32⟩
  | 96 => ⟨S2x8192x8x16, .f32⟩
  | 97 => ⟨S2x8192x8x16, .f32⟩
  | 98 => ⟨S2x8192x8x16, .f32⟩
  | 99 => ⟨S2x8192x8x16, .f32⟩
  | 100 => ⟨S2x8192x8x16, .f32⟩
  | 101 => ⟨S2x8192x8x16, .f32⟩
  | 102 => ⟨S2x8192x8x16, .f32⟩
  | 103 => ⟨S2x8192x8x16, .f32⟩
  | 104 => ⟨S2x8192x8x16, .f32⟩
  | 105 => ⟨S2x8192x8x16, .f32⟩
  | 106 => ⟨S2x8192x8x32, .f32⟩
  | 107 => ⟨S2x8192x8x64, .f32⟩
  | 108 => ⟨S2x8192x2x64, .f32⟩
  | 109 => ⟨S_, .f32⟩
  | 110 => ⟨S2x8192x2, .f32⟩
  | 111 => ⟨S2x8192x2x1, .f32⟩
  | 112 => ⟨S_, .f32⟩
  | 113 => ⟨S2x8192x2x1, .f32⟩
  | 114 => ⟨S2x8192x2x1, .f32⟩
  | 115 => ⟨S_, .f32⟩
  | 116 => ⟨S2x8192x2x1, .f32⟩
  | 117 => ⟨S2x8192x2x1, .f32⟩
  | 118 => ⟨S2x8192x2x1, .f32⟩
  | 119 => ⟨S2x8192x2x64, .f32⟩
  | 120 => ⟨S2x8192x2x64, .f32⟩
  | 121 => ⟨S1x1x1x64, .f32⟩
  | 122 => ⟨S2x8192x2x64, .f32⟩
  | 123 => ⟨S2x8192x2x64, .f32⟩
  | 124 => ⟨S2x8192x2x32, .f32⟩
  | 125 => ⟨S1x8192x1x16, .f32⟩
  | 126 => ⟨S1x8192x1x16, .f32⟩
  | 127 => ⟨S2x8192x2x16, .f32⟩
  | _ => ⟨S2x8192x1024, .f32⟩

abbrev hbmTy0_1 (i : Nat) : BufTy := match i % 128 with
  | 0 => ⟨S2x8192x2x16, .f32⟩
  | 1 => ⟨S2x8192x2x16, .f32⟩
  | 2 => ⟨S2x8192x2x16, .f32⟩
  | 3 => ⟨S2x8192x2x16, .f32⟩
  | 4 => ⟨S2x8192x2x16, .f32⟩
  | 5 => ⟨S2x8192x2x16, .f32⟩
  | 6 => ⟨S2x8192x2x16, .f32⟩
  | 7 => ⟨S2x8192x2x16, .f32⟩
  | 8 => ⟨S2x8192x2x16, .f32⟩
  | 9 => ⟨S2x8192x2x16, .f32⟩
  | 10 => ⟨S2x8192x2x16, .f32⟩
  | 11 => ⟨S2x8192x2x32, .f32⟩
  | 12 => ⟨S2x8192x2x32, .f32⟩
  | 13 => ⟨S1x8192x1x16, .f32⟩
  | 14 => ⟨S1x8192x1x16, .f32⟩
  | 15 => ⟨S2x8192x2x16, .f32⟩
  | 16 => ⟨S2x8192x2x16, .f32⟩
  | 17 => ⟨S2x8192x2x16, .f32⟩
  | 18 => ⟨S2x8192x2x16, .f32⟩
  | 19 => ⟨S2x8192x2x16, .f32⟩
  | 20 => ⟨S2x8192x2x16, .f32⟩
  | 21 => ⟨S2x8192x2x16, .f32⟩
  | 22 => ⟨S2x8192x2x16, .f32⟩
  | 23 => ⟨S2x8192x2x16, .f32⟩
  | 24 => ⟨S2x8192x2x16, .f32⟩
  | 25 => ⟨S2x8192x2x16, .f32⟩
  | 26 => ⟨S2x8192x2x16, .f32⟩
  | 27 => ⟨S2x8192x2x32, .f32⟩
  | 28 => ⟨S2x8192x2x64, .f32⟩
  | 29 => ⟨S16384x512, .f32⟩
  | 30 => ⟨S16384x512, .f32⟩
  | 31 => ⟨S16384x128, .f32⟩
  | 32 => ⟨S16384x128, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_1 : Ref sig .tc := ⟨.hbm, 37, rfl⟩
abbrev main_v30 : Ref sig .tc := ⟨.hbm, 38, rfl⟩
abbrev main_v31 : Ref sig .tc := ⟨.hbm, 39, rfl⟩
abbrev main_cst_2 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_cst_4 : Ref sig .tc := ⟨.hbm, 60, rfl⟩
abbrev main_v50 : Ref sig .tc := ⟨.hbm, 61, rfl⟩
abbrev main_v51 : Ref sig .tc := ⟨.hbm, 62, rfl⟩
abbrev main_cst_5 : Ref sig .tc := ⟨.hbm, 63, rfl⟩
abbrev main_v52 : Ref sig .tc := ⟨.hbm, 64, rfl⟩
abbrev main_v53 : Ref sig .tc := ⟨.hbm, 65, rfl⟩
abbrev main_cst_6 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_cst_7 : Ref sig .tc := ⟨.hbm, 109, rfl⟩
abbrev main_v96 : Ref sig .tc := ⟨.hbm, 110, rfl⟩
abbrev main_v97 : Ref sig .tc := ⟨.hbm, 111, rfl⟩
abbrev main_cst_8 : Ref sig .tc := ⟨.hbm, 112, rfl⟩
abbrev main_v98 : Ref sig .tc := ⟨.hbm, 113, rfl⟩
abbrev main_v99 : Ref sig .tc := ⟨.hbm, 114, rfl⟩
abbrev main_cst_9 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩

abbrev nD : Nat := 1
abbrev τ : Topo := Topo.v7x

variable {F : FTy → Type} [FloatOps F]
-- ==== Kernel5.lean ====
abbrev S2x8192x512 : Shape := ⟨3, ![2, 8192, 512]⟩
abbrev S2x32x64 : Shape := ⟨3, ![2, 32, 64]⟩
abbrev S2x32 : Shape := ⟨2, ![2, 32]⟩
abbrev S2x32x64x16 : Shape := ⟨4, ![2, 32, 64, 16]⟩
abbrev S2x32x16x64 : Shape := ⟨4, ![2, 32, 16, 64]⟩
abbrev S2x32x1 : Shape := ⟨3, ![2, 32, 1]⟩
abbrev S32x2x64 : Shape := ⟨3, ![32, 2, 64]⟩
abbrev S32x2x1x64 : Shape := ⟨4, ![32, 2, 1, 64]⟩
abbrev S32x2x16x64 : Shape := ⟨4, ![32, 2, 16, 64]⟩
abbrev S32x512x512 : Shape := ⟨3, ![32, 512, 512]⟩
abbrev S32x512x256 : Shape := ⟨3, ![32, 512, 256]⟩
abbrev S32x2x256 : Shape := ⟨3, ![32, 2, 256]⟩
abbrev S1x2x1x64 : Shape := ⟨4, ![1, 2, 1, 64]⟩
abbrev S1x2x16x64 : Shape := ⟨4, ![1, 2, 16, 64]⟩
abbrev S1x512x512 : Shape := ⟨3, ![1, 512, 512]⟩
abbrev S1x512x256 : Shape := ⟨3, ![1, 512, 256]⟩
abbrev S1x2x256 : Shape := ⟨3, ![1, 2, 256]⟩
abbrev S32x64 : Shape := ⟨2, ![32, 64]⟩
abbrev S1x1x1x64 : Shape := ⟨4, ![1, 1, 1, 64]⟩
abbrev S1x64 : Shape := ⟨2, ![1, 64]⟩
abbrev S1x1x16x64 : Shape := ⟨4, ![1, 1, 16, 64]⟩
abbrev S16x64 : Shape := ⟨2, ![16, 64]⟩
abbrev S32x1x64 : Shape := ⟨3, ![32, 1, 64]⟩
abbrev S1x16x64 : Shape := ⟨3, ![1, 16, 64]⟩
abbrev S32x16x64 : Shape := ⟨3, ![32, 16, 64]⟩
abbrev S512x64 : Shape := ⟨2, ![512, 64]⟩
abbrev S16x512 : Shape := ⟨2, ![16, 512]⟩
abbrev S16x1024 : Shape := ⟨2, ![16, 1024]⟩
abbrev S1x16x512 : Shape := ⟨3, ![1, 16, 512]⟩
abbrev S512x256 : Shape := ⟨2, ![512, 256]⟩
abbrev S1x256 : Shape := ⟨2, ![1, 256]⟩
abbrev S2x256 : Shape := ⟨2, ![2, 256]⟩
abbrev S16384x512 : Shape := ⟨2, ![16384, 512]⟩
abbrev S512x32x32x16 : Shape := ⟨4, ![512, 32, 32, 16]⟩
abbrev S32x512x32x16 : Shape := ⟨4, ![32, 512, 32, 16]⟩
abbrev S512x512 : Shape := ⟨2, ![512, 512]⟩
abbrev S256x128 : Shape := ⟨2, ![256, 128]⟩
abbrev S256x256 : Shape := ⟨2, ![256, 256]⟩
abbrev S1x128 : Shape := ⟨2, ![1, 128]⟩

abbrev nBuf : Space → Nat
  | .hbm => 34
  | .vmem => 34
  | .smem => 0
  | _ => 0

abbrev bufTy : (tb : Table) → Fin (tcTables nBuf tb) → BufTy
  | .hbm, ⟨0, _⟩ => ⟨S2x8192x512, .f32⟩
  | .hbm, ⟨1, _⟩ => ⟨S2x32x64, .f32⟩
  | .hbm, ⟨2, _⟩ => ⟨S2x32x64, .f32⟩
  | .hbm, ⟨3, _⟩ => ⟨S2x32, .f32⟩
  | .hbm, ⟨4, _⟩ => ⟨S2x32x64x16, .f32⟩
  | .hbm, ⟨5, _⟩ => ⟨S2x32x64x16, .f32⟩
  | .hbm, ⟨6, _⟩ => ⟨S2x32x16x64, .f32⟩
  | .hbm, ⟨7, _⟩ => ⟨S2x32x16x64, .f32⟩
  | .hbm, ⟨8, _⟩ => ⟨S2x32x1, .f32⟩
  | .hbm, ⟨9, _⟩ => ⟨S2x32x64, .f32⟩
  | .hbm, ⟨10, _⟩ => ⟨S32x2x64, .f32⟩
  | .hbm, ⟨11, _⟩ => ⟨S32x2x1x64, .f32⟩
  | .hbm, ⟨12, _⟩ => ⟨S32x2x64, .f32⟩
  | .hbm, ⟨13, _⟩ => ⟨S32x2x1x64, .f32⟩
  | .hbm, ⟨14, _⟩ => ⟨S32x2x64, .f32⟩
  | .hbm, ⟨15, _⟩ => ⟨S32x2x1x64, .f32⟩
  | .hbm, ⟨16, _⟩ => ⟨S32x2x16x64, .f32⟩
  | .hbm, ⟨17, _⟩ => ⟨S32x2x16x64, .f32⟩
  | .hbm, ⟨18, _⟩ => ⟨S32x2x16x64, .f32⟩
  | .hbm, ⟨19, _⟩ => ⟨S32x2x16x64, .f32⟩
  | .hbm, ⟨20, _⟩ => ⟨S32x512x512, .bf16⟩
  | .hbm, ⟨21, _⟩ => ⟨S32x512x256, .bf16⟩
  | .hbm, ⟨22, _⟩ => ⟨S32x512x256, .bf16⟩
  | .hbm, ⟨23, _⟩ => ⟨S32x2x256, .f32⟩
  | .hbm, ⟨24, _⟩ => ⟨S16384x512, .f32⟩
  | .hbm, ⟨25, _⟩ => ⟨S16384x512, .bf16⟩
  | .hbm, ⟨26, _⟩ => ⟨S512x32x32x16, .bf16⟩
  | .hbm, ⟨27, _⟩ => ⟨S32x512x32x16, .bf16⟩
  | .hbm, ⟨28, _⟩ => ⟨S32x512x512, .bf16⟩
  | .hbm, ⟨29, _⟩ => ⟨S32x512x512, .bf16⟩
  | .hbm, ⟨30, _⟩ => ⟨S32x512x512, .f32⟩
  | .hbm, ⟨31, _⟩ => ⟨S32x512x32x16, .f32⟩
  | .hbm, ⟨32, _⟩ => ⟨S512x32x32x16, .f32⟩
  | .hbm, ⟨33, _⟩ => ⟨S16384x512, .f32⟩
  | .local _ .vmem, ⟨0, _⟩ => ⟨S1x2x1x64, .f32⟩
  | .local _ .vmem, ⟨1, _⟩ => ⟨S1x2x1x64, .f32⟩
  | .local _ .vmem, ⟨2, _⟩ => ⟨S1x2x1x64, .f32⟩
  | .local _ .vmem, ⟨3, _⟩ => ⟨S1x2x1x64, .f32⟩
  | .local _ .vmem, ⟨4, _⟩ => ⟨S1x2x1x64, .f32⟩
  | .local _ .vmem, ⟨5, _⟩ => ⟨S1x2x1x64, .f32⟩
  | .local _ .vmem, ⟨6, _⟩ => ⟨S1x2x16x64, .f32⟩
  | .local _ .vmem, ⟨7, _⟩ => ⟨S1x2x16x64, .f32⟩
  | .local _ .vmem, ⟨8, _⟩ => ⟨S1x2x16x64, .f32⟩
  | .local _ .vmem, ⟨9, _⟩ => ⟨S1x2x16x64, .f32⟩
  | .local _ .vmem, ⟨10, _⟩ => ⟨S1x2x16x64, .f32⟩
  | .local _ .vmem, ⟨11, _⟩ => ⟨S1x2x16x64, .f32⟩
  | .local _ .vmem, ⟨12, _⟩ => ⟨S1x2x16x64, .f32⟩
  | .local _ .vmem, ⟨13, _⟩ => ⟨S1x2x16x64, .f32⟩
  | .local _ .vmem, ⟨14, _⟩ => ⟨S1x512x512, .bf16⟩
  | .local _ .vmem, ⟨15, _⟩ => ⟨S1x512x512, .bf16⟩
  | .local _ .vmem, ⟨16, _⟩ => ⟨S1x512x256, .bf16⟩
  | .local _ .vmem, ⟨17, _⟩ => ⟨S1x512x256, .bf16⟩
  | .local _ .vmem, ⟨18, _⟩ => ⟨S1x512x256, .bf16⟩
  | .local _ .vmem, ⟨19, _⟩ => ⟨S1x512x256, .bf16⟩
  | .local _ .vmem, ⟨20, _⟩ => ⟨S1x2x256, .f32⟩
  | .local _ .vmem, ⟨21, _⟩ => ⟨S1x2x256, .f32⟩
  | .local _ .vmem, ⟨22, _⟩ => ⟨S1x512x512, .bf16⟩
  | .local _ .vmem, ⟨23, _⟩ => ⟨S1x512x512, .bf16⟩
  | .local _ .vmem, ⟨24, _⟩ => ⟨S1x512x512, .bf16⟩
  | .local _ .vmem, ⟨25, _⟩ => ⟨S1x512x512, .bf16⟩
  | .local _ .vmem, ⟨26, _⟩ => ⟨S1x512x256, .bf16⟩
  | .local _ .vmem, ⟨27, _⟩ => ⟨S1x512x256, .bf16⟩
  | .local _ .vmem, ⟨28, _⟩ => ⟨S1x512x256, .bf16⟩
  | .local _ .vmem, ⟨29, _⟩ => ⟨S1x512x256, .bf16⟩
  | .local _ .vmem, ⟨30, _⟩ => ⟨S1x2x256, .f32⟩
  | .local _ .vmem, ⟨31, _⟩ => ⟨S1x2x256, .f32⟩
  | .local _ .vmem, ⟨32, _⟩ => ⟨S1x512x512, .bf16⟩
  | .local _ .vmem, ⟨33, _⟩ => ⟨S1x512x512, .bf16⟩
  | _, _ => ⟨S2x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev main_v12_2 : Ref sig .tc := ⟨.hbm, 22, rfl⟩
abbrev main_v12_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg2_1 : Ref sig .tc := ⟨.vmem, 27, rfl⟩
abbrev cc1_stg3_0 : Ref sig .tc := ⟨.vmem, 28, rfl⟩
abbrev cc1_stg3_1 : Ref sig .tc := ⟨.vmem, 29, rfl⟩
abbrev cc1_stg4_0 : Ref sig .tc := ⟨.vmem, 30, rfl⟩
abbrev cc1_stg4_1 : Ref sig .tc := ⟨.vmem, 31, rfl⟩
abbrev cc1_stg5_0 : Ref sig .tc := ⟨.vmem, 32, rfl⟩
abbrev cc1_stg5_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem2_1 : DmaSem sig := 27
abbrev cc1_sem3_0 : DmaSem sig := 28
abbrev cc1_sem3_1 : DmaSem sig := 29
abbrev cc1_sem4_0 : DmaSem sig := 30
abbrev cc1_sem4_1 : DmaSem sig := 31
abbrev cc1_sem5_0 : DmaSem sig := 32
abbrev cc1_sem5_1 : DmaSem sig := 33

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2x1x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x1x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2x1x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2x16x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2x16x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2x16x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2x16x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x2x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x512x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x512x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x2x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x512x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== Reference5Ideal.lean ====
abbrev S2x8192x512 : Shape := ⟨3, ![2, 8192, 512]⟩
abbrev S2x32x64 : Shape := ⟨3, ![2, 32, 64]⟩
abbrev S2x32 : Shape := ⟨2, ![2, 32]⟩
abbrev S2x32x64x16 : Shape := ⟨4, ![2, 32, 64, 16]⟩
abbrev S2x32x16x64 : Shape := ⟨4, ![2, 32, 16, 64]⟩
abbrev S2x8192x32x16 : Shape := ⟨4, ![2, 8192, 32, 16]⟩
abbrev S1x2x8192x32x16 : Shape := ⟨5, ![1, 2, 8192, 32, 16]⟩
abbrev S2x2x8192x32x16 : Shape := ⟨5, ![2, 2, 8192, 32, 16]⟩
abbrev S2x32x1 : Shape := ⟨3, ![2, 32, 1]⟩
abbrev S_ : Shape := ⟨0, ![]⟩
abbrev S2x32x64x1 : Shape := ⟨4, ![2, 32, 64, 1]⟩
abbrev S2x32x2x8192x64 : Shape := ⟨5, ![2, 32, 2, 8192, 64]⟩
abbrev S8192x2x2x32x64 : Shape := ⟨5, ![8192, 2, 2, 32, 64]⟩
abbrev S2x1x32x64 : Shape := ⟨4, ![2, 1, 32, 64]⟩
abbrev S2x2x32x64 : Shape := ⟨4, ![2, 2, 32, 64]⟩
abbrev S1x2x2x32x64 : Shape := ⟨5, ![1, 2, 2, 32, 64]⟩
abbrev S2x32x8192x2x16 : Shape := ⟨5, ![2, 32, 8192, 2, 16]⟩
abbrev S16384x512 : Shape := ⟨2, ![16384, 512]⟩

abbrev nBuf : Space → Nat
  | .hbm => 128
  | .vmem => 0
  | .smem => 0
  | _ => 0

abbrev bufTy : (tb : Table) → Fin (tcTables nBuf tb) → BufTy
  | .hbm, ⟨0, _⟩ => ⟨S2x8192x512, .f32⟩
  | .hbm, ⟨1, _⟩ => ⟨S2x32x64, .f32⟩
  | .hbm, ⟨2, _⟩ => ⟨S2x32x64, .f32⟩
  | .hbm, ⟨3, _⟩ => ⟨S2x32, .f32⟩
  | .hbm, ⟨4, _⟩ => ⟨S2x32x64x16, .f32⟩
  | .hbm, ⟨5, _⟩ => ⟨S2x32x64x16, .f32⟩
  | .hbm, ⟨6, _⟩ => ⟨S2x32x16x64, .f32⟩
  | .hbm, ⟨7, _⟩ => ⟨S2x32x16x64, .f32⟩
  | .hbm, ⟨8, _⟩ => ⟨S2x8192x32x16, .f32⟩
  | .hbm, ⟨9, _⟩ => ⟨S2x8192x32x16, .f32⟩
  | .hbm, ⟨10, _⟩ => ⟨S1x2x8192x32x16, .f32⟩
  | .hbm, ⟨11, _⟩ => ⟨S1x2x8192x32x16, .f32⟩
  | .hbm, ⟨12, _⟩ => ⟨S2x2x8192x32x16, .f32⟩
  | .hbm, ⟨13, _⟩ => ⟨S2x32, .f32⟩
  | .hbm, ⟨14, _⟩ => ⟨S2x32x1, .f32⟩
  | .hbm, ⟨15, _⟩ => ⟨S2x32x64, .f32⟩
  | .hbm, ⟨16, _⟩ => ⟨S2x32x64, .f32⟩
  | .hbm, ⟨17, _⟩ => ⟨S2x32x64, .f32⟩
  | .hbm, ⟨18, _⟩ => ⟨S2x32x64, .f32⟩
  | .hbm, ⟨19, _⟩ => ⟨S2x32x64, .f32⟩
  | .hbm, ⟨20, _⟩ => ⟨S2x32x64, .f32⟩
  | .hbm, ⟨21, _⟩ => ⟨S2x32x64, .f32⟩
  | .hbm, ⟨22, _⟩ => ⟨S2x32x64, .f32⟩
  | .hbm, ⟨23, _⟩ => ⟨S2x32x64, .f32⟩
  | .hbm, ⟨24, _⟩ => ⟨S2x32x64, .f32⟩
  | .hbm, ⟨25, _⟩ => ⟨S2x32x64, .f32⟩
  | .hbm, ⟨26, _⟩ => ⟨S2x32x64, .f32⟩
  | .hbm, ⟨27, _⟩ => ⟨S2x32x64, .f32⟩
  | .hbm, ⟨28, _⟩ => ⟨S2x32x64, .f32⟩
  | .hbm, ⟨29, _⟩ => ⟨S_, .f32⟩
  | .hbm, ⟨30, _⟩ => ⟨S2x32x64, .f32⟩
  | .hbm, ⟨31, _⟩ => ⟨S2x32x64, .f32⟩
  | .hbm, ⟨32, _⟩ => ⟨S2x32x64, .f32⟩
  | .hbm, ⟨33, _⟩ => ⟨S2x32x64, .f32⟩
  | .hbm, ⟨34, _⟩ => ⟨S2x32x64, .f32⟩
  | .hbm, ⟨35, _⟩ => ⟨S2x32x64, .f32⟩
  | .hbm, ⟨36, _⟩ => ⟨S2x32x64, .f32⟩
  | .hbm, ⟨37, _⟩ => ⟨S2x32x64, .f32⟩
  | .hbm, ⟨38, _⟩ => ⟨S2x32x64, .f32⟩
  | .hbm, ⟨39, _⟩ => ⟨S2x32x64, .f32⟩
  | .hbm, ⟨40, _⟩ => ⟨S2x32x64x1, .f32⟩
  | .hbm, ⟨41, _⟩ => ⟨S2x32x64x16, .f32⟩
  | .hbm, ⟨42, _⟩ => ⟨S2x32x64x16, .f32⟩
  | .hbm, ⟨43, _⟩ => ⟨S2x32x64x1, .f32⟩
  | .hbm, ⟨44, _⟩ => ⟨S2x32x64x16, .f32⟩
  | .hbm, ⟨45, _⟩ => ⟨S2x32x64x16, .f32⟩
  | .hbm, ⟨46, _⟩ => ⟨S2x32x64x16, .f32⟩
  | .hbm, ⟨47, _⟩ => ⟨S2x32x64x1, .f32⟩
  | .hbm, ⟨48, _⟩ => ⟨S2x32x64x16, .f32⟩
  | .hbm, ⟨49, _⟩ => ⟨S2x32x64x16, .f32⟩
  | .hbm, ⟨50, _⟩ => ⟨S2x32x64x1, .f32⟩
  | .hbm, ⟨51, _⟩ => ⟨S2x32x64x16, .f32⟩
  | .hbm, ⟨52, _⟩ => ⟨S2x32x64x16, .f32⟩
  | .hbm, ⟨53, _⟩ => ⟨S2x32x64x16, .f32⟩
  | .hbm, ⟨54, _⟩ => ⟨S2x32x2x8192x64, .f32⟩
  | .hbm, ⟨55, _⟩ => ⟨S8192x2x2x32x64, .f32⟩
  | .hbm, ⟨56, _⟩ => ⟨S2x32x2x8192x64, .f32⟩
  | .hbm, ⟨57, _⟩ => ⟨S8192x2x2x32x64, .f32⟩
  | .hbm, ⟨58, _⟩ => ⟨S2x1x32x64, .f32⟩
  | .hbm, ⟨59, _⟩ => ⟨S2x1x32x64, .f32⟩
  | .hbm, ⟨60, _⟩ => ⟨S_, .f32⟩
  | .hbm, ⟨61, _⟩ => ⟨S2x2x32x64, .f32⟩
  | .hbm, ⟨62, _⟩ => ⟨S_, .f32⟩
  | .hbm, ⟨63, _⟩ => ⟨S8192x2x2x32x64, .f32⟩
  | .hbm, ⟨64, _⟩ => ⟨S_, .f32⟩
  | .hbm, ⟨65, _⟩ => ⟨S8192x2x2x32x64, .f32⟩
  | .hbm, ⟨66, _⟩ => ⟨S_, .i32⟩
  | .hbm, ⟨67, _⟩ => ⟨S8192x2x2x32x64, .f32⟩
  | .hbm, ⟨68, _⟩ => ⟨S8192x2x2x32x64, .f32⟩
  | .hbm, ⟨69, _⟩ => ⟨S2x1x32x64, .f32⟩
  | .hbm, ⟨70, _⟩ => ⟨S2x1x32x64, .f32⟩
  | .hbm, ⟨71, _⟩ => ⟨S_, .i32⟩
  | .hbm, ⟨72, _⟩ => ⟨S2x2x32x64, .f32⟩
  | .hbm, ⟨73, _⟩ => ⟨S2x2x32x64, .f32⟩
  | .hbm, ⟨74, _⟩ => ⟨S8192x2x2x32x64, .f32⟩
  | .hbm, ⟨75, _⟩ => ⟨S8192x2x2x32x64, .f32⟩
  | .hbm, ⟨76, _⟩ => ⟨S_, .i32⟩
  | .hbm, ⟨77, _⟩ => ⟨S_, .i1⟩
  | .hbm, ⟨78, _⟩ => ⟨S_, .i32⟩
  | .hbm, ⟨79, _⟩ => ⟨S_, .i32⟩
  | .hbm, ⟨80, _⟩ => ⟨S_, .i32⟩
  | .hbm, ⟨81, _⟩ => ⟨S_, .i32⟩
  | .hbm, ⟨82, _⟩ => ⟨S1x2x2x32x64, .f32⟩
  | .hbm, ⟨83, _⟩ => ⟨S2x2x32x64, .f32⟩
  | .hbm, ⟨84, _⟩ => ⟨S_, .i32⟩
  | .hbm, ⟨85, _⟩ => ⟨S_, .i32⟩
  | .hbm, ⟨86, _⟩ => ⟨S_, .i32⟩
  | .hbm, ⟨87, _⟩ => ⟨S_, .i32⟩
  | .hbm, ⟨88, _⟩ => ⟨S1x2x2x32x64, .f32⟩
  | .hbm, ⟨89, _⟩ => ⟨S2x2x32x64, .f32⟩
  | .hbm, ⟨90, _⟩ => ⟨S2x2x32x64, .f32⟩
  | .hbm, ⟨91, _⟩ => ⟨S2x2x32x64, .f32⟩
  | .hbm, ⟨92, _⟩ => ⟨S2x2x32x64, .f32⟩
  | .hbm, ⟨93, _⟩ => ⟨S2x2x32x64, .f32⟩
  | .hbm, ⟨94, _⟩ => ⟨S2x2x32x64, .f32⟩
  | .hbm, ⟨95, _⟩ => ⟨S2x2x32x64, .f32⟩
  | .hbm, ⟨96, _⟩ => ⟨S2x2x32x64, .f32⟩
  | .hbm, ⟨97, _⟩ => ⟨S2x2x32x64, .f32⟩
  | .hbm, ⟨98, _⟩ => ⟨S2x2x32x64, .f32⟩
  | .hbm, ⟨99, _⟩ => ⟨S2x2x32x64, .f32⟩
  | .hbm, ⟨100, _⟩ => ⟨S2x2x32x64, .f32⟩
  | .hbm, ⟨101, _⟩ => ⟨S2x2x32x64, .f32⟩
  | .hbm, ⟨102, _⟩ => ⟨S1x2x2x32x64, .f32⟩
  | .hbm, ⟨103, _⟩ => ⟨S_, .i32⟩
  | .hbm, ⟨104, _⟩ => ⟨S_, .i32⟩
  | .hbm, ⟨105, _⟩ => ⟨S_, .i32⟩
  | .hbm, ⟨106, _⟩ => ⟨S_, .i32⟩
  | .hbm, ⟨107, _⟩ => ⟨S8192x2x2x32x64, .f32⟩
  | .hbm, ⟨108, _⟩ => ⟨S1x2x2x32x64, .f32⟩
  | .hbm, ⟨109, _⟩ => ⟨S_, .i32⟩
  | .hbm, ⟨110, _⟩ => ⟨S_, .i32⟩
  | .hbm, ⟨111, _⟩ => ⟨S_, .i32⟩
  | .hbm, ⟨112, _⟩ => ⟨S_, .i32⟩
  | .hbm, ⟨113, _⟩ => ⟨S8192x2x2x32x64, .f32⟩
  | .hbm, ⟨114, _⟩ => ⟨S_, .i32⟩
  | .hbm, ⟨115, _⟩ => ⟨S_, .i32⟩
  | .hbm, ⟨116, _⟩ => ⟨S2x32x8192x2x16, .f32⟩
  | .hbm, ⟨117, _⟩ => ⟨S2x2x8192x32x16, .f32⟩
  | .hbm, ⟨118, _⟩ => ⟨S2x32x8192x2x16, .f32⟩
  | .hbm, ⟨119, _⟩ => ⟨S2x2x8192x32x16, .f32⟩
  | .hbm, ⟨120, _⟩ => ⟨S2x2x8192x32x16, .f32⟩
  | .hbm, ⟨121, _⟩ => ⟨S1x2x8192x32x16, .f32⟩
  | .hbm, ⟨122, _⟩ => ⟨S2x8192x32x16, .f32⟩
  | .hbm, ⟨123, _⟩ => ⟨S1x2x8192x32x16, .f32⟩
  | .hbm, ⟨124, _⟩ => ⟨S2x8192x32x16, .f32⟩
  | .hbm, ⟨125, _⟩ => ⟨S2x8192x32x16, .f32⟩
  | .hbm, ⟨126, _⟩ => ⟨S2x8192x32x16, .f32⟩
  | .hbm, ⟨127, _⟩ => ⟨S16384x512, .f32⟩
  | _, _ => ⟨S2x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_cst_0 : Ref sig .tc := ⟨.hbm, 60, rfl⟩
abbrev main_v51 : Ref sig .tc := ⟨.hbm, 61, rfl⟩
abbrev main_cst_1 : Ref sig .tc := ⟨.hbm, 62, rfl⟩
abbrev main_v52 : Ref sig .tc := ⟨.hbm, 63, rfl⟩
abbrev main_cst_2 : Ref sig .tc := ⟨.hbm, 64, rfl⟩
abbrev main_v53 : Ref sig .tc := ⟨.hbm, 65, rfl⟩
abbrev main_c : Ref sig .tc := ⟨.hbm, 66, rfl⟩
abbrev main_v54_0 : Ref sig .tc := ⟨.hbm, 67, rfl⟩
abbrev main_v54_1 : Ref sig .tc := ⟨.hbm, 68, rfl⟩
abbrev main_v54_2 : Ref sig .tc := ⟨.hbm, 69, rfl⟩
abbrev main_v54_3 : Ref sig .tc := ⟨.hbm, 70, rfl⟩
abbrev main_v54_4 : Ref sig .tc := ⟨.hbm, 71, rfl⟩
abbrev main_v54_5 : Ref sig .tc := ⟨.hbm, 72, rfl⟩
abbrev main_v54_6 : Ref sig .tc := ⟨.hbm, 73, rfl⟩
abbrev main_v54_7 : Ref sig .tc := ⟨.hbm, 74, rfl⟩
abbrev main_v54_8 : Ref sig .tc := ⟨.hbm, 75, rfl⟩
abbrev main_while0c_c_11 : Ref sig .tc := ⟨.hbm, 76, rfl⟩
abbrev main_while0c_v67 : Ref sig .tc := ⟨.hbm, 77, rfl⟩
abbrev main_while0b_call0_c : Ref sig .tc := ⟨.hbm, 78, rfl⟩
abbrev main_while0b_call0_c_0 : Ref sig .tc := ⟨.hbm, 79, rfl⟩
abbrev main_while0b_call0_c_1 : Ref sig .tc := ⟨.hbm, 80, rfl⟩
abbrev main_while0b_call0_c_2 : Ref sig .tc := ⟨.hbm, 81, rfl⟩
abbrev main_while0b_call0_v0 : Ref sig .tc := ⟨.hbm, 82, rfl⟩
abbrev main_while0b_v67 : Ref sig .tc := ⟨.hbm, 83, rfl⟩
abbrev main_while0b_call1_c : Ref sig .tc := ⟨.hbm, 84, rfl⟩
abbrev main_while0b_call1_c_0 : Ref sig .tc := ⟨.hbm, 85, rfl⟩
abbrev main_while0b_call1_c_1 : Ref sig .tc := ⟨.hbm, 86, rfl⟩
abbrev main_while0b_call1_c_2 : Ref sig .tc := ⟨.hbm, 87, rfl⟩
abbrev main_while0b_call1_v0 : Ref sig .tc := ⟨.hbm, 88, rfl⟩
abbrev main_while0b_v68 : Ref sig .tc := ⟨.hbm, 89, rfl⟩
abbrev main_while0b_v69 : Ref sig .tc := ⟨.hbm, 90, rfl⟩
abbrev main_while0b_v70 : Ref sig .tc := ⟨.hbm, 91, rfl⟩
abbrev main_while0b_v71 : Ref sig .tc := ⟨.hbm, 92, rfl⟩
abbrev main_while0b_v72 : Ref sig .tc := ⟨.hbm, 93, rfl⟩
abbrev main_while0b_v73 : Ref sig .tc := ⟨.hbm, 94, rfl⟩
abbrev main_while0b_v74 : Ref sig .tc := ⟨.hbm, 95, rfl⟩
abbrev main_while0b_v75 : Ref sig .tc := ⟨.hbm, 96, rfl⟩
abbrev main_while0b_v76 : Ref sig .tc := ⟨.hbm, 97, rfl⟩
abbrev main_while0b_v77 : Ref sig .tc := ⟨.hbm, 98, rfl⟩
abbrev main_while0b_v78 : Ref sig .tc := ⟨.hbm, 99, rfl⟩
abbrev main_while0b_v79 : Ref sig .tc := ⟨.hbm, 100, rfl⟩
abbrev main_while0b_v80 : Ref sig .tc := ⟨.hbm, 101, rfl⟩
abbrev main_while0b_call2_v0 : Ref sig .tc := ⟨.hbm, 102, rfl⟩
abbrev main_while0b_call2_c : Ref sig .tc := ⟨.hbm, 103, rfl⟩
abbrev main_while0b_call2_c_0 : Ref sig .tc := ⟨.hbm, 104, rfl⟩
abbrev main_while0b_call2_c_1 : Ref sig .tc := ⟨.hbm, 105, rfl⟩
abbrev main_while0b_call2_c_2 : Ref sig .tc := ⟨.hbm, 106, rfl⟩
abbrev main_while0b_v81 : Ref sig .tc := ⟨.hbm, 107, rfl⟩
abbrev main_while0b_call3_v0 : Ref sig .tc := ⟨.hbm, 108, rfl⟩
abbrev main_while0b_call3_c : Ref sig .tc := ⟨.hbm, 109, rfl⟩
abbrev main_while0b_call3_c_0 : Ref sig .tc := ⟨.hbm, 110, rfl⟩
abbrev main_while0b_call3_c_1 : Ref sig .tc := ⟨.hbm, 111, rfl⟩
abbrev main_while0b_call3_c_2 : Ref sig .tc := ⟨.hbm, 112, rfl⟩
abbrev main_while0b_v82 : Ref sig .tc := ⟨.hbm, 113, rfl⟩
abbrev main_while0b_c_11 : Ref sig .tc := ⟨.hbm, 114, rfl⟩
abbrev main_while0b_v83 : Ref sig .tc := ⟨.hbm, 115, rfl⟩
abbrev main_v55 : Ref sig .tc := ⟨.hbm, 116, rfl⟩
abbrev main_v56 : Ref sig .tc := ⟨.hbm, 117, rfl⟩
abbrev main_v57 : Ref sig .tc := ⟨.hbm, 118, rfl⟩
abbrev main_v58 : Ref sig .tc := ⟨.hbm, 119, rfl⟩
abbrev main_v59 : Ref sig .tc := ⟨.hbm, 120, rfl⟩
abbrev main_v60 : Ref sig .tc := ⟨.hbm, 121, rfl⟩
abbrev main_v61 : Ref sig .tc := ⟨.hbm, 122, rfl⟩
abbrev main_v62 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩

abbrev nD : Nat := 1
abbrev τ : Topo := Topo.v7x

variable {F : FTy → Type} [FloatOps F]

abbrev main_while0_count : Scf.Loop 32 := ⟨0#32, 8192#32, 1#32⟩
-- ==== Kernel6.lean ====
abbrev S2x8192x1024 : Shape := ⟨3, ![2, 8192, 1024]⟩
abbrev S2x8192x256 : Shape := ⟨3, ![2, 8192, 256]⟩
abbrev S1024 : Shape := ⟨1, ![1024]⟩
abbrev S1024x1024 : Shape := ⟨2, ![1024, 1024]⟩
abbrev S256x1024 : Shape := ⟨2, ![256, 1024]⟩
abbrev S16384x1024 : Shape := ⟨2, ![16384, 1024]⟩
abbrev S1024x16384 : Shape := ⟨2, ![1024, 16384]⟩
abbrev S16384x256 : Shape := ⟨2, ![16384, 256]⟩
abbrev S1x1024 : Shape := ⟨2, ![1, 1024]⟩
abbrev S512x1024 : Shape := ⟨2, ![512, 1024]⟩
abbrev S1024x512 : Shape := ⟨2, ![1024, 512]⟩
abbrev S512x256 : Shape := ⟨2, ![512, 256]⟩
abbrev S512 : Shape := ⟨1, ![512]⟩
abbrev S512x1 : Shape := ⟨2, ![512, 1]⟩

abbrev nBuf : Space → Nat
  | .hbm => 16
  | .vmem => 12
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x8192x256, .f32⟩
  | .hbm, ⟨3, _⟩ => ⟨S1024, .f32⟩
  | .hbm, ⟨4, _⟩ => ⟨S1024x1024, .f32⟩
  | .hbm, ⟨5, _⟩ => ⟨S256x1024, .f32⟩
  | .hbm, ⟨6, _⟩ => ⟨S1024, .f32⟩
  | .hbm, ⟨7, _⟩ => ⟨S16384x1024, .f32⟩
  | .hbm, ⟨8, _⟩ => ⟨S16384x1024, .f32⟩
  | .hbm, ⟨9, _⟩ => ⟨S1024x16384, .f32⟩
  | .hbm, ⟨10, _⟩ => ⟨S16384x256, .f32⟩
  | .hbm, ⟨11, _⟩ => ⟨S1x1024, .f32⟩
  | .hbm, ⟨12, _⟩ => ⟨S1024x1024, .bf16⟩
  | .hbm, ⟨13, _⟩ => ⟨S256x1024, .bf16⟩
  | .hbm, ⟨14, _⟩ => ⟨S1x1024, .f32⟩
  | .hbm, ⟨15, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x512, .f32⟩
  | .local _ .vmem, ⟨3, _⟩ => ⟨S1024x512, .f32⟩
  | .local _ .vmem, ⟨4, _⟩ => ⟨S512x256, .f32⟩
  | .local _ .vmem, ⟨5, _⟩ => ⟨S512x256, .f32⟩
  | .local _ .vmem, ⟨6, _⟩ => ⟨S1x1024, .f32⟩
  | .local _ .vmem, ⟨7, _⟩ => ⟨S1024x1024, .bf16⟩
  | .local _ .vmem, ⟨8, _⟩ => ⟨S256x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference6Ideal.lean ====
abbrev S2x8192x1024 : Shape := ⟨3, ![2, 8192, 1024]⟩
abbrev S2x8192x256 : Shape := ⟨3, ![2, 8192, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S16384x1024 : Shape := ⟨2, ![16384, 1024]⟩

abbrev nBuf : Space → Nat
  | .hbm => 37
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x8192x256, .f32⟩
  | .hbm, ⟨3, _⟩ => ⟨S1024, .f32⟩
  | .hbm, ⟨4, _⟩ => ⟨S1024x1024, .f32⟩
  | .hbm, ⟨5, _⟩ => ⟨S256x1024, .f32⟩
  | .hbm, ⟨6, _⟩ => ⟨S1024, .f32⟩
  | .hbm, ⟨7, _⟩ => ⟨S2x8192x1024, .f32⟩
  | .hbm, ⟨8, _⟩ => ⟨S2x8192x1024, .f32⟩
  | .hbm, ⟨9, _⟩ => ⟨S_, .f32⟩
  | .hbm, ⟨10, _⟩ => ⟨S2x8192, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S2x8192x1, .f32⟩
  | .hbm, ⟨19, _⟩ => ⟨S2x8192x1024, .f32⟩
  | .hbm, ⟨20, _⟩ => ⟨S2x8192x1024, .f32⟩
  | .hbm, ⟨21, _⟩ => ⟨S1x1x1024, .f32⟩
  | .hbm, ⟨22, _⟩ => ⟨S2x8192x1024, .f32⟩
  | .hbm, ⟨23, _⟩ => ⟨S2x8192x1024, .f32⟩
  | .hbm, ⟨24, _⟩ => ⟨S2x8192x1024, .f32⟩
  | .hbm, ⟨25, _⟩ => ⟨S2x8192x1024, .f32⟩
  | .hbm, ⟨26, _⟩ => ⟨S2x8192x1024, .f32⟩
  | .hbm, ⟨27, _⟩ => ⟨S_, .f32⟩
  | .hbm, ⟨28, _⟩ => ⟨S2x8192x1024, .f32⟩
  | .hbm, ⟨29, _⟩ => ⟨S2x8192x1024, .f32⟩
  | .hbm, ⟨30, _⟩ => ⟨S_, .f32⟩
  | .hbm, ⟨31, _⟩ => ⟨S2x8192x1024, .f32⟩
  | .hbm, ⟨32, _⟩ => ⟨S2x8192x1024, .f32⟩
  | .hbm, ⟨33, _⟩ => ⟨S2x8192x1024, .f32⟩
  | .hbm, ⟨34, _⟩ => ⟨S2x8192x1024, .f32⟩
  | .hbm, ⟨35, _⟩ => ⟨S2x8192x1024, .f32⟩
  | .hbm, ⟨36, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]
-- ==== Proof.Block.lean ====
/- What one point of the kernel's grid computes, as a function of its three input blocks: the queries laid side by side,
   then sixteen chunks of keys, each taking the running maximum and the running sums one step on. And what one trip of
   the kernel's loop leaves in its scratch buffers, in those terms. -/
module

public import proofs.«01_k».proof.Proof.Gen.KernelIdeal.Frame.Runs
public import Idealize.ShloMosaic.Lib.Pipeline.ValueKit
public import Idealize.ShloMosaic.Lib.Pointwise

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL.Sem

variable {F : FTy → Type} [FloatOps F]

/-! ## The block as a function -/

/-- Chunk `n` of the keys' block: rows `512 n` to `512 n + 511`. -/
def keys (x1 : Vec F S1x8192x64 .bf16) (n : ℕ) : Vec F S1x512x64 .bf16 :=
  fun j => x1 (ix3 0 ⟨(512 * n + (j 1).val) % 8192, Nat.mod_lt _ (by decide)⟩ (j 2))

/-- Chunk `n` of the values' block. -/
def vals (x2 : Vec F S1x16x80x512 .bf16) (n : ℕ) : Vec F S1x1x80x512 .bf16 :=
  fun j => x2 (ix4 0 ⟨n % 16, Nat.mod_lt _ (by decide)⟩ (j 2) (j 3))

/-- The four query heads' columns side by side: column `1024 h + r` is query row `r` of head `h`. -/
def queries (x0 : Vec F S256x1024 .bf16) : Vec F S64x4096 .bf16 :=
  fun j => x0 (ix2 ⟨64 * ((j 1).val / 1024) + (j 0).val, by
    have h0 : (j 0).val < 64 := (j 0).isLt
    have h1 : (j 1).val < 4096 := (j 1).isLt
    omega⟩ ⟨(j 1).val % 1024, Nat.mod_lt _ (by decide)⟩)

/-- The scores of chunk `n`: its keys against every query column. -/
def scores (x0 : Vec F S256x1024 .bf16) (x1 : Vec F S1x8192x64 .bf16) (n : ℕ) : FVec F S512x4096 .f32 :=
  k0_pay3 (keys x1 n) (queries x0)

/-- The running maximum after a chunk of scores `s`. -/
def newMax (s : FVec F S512x4096 .f32) (mx : FVec F S8x4096 .f32) : FVec F S8x4096 .f32 := k0_pay7 (k0_pay4 s mx)

/-- The running sums after a chunk of scores `s` and of values `w`. -/
def newSum (s : FVec F S512x4096 .f32) (mx : FVec F S8x4096 .f32) (a : FVec F S80x4096 .f32) (w : Vec F S1x1x80x512 .bf16) :
    FVec F S80x4096 .f32 := k0_pay6 (k0_pay5 s mx a w)

/-- The running maximum and the running sums after the first `n` chunks. -/
def state (x0 : Vec F S256x1024 .bf16) (x1 : Vec F S1x8192x64 .bf16) (x2 : Vec F S1x16x80x512 .bf16) :
    ℕ → FVec F S8x4096 .f32 × FVec F S80x4096 .f32
  | 0 => (k0_pay17, fun _ => Scalar.ofBits .f32 0x00000000#32)
  | n + 1 => (newMax (scores x0 x1 n) (state x0 x1 x2 n).1,
      newSum (scores x0 x1 n) (state x0 x1 x2 n).1 (state x0 x1 x2 n).2 (vals x2 n))

/-- The sums as the rows of the kernel's 128-row buffer, the rows past the eightieth at zero. -/
def padded (a : FVec F S80x4096 .f32) : FVec F S128x4096 .f32 :=
  fun j => if h : (j 0).val < 80 then a (ix2 ⟨(j 0).val, h⟩ (j 1)) else Scalar.ofBits .f32 0x00000000#32

/-- The block of the result that a point writes. -/
def block (x0 : Vec F S256x1024 .bf16) (x1 : Vec F S1x8192x64 .bf16) (x2 : Vec F S1x16x80x512 .bf16) : FVec F S1024x256 .f32 :=
  k0_pay2 (padded (state x0 x1 x2 16).2)

/-! ## Loads of a chunk -/

/-- A load of 512 rows of the keys' block from row `512 n` is its chunk `n`. -/
theorem keys_load (arg4 : Memref sig .tc .vmem S1x8192x64 .bf16) (harg4 : arg4.IsWhole) (x1 : Vec F S1x8192x64 .bf16)
    (off : Fin 3 → ℕ) (inb) (n : ℕ) (hn : n < 16) (h : off = ![0, 512 * n, 0]) :
    View.readAt (Elt F) arg4.view (Rect.unit (s := S1x8192x64) off S1x512x64.size inb).toLoadRect (harg4.unread x1) = keys x1 n := by
  subst h
  rw [View.readAt_eq_ld, harg4.read_unread]
  funext j
  unfold keys
  show x1 _ = x1 _
  have h0 : (j 0).val < 1 := (j 0).isLt
  have h1 : (j 1).val < 512 := (j 1).isLt
  congr 1
  funext a
  apply Fin.ext
  match a with
  | ⟨0, _⟩ => show 0 + 1 * (j 0).val = 0; omega
  | ⟨1, _⟩ => show 512 * n + 1 * (j 1).val = (512 * n + (j 1).val) % 8192; omega
  | ⟨2, _⟩ => show 0 + 1 * (j 2).val = (j 2).val; omega

/-- A load of slab `n` of the values' block is its chunk `n`. -/
theorem vals_load (arg5 : Memref sig .tc .vmem S1x16x80x512 .bf16) (harg5 : arg5.IsWhole) (x2 : Vec F S1x16x80x512 .bf16)
    (off : Fin 4 → ℕ) (inb) (n : ℕ) (hn : n < 16) (h : off = ![0, n, 0, 0]) :
    View.readAt (Elt F) arg5.view (Rect.unit (s := S1x16x80x512) off S1x1x80x512.size inb).toLoadRect (harg5.unread x2) = vals x2 n := by
  subst h
  rw [View.readAt_eq_ld, harg5.read_unread]
  funext j
  unfold vals
  show x2 _ = x2 _
  have h0 : (j 0).val < 1 := (j 0).isLt
  have h1 : (j 1).val < 1 := (j 1).isLt
  congr 1
  funext a
  apply Fin.ext
  match a with
  | ⟨0, _⟩ => show 0 + 1 * (j 0).val = 0; omega
  | ⟨1, _⟩ => show n + 1 * (j 1).val = n % 16; omega
  | ⟨2, _⟩ => show 0 + 1 * (j 2).val = (j 2).val; omega
  | ⟨3, _⟩ => show 0 + 1 * (j 3).val = (j 3).val; omega

/-! ## One trip of the loop -/

set_option maxHeartbeats 1000000 in
/-- The stores of one trip, in terms of the running maximum, sums and scores that it finds: two chunks, one after the
    other, and the scores of the chunk after them. -/
theorem trip_stores (𝒱 : Variants) (c : Dev nD) (bd : Option 𝒱.V) (i : grid0.Coords) (arg3 : Memref sig .tc .vmem S256x1024 .bf16) (harg3 : arg3.IsWhole) (arg4 : Memref sig .tc .vmem S1x8192x64 .bf16) (harg4 : arg4.IsWhole) (arg5 : Memref sig .tc .vmem S1x16x80x512 .bf16) (harg5 : arg5.IsWhole) (arg6 : Memref sig .tc .vmem S1024x256 .f32) (harg6 : arg6.IsWhole) (arg7 : Memref sig .tc .vmem S64x4096 .bf16) (harg7 : arg7.IsWhole) (arg8 : Memref sig .tc .vmem S8x4096 .f32) (harg8 : arg8.IsWhole) (arg9 : Memref sig .tc .vmem S128x4096 .f32) (harg9 : arg9.IsWhole) (arg10 : Memref sig .tc .vmem S512x4096 .f32) (harg10 : arg10.IsWhole) (arg11 : Memref sig .tc .vmem S512x4096 .f32) (harg11 : arg11.IsWhole) (v29 : FVec F S512x64 .bf16)
    (x1 : Vec F S1x8192x64 .bf16) (x2 : Vec F S1x16x80x512 .bf16) (X_arg7 : BufTy.Contents (Elt F) arg7.view.ty) (k : Fin k0_t1_loop.trips) (hk : k.val < 7)
    (f_arg8 : BufTy.Contents (Elt F) arg8.view.ty) (f_arg9 : BufTy.Contents (Elt F) arg9.view.ty) (f_arg10 : BufTy.Contents (Elt F) arg10.view.ty) (f_arg11 : BufTy.Contents (Elt F) arg11.view.ty)
    (q : Vec F S64x4096 .bf16) (hq : View.readAt (Elt F) arg7.view (Rect.unit ![0, 0] S64x4096.size inb_S64x4096_S64x4096_0_0).toLoadRect X_arg7 = q)
    (mx : FVec F S8x4096 .f32) (hm : View.readAt (Elt F) arg8.view (Rect.unit ![0, 0] S8x4096.size inb_S8x4096_S8x4096_0_0).toLoadRect f_arg8 = mx)
    (a : FVec F S80x4096 .f32) (ha : View.readAt (Elt F) arg9.view (Rect.unit (s := S128x4096) ![0, 0] S80x4096.size inb_S128x4096_S80x4096_0_0).toLoadRect f_arg9 = a)
    (s : FVec F S512x4096 .f32) (hs : View.readAt (Elt F) arg10.view (Rect.unit ![0, 0] S512x4096.size inb_S512x4096_S512x4096_0_0).toLoadRect f_arg10 = s) :
    tripL_k0_t1 (F := F) 𝒱 c bd i arg3 harg3 arg4 harg4 arg5 harg5 arg6 harg6 arg7 harg7 arg8 harg8 arg9 harg9 arg10 harg10 arg11 harg11 v29 (harg4.unread x1) (harg5.unread x2) X_arg7 k f_arg8 f_arg9 f_arg10 f_arg11
      = ([⟨Rect.unit ![0, 0] S8x4096.size inb_S8x4096_S8x4096_0_0, newMax (k0_pay3 (keys x1 (2 * k.val + 1)) q) (newMax s mx)⟩,
          ⟨Rect.unit ![0, 0] S8x4096.size inb_S8x4096_S8x4096_0_0, newMax s mx⟩],
         [⟨Rect.unit (s := S128x4096) ![0, 0] S80x4096.size inb_S128x4096_S80x4096_0_0,
            newSum (k0_pay3 (keys x1 (2 * k.val + 1)) q) (newMax s mx) (newSum s mx a (vals x2 (2 * k.val))) (vals x2 (2 * k.val + 1))⟩,
          ⟨Rect.unit (s := S128x4096) ![0, 0] S80x4096.size inb_S128x4096_S80x4096_0_0, newSum s mx a (vals x2 (2 * k.val))⟩],
         [⟨Rect.unit ![0, 0] S512x4096.size inb_S512x4096_S512x4096_0_0, k0_pay3 (keys x1 (2 * k.val + 2)) q⟩],
         [⟨Rect.unit ![0, 0] S512x4096.size inb_S512x4096_S512x4096_0_0, k0_pay3 (keys x1 (2 * k.val + 1)) q⟩]) := by
  unfold tripL_k0_t1 trip_k0_t1
  dsimp only
  sl_unfold_run_names
  simp only [View.readCov_cons_toLoadRect, hm, ha, hs, hq]
  have e1 : View.readAt (Elt F) arg4.view (Rect.unit (s := S1x8192x64) (k0_off1 k 1#32) S1x512x64.size (k0_off1_inb k 0)).toLoadRect (harg4.unread x1)
      = keys x1 (2 * k.val + 1) := keys_load arg4 harg4 x1 _ _ _ (by omega) ((k0_off1_eq k 0).trans (by
        congr 2; show 1024 * k.val + 512 * 0 + 512 = 512 * (2 * k.val + 1); omega))
  have e2 : View.readAt (Elt F) arg4.view (Rect.unit (s := S1x8192x64) (k0_off1 k 2#32) S1x512x64.size (k0_off1_inb k 1)).toLoadRect (harg4.unread x1)
      = keys x1 (2 * k.val + 2) := keys_load arg4 harg4 x1 _ _ _ (by omega) ((k0_off1_eq k 1).trans (by
        congr 2; show 1024 * k.val + 512 * 1 + 512 = 512 * (2 * k.val + 2); omega))
  have e3 : View.readAt (Elt F) arg5.view (Rect.unit (s := S1x16x80x512) (k0_off2 k) S1x1x80x512.size (k0_off2_inb k)).toLoadRect (harg5.unread x2)
      = vals x2 (2 * k.val) := vals_load arg5 harg5 x2 _ _ _ (by omega) (k0_off2_eq k)
  have e4 : View.readAt (Elt F) arg5.view (Rect.unit (s := S1x16x80x512) (k0_off3 k) S1x1x80x512.size (k0_off3_inb k)).toLoadRect (harg5.unread x2)
      = vals x2 (2 * k.val + 1) := vals_load arg5 harg5 x2 _ _ _ (by omega) (k0_off3_eq k)
  rw [← e1, ← e2, ← e3, ← e4]
  rfl

end Cert.Attn

end
-- ==== Proof.Body.lean ====
/- The body of the kernel at one point of its grid: it leaves the block of `Block.lean` in the result's buffer, whatever the
   scratch buffers held. The loop's state after each trip is read back from the stores of the trips before. -/
module

public import proofs.«01_k».proof.Proof.Block

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

theorem zero2 : (![0, 0] : Fin 2 → ℕ) = fun _ => 0 := funext fun a => by fin_cases a <;> rfl

/-- The four slices of the queries' block, stored side by side, read back as the query columns. -/
theorem queries_load (arg3 : Memref sig .tc .vmem S256x1024 .bf16) (harg3 : arg3.IsWhole) (arg7 : Memref sig .tc .vmem S64x4096 .bf16)
    (x0 : Vec F S256x1024 .bf16) :
    arg7.view.readCov (Val := Elt F) [⟨Rect.unit (s := S64x4096) ![0, 3072] S64x1024.size inb_S64x4096_S64x1024_0_3072, k0_pay16 (View.readAt (Elt F) arg3.view (Rect.unit (s := S256x1024) ![0, 0] S256x1024.size inb_S256x1024_S256x1024_0_0).toLoadRect (harg3.unread x0))⟩, ⟨Rect.unit (s := S64x4096) ![0, 2048] S64x1024.size inb_S64x4096_S64x1024_0_2048, k0_pay15 (View.readAt (Elt F) arg3.view (Rect.unit (s := S256x1024) ![0, 0] S256x1024.size inb_S256x1024_S256x1024_0_0).toLoadRect (harg3.unread x0))⟩, ⟨Rect.unit (s := S64x4096) ![0, 1024] S64x1024.size inb_S64x4096_S64x1024_0_1024, k0_pay14 (View.readAt (Elt F) arg3.view (Rect.unit (s := S256x1024) ![0, 0] S256x1024.size inb_S256x1024_S256x1024_0_0).toLoadRect (harg3.unread x0))⟩, ⟨Rect.unit (s := S64x4096) ![0, 0] S64x1024.size inb_S64x4096_S64x1024_0_0, k0_pay13 (View.readAt (Elt F) arg3.view (Rect.unit (s := S256x1024) ![0, 0] S256x1024.size inb_S256x1024_S256x1024_0_0).toLoadRect (harg3.unread x0))⟩] (Rect.unit (s := S64x4096) ![0, 0] S64x4096.size inb_S64x4096_S64x4096_0_0).toLoadRect = queries x0 := by
  rw [View.readCov_eq_canon']
  rw [show View.readAt (Elt F) arg3.view (Rect.unit (s := S256x1024) ![0, 0] S256x1024.size inb_S256x1024_S256x1024_0_0).toLoadRect (harg3.unread x0) = x0 from by
    rw [View.readAt_eq_ld, harg3.read_unread, View.ld_unit_zero (S := S256x1024) zero2]]
  funext j
  have hj : (Rect.unit (s := S64x4096) ![0, 0] S64x4096.size inb_S64x4096_S64x4096_0_0).toLoadRect.idx j = j := by
    funext a; apply Fin.ext
    match a with
    | ⟨0, _⟩ => show 0 + 1 * (j 0).val = (j 0).val; omega
    | ⟨1, _⟩ => show 0 + 1 * (j 1).val = (j 1).val; omega
  show View.canon _ ((Rect.unit (s := S64x4096) ![0, 0] S64x4096.size inb_S64x4096_S64x4096_0_0).toLoadRect.idx j) = _
  rw [hj]
  canon_tiles x h
  all_goals
    unfold_payloads
    unfold queries
    simp only [shapeCast_self, extractStridedSlice]
    congr 1
    funext a; apply Fin.ext
    match a with
    | ⟨0, _⟩ => simp; omega
    | ⟨1, _⟩ => simp; omega

/-- The whole of a buffer read at its own rectangle. -/
theorem readCov_whole8 (v : View sig .tc .vmem S8x4096 .f32) (L : List (View.Piece (Elt F) S8x4096 .f32)) :
    v.readCov L (Rect.unit (s := S8x4096) ![0, 0] S8x4096.size inb_S8x4096_S8x4096_0_0).toLoadRect = View.canon L := by
  rw [View.readCov_eq_canon']; exact View.ld_unit_zero (S := S8x4096) zero2 _ _

theorem readCov_whole512 (v : View sig .tc .vmem S512x4096 .f32) (L : List (View.Piece (Elt F) S512x4096 .f32)) :
    v.readCov L (Rect.unit (s := S512x4096) ![0, 0] S512x4096.size inb_S512x4096_S512x4096_0_0).toLoadRect = View.canon L := by
  rw [View.readCov_eq_canon']; exact View.ld_unit_zero (S := S512x4096) zero2 _ _

/-- The first eighty rows of the sums' buffer as it starts. -/
theorem sums_start : (fun j => (k0_pay18 : FVec F S128x4096 .f32) ((Rect.unit (s := S128x4096) ![0, 0] S80x4096.size inb_S128x4096_S80x4096_0_0).toLoadRect.idx j)) = (fun _ => Scalar.ofBits .f32 0x00000000#32 : FVec F S80x4096 .f32) := by
  funext j
  unfold_payloads
  simp only [shapeCast_self]
  rfl

set_option maxHeartbeats 400000 in
/-- The state of the loop before trip `n`: what the scratch buffers read as is the state after `2 n` chunks, and the
    scores of the chunk that follows. -/
theorem loop_state (c : Dev nD) (i : grid0.Coords) (arg3 : Memref sig .tc .vmem S256x1024 .bf16) (harg3 : arg3.IsWhole) (arg4 : Memref sig .tc .vmem S1x8192x64 .bf16) (harg4 : arg4.IsWhole) (arg5 : Memref sig .tc .vmem S1x16x80x512 .bf16) (harg5 : arg5.IsWhole) (arg6 : Memref sig .tc .vmem S1024x256 .f32) (harg6 : arg6.IsWhole) (arg7 : Memref sig .tc .vmem S64x4096 .bf16) (harg7 : arg7.IsWhole) (arg8 : Memref sig .tc .vmem S8x4096 .f32) (harg8 : arg8.IsWhole) (arg9 : Memref sig .tc .vmem S128x4096 .f32) (harg9 : arg9.IsWhole) (arg10 : Memref sig .tc .vmem S512x4096 .f32) (harg10 : arg10.IsWhole) (arg11 : Memref sig .tc .vmem S512x4096 .f32) (harg11 : arg11.IsWhole) (v29 : FVec F S512x64 .bf16)
    (x0 : Vec F S256x1024 .bf16) (x1 : Vec F S1x8192x64 .bf16) (x2 : Vec F S1x16x80x512 .bf16)
    (X7 : BufTy.Contents (Elt F) arg7.view.ty) (hX : View.readAt (Elt F) arg7.view (Rect.unit (s := S64x4096) ![0, 0] S64x4096.size inb_S64x4096_S64x4096_0_0).toLoadRect X7 = queries x0)
    (s0 : FVec F S512x4096 .f32) (hs0 : s0 = scores x0 x1 0)
    (G11 : BufTy.Contents (Elt F) arg11.view.ty) (n : ℕ) (hn : n ≤ 7) :
    arg8.view.readCov ((pb_k0_t1 (F := F) Variants.none c none i arg3 harg3 arg4 harg4 arg5 harg5 arg6 harg6 arg7 harg7 arg8 harg8 arg9 harg9 arg10 harg10 arg11 harg11 v29 (harg4.unread x1) (harg5.unread x2) X7 (arg8.view.writes (Elt F) arg8.view.junk [⟨(Rect.unit (s := S8x4096) ![0, 0] S8x4096.size inb_S8x4096_S8x4096_0_0), k0_pay17⟩]) (arg9.view.writes (Elt F) arg9.view.junk [⟨(Rect.unit (s := S128x4096) ![0, 0] S128x4096.size inb_S128x4096_S128x4096_0_0), k0_pay18⟩]) (arg10.view.writes (Elt F) arg10.view.junk [⟨(Rect.unit (s := S512x4096) ![0, 0] S512x4096.size inb_S512x4096_S512x4096_0_0), s0⟩]) G11 n).1 ++ [⟨(Rect.unit (s := S8x4096) ![0, 0] S8x4096.size inb_S8x4096_S8x4096_0_0), k0_pay17⟩]) (Rect.unit (s := S8x4096) ![0, 0] S8x4096.size inb_S8x4096_S8x4096_0_0).toLoadRect = (state x0 x1 x2 (2 * n)).1
    ∧ arg9.view.readCov ((pb_k0_t1 (F := F) Variants.none c none i arg3 harg3 arg4 harg4 arg5 harg5 arg6 harg6 arg7 harg7 arg8 harg8 arg9 harg9 arg10 harg10 arg11 harg11 v29 (harg4.unread x1) (harg5.unread x2) X7 (arg8.view.writes (Elt F) arg8.view.junk [⟨(Rect.unit (s := S8x4096) ![0, 0] S8x4096.size inb_S8x4096_S8x4096_0_0), k0_pay17⟩]) (arg9.view.writes (Elt F) arg9.view.junk [⟨(Rect.unit (s := S128x4096) ![0, 0] S128x4096.size inb_S128x4096_S128x4096_0_0), k0_pay18⟩]) (arg10.view.writes (Elt F) arg10.view.junk [⟨(Rect.unit (s := S512x4096) ![0, 0] S512x4096.size inb_S512x4096_S512x4096_0_0), s0⟩]) G11 n).2.1 ++ [⟨(Rect.unit (s := S128x4096) ![0, 0] S128x4096.size inb_S128x4096_S128x4096_0_0), k0_pay18⟩]) (Rect.unit (s := S128x4096) ![0, 0] S80x4096.size inb_S128x4096_S80x4096_0_0).toLoadRect = (state x0 x1 x2 (2 * n)).2
    ∧ arg10.view.readCov ((pb_k0_t1 (F := F) Variants.none c none i arg3 harg3 arg4 harg4 arg5 harg5 arg6 harg6 arg7 harg7 arg8 harg8 arg9 harg9 arg10 harg10 arg11 harg11 v29 (harg4.unread x1) (harg5.unread x2) X7 (arg8.view.writes (Elt F) arg8.view.junk [⟨(Rect.unit (s := S8x4096) ![0, 0] S8x4096.size inb_S8x4096_S8x4096_0_0), k0_pay17⟩]) (arg9.view.writes (Elt F) arg9.view.junk [⟨(Rect.unit (s := S128x4096) ![0, 0] S128x4096.size inb_S128x4096_S128x4096_0_0), k0_pay18⟩]) (arg10.view.writes (Elt F) arg10.view.junk [⟨(Rect.unit (s := S512x4096) ![0, 0] S512x4096.size inb_S512x4096_S512x4096_0_0), s0⟩]) G11 n).2.2.1 ++ [⟨(Rect.unit (s := S512x4096) ![0, 0] S512x4096.size inb_S512x4096_S512x4096_0_0), s0⟩]) (Rect.unit (s := S512x4096) ![0, 0] S512x4096.size inb_S512x4096_S512x4096_0_0).toLoadRect = scores x0 x1 (2 * n) := by
  induction n with
  | zero =>
    rw [pb_k0_t1.eq_1]
    refine ⟨?_, ?_, ?_⟩
    · rw [List.nil_append, View.readCov_cons_toLoadRect, Nat.mul_zero]; rfl
    · rw [List.nil_append, View.readCov_eq_canon', View.canon_unit_zero (S := S128x4096) zero2, Nat.mul_zero]
      exact sums_start
    · rw [List.nil_append, View.readCov_cons_toLoadRect, Nat.mul_zero]; exact hs0
  | succ n ih =>
    obtain ⟨i1, i2, i3⟩ := ih (by omega)
    have ht : n < k0_t1_loop.trips := by
      have : k0_t1_loop.trips = 7 := by decide +kernel
      omega
    have hs := pb_k0_t1_succ (F := F) Variants.none c none i arg3 harg3 arg4 harg4 arg5 harg5 arg6 harg6 arg7 harg7 arg8 harg8 arg9 harg9 arg10 harg10 arg11 harg11 v29 (harg4.unread x1) (harg5.unread x2) X7 (arg8.view.writes (Elt F) arg8.view.junk [⟨(Rect.unit (s := S8x4096) ![0, 0] S8x4096.size inb_S8x4096_S8x4096_0_0), k0_pay17⟩]) (arg9.view.writes (Elt F) arg9.view.junk [⟨(Rect.unit (s := S128x4096) ![0, 0] S128x4096.size inb_S128x4096_S128x4096_0_0), k0_pay18⟩]) (arg10.view.writes (Elt F) arg10.view.junk [⟨(Rect.unit (s := S512x4096) ![0, 0] S512x4096.size inb_S512x4096_S512x4096_0_0), s0⟩]) G11 ⟨n, ht⟩
    rw [trip_stores Variants.none c none i arg3 harg3 arg4 harg4 arg5 harg5 arg6 harg6 arg7 harg7 arg8 harg8 arg9 harg9 arg10 harg10 arg11 harg11 v29 x1 x2 X7 ⟨n, ht⟩ (by show n < 7; omega) _ _ _ _ (queries x0) hX
      (state x0 x1 x2 (2 * n)).1 (by rw [← View.writes_append]; exact i1)
      (state x0 x1 x2 (2 * n)).2 (by rw [← View.writes_append]; exact i2)
      (scores x0 x1 (2 * n)) (by rw [← View.writes_append]; exact i3)] at hs
    have hs' := hs
    rw [show ((⟨n, ht⟩ : Fin k0_t1_loop.trips).val + 1) = n + 1 from rfl] at hs'
    rw [hs']
    refine ⟨?_, ?_, ?_⟩
    · dsimp only [List.cons_append]
      rw [View.readCov_cons_toLoadRect]; rfl
    · dsimp only [List.cons_append]
      rw [View.readCov_cons_toLoadRect]; rfl
    · dsimp only [List.cons_append]
      rw [View.readCov_cons_toLoadRect]; rfl

/-- A result element: a row of the sums over the row of the denominators, in the column of its query and head. -/
theorem result_apply (a : FVec F S128x4096 .f32) (r : Fin 1024) (n : Fin 256) :
    k0_pay2 a (ix2 r n) = FloatOps.divf (a (ix2 ⟨n.val % 64, by omega⟩ ⟨1024 * (n.val / 64) + r.val, by omega⟩))
      (a (ix2 ⟨64, by decide⟩ ⟨1024 * (n.val / 64) + r.val, by omega⟩)) := by
  have key : ∀ (u u' : Fin 128) (w w' : Fin 4096), u.val = u'.val → w.val = w'.val →
      FloatOps.divf (a (ix2 u w)) (a (ix2 64 w)) = FloatOps.divf (a (ix2 u' w')) (a (ix2 64 w')) := by
    intro u u' w w' h1 h2
    obtain rfl := Fin.ext h1
    obtain rfl := Fin.ext h2
    rfl
  pointwise [k0_pay2]
  have hn := n.isLt
  by_cases h0 : n.val < 64
  · rw [dif_pos h0]; exact key _ _ _ _ (by dsimp only; omega) (by dsimp only; omega)
  rw [dif_neg h0]
  by_cases h1 : n.val - 64 < 64
  · rw [dif_pos h1]; exact key _ _ _ _ (by dsimp only; omega) (by dsimp only; omega)
  rw [dif_neg h1]
  by_cases h2 : n.val - 64 - 64 < 64
  · rw [dif_pos h2]; exact key _ _ _ _ (by dsimp only; omega) (by dsimp only; omega)
  rw [dif_neg h2]
  exact key _ _ _ _ (by dsimp only; omega) (by dsimp only; omega)

/-- The result reads the first eighty rows of the sums only. -/
theorem result_congr (a b : FVec F S128x4096 .f32) (h : ∀ (r : Fin 128) (c : Fin 4096), r.val < 80 → a (ix2 r c) = b (ix2 r c)) :
    k0_pay2 a = k0_pay2 b := by
  funext j
  idx_vars j
  rw [result_apply, result_apply, h _ _ (by dsimp only; omega), h _ _ (by decide)]

/-- The first eighty rows of the sums' buffer just written, read back from the whole of it. -/
theorem result_of_store (v : View sig .tc .vmem S128x4096 .f32) (w : FVec F S80x4096 .f32) (L : List (View.Piece (Elt F) S128x4096 .f32)) :
    k0_pay2 (v.readCov (⟨Rect.unit (s := S128x4096) ![0, 0] S80x4096.size inb_S128x4096_S80x4096_0_0, w⟩ :: L)
      (Rect.unit (s := S128x4096) ![0, 0] S128x4096.size inb_S128x4096_S128x4096_0_0).toLoadRect) = k0_pay2 (padded w) := by
  apply result_congr
  intro r c hr
  have e : (ix2 r c : S128x4096.Idx) = (Rect.unit (s := S128x4096) ![0, 0] S80x4096.size inb_S128x4096_S80x4096_0_0).toLoadRect.idx (ix2 ⟨r.val, hr⟩ c) := by
    funext a; apply Fin.ext
    match a with
    | ⟨0, _⟩ => show r.val = 0 + 1 * r.val; omega
    | ⟨1, _⟩ => show c.val = 0 + 1 * c.val; omega
  have e' : (Rect.unit (s := S128x4096) ![0, 0] S128x4096.size inb_S128x4096_S128x4096_0_0).toLoadRect.idx (ix2 r c) = ix2 r c := by
    funext a; apply Fin.ext
    match a with
    | ⟨0, _⟩ => show 0 + 1 * r.val = r.val; omega
    | ⟨1, _⟩ => show 0 + 1 * c.val = c.val; omega
  have e2 := congrFun (View.readCov_cons_toLoadRect v (Rect.unit (s := S128x4096) ![0, 0] S80x4096.size inb_S128x4096_S80x4096_0_0) w L) (ix2 ⟨r.val, hr⟩ c)
  rw [View.readCov_eq_canon'] at e2
  rw [View.readCov_eq_canon']
  dsimp only at e2 ⊢
  rw [e', e, e2]
  unfold padded
  rw [← e, dif_pos (show ((ix2 r c : S128x4096.Idx) 0).val < 80 from hr)]
  rfl

end Cert.Attn

end
-- ==== Proof.Point.lean ====
/- The body of the kernel at one point of its grid: it leaves the block of `Block.lean` in the result's buffer, whatever the
   scratch buffers held. -/
module

public import proofs.«01_k».proof.Proof.Body

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The result's buffer read after a store of the whole of it. -/
theorem result_store (v : View sig .tc .vmem S1024x256 .f32) (f : BufTy.Contents (Elt F) v.ty) (w : FVec F S1024x256 .f32) :
    v.read (Elt F) (v.writes (Elt F) f [⟨Rect.unit (s := S1024x256) ![0, 0] S1024x256.size inb_S1024x256_S1024x256_0_0, w⟩]) = w := by
  rw [View.read_writes_eq_canon _ _ _ (View.cover_of_wholeMem _ (View.Piece.wholeMem_here (of_eq_true (by
    unfold View.Piece.whole; simp [zero2])))), View.canon_unit_zero (S := S1024x256) zero2]

set_option maxHeartbeats 2000000 in
/-- The body owns the three operands' blocks and writes the result's block; its five scratch buffers come back with some
    contents. -/
theorem point_body (c : Dev nD) (i : grid0.Coords) (E : Set ℕ) (arg3 : Memref sig .tc .vmem S256x1024 .bf16) (harg3 : arg3.IsWhole) (arg4 : Memref sig .tc .vmem S1x8192x64 .bf16) (harg4 : arg4.IsWhole) (arg5 : Memref sig .tc .vmem S1x16x80x512 .bf16) (harg5 : arg5.IsWhole) (arg6 : Memref sig .tc .vmem S1024x256 .f32) (harg6 : arg6.IsWhole) (arg7 : Memref sig .tc .vmem S64x4096 .bf16) (harg7 : arg7.IsWhole) (arg8 : Memref sig .tc .vmem S8x4096 .f32) (harg8 : arg8.IsWhole) (arg9 : Memref sig .tc .vmem S128x4096 .f32) (harg9 : arg9.IsWhole) (arg10 : Memref sig .tc .vmem S512x4096 .f32) (harg10 : arg10.IsWhole) (arg11 : Memref sig .tc .vmem S512x4096 .f32) (harg11 : arg11.IsWhole)
    (x0 : Vec F S256x1024 .bf16) (x1 : Vec F S1x8192x64 .bf16) (x2 : Vec F S1x16x80x512 .bf16)
    (K : PUnit → sProp 𝕄) :
    iprop(owns (c : Thread nD τ) arg3 fullShare x0 ∗ owns (c : Thread nD τ) arg4 fullShare x1 ∗ owns (c : Thread nD τ) arg5 fullShare x2
      ∗ (∃ d, owns (c : Thread nD τ) arg6 fullShare d)  ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
      ∗ (iprop(owns (c : Thread nD τ) arg3 fullShare x0 ∗ owns (c : Thread nD τ) arg4 fullShare x1 ∗ owns (c : Thread nD τ) arg5 fullShare x2
          ∗ owns (c : Thread nD τ) arg6 fullShare (block x0 x1 x2)  ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
    ⊢ wp frame (wpE (defs₀ (F := F)) Variants.none (c : Thread nD τ) none) E
        (cc0_attention (F := F) i arg3 harg3 arg4 harg4 arg5 harg5 arg6 harg6 arg7 harg7 arg8 harg8 arg9 harg9 arg10 harg10 arg11 harg11) K := by
  simp only [cc0_attention_eq_skeleton]; unfold cc0_attention_skel
  simp only [k0_part3_eq_skeleton, k0_part4_eq_skeleton, k0_part5_eq_skeleton]
  unfold owns
  iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
  obtain rfl := harg3.eq_unread hf0
  obtain rfl := harg4.eq_unread hf1
  obtain rfl := harg5.eq_unread hf2
  sl_exec
  sl_step
  iapply Hk
  isplitl [H0]
  · iexists _; isplitr
    · ipureintro; exact harg3.read_unread _
    iexact H0
  isplitl [H1]
  · iexists _; isplitr
    · ipureintro; exact harg4.read_unread _
    iexact H1
  isplitl [H2]
  · iexists _; isplitr
    · ipureintro; exact harg5.read_unread _
    iexact H2
  isplitl [H3]
  · iexists _; isplitr; swap
    · iexact H3
    ipureintro
    sl_unfold_run_names
    have hX := queries_load arg3 harg3 arg7 x0
    have hk0 : (View.readAt (Elt F) arg4.view (Rect.unit (s := S1x8192x64) ![0, 0, 0] S1x512x64.size inb_S1x8192x64_S1x512x64_0_0_0).toLoadRect (harg4.unread x1)) = keys x1 0 := keys_load arg4 harg4 x1 _ _ _ (by omega) rfl
    have hk15 : (View.readAt (Elt F) arg4.view (Rect.unit (s := S1x8192x64) ![0, 7680, 0] S1x512x64.size inb_S1x8192x64_S1x512x64_0_7680_0).toLoadRect (harg4.unread x1)) = keys x1 15 := keys_load arg4 harg4 x1 _ _ _ (by omega) rfl
    have hv14 : (View.readAt (Elt F) arg5.view (Rect.unit (s := S1x16x80x512) ![0, 14, 0, 0] S1x1x80x512.size inb_S1x16x80x512_S1x1x80x512_0_14_0_0).toLoadRect (harg5.unread x2)) = vals x2 14 := vals_load arg5 harg5 x2 _ _ _ (by omega) rfl
    have hv15 : (View.readAt (Elt F) arg5.view (Rect.unit (s := S1x16x80x512) ![0, 15, 0, 0] S1x1x80x512.size inb_S1x16x80x512_S1x1x80x512_0_15_0_0).toLoadRect (harg5.unread x2)) = vals x2 15 := vals_load arg5 harg5 x2 _ _ _ (by omega) rfl
    have ht : Scf.trips k0_t1_loop.lb k0_t1_loop.ub k0_t1_loop.st = 7 := by decide +kernel
    obtain ⟨i1, i2, i3⟩ := loop_state c i arg3 harg3 arg4 harg4 arg5 harg5 arg6 harg6 arg7 harg7 arg8 harg8 arg9 harg9 arg10 harg10 arg11 harg11 (k0_pay19 (View.readAt (Elt F) arg4.view (Rect.unit (s := S1x8192x64) ![0, 0, 0] S1x512x64.size inb_S1x8192x64_S1x512x64_0_0_0).toLoadRect (harg4.unread x1))) x0 x1 x2 (arg7.view.writes (Elt F) arg7.view.junk [⟨Rect.unit (s := S64x4096) ![0, 3072] S64x1024.size inb_S64x4096_S64x1024_0_3072, k0_pay16 (View.readAt (Elt F) arg3.view (Rect.unit (s := S256x1024) ![0, 0] S256x1024.size inb_S256x1024_S256x1024_0_0).toLoadRect (harg3.unread x0))⟩, ⟨Rect.unit (s := S64x4096) ![0, 2048] S64x1024.size inb_S64x4096_S64x1024_0_2048, k0_pay15 (View.readAt (Elt F) arg3.view (Rect.unit (s := S256x1024) ![0, 0] S256x1024.size inb_S256x1024_S256x1024_0_0).toLoadRect (harg3.unread x0))⟩, ⟨Rect.unit (s := S64x4096) ![0, 1024] S64x1024.size inb_S64x4096_S64x1024_0_1024, k0_pay14 (View.readAt (Elt F) arg3.view (Rect.unit (s := S256x1024) ![0, 0] S256x1024.size inb_S256x1024_S256x1024_0_0).toLoadRect (harg3.unread x0))⟩, ⟨Rect.unit (s := S64x4096) ![0, 0] S64x1024.size inb_S64x4096_S64x1024_0_0, k0_pay13 (View.readAt (Elt F) arg3.view (Rect.unit (s := S256x1024) ![0, 0] S256x1024.size inb_S256x1024_S256x1024_0_0).toLoadRect (harg3.unread x0))⟩]) hX
      (k0_pay20 (k0_pay19 (View.readAt (Elt F) arg4.view (Rect.unit (s := S1x8192x64) ![0, 0, 0] S1x512x64.size inb_S1x8192x64_S1x512x64_0_0_0).toLoadRect (harg4.unread x1))) (arg7.view.readCov (Val := Elt F) [⟨Rect.unit (s := S64x4096) ![0, 3072] S64x1024.size inb_S64x4096_S64x1024_0_3072, k0_pay16 (View.readAt (Elt F) arg3.view (Rect.unit (s := S256x1024) ![0, 0] S256x1024.size inb_S256x1024_S256x1024_0_0).toLoadRect (harg3.unread x0))⟩, ⟨Rect.unit (s := S64x4096) ![0, 2048] S64x1024.size inb_S64x4096_S64x1024_0_2048, k0_pay15 (View.readAt (Elt F) arg3.view (Rect.unit (s := S256x1024) ![0, 0] S256x1024.size inb_S256x1024_S256x1024_0_0).toLoadRect (harg3.unread x0))⟩, ⟨Rect.unit (s := S64x4096) ![0, 1024] S64x1024.size inb_S64x4096_S64x1024_0_1024, k0_pay14 (View.readAt (Elt F) arg3.view (Rect.unit (s := S256x1024) ![0, 0] S256x1024.size inb_S256x1024_S256x1024_0_0).toLoadRect (harg3.unread x0))⟩, ⟨Rect.unit (s := S64x4096) ![0, 0] S64x1024.size inb_S64x4096_S64x1024_0_0, k0_pay13 (View.readAt (Elt F) arg3.view (Rect.unit (s := S256x1024) ![0, 0] S256x1024.size inb_S256x1024_S256x1024_0_0).toLoadRect (harg3.unread x0))⟩] (Rect.unit (s := S64x4096) ![0, 0] S64x4096.size inb_S64x4096_S64x4096_0_0).toLoadRect)) (by rw [hX, hk0]; rfl) fs4 7 le_rfl
    rw [ht]
    refine (result_store _ _ _).trans ?_
    rw [result_of_store, View.readCov_cons_toLoadRect, View.readCov_cons_toLoadRect, View.readCov_cons_toLoadRect, i1, i2, i3, hX, hk15, hv14, hv15]
    rfl
  isplitl [HS0]
  · iexists _, _; isplitr; swap
    · iexact HS0
    ipureintro; rfl
  isplitl [HS1]
  · iexists _, _; isplitr; swap
    · iexact HS1
    ipureintro; rfl
  isplitl [HS2]
  · iexists _, _; isplitr; swap
    · iexact HS2
    ipureintro; rfl
  isplitl [HS3]
  · iexists _, _; isplitr; swap
    · iexact HS3
    ipureintro; rfl
  iexists _, _; isplitr; swap
  · iexact HS4
  ipureintro; rfl

end Cert.Attn

end
-- ==== Proof.Run.lean ====
/- The whole run of the attention program at any float instance: the data of its pipeline, with the block of `Block.lean` as
   what each point leaves in the result's buffer, the body's obligation from `point_body`, and the run. -/
module

public import proofs.«01_k».proof.Proof.Point
public import Idealize.ShloMosaic.Lib.Claim

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a point leaves in the result's buffer: the block of its three operands' blocks. -/
def written (c : Dev nD) (t : Fin cfg0.N) : Vec F S1024x256 .f32 :=
  block (iblk m c 0 t) (iblk m c 1 t) (iblk m c 2 t)

/-- The pipeline's data: operands stay at their blocks, the result's buffer at `written`, nothing owed. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => written m c t
  Φ _ := Pipeline.ΦA spec0 c
  q _ := fullShare
  owed _ := 0

theorem data_arrays (c : Dev nD) (w : Fin cfg0.W) : (data m 0 c).A w = V m c (Pipeline.arrRef spec0 w) := by
  dsimp only [data]

theorem data_after0 (c : Dev nD) (t : Fin cfg0.N) : (data m 0 c).after 0 t = iblk m c 0 t := by dsimp only [data]
theorem data_after1 (c : Dev nD) (t : Fin cfg0.N) : (data m 0 c).after 1 t = iblk m c 1 t := by dsimp only [data]
theorem data_after2 (c : Dev nD) (t : Fin cfg0.N) : (data m 0 c).after 2 t = iblk m c 2 t := by dsimp only [data]
theorem data_after3 (c : Dev nD) (t : Fin cfg0.N) : (data m 0 c).after 3 t = written m c t := by dsimp only [data]

theorem data_before0 (c : Dev nD) (t : Fin cfg0.N) (d) : (data m 0 c).before 0 t d = iblk m c 0 t :=
  before0_0_of m (data m 0 c) (data_arrays m c 0) (data_after0 m c) t d
theorem data_before1 (c : Dev nD) (t : Fin cfg0.N) (d) : (data m 0 c).before 1 t d = iblk m c 1 t :=
  before0_1_of m (data m 0 c) (data_arrays m c 1) (data_after1 m c) t d
theorem data_before2 (c : Dev nD) (t : Fin cfg0.N) (d) : (data m 0 c).before 2 t d = iblk m c 2 t :=
  before0_2_of m (data m 0 c) (data_arrays m c 2) (data_after2 m c) t d

/-- What the body is handed at a point, -/
def handed (c : Dev nD) (t : Fin cfg0.N) : sProp 𝕄 :=
  iprop((data m 0 c).Φ t.castSucc ∗ (data m 0 c).owesAt () t.castSucc
    ∗ (∃ d, owns (c : Thread nD τ) (ms0_0 t) fullShare ((data m 0 c).before 0 t d))
    ∗ (∃ d, owns (c : Thread nD τ) (ms0_1 t) fullShare ((data m 0 c).before 1 t d))
    ∗ (∃ d, owns (c : Thread nD τ) (ms0_2 t) fullShare ((data m 0 c).before 2 t d))
    ∗ (∃ d, owns (c : Thread nD τ) (ms0_3 t) fullShare ((data m 0 c).before 3 t d)))

/-- and what it gives back. -/
def givenBack (c : Dev nD) (t : Fin cfg0.N) : sProp 𝕄 :=
  iprop((data m 0 c).Φ t.succ ∗ (data m 0 c).owesAt () t.succ
    ∗ owns (c : Thread nD τ) (ms0_0 t) fullShare ((data m 0 c).after 0 t)
    ∗ owns (c : Thread nD τ) (ms0_1 t) fullShare ((data m 0 c).after 1 t)
    ∗ owns (c : Thread nD τ) (ms0_2 t) fullShare ((data m 0 c).after 2 t)
    ∗ owns (c : Thread nD τ) (ms0_3 t) fullShare ((data m 0 c).after 3 t))

set_option maxHeartbeats 1000000 in
/-- The body at any point takes the one to the other. -/
theorem body_sound (c : Dev nD) (t : Fin cfg0.N) :
    handed m c t ⊢ wp frame (wpE (defs₀ (F := F)) Variants.none c none) Set.univ (bodyAt0 t) (fun _ => givenBack m c t) := by
  unfold handed givenBack bodyAt0
  simp only [data_before0, data_before1, data_before2]
  rw [show (data m 0 c).Φ t.succ = (data m 0 c).Φ t.castSucc from rfl,
    show (data m 0 c).owesAt () t.succ = (data m 0 c).owesAt () t.castSucc from rfl,
    data_after0, data_after1, data_after2, data_after3]
  rw [show (data m 0 c).Φ t.castSucc = Pipeline.ΦA spec0 c from rfl, PhiA0_eq]
  unfold written
  iintro ⟨⟨⟨HS0, HS1, HS2, HS3, HS4⟩, Hg⟩, Ho, ⟨%d0, H0⟩, ⟨%d1, H1⟩, ⟨%d2, H2⟩, ⟨%d3, H3⟩⟩
  iapply (point_body c (grid0.coords t) Set.univ _ _ _ _ _ _ _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  isplitl [HS3]; · iexact HS3
  isplitl [HS4]; · iexact HS4
  iintro ⟨H0, H1, H2, H3, HS0, HS1, HS2, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  iexact H3

/-- The body table's row at a point is the body. -/
theorem row (t : Fin cfg0.N) : defs₀ (F := F) .tc cfg0.body (cfg0.bodyArgs t (cfg0.slots t)) = bodyAt0 t := by
  unfold defs₀; rw [Defs.onTc_tc]

/-- The obligation of the pipeline's body. -/
theorem obligation (c : Dev nD) : BodyObligation (data (F := F) m 0 c) (defs₀ (F := F)) Variants.none () Set.univ := fun t => by
  rw [bigSep_W0, bigSep_W0, row]
  exact triple_restated (body_sound m c t) rfl .rfl fun _ => .rfl

set_option backward.isDefEq.respectTransparency.types false in
/-- The program runs to the end, leaving every array at what the data says and every semaphore at zero. -/
theorem run : θ_run defs (onTc (τ := τ) (main (F := F))) (s₀ m ρ) (fun r => (Pipeline.FramePost cfgs (data m) 0 (V m)) r ∧ r.2.sem = fun _ => 0) :=
  Pipeline.θ_run_frame (Q' := _) cfgs (data m) (0 : Fin 1) launch0 defs₀ Variants.none m ρ main
    (hbody := fun c => (obligation m c).loose) (hshare := fun c => (data m 0 c).share_full fun _ => rfl)
    (howed := fun _ _ => rfl) (V := V m) (hmain := hmain m Variants.none) (hA := data_arrays m) (hΦ := fun _ _ => rfl)

/-- The program leaves its arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (data m) (data_arrays m) ((θ_run defs _ _).mono (fun _ h => h.1) (run m ρ)))
    ((θ_run defs _ _).mono (fun _ h => h.2) (run m ρ))

end Cert.Attn

end
-- ==== Proof.Printed.lean ====
/- The program as printed has the text of the program read at the ideal instance, so its run is the same run at `Bits`. -/
module

public import proofs.«01_k».proof.Proof.Run
public import proofs.«01_k».proof.Proof.Gen.Kernel.Launch

@[expose] public section
set_option maxRecDepth 16384
noncomputable section
namespace Cert.Attn
open Idealize.ShloMosaic Idealize.ShloMosaic.TcCoe
open Idealize.SL.Sem

/-- The two host programs are one. -/
theorem main_same : Cert.Kernel.main (F := Bits) = Cert.KernelIdeal.main (F := Bits) := rfl
/-- The two kernel bodies are one. -/
theorem cc0_same : @Cert.Kernel.cc0_attention Bits _ Cert.Kernel.Gen.facts = @Cert.KernelIdeal.cc0_attention Bits _ Cert.KernelIdeal.Gen.facts := rfl
/-- So are the tables of bodies, -/
theorem defs0_same : Cert.Kernel.defs₀ (F := Bits) = Cert.KernelIdeal.defs₀ (F := Bits) := by
  unfold Cert.Kernel.defs₀ Cert.KernelIdeal.defs₀
  congr 1
  funext l x
  match l, x with
  | 0, (t, s) => dsimp only; rw [cc0_same]; rfl
/-- and those with the pipeline's own. -/
theorem defs_same : Cert.Kernel.defs (F := Bits) = Cert.KernelIdeal.defs (F := Bits) := by
  unfold Cert.Kernel.defs Cert.KernelIdeal.defs
  rw [defs0_same]; rfl
/-- The printed program leaves its arguments as they were and every semaphore at zero. -/
theorem frame_printed (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0) := by
   rw [main_same, defs_same]
   exact frame (F := Bits) m g
end Cert.Attn
end
-- ==== Proof.Online.lean ====
/- Softmax over the extended reals, taken chunk by chunk with a running maximum, for one query and one row of values:
   the state after each chunk, and the quotient of the last state as a weighted sum. No program is named here. -/
module

public import Idealize.ShloMosaic.PureOps.Ideal
public import Idealize.ShloMosaic.PureOps.Ideal.Laws

@[expose] public section

noncomputable section

namespace Cert.Attn

open Idealize.ShloMosaic

/-- A sum of finite numbers is the finite number that their real sum is. -/
theorem coe_sum {ι : Type*} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A factor that is a nonnegative real goes into a sum of any extended reals. -/
theorem sum_mul_coe {ι : Type*} (t : Finset ι) (f : ι → EReal) (r : ℝ) (hr : 0 ≤ r) :
    (∑ i ∈ t, f i) * (r : EReal) = ∑ i ∈ t, f i * (r : EReal) := by
  classical
  induction t using Finset.induction_on with
  | empty => simp
  | insert a t ha ih =>
    rw [Finset.sum_insert ha, Finset.sum_insert ha, ← ih]
    exact EReal.right_distrib_of_nonneg_of_ne_top (EReal.coe_nonneg.mpr hr) (EReal.coe_ne_top r) _ _

/-- The maximum of finitely many finite numbers, from minus infinity on, is finite once there is one of them. -/
theorem fold_max_coe {n : ℕ} (f : Fin (n + 1) → ℝ) :
    ∃ μ : ℝ, (Finset.univ : Finset (Fin (n + 1))).fold max (⊥ : EReal) (fun k => (f k : EReal)) = (μ : EReal) := by
  have hb : (Finset.univ : Finset (Fin (n + 1))).fold max (⊥ : EReal) (fun k => (f k : EReal)) ≠ ⊥ := fun h => by
    have := (Finset.fold_max_le (c := (⊥ : EReal)) (s := (Finset.univ : Finset (Fin (n + 1))))
      (f := fun k => (f k : EReal)) (b := ⊥)).mp h.le
    exact absurd (this.2 0 (Finset.mem_univ _)) (by simp)
  have ht : (Finset.univ : Finset (Fin (n + 1))).fold max (⊥ : EReal) (fun k => (f k : EReal)) ≠ ⊤ := fun h => by
    have := (Finset.fold_max_lt (c := (⊤ : EReal)) (s := (Finset.univ : Finset (Fin (n + 1))))
      (f := fun k => (f k : EReal)) (b := ⊥)).mpr ⟨by simp, fun x _ => EReal.coe_lt_top _⟩
    exact absurd h this.ne
  exact ⟨_, (EReal.coe_toReal ht hb).symm⟩

/-- The state after the first `n` chunks of `512` keys, of scores `s` and values `v`: before the first chunk the
    maximum is minus infinity and the sum zero; afterwards the maximum is some real `μ` and the sum is that of
    `v k * 2 ^ (s k - μ)` over the keys so far. -/
def After (s : ℕ → ℝ) (v : ℕ → EReal) (n : ℕ) (M A : EReal) : Prop :=
  (n = 0 ∧ M = ⊥ ∧ A = 0) ∨
    ∃ μ : ℝ, M = (μ : EReal) ∧ A = ∑ k ∈ Finset.range (512 * n), v k * ((Real.rpow 2 (s k - μ) : ℝ) : EReal)

theorem after_zero (s : ℕ → ℝ) (v : ℕ → EReal) : After s v 0 ⊥ 0 := .inl ⟨rfl, rfl, rfl⟩

/-- Once there was a chunk the state is that of a real maximum. -/
theorem After.pos {s : ℕ → ℝ} {v : ℕ → EReal} {n : ℕ} {M A : EReal} (h : After s v n M A) (hn : n ≠ 0) :
    ∃ μ : ℝ, M = (μ : EReal) ∧ A = ∑ k ∈ Finset.range (512 * n), v k * ((Real.rpow 2 (s k - μ) : ℝ) : EReal) :=
  h.resolve_left fun h0 => hn h0.1

/-- One chunk: the new maximum is that of the old one and of the chunk's scores, the old sum is scaled to it, and the
    chunk's terms are added. -/
theorem After.step {s : ℕ → ℝ} {v : ℕ → EReal} {n : ℕ} {M A : EReal} (h : After s v n M A)
    (σ w : Fin 512 → EReal) (hσ : ∀ k : Fin 512, σ k = (s (512 * n + k.val) : EReal))
    (hw : ∀ k : Fin 512, w k = v (512 * n + k.val)) :
    After s v (n + 1) (max M ((Finset.univ : Finset (Fin 512)).fold max ⊥ σ))
      (A * Ideal.exp2 (M - max M ((Finset.univ : Finset (Fin 512)).fold max ⊥ σ))
        + ∑ k : Fin 512, w k * Ideal.exp2 (σ k - max M ((Finset.univ : Finset (Fin 512)).fold max ⊥ σ))) := by
  obtain rfl : σ = fun k => (s (512 * n + k.val) : EReal) := funext hσ
  obtain rfl : w = fun k => v (512 * n + k.val) := funext hw
  obtain ⟨c, hc⟩ := fold_max_coe (n := 511) fun k => s (512 * n + k.val)
  rw [show (Finset.univ : Finset (Fin 512)).fold max (⊥ : EReal) (fun k => (s (512 * n + k.val) : EReal)) = (c : EReal) from hc]
  have chunk : ∀ μ : ℝ, (∑ k : Fin 512, v (512 * n + k.val) * Ideal.exp2 ((s (512 * n + k.val) : EReal) - (μ : EReal)))
      = ∑ k ∈ Finset.range 512, v (512 * n + k) * ((Real.rpow 2 (s (512 * n + k) - μ) : ℝ) : EReal) := fun μ => by
    rw [Finset.sum_range]
    refine Finset.sum_congr rfl fun k _ => ?_
    rw [← EReal.coe_sub, Ideal.exp2_coe]
  rcases h with ⟨rfl, rfl, rfl⟩ | ⟨μ, rfl, rfl⟩
  · refine .inr ⟨c, by simp, ?_⟩
    rw [show max (⊥ : EReal) (c : EReal) = (c : EReal) by simp, chunk]
    simp
  · refine .inr ⟨max μ c, (EReal.coe_strictMono.monotone.map_max).symm, ?_⟩
    rw [show max (μ : EReal) (c : EReal) = ((max μ c : ℝ) : EReal) from (EReal.coe_strictMono.monotone.map_max).symm, chunk,
      show 512 * (n + 1) = 512 * n + 512 from by ring, Finset.sum_range_add, ← EReal.coe_sub, Ideal.exp2_coe]
    congr 1
    refine (sum_mul_coe _ _ (Real.rpow 2 (μ - max μ c)) (Real.rpow_nonneg (by norm_num) _)).trans ?_
    refine Finset.sum_congr rfl fun k _ => ?_
    rw [mul_assoc, ← EReal.coe_mul]
    congr 2
    show (2 : ℝ) ^ (s k - μ) * (2 : ℝ) ^ (μ - max μ c) = (2 : ℝ) ^ (s k - max μ c)
    rw [← Real.rpow_add (by norm_num)]
    congr 1; ring

/-- The softmax weight of key `k` among `n` keys of scores `s`, as a real number. -/
def weight (s : ℕ → ℝ) (n k : ℕ) : ℝ := Real.exp (s k) / ∑ j ∈ Finset.range n, Real.exp (s j)

/-- The quotient of the two sums is the softmax's weighted sum of the values: the maximum cancels, and the powers of
    two are exponentials when the scores carry the factor `1 / log 2`. -/
theorem quotient_eq (s s2 : ℕ → ℝ) (v : ℕ → EReal) (n : ℕ) (hn : 0 < n) (μ : ℝ) (hs : ∀ k, s2 k = s k / Real.log 2) :
    Ideal.div (∑ k ∈ Finset.range n, v k * ((Real.rpow 2 (s2 k - μ) : ℝ) : EReal))
        (∑ k ∈ Finset.range n, 1 * ((Real.rpow 2 (s2 k - μ) : ℝ) : EReal))
      = ∑ k ∈ Finset.range n, v k * ((weight s n k : ℝ) : EReal) := by
  have hlog : Real.log 2 ≠ 0 := (Real.log_pos (by norm_num)).ne'
  have hp : ∀ k, Real.rpow 2 (s2 k - μ) = Real.exp (s k) * Real.rpow 2 (-μ) := fun k => by
    show (2 : ℝ) ^ (s2 k - μ) = Real.exp (s k) * (2 : ℝ) ^ (-μ)
    rw [sub_eq_add_neg, Real.rpow_add (by norm_num), Real.rpow_def_of_pos (by norm_num : (0 : ℝ) < 2) (s2 k), hs,
      mul_div_cancel₀ _ hlog]
  have h2 : (0 : ℝ) < Real.rpow 2 (-μ) := Real.rpow_pos_of_pos (by norm_num) _
  have hpos : 0 < ∑ k ∈ Finset.range n, Real.rpow 2 (s2 k - μ) :=
    Finset.sum_pos (fun k _ => Real.rpow_pos_of_pos (by norm_num) _) ⟨0, Finset.mem_range.mpr hn⟩
  have hE : 0 < ∑ k ∈ Finset.range n, Real.exp (s k) :=
    Finset.sum_pos (fun k _ => Real.exp_pos _) ⟨0, Finset.mem_range.mpr hn⟩
  simp only [one_mul]
  rw [← coe_sum, Ideal.div_coe hpos.ne', sum_mul_coe _ _ _ (by positivity)]
  refine Finset.sum_congr rfl fun k _ => ?_
  rw [mul_assoc, ← EReal.coe_mul]
  congr 2
  unfold weight
  simp only [hp, ← Finset.sum_mul]
  field_simp

/-- The reference's softmax: any real taken off every score leaves the weights. -/
theorem weight_shift (s : ℕ → ℝ) (n k : ℕ) (hn : 0 < n) (μ : ℝ) :
    Real.exp (s k - μ) / ∑ j ∈ Finset.range n, Real.exp (s j - μ) = weight s n k := by
  have hE : 0 < ∑ k ∈ Finset.range n, Real.exp (s k) :=
    Finset.sum_pos (fun k _ => Real.exp_pos _) ⟨0, Finset.mem_range.mpr hn⟩
  unfold weight
  simp only [sub_eq_add_neg, Real.exp_add, ← Finset.sum_mul]
  have := Real.exp_pos (-μ)
  field_simp

end Cert.Attn

end
-- ==== Proof.Spec.lean ====
/- Softmax attention as plain mathematics: four query heads to a key head, every query over all keys of its batch. -/
module

public import proofs.«01_k».proof.Proof.Online
public import Idealize.ShloMosaic.Lib.Pointwise

@[expose] public section

noncomputable section

namespace Cert.Attn

open Idealize.ShloMosaic

/-- The four-axis array as a function of its four coordinates. -/
abbrev heads {n : ℕ} (x : Shape.Idx ⟨4, ![2, 8192, n, 64]⟩ → EReal) : Fin 2 → Fin 8192 → Fin n → Fin 64 → EReal :=
  fun a b c d => x (ix4 a b c d)

/-- The word for one eighth. -/
theorem eighth_f32 : Ideal.ofBits .f32 0x3E000000#32 = (((1 : ℝ) / 8 : ℝ) : EReal) := by
  simp [Ideal.ofBits, Ideal.ieee, -EReal.coe_mul]; norm_num

/-- The word for two. -/
theorem two_f32 : Ideal.ofBits .f32 0x40000000#32 = ((2 : ℝ) : EReal) := by
  simp [Ideal.ofBits, Ideal.ieee, -EReal.coe_mul]; norm_num

/-- The word for minus infinity. -/
theorem bot_f32 : Ideal.ofBits .f32 0xFF800000#32 = ⊥ := by
  simp [Ideal.ofBits, Ideal.ieee]

/-- Key row number `j`. -/
def keyRow (j : ℕ) : Fin 8192 := ⟨j % 8192, Nat.mod_lt _ (by decide)⟩

/-- The key head of query head `h`. -/
def keyHead (h : Fin 8) : Fin 2 := ⟨h.val / 4, by omega⟩

/-- The score of query row `i` of head `h` against key row `j`, all in batch `b`. -/
def score (q : Fin 2 → Fin 8192 → Fin 8 → Fin 64 → EReal) (k : Fin 2 → Fin 8192 → Fin 2 → Fin 64 → EReal)
    (b : Fin 2) (i : Fin 8192) (h : Fin 8) (j : ℕ) : ℝ :=
  (∑ d : Fin 64, (k b (keyRow j) (keyHead h) d).toReal * (q b i h d).toReal) * (1 / 8)

/-- The attention's result: the values weighted by the softmax of the scores. -/
def attend (q : Fin 2 → Fin 8192 → Fin 8 → Fin 64 → EReal) (k v : Fin 2 → Fin 8192 → Fin 2 → Fin 64 → EReal)
    (b : Fin 2) (i : Fin 8192) (h : Fin 8) (d : Fin 64) : EReal :=
  ∑ j ∈ Finset.range 8192, v b (keyRow j) (keyHead h) d * ((weight (score q k b i h) 8192 j : ℝ) : EReal)

end Cert.Attn

end
-- ==== Proof.Host.lean ====
/- The arrays that the host lines before the attention leave, read at an index of the arguments. -/
module

public import proofs.«01_k».proof.Proof.Run
public import proofs.«01_k».proof.Proof.Spec
public import Idealize.ShloMosaic.Lib.Claim

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL.Sem

variable (m : (ℓ : Loc nD τ sig) → Buf (Elt Ideal) ℓ) (c : Dev nD)

/-- The arguments as the program finds them: the queries, the keys and the values. -/
abbrev inQ : S2x8192x8x64.Idx → EReal := m ((c : Thread nD τ).loc main_arg0)
abbrev inK : S2x8192x2x64.Idx → EReal := m ((c : Thread nD τ).loc main_arg1)
abbrev inV : S2x8192x2x64.Idx → EReal := m ((c : Thread nD τ).loc main_arg2)

/-- The queries' array. -/
theorem entry_queries (u : Fin 512) (w : Fin 16384) :
    (V m c main_v6 : Vec Ideal S512x16384 .bf16) (ix2 u w)
      = heads (inQ m c) ⟨w.val / 8192, by omega⟩ ⟨w.val % 8192, by omega⟩ ⟨u.val / 64, by omega⟩ ⟨u.val % 64, by omega⟩
        * ((1 / 8 / Real.log 2 : ℝ) : EReal) := by
  simp only [V, hostOps0, hostOps0_1, hostOps0_2, List.flatten_cons, List.flatten_nil, List.append_nil, List.cons_append, List.nil_append]
  after_results_simp
  pointwise
  rw [eighth_f32, two_f32, Ideal.log_coe, if_neg (by norm_num), Ideal.div_coe (Real.log_pos (by norm_num)).ne', ← EReal.coe_mul,
    mul_one_div]

/-- The keys' array. -/
theorem entry_keys (g : Fin 2) (w : Fin 16384) (d : Fin 64) :
    (V m c main_v9 : Vec Ideal S2x16384x64 .bf16) (ix3 g w d)
      = heads (inK m c) ⟨w.val / 8192, by omega⟩ ⟨w.val % 8192, by omega⟩ g d := by
  simp only [V, hostOps0, hostOps0_1, hostOps0_2, List.flatten_cons, List.flatten_nil, List.append_nil, List.cons_append, List.nil_append]
  after_results_simp
  pointwise

/-- The values' array. -/
theorem entry_values (g : Fin 2) (a : Fin 32) (u : Fin 80) (w : Fin 512) (hu : u.val < 64) :
    (V m c main_v18 : Vec Ideal S2x32x80x512 .bf16) (ix4 g a u w)
      = heads (inV m c) ⟨a.val / 16, by omega⟩ ⟨a.val % 16 * 512 + w.val, by omega⟩ g ⟨u.val, hu⟩ := by
  simp only [V, hostOps0, hostOps0_1, hostOps0_2, List.flatten_cons, List.flatten_nil, List.append_nil, List.cons_append, List.nil_append]
  after_results_simp
  pointwise
  after_results_simp
  pointwise
  exact dif_pos hu

/-- The row of ones below the values. -/
theorem entry_ones (g : Fin 2) (a : Fin 32) (w : Fin 512) :
    (V m c main_v18 : Vec Ideal S2x32x80x512 .bf16) (ix4 g a 64 w) = (1 : EReal) := by
  simp only [V, hostOps0, hostOps0_1, hostOps0_2, List.flatten_cons, List.flatten_nil, List.append_nil, List.cons_append, List.nil_append]
  after_results_simp
  pointwise
  after_results_simp
  show select (cmpi .eq (iotaInDim S2x32x16x512 32 2) (broadcastInDim S2x32x16x512 ![] bcast_S_S2x32x16x512 (constantI S_ 32 0#32)))
    (broadcastInDim S2x32x16x512 ![] bcast_S_S2x32x16x512 (constant (F := Ideal) S_ .f32 0x3F800000#32))
    (broadcastInDim S2x32x16x512 ![] bcast_S_S2x32x16x512 (constant (F := Ideal) S_ .f32 0x00000000#32)) (ix4 g a 0 w) = (1 : EReal)
  pointwise

end Cert.Attn

end
-- ==== Proof.State.lean ====
/- One grid point over the extended reals: the block of `Block.lean` read at an index is the softmax's weighted sum. -/
module

public import proofs.«01_k».proof.Proof.Body
public import proofs.«01_k».proof.Proof.Spec

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL.Sem

/-- A score is the product of a key row with a query column. -/
theorem scores_apply (x0 : Vec Ideal S256x1024 .bf16) (x1 : Vec Ideal S1x8192x64 .bf16) (n : ℕ) (j : Fin 512) (c : Fin 4096) :
    scores x0 x1 n (ix2 j c) = ∑ d : Fin 64, keys x1 n (ix3 0 j d) * queries x0 (ix2 d c) := by
  unfold scores
  pointwise [k0_pay3]

/-- The new maximum of a column. -/
theorem newMax_apply (s : FVec Ideal S512x4096 .f32) (mx : FVec Ideal S8x4096 .f32) (r : Fin 8) (c : Fin 4096) :
    newMax s mx (ix2 r c) = max (mx (ix2 r c)) ((Finset.univ : Finset (Fin 512)).fold max ⊥ fun j => s (ix2 j c)) := by
  unfold newMax
  pointwise [k0_pay7, k0_pay4]
  rw [bot_f32]

/-- The new sums of a column. -/
theorem newSum_apply (s : FVec Ideal S512x4096 .f32) (mx : FVec Ideal S8x4096 .f32) (a : FVec Ideal S80x4096 .f32)
    (w : Vec Ideal S1x1x80x512 .bf16) (r : Fin 80) (c : Fin 4096) :
    newSum s mx a w (ix2 r c)
      = a (ix2 r c) * Ideal.exp2 (mx (ix2 0 c) - max (mx (ix2 0 c)) ((Finset.univ : Finset (Fin 512)).fold max ⊥ fun j => s (ix2 j c)))
        + ∑ k : Fin 512, w (ix4 0 0 r k)
            * Ideal.exp2 (s (ix2 k c) - max (mx (ix2 0 c)) ((Finset.univ : Finset (Fin 512)).fold max ⊥ fun j => s (ix2 j c))) := by
  unfold newSum
  pointwise [k0_pay6, k0_pay5, k0_pay4]
  rw [bot_f32]
  rfl

/-- After `n` chunks the running maximum and a row of the running sums are those of the column's scores and the row's
    values so far. -/
theorem state_after (x0 : Vec Ideal S256x1024 .bf16) (x1 : Vec Ideal S1x8192x64 .bf16) (x2 : Vec Ideal S1x16x80x512 .bf16)
    (c : Fin 4096) (row : Fin 80) (s2 : ℕ → ℝ) (v : ℕ → EReal)
    (hs : ∀ k : ℕ, ∑ d : Fin 64, x1 (ix3 0 (keyRow k) d) * queries x0 (ix2 d c) = (s2 k : EReal))
    (hv : ∀ k : ℕ, x2 (ix4 0 ⟨k / 512 % 16, Nat.mod_lt _ (by decide)⟩ row ⟨k % 512, Nat.mod_lt _ (by decide)⟩) = v k) (n : ℕ) :
    After s2 v n ((state x0 x1 x2 n).1 (ix2 0 c)) ((state x0 x1 x2 n).2 (ix2 row c)) := by
  induction n with
  | zero =>
    have e1 : (state x0 x1 x2 0).1 (ix2 0 c) = ⊥ := by
      unfold state
      pointwise [k0_pay17]
      exact bot_f32
    have e2 : (state x0 x1 x2 0).2 (ix2 row c) = 0 := Ideal.ofBits_zero_f32
    rw [e1, e2]
    exact after_zero s2 v
  | succ n ih =>
    have e1 : (state x0 x1 x2 (n + 1)).1 = newMax (scores x0 x1 n) (state x0 x1 x2 n).1 := by rw [state]
    have e2 : (state x0 x1 x2 (n + 1)).2 = newSum (scores x0 x1 n) (state x0 x1 x2 n).1 (state x0 x1 x2 n).2 (vals x2 n) := by rw [state]
    rw [e1, e2, newMax_apply, newSum_apply]
    refine ih.step (fun k => scores x0 x1 n (ix2 k c)) (fun k => vals x2 n (ix4 0 0 row k)) (fun k => ?_) (fun k => ?_)
    · rw [scores_apply, ← hs]
      rfl
    · rw [← hv]
      unfold vals
      have hk := k.isLt
      refine congrArg x2 (funext fun a => Fin.ext ?_)
      match a with
      | ⟨0, _⟩ => rfl
      | ⟨1, _⟩ => show n % 16 = (512 * n + k.val) / 512 % 16; omega
      | ⟨2, _⟩ => rfl
      | ⟨3, _⟩ => show k.val = (512 * n + k.val) % 512; omega

/-- The block's element at row `r` and column `n`: the values of row `n % 64` weighted by the softmax of the scores of
    query column `1024 (n / 64) + r`, when those scores carry the factor `1 / log 2` and row 64 of the values is all ones. -/
theorem block_apply (x0 : Vec Ideal S256x1024 .bf16) (x1 : Vec Ideal S1x8192x64 .bf16) (x2 : Vec Ideal S1x16x80x512 .bf16)
    (r : Fin 1024) (n : Fin 256) (s : ℕ → ℝ) (v : ℕ → EReal)
    (hs : ∀ k : ℕ, ∑ d : Fin 64, x1 (ix3 0 (keyRow k) d) * queries x0 (ix2 d ⟨1024 * (n.val / 64) + r.val, by omega⟩)
      = ((s k / Real.log 2 : ℝ) : EReal))
    (hv : ∀ k : ℕ, x2 (ix4 0 ⟨k / 512 % 16, Nat.mod_lt _ (by decide)⟩ ⟨n.val % 64, by omega⟩ ⟨k % 512, Nat.mod_lt _ (by decide)⟩) = v k)
    (h1 : ∀ (a : Fin 16) (b : Fin 512), x2 (ix4 0 a ⟨64, by decide⟩ b) = 1) :
    block x0 x1 x2 (ix2 r n) = ∑ k ∈ Finset.range 8192, v k * ((weight s 8192 k : ℝ) : EReal) := by
  obtain ⟨μ, hμ, hA⟩ := (state_after x0 x1 x2 _ ⟨n.val % 64, by omega⟩ (fun k => s k / Real.log 2) v hs hv 16).pos (by decide)
  obtain ⟨μ', hμ', hB⟩ := (state_after x0 x1 x2 _ ⟨64, by decide⟩ (fun k => s k / Real.log 2) (fun _ => 1) hs (fun k => h1 _ _) 16).pos (by decide)
  obtain rfl : μ = μ' := EReal.coe_injective (hμ.symm.trans hμ')
  have p : ∀ (a : FVec Ideal S80x4096 .f32) (u : Fin 128) (w : Fin 4096) (hu : u.val < 80), padded a (ix2 u w) = a (ix2 ⟨u.val, hu⟩ w) :=
    fun a u w hu => dif_pos hu
  unfold block
  rw [result_apply, p _ _ _ (by dsimp only; omega), p _ _ _ (by decide), hA, hB]
  exact quotient_eq s (fun k => s k / Real.log 2) v 8192 (by decide) μ fun _ => rfl

end Cert.Attn

end
-- ==== Proof.Result.lean ====
/- The attention program's result array over the extended reals: the attention of its arguments. -/
module

public import proofs.«01_k».proof.Proof.Host
public import proofs.«01_k».proof.Proof.State

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL.Sem

variable (m : (ℓ : Loc nD τ sig) → Buf (Elt Ideal) ℓ) (c : Dev nD)

/-! ## A grid point's batch, key head and block of queries -/

/-- The batch of a point. -/
abbrev batchOf (t : Fin cfg0.N) : ℕ := (grid0.coords t 0).val
/-- The key head of a point. -/
abbrev headOf (t : Fin cfg0.N) : ℕ := (grid0.coords t 1).val
/-- The block of queries of a point. -/
abbrev rowsOf (t : Fin cfg0.N) : ℕ := (grid0.coords t 2).val

theorem batch_lt (t : Fin cfg0.N) : batchOf t < 2 := (grid0.coords t 0).isLt
theorem head_lt (t : Fin cfg0.N) : headOf t < 2 := (grid0.coords t 1).isLt
theorem rows_lt (t : Fin cfg0.N) : rowsOf t < 8 := (grid0.coords t 2).isLt

/-- Where each window stands at a point. -/
theorem index0 : ∀ t : Fin cfg0.N, win0_0.index t = ![headOf t, batchOf t * 8 + rowsOf t] := by decide +kernel
theorem index1 : ∀ t : Fin cfg0.N, win0_1.index t = ![headOf t, batchOf t, 0] := by decide +kernel
theorem index2 : ∀ t : Fin cfg0.N, win0_2.index t = ![headOf t, batchOf t, 0, 0] := by decide +kernel
theorem index3 : ∀ t : Fin cfg0.N, win0_3.index t = ![batchOf t * 8 + rowsOf t, headOf t] := by decide +kernel

/-- The queries' block at a point. -/
theorem block_queries (t : Fin cfg0.N) (u : Fin 256) (w : Fin 1024) :
    (iblk m c 0 t : Vec Ideal S256x1024 .bf16) (ix2 u w)
      = (V m c main_v6 : Vec Ideal S512x16384 .bf16)
          (ix2 ⟨headOf t * 256 + u.val, by have := head_lt t; omega⟩
            ⟨(batchOf t * 8 + rowsOf t) * 1024 + w.val, by have := batch_lt t; have := rows_lt t; omega⟩) := by
  blk_ext [iblk, index0 t]

/-- The keys' block at a point. -/
theorem block_keys (t : Fin cfg0.N) (j : Fin 8192) (d : Fin 64) :
    (iblk m c 1 t : Vec Ideal S1x8192x64 .bf16) (ix3 0 j d)
      = (V m c main_v9 : Vec Ideal S2x16384x64 .bf16)
          (ix3 ⟨headOf t, head_lt t⟩ ⟨batchOf t * 8192 + j.val, by have := batch_lt t; omega⟩ d) := by
  blk_ext [iblk, index1 t]

/-- The values' block at a point. -/
theorem block_values (t : Fin cfg0.N) (a : Fin 16) (u : Fin 80) (w : Fin 512) :
    (iblk m c 2 t : Vec Ideal S1x16x80x512 .bf16) (ix4 0 a u w)
      = (V m c main_v18 : Vec Ideal S2x32x80x512 .bf16)
          (ix4 ⟨headOf t, head_lt t⟩ ⟨batchOf t * 16 + a.val, by have := batch_lt t; omega⟩ u w) := by
  blk_ext [iblk, index2 t]

/-! ## The result -/

/-- The attention of the arguments as an array of 16384 rows, one for each batch and query row, and 512 columns, one for
    each head and entry. -/
def outArr (i : S16384x512.Idx) : EReal :=
  attend (heads (inQ m c)) (heads (inK m c)) (heads (inV m c)) ⟨(i 0).val / 8192, by
      have : (i 0).val < 16384 := (i 0).isLt
      omega⟩ ⟨(i 0).val % 8192, by omega⟩ ⟨(i 1).val / 64, by
      have : (i 1).val < 512 := (i 1).isLt
      omega⟩ ⟨(i 1).val % 64, by omega⟩

/-- The same, at coordinates given by what they are. -/
theorem outArr_at (i : S16384x512.Idx) (b : Fin 2) (s : Fin 8192) (h : Fin 8) (d : Fin 64) (hb : (i 0).val / 8192 = b.val)
    (hs : (i 0).val % 8192 = s.val) (hh : (i 1).val / 64 = h.val) (hd : (i 1).val % 64 = d.val) :
    outArr m c i = attend (heads (inQ m c)) (heads (inK m c)) (heads (inV m c)) b s h d := by
  obtain ⟨b, _⟩ := b
  obtain ⟨s, _⟩ := s
  obtain ⟨h, _⟩ := h
  obtain ⟨d, _⟩ := d
  subst hb hs hh hd
  rfl

/-- What a point leaves at row `r` and column `n` of its block is the attention of its batch, at its query row and head. -/
theorem point_attend (hq : ∀ i, inQ m c i = ((inQ m c i).toReal : EReal)) (hk : ∀ i, inK m c i = ((inK m c i).toReal : EReal))
    (t : Fin cfg0.N) (r : Fin 1024) (n : Fin 256) :
    written m c t (ix2 r n)
      = attend (heads (inQ m c)) (heads (inK m c)) (heads (inV m c)) ⟨batchOf t, batch_lt t⟩
          ⟨rowsOf t * 1024 + r.val, by have := rows_lt t; omega⟩ ⟨headOf t * 4 + n.val / 64, by have := head_lt t; omega⟩
          ⟨n.val % 64, by omega⟩ := by
  have hb := batch_lt t
  have hg := head_lt t
  have hi := rows_lt t
  have eg : keyHead ⟨headOf t * 4 + n.val / 64, by omega⟩ = ⟨headOf t, hg⟩ := Fin.ext (by show (headOf t * 4 + n.val / 64) / 4 = headOf t; omega)
  unfold written attend
  rw [eg]
  refine block_apply _ _ _ r n
    (score (heads (inQ m c)) (heads (inK m c)) ⟨batchOf t, hb⟩ ⟨rowsOf t * 1024 + r.val, by omega⟩ ⟨headOf t * 4 + n.val / 64, by omega⟩)
    (fun j => heads (inV m c) ⟨batchOf t, hb⟩ (keyRow j) ⟨headOf t, hg⟩ ⟨n.val % 64, by omega⟩) (fun k => ?_) (fun k => ?_) (fun a b => ?_)
  · have hlog : Real.log 2 ≠ 0 := (Real.log_pos (by norm_num)).ne'
    unfold score
    rw [eg, show ∀ x : ℝ, x * (1 / 8) / Real.log 2 = x * (1 / 8 / Real.log 2) from fun x => mul_div_assoc _ _ _, Finset.sum_mul, coe_sum]
    refine Finset.sum_congr rfl fun d _ => ?_
    have hd := d.isLt
    have hr := r.isLt
    have hn := n.isLt
    rw [mul_assoc, EReal.coe_mul, EReal.coe_mul]
    refine congrArg₂ (· * ·) ?_ ?_
    · refine (block_keys m c t (keyRow k) d).trans ((entry_keys m c _ _ d).trans ?_)
      rw [← hk]
      have hj := (keyRow k).isLt
      refine congrArg (inK m c) (funext fun a => Fin.ext ?_)
      match a with
      | ⟨0, _⟩ => show (batchOf t * 8192 + (keyRow k).val) / 8192 = batchOf t; omega
      | ⟨1, _⟩ => show (batchOf t * 8192 + (keyRow k).val) % 8192 = (keyRow k).val; omega
      | ⟨2, _⟩ => rfl
      | ⟨3, _⟩ => rfl
    · refine (block_queries m c t _ _).trans ((entry_queries m c _ _).trans ?_)
      rw [← hq]
      refine congrArg (· * _) (congrArg (inQ m c) (funext fun a => Fin.ext ?_))
      match a with
      | ⟨0, _⟩ => show ((batchOf t * 8 + rowsOf t) * 1024 + (1024 * (n.val / 64) + r.val) % 1024) / 8192 = batchOf t; omega
      | ⟨1, _⟩ => show ((batchOf t * 8 + rowsOf t) * 1024 + (1024 * (n.val / 64) + r.val) % 1024) % 8192 = rowsOf t * 1024 + r.val; omega
      | ⟨2, _⟩ => show (headOf t * 256 + (64 * ((1024 * (n.val / 64) + r.val) / 1024) + d.val)) / 64 = headOf t * 4 + n.val / 64; omega
      | ⟨3, _⟩ => show (headOf t * 256 + (64 * ((1024 * (n.val / 64) + r.val) / 1024) + d.val)) % 64 = d.val; omega
  · refine (block_values m c t _ _ _).trans ((entry_values m c _ _ _ _ (by show n.val % 64 < 64; omega)).trans ?_)
    refine congrArg (inV m c) (funext fun a => Fin.ext ?_)
    match a with
    | ⟨0, _⟩ => show (batchOf t * 16 + k / 512 % 16) / 16 = batchOf t; omega
    | ⟨1, _⟩ => show (batchOf t * 16 + k / 512 % 16) % 16 * 512 + k % 512 = k % 8192; omega
    | ⟨2, _⟩ => rfl
    | ⟨3, _⟩ => rfl
  · exact (block_values m c t _ _ _).trans (entry_ones m c _ _ _)

/-- The result's array after the run is the attention of the arguments. -/
theorem result_array (hq : ∀ i, inQ m c i = ((inQ m c i).toReal : EReal)) (hk : ∀ i, inK m c i = ((inK m c i).toReal : EReal)) :
    (data m 0 c).arrAt 3 cfg0.N = outArr m c := by
  refine (data m 0 c).arrAt_eq_of_covers 3 _ (by decide +kernel) fun t hf y => ?_
  blk_simp
  rw [data_after3]
  have hb := batch_lt t
  have hg := head_lt t
  have hi := rows_lt t
  obtain ⟨r, n, rfl⟩ : ∃ (r : Fin 1024) (n : Fin 256), y = ix2 r n := ⟨y 0, y 1, eq_ix2 y⟩
  have hr := r.isLt
  have hn := n.isLt
  refine (point_attend m c hq hk t r n).trans ?_
  have e0 : ((((cfg0.win 3).blk t).view.emb (ix2 r n)) 0 : ℕ) = (batchOf t * 8 + rowsOf t) * 1024 + r.val := by
    blk_simp [index3 t]
  have e1 : ((((cfg0.win 3).blk t).view.emb (ix2 r n)) 1 : ℕ) = headOf t * 256 + n.val := by
    blk_simp [index3 t]
  exact (outArr_at m c _ _ _ _ _ (by rw [e0]; dsimp only; omega) (by rw [e0]; dsimp only; omega) (by rw [e1]; dsimp only; omega)
    (by rw [e1]; dsimp only; omega)).symm

end Cert.Attn

end
-- ==== Proof.Refer.lean ====
/- The reference program read at an index: it computes the attention of `Spec.lean`. -/
module

public import proofs.«01_k».proof.Proof.Spec
public import proofs.«01_k».proof.Proof.Gen.ReferenceIdeal.Read
public import Idealize.ShloMosaic.Lib.Pointwise

@[expose] public section

set_option maxRecDepth 16384

noncomputable section

namespace Cert.Attn

open Cert.ReferenceIdeal Cert.ReferenceIdeal.Gen Cert.ReferenceIdeal.Read
open Idealize.ShloMosaic Idealize.ShloMosaic.TcCoe Idealize.SL.Sem

variable (x0 : Vec Ideal S2x8192x8x64 .f32) (x1 x2 : Vec Ideal S2x8192x2x64 .f32)

/-- The reference's scores. -/
theorem ref_score (hq : ∀ i, x0 i = ((x0 i).toReal : EReal)) (hk : ∀ i, x1 i = ((x1 i).toReal : EReal)) (i : S2x2x4x8192x8192.Idx) :
    val_main_v4 (F := Ideal) x0 x1 i
      = ((score (heads x0) (heads x1) (i 0) (i 3) ⟨4 * (i 1).val + (i 2).val, by
          have h1 : (i 1).val < 2 := (i 1).isLt
          have h2 : (i 2).val < 4 := (i 2).isLt
          omega⟩ (i 4).val : ℝ) : EReal) := by
  have h0 : (i 0).val < 2 := (i 0).isLt
  have h1 : (i 1).val < 2 := (i 1).isLt
  have h2 : (i 2).val < 4 := (i 2).isLt
  have h3 : (i 3).val < 8192 := (i 3).isLt
  have h4 : (i 4).val < 8192 := (i 4).isLt
  rw [val_main_v4_apply, val_main_v2_apply, val_main_v1_apply, val_main_v3_apply, val_main_cst_apply, Ideal.ofBits_def, eighth_f32,
    Ideal.mulf_def]
  unfold score
  rw [EReal.coe_mul, coe_sum]
  refine congrArg (· * _) (Finset.sum_congr rfl fun d _ => ?_)
  rw [val_main_v0_apply, EReal.coe_mul]
  refine congrArg₂ (· * ·) ?_ ?_
  · rw [hk]
    refine congrArg (fun z => ((x1 z).toReal : EReal)) (funext fun a => Fin.ext ?_)
    match a with
    | ⟨0, _⟩ => rfl
    | ⟨1, _⟩ => show (i 4).val = (i 4).val % 8192; omega
    | ⟨2, _⟩ => show (i 1).val = (4 * (i 1).val + (i 2).val) / 4; omega
    | ⟨3, _⟩ => rfl
  · rw [hq]
    have hd : d.val < 64 := d.isLt
    refine congrArg (fun z => ((x0 z).toReal : EReal)) (funext fun a => Fin.ext ?_)
    match a with
    | ⟨0, _⟩ => show (((((i 0).val * 8192 + (i 3).val) * 2 + (i 1).val) * 4 + (i 2).val) * 64 + d.val) / 4194304 = (i 0).val; omega
    | ⟨1, _⟩ => show (((((i 0).val * 8192 + (i 3).val) * 2 + (i 1).val) * 4 + (i 2).val) * 64 + d.val) / 512 % 8192 = (i 3).val; omega
    | ⟨2, _⟩ => show (((((i 0).val * 8192 + (i 3).val) * 2 + (i 1).val) * 4 + (i 2).val) * 64 + d.val) / 64 % 8 = 4 * (i 1).val + (i 2).val; omega
    | ⟨3, _⟩ => show (((((i 0).val * 8192 + (i 3).val) * 2 + (i 1).val) * 4 + (i 2).val) * 64 + d.val) % 64 = d.val; omega

/-- The reference's maximum of a row of scores is a real number. -/
theorem ref_max (hq : ∀ i, x0 i = ((x0 i).toReal : EReal)) (hk : ∀ i, x1 i = ((x1 i).toReal : EReal)) (i : S2x2x4x8192.Idx) :
    ∃ μ : ℝ, val_main_v7 (F := Ideal) x0 x1 i = (μ : EReal) := by
  have hr : S2x2x4x8192x8192.Reduces [4] S2x2x4x8192 := by decide
  have e5 : ∃ μ : ℝ, val_main_v5 (F := Ideal) x0 x1 i = (μ : EReal) := by
    unfold val_main_v5
    rw [Host.reduce_eq_fold_single _ _ _ _ hr]
    obtain ⟨μ, hμ⟩ := fold_max_coe (n := 8191) (fun k : Fin 8192 => (val_main_v4 (F := Ideal) x0 x1 (hr.lift i k)).toReal)
    refine ⟨μ, hμ ▸ ?_⟩
    rw [val_main_cst_0_apply, Ideal.ofBits_def, bot_f32]
    refine congrArg (fun g => Finset.fold max (⊥ : EReal) g (Finset.univ : Finset (Fin 8192))) (funext fun k => ?_)
    show val_main_v4 (F := Ideal) x0 x1 (hr.lift i k) = _
    rw [ref_score x0 x1 hq hk]; rfl
  obtain ⟨μ, hμ⟩ := e5
  refine ⟨μ, ?_⟩
  rw [val_main_v7_apply, hμ, val_main_v6_apply, val_main_cst_1_apply, Ideal.ofBits_def, bot_f32]
  show max (⊥ : EReal) μ = μ
  exact max_eq_right bot_le

/-- The reference's weights are the softmax's. -/
theorem ref_weight (hq : ∀ i, x0 i = ((x0 i).toReal : EReal)) (hk : ∀ i, x1 i = ((x1 i).toReal : EReal)) (i : S2x2x4x8192x8192.Idx) :
    val_main_v15 (F := Ideal) x0 x1 i
      = ((weight (score (heads x0) (heads x1) (i 0) (i 3) ⟨4 * (i 1).val + (i 2).val, by
          have h1 : (i 1).val < 2 := (i 1).isLt
          have h2 : (i 2).val < 4 := (i 2).isLt
          omega⟩) 8192 (i 4).val : ℝ) : EReal) := by
  obtain ⟨μ, hμ⟩ := ref_max x0 x1 hq hk (idx_main_v8 (idx_main_v9 i))
  have e11 : ∀ k : S2x2x4x8192x8192.Idx, idx_main_v8 (idx_main_v9 k) = idx_main_v8 (idx_main_v9 i) →
      val_main_v11 (F := Ideal) x0 x1 k = ((Real.exp (score (heads x0) (heads x1) (k 0) (k 3) ⟨4 * (k 1).val + (k 2).val, by
          have h1 : (k 1).val < 2 := (k 1).isLt
          have h2 : (k 2).val < 4 := (k 2).isLt
          omega⟩ (k 4).val - μ) : ℝ) : EReal) := by
    intro k hk'
    rw [val_main_v11_apply, val_main_v10_apply, val_main_v9_apply, val_main_v8_apply, hk', hμ, ref_score x0 x1 hq hk,
      Ideal.hostUnary_exp_def, Ideal.subf_def, ← EReal.coe_sub, Ideal.exp_coe]
  rw [val_main_v15_apply, val_main_v14_apply, val_main_v13_apply, val_main_v12_apply, e11 i rfl, val_main_cst_2_apply, Ideal.ofBits_def,
    Ideal.ofBits_zero_f32, zero_add]
  rw [Finset.sum_congr rfl fun (k : Fin 8192) _ => e11 (idx_main_v12 (idx_main_v13 (idx_main_v14 i)) k) rfl]
  rw [← coe_sum, ← weight_shift _ _ _ (by decide) μ, Finset.sum_range]
  refine (Ideal.div_coe ?_ _).trans ?_
  · exact (Finset.sum_pos (fun k _ => Real.exp_pos _) ⟨0, Finset.mem_univ _⟩).ne'
  · rw [← EReal.coe_mul, mul_one_div]; rfl

/-- The reference's result is the attention. -/
theorem ref_attend (hq : ∀ i, x0 i = ((x0 i).toReal : EReal)) (hk : ∀ i, x1 i = ((x1 i).toReal : EReal)) (r : Fin 16384) (n : Fin 512) :
    val_main_v18 (F := Ideal) x0 x1 x2 (ix2 r n)
      = attend (heads x0) (heads x1) (heads x2) ⟨r.val / 8192, by omega⟩ ⟨r.val % 8192, by omega⟩ ⟨n.val / 64, by omega⟩ ⟨n.val % 64, by omega⟩ := by
  rw [val_main_v18_apply, val_main_v17_apply, val_main_v16_apply]
  unfold attend
  rw [Finset.sum_range]
  refine Finset.sum_congr rfl fun j _ => ?_
  rw [ref_weight x0 x1 hq hk]
  have hr := r.isLt
  have hn := n.isLt
  have hj := j.isLt
  refine congrArg₂ (· * ·) ?_ ?_
  · refine congrArg x2 (funext fun a => Fin.ext ?_)
    match a with
    | ⟨0, _⟩ => show (r.val * 512 + n.val) / 4194304 = r.val / 8192; omega
    | ⟨1, _⟩ => show j.val = j.val % 8192; omega
    | ⟨2, _⟩ => show (r.val * 512 + n.val) / 256 % 2 = n.val / 64 / 4; omega
    | ⟨3, _⟩ => show (r.val * 512 + n.val) % 64 = n.val % 64; omega
  · refine congrArg (fun s : ℕ → ℝ => ((weight s 8192 j.val : ℝ) : EReal)) ?_
    have e0 : (⟨(r.val * 512 + n.val) / 4194304, by omega⟩ : Fin 2) = ⟨r.val / 8192, by omega⟩ := Fin.ext (by dsimp only; omega)
    have e1 : (⟨(r.val * 512 + n.val) / 512 % 8192, by omega⟩ : Fin 8192) = ⟨r.val % 8192, by omega⟩ := Fin.ext (by dsimp only; omega)
    have e2 : (⟨4 * ((r.val * 512 + n.val) / 256 % 2) + (r.val * 512 + n.val) / 64 % 4, by omega⟩ : Fin 8) = ⟨n.val / 64, by omega⟩ :=
      Fin.ext (by dsimp only; omega)
    show score (heads x0) (heads x1) (⟨(r.val * 512 + n.val) / 4194304, by omega⟩ : Fin 2) (⟨(r.val * 512 + n.val) / 512 % 8192, by omega⟩ : Fin 8192)
      (⟨4 * ((r.val * 512 + n.val) / 256 % 2) + (r.val * 512 + n.val) / 64 % 4, by omega⟩ : Fin 8) = _
    rw [e0, e1, e2]

end Cert.Attn

end
-- ==== Proof.Claims.lean ====
/- The claims about the two idealized programs: what finite queries and keys mean, the reference's frame, and the equality of
   the two results. -/
module

public import proofs.«01_k».proof.Defs
public import proofs.«01_k».proof.Proof.Result
public import proofs.«01_k».proof.Proof.Refer
public import proofs.«01_k».proof.Proof.Gen.ReferenceIdeal.Run
public import Idealize.ShloMosaic.Lib.Claim
public import Idealize.ShloMosaic.Lib.Quiescent

@[expose] public section

set_option maxRecDepth 16384

noncomputable section

namespace Cert.Attn

open Idealize.ShloMosaic Idealize.ShloMosaic.TcCoe Idealize.ShloMosaic.Tactic
open Idealize.SL.Sem

/-- The word for plus infinity. -/
theorem top_f32 : Ideal.ofBits .f32 0x7F800000#32 = ⊤ := by
  simp [Ideal.ofBits, Ideal.ieee]

/-- A number whose absolute value is below infinity is a real one. -/
theorem real_of_abs_lt (x : EReal) (h : Ideal.cmp .olt (max x (-x)) (Ideal.ofBits .f32 0x7F800000#32) = 1#1) : x = (x.toReal : EReal) := by
  rw [top_f32] at h
  have hl : max x (-x) < ⊤ := by
    by_contra hn
    simp [Ideal.cmp, hn] at h
  refine (EReal.coe_toReal ?_ ?_).symm
  · rintro rfl
    simp at hl
  · rintro rfl
    simp at hl

/-- The predicate's side conditions. -/
theorem pre_facts : Cert.Pre_scores_finite.Facts where
  bcast_S_S2x8192x8x64 := by decide
  bcast_S_S2x8192x2x64 := by decide

/-- The precondition makes every query a real number. -/
theorem real_queries [Cert.Pre_scores_finite.Facts] (q : FVec Ideal ⟨4, ![2, 8192, 8, 64]⟩ .f32) (k v : FVec Ideal ⟨4, ![2, 8192, 2, 64]⟩ .f32)
    (h : (Cert.Pre_scores_finite.fn (F := Ideal) q k v).1 = fun _ => 1#1) (i : Shape.Idx ⟨4, ![2, 8192, 8, 64]⟩) :
    q i = ((q i : EReal).toReal : EReal) :=
  real_of_abs_lt _ (congrFun h i)

/-- The precondition makes every key a real number. -/
theorem real_keys [Cert.Pre_scores_finite.Facts] (q : FVec Ideal ⟨4, ![2, 8192, 8, 64]⟩ .f32) (k v : FVec Ideal ⟨4, ![2, 8192, 2, 64]⟩ .f32)
    (h : (Cert.Pre_scores_finite.fn (F := Ideal) q k v).2 = fun _ => 1#1) (i : Shape.Idx ⟨4, ![2, 8192, 2, 64]⟩) :
    k i = ((k i : EReal).toReal : EReal) :=
  real_of_abs_lt _ (congrFun h i)

/-- The reference leaves its arguments as they were and every semaphore at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The attention program ends with the attention of its arguments, which it leaves as they were. -/
theorem run_value (m : (ℓ : Loc Cert.KernelIdeal.nD Cert.KernelIdeal.τ Cert.KernelIdeal.sig) → Buf (Elt Ideal) ℓ) (ρ : Dev Cert.KernelIdeal.nD → PrngReg)
    (hq : ∀ c i, inQ m c i = ((inQ m c i).toReal : EReal)) (hk : ∀ c i, inK m c i = ((inK m c i).toReal : EReal)) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v19) = outArr m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  (θ_run Cert.KernelIdeal.defs _ _).mono (fun r h c => ⟨((h.1.1 c).1 3).trans (result_array m c (hq c) (hk c)), (h.2.1 c).1, (h.2.1 c).2.1, (h.2.1 c).2.2⟩)
    (θ_run_and (run m ρ) (frame m ρ))

/-- The two programs end with the same result, when every query and key is finite. -/
theorem results_equal (hP : Cert.Pre_scores_finite.Facts) : Cert.algebraic_KernelIdeal_ReferenceIdeal_pre_scores_finite (hPre_scores_finite := hP) := by
  intro m g m' g' hpre hagree
  have hq : ∀ c i, inQ m c i = ((inQ m c i).toReal : EReal) := fun c => real_queries _ _ _ (hpre c).1
  have hk : ∀ c i, inK m c i = ((inK m c i).toReal : EReal) := fun c => real_keys _ _ _ (hpre c).2
  refine ⟨fun c => outArr m c, run_value m g hq hk, ?_⟩
  refine (θ_run Cert.ReferenceIdeal.defs _ _).mono (fun r h c => ⟨(h c).1.trans ?_, (h c).2⟩) (Cert.ReferenceIdeal.Value.run (F := Ideal) m' g')
  rw [(hagree c).1, (hagree c).2.1, (hagree c).2.2]
  refine (Cert.ReferenceIdeal.Read.val_main_v18_eq (F := Ideal) _ _ _).trans ?_
  funext i
  obtain ⟨r, n, rfl⟩ : ∃ (r : Fin 16384) (n : Fin 512), i = ix2 r n := ⟨i 0, i 1, eq_ix2 i⟩
  exact ref_attend (inQ m c) (inK m c) (inV m c) (hq c) (hk c) r n

end Cert.Attn

end
-- ==== Proof.Norm.lean ====
/- Root mean square normalisation and the gated per-layer embedding over the extended reals. -/
module

public import Idealize.ShloMosaic.PureOps.Ideal
public import Idealize.ShloMosaic.PureOps.Ideal.Laws
public import Idealize.ShloMosaic.Lib.Pointwise

@[expose] public section

noncomputable section

namespace Cert.Norm

open Idealize.ShloMosaic

/-- The small number that the normalisation adds: the float nearest to one millionth. -/
def eps : EReal := Ideal.ofBits .f32 0x358637BD#32

/-- The word for 1024. -/
theorem wide_f32 : Ideal.ofBits .f32 0x44800000#32 = ((1024 : ℝ) : EReal) := by
  simp [Ideal.ofBits, Ideal.ieee, -EReal.coe_mul]; norm_num

/-- Root mean square normalisation of a row `x` of `n` numbers, with gains `g`. -/
def rms {n : ℕ} (x g : Fin n → EReal) (j : Fin n) : EReal :=
  x j * Ideal.rsqrt (Ideal.div (∑ k, x k * x k) ((n : ℝ) : EReal) + eps) * g j

/-- One row of the stream after the gated embedding: the row `x`, with the sigmoid of its normalised product with `wg`
    times the product of the embedding's row `p` with `wp` added. -/
def gated (x : Fin 1024 → EReal) (p : Fin 256 → EReal) (g : Fin 1024 → EReal) (wg : Fin 1024 → Fin 1024 → EReal)
    (wp : Fin 256 → Fin 1024 → EReal) (j : Fin 1024) : EReal :=
  x j + Ideal.logistic (∑ k, rms x g k * wg k j) * ∑ k, p k * wp k j

/-- The layer's result at batch `b`, row `s` and column `j`: the normalised gated embedding of the stream plus the experts' output. -/
def embedded (x e : Shape.Idx ⟨3, ![2, 8192, 1024]⟩ → EReal) (p : Shape.Idx ⟨3, ![2, 8192, 256]⟩ → EReal)
    (g : Shape.Idx ⟨1, ![1024]⟩ → EReal) (wg : Shape.Idx ⟨2, ![1024, 1024]⟩ → EReal) (wp : Shape.Idx ⟨2, ![256, 1024]⟩ → EReal)
    (gf : Shape.Idx ⟨1, ![1024]⟩ → EReal) (b : Fin 2) (s : Fin 8192) (j : Fin 1024) : EReal :=
  rms (gated (fun k => x (ix3 b s k) + e (ix3 b s k)) (fun k => p (ix3 b s k)) (fun k => g (ix1 k)) (fun k l => wg (ix2 k l))
    (fun k l => wp (ix2 k l))) (fun k => gf (ix1 k)) j

end Cert.Norm

end
-- ==== Proof.Embed.lean ====
/- The gated per-layer embedding: what the program's body computes at one grid point. -/
module

public import proofs.«01_k».proof.Proof.Norm
public import proofs.«01_k».proof.Proof.Gen.Kernel2Ideal.Value
public import Idealize.ShloMosaic.Lib.Pointwise
public import Idealize.ShloMosaic.Lib.Claim

@[expose] public section

set_option maxRecDepth 16384

noncomputable section

namespace Cert.Embed

open Cert.Kernel2Ideal Cert.Kernel2Ideal.Gen Cert.Norm
open Idealize.ShloMosaic Idealize.ShloMosaic.TcCoe Idealize.ShloMosaic.Tactic
open Idealize.SL.Sem

/-- The stream after the gated embedding, at row `r` and column `j` of the block. -/
theorem gated_apply (x0 : Vec Ideal S512x1024 .f32) (x1 : Vec Ideal S1024x512 .f32) (x2 : Vec Ideal S512x256 .f32)
    (x3 : Vec Ideal S1x1024 .f32) (x4 : Vec Ideal S1024x1024 .bf16) (x5 : Vec Ideal S256x1024 .bf16) (r : Fin 512) (j : Fin 1024) :
    k0_pay2 x0 x1 x3 x4 x2 x5 (ix2 r j)
      = gated (fun k => x0 (ix2 r k) + x1 (ix2 k r)) (fun k => x2 (ix2 r k)) (fun k => x3 (ix2 0 k)) (fun k l => x4 (ix2 k l))
          (fun k l => x5 (ix2 k l)) j := by
  pointwise [k0_pay2]
  rw [wide_f32]
  rfl

/-- The final norm, at row `r` and column `j` of the block. -/
theorem final_apply (y : FVec Ideal S512x1024 .f32) (g : Vec Ideal S1x1024 .f32) (r : Fin 512) (j : Fin 1024) :
    k0_pay1 y (k0_pay3 g) (shapeCast S512x1 (multiReduction .add [1] S512 (mulf y y) 0x00000000#32 reduces_S512x1024_S512 (.inl rfl) rfl)
        shapeCasts_S512_S512x1) (Scalar.ofBits .f32 0x44800000#32) (ix2 r j)
      = rms (fun k => y (ix2 r k)) (fun k => g (ix2 0 k)) j := by
  pointwise [k0_pay1, k0_pay3]
  rw [wide_f32]
  rfl

theorem zero2 : (![0, 0] : Fin 2 → ℕ) = fun _ => 0 := by decide

/-- What the body leaves at row `r` and column `j` of its block. -/
theorem block_apply (x0 : Vec Ideal S512x1024 .f32) (x1 : Vec Ideal S1024x512 .f32) (x2 : Vec Ideal S512x256 .f32)
    (x3 : Vec Ideal S1x1024 .f32) (x4 : Vec Ideal S1024x1024 .bf16) (x5 : Vec Ideal S256x1024 .bf16) (x6 : Vec Ideal S1x1024 .f32)
    (r : Fin 512) (j : Fin 1024) :
    out0_7 x0 x1 x2 x3 x4 x5 x6 (ix2 r j)
      = rms (gated (fun k => x0 (ix2 r k) + x1 (ix2 k r)) (fun k => x2 (ix2 r k)) (fun k => x3 (ix2 0 k)) (fun k l => x4 (ix2 k l))
          (fun k l => x5 (ix2 k l))) (fun k => x6 (ix2 0 k)) j := by
  unfold out0_7
  rw [View.canon_unit_zero zero2, show View.ld x0 r0_0 = x0 from View.ld_unit_zero (S := S512x1024) zero2 _ x0,
    show View.ld x1 r0_1 = x1 from View.ld_unit_zero (S := S1024x512) zero2 _ x1,
    show View.ld x3 r0_2 = x3 from View.ld_unit_zero (S := S1x1024) zero2 _ x3,
    show View.ld x4 r0_3 = x4 from View.ld_unit_zero (S := S1024x1024) zero2 _ x4,
    show View.ld x2 r0_4 = x2 from View.ld_unit_zero (S := S512x256) zero2 _ x2,
    show View.ld x5 r0_5 = x5 from View.ld_unit_zero (S := S256x1024) zero2 _ x5,
    show View.ld x6 r0_2 = x6 from View.ld_unit_zero (S := S1x1024) zero2 _ x6]
  refine (final_apply (k0_pay2 x0 x1 x3 x4 x2 x5) x6 r j).trans ?_
  exact congrArg (fun y => rms y (fun k => x6 (ix2 0 k)) j) (funext fun k => gated_apply x0 x1 x2 x3 x4 x5 r k)

end Cert.Embed

end
-- ==== Proof.EmbedResult.lean ====
/- The gated embedding's result array over the extended reals: the formula of its arguments. -/
module

public import proofs.«01_k».proof.Proof.Embed
public import Idealize.ShloMosaic.Lib.Pipeline.ValueKit

@[expose] public section

set_option maxRecDepth 16384

noncomputable section

namespace Cert.Embed

open Cert.Kernel2Ideal Cert.Kernel2Ideal.Gen Cert.Norm
open Idealize.ShloMosaic Idealize.ShloMosaic.TcCoe Idealize.ShloMosaic.Tactic
open Idealize.SL.Sem

variable (m : (ℓ : Loc nD τ sig) → Buf (Elt Ideal) ℓ) (c : Dev nD)

/-- The arguments as the program finds them: the stream, the experts' output, the embedding, the gains before the gate, the
    gate's matrix, the embedding's matrix and the last gains. -/
abbrev inX : S2x8192x1024.Idx → EReal := m ((c : Thread nD τ).loc main_arg0)
abbrev inE : S2x8192x1024.Idx → EReal := m ((c : Thread nD τ).loc main_arg1)
abbrev inP : S2x8192x256.Idx → EReal := m ((c : Thread nD τ).loc main_arg2)
abbrev inG : S1024.Idx → EReal := m ((c : Thread nD τ).loc main_arg3)
abbrev inGate : S1024x1024.Idx → EReal := m ((c : Thread nD τ).loc main_arg4)
abbrev inProj : S256x1024.Idx → EReal := m ((c : Thread nD τ).loc main_arg5)
abbrev inLast : S1024.Idx → EReal := m ((c : Thread nD τ).loc main_arg6)

/-! ## The arrays that the host lines leave -/

/-- The stream as rows. -/
theorem entry_stream (w : Fin 16384) (k : Fin 1024) : (V m c main_v0 : Vec Ideal S16384x1024 .f32) (ix2 w k) = inX m c (ix3 ⟨w.val / 8192, by omega⟩ ⟨w.val % 8192, by omega⟩ k) := by
  simp only [V, hostOps0, List.flatten_cons, List.flatten_nil, List.append_nil, List.cons_append, List.nil_append]
  after_results_simp
  pointwise

/-- The experts' output as columns. -/
theorem entry_experts (k : Fin 1024) (w : Fin 16384) : (V m c main_v2 : Vec Ideal S1024x16384 .f32) (ix2 k w) = inE m c (ix3 ⟨w.val / 8192, by omega⟩ ⟨w.val % 8192, by omega⟩ k) := by
  simp only [V, hostOps0, List.flatten_cons, List.flatten_nil, List.append_nil, List.cons_append, List.nil_append]
  after_results_simp
  pointwise

/-- The embedding as rows. -/
theorem entry_embedding (w : Fin 16384) (k : Fin 256) : (V m c main_v3 : Vec Ideal S16384x256 .f32) (ix2 w k) = inP m c (ix3 ⟨w.val / 8192, by omega⟩ ⟨w.val % 8192, by omega⟩ k) := by
  simp only [V, hostOps0, List.flatten_cons, List.flatten_nil, List.append_nil, List.cons_append, List.nil_append]
  after_results_simp
  pointwise

/-- The gains before the gate. -/
theorem entry_gains (k : Fin 1024) : (V m c main_v4 : Vec Ideal S1x1024 .f32) (ix2 0 k) = inG m c (ix1 k) := by
  simp only [V, hostOps0, List.flatten_cons, List.flatten_nil, List.append_nil, List.cons_append, List.nil_append]
  after_results_simp
  pointwise

/-- The gate's matrix. -/
theorem entry_gate (k l : Fin 1024) : (V m c main_v5 : Vec Ideal S1024x1024 .bf16) (ix2 k l) = inGate m c (ix2 k l) := by
  simp only [V, hostOps0, List.flatten_cons, List.flatten_nil, List.append_nil, List.cons_append, List.nil_append]
  after_results_simp
  pointwise

/-- The embedding's matrix. -/
theorem entry_proj (k : Fin 256) (l : Fin 1024) : (V m c main_v6 : Vec Ideal S256x1024 .bf16) (ix2 k l) = inProj m c (ix2 k l) := by
  simp only [V, hostOps0, List.flatten_cons, List.flatten_nil, List.append_nil, List.cons_append, List.nil_append]
  after_results_simp
  pointwise

/-- The last gains. -/
theorem entry_last (k : Fin 1024) : (V m c main_v7 : Vec Ideal S1x1024 .f32) (ix2 0 k) = inLast m c (ix1 k) := by
  simp only [V, hostOps0, List.flatten_cons, List.flatten_nil, List.append_nil, List.cons_append, List.nil_append]
  after_results_simp
  pointwise

/-! ## The blocks of a grid point -/

theorem index0 : ∀ t : Fin cfg0.N, win0_0.index t = ![t.val, 0] := by decide +kernel
theorem index1 : ∀ t : Fin cfg0.N, win0_1.index t = ![0, t.val] := by decide +kernel
theorem index2 : ∀ t : Fin cfg0.N, win0_2.index t = ![t.val, 0] := by decide +kernel
theorem index3 : ∀ t : Fin cfg0.N, win0_3.index t = ![0, 0] := by decide +kernel
theorem index4 : ∀ t : Fin cfg0.N, win0_4.index t = ![0, 0] := by decide +kernel
theorem index5 : ∀ t : Fin cfg0.N, win0_5.index t = ![0, 0] := by decide +kernel
theorem index6 : ∀ t : Fin cfg0.N, win0_6.index t = ![0, 0] := by decide +kernel
theorem index7 : ∀ t : Fin cfg0.N, win0_7.index t = ![t.val, 0] := by decide +kernel
theorem point_lt (t : Fin cfg0.N) : t.val < 32 := t.isLt

/-- The stream's block at a point. -/
theorem block_stream (t : Fin cfg0.N) (r : Fin 512) (k : Fin 1024) :
    (iblk m c 0 t : Vec Ideal S512x1024 .f32) (ix2 r k) = (V m c main_v0 : Vec Ideal S16384x1024 .f32) (ix2 ⟨t.val * 512 + r.val, by have := point_lt t; omega⟩ k) := by
  blk_ext [iblk, index0 t]

/-- The block of the experts' output at a point. -/
theorem block_experts (t : Fin cfg0.N) (k : Fin 1024) (r : Fin 512) :
    (iblk m c 1 t : Vec Ideal S1024x512 .f32) (ix2 k r) = (V m c main_v2 : Vec Ideal S1024x16384 .f32) (ix2 k ⟨t.val * 512 + r.val, by have := point_lt t; omega⟩) := by
  blk_ext [iblk, index1 t]

/-- The embedding's block at a point. -/
theorem block_embedding (t : Fin cfg0.N) (r : Fin 512) (k : Fin 256) :
    (iblk m c 2 t : Vec Ideal S512x256 .f32) (ix2 r k) = (V m c main_v3 : Vec Ideal S16384x256 .f32) (ix2 ⟨t.val * 512 + r.val, by have := point_lt t; omega⟩ k) := by
  blk_ext [iblk, index2 t]

/-- The gains before the gate at a point. -/
theorem block_gains (t : Fin cfg0.N) (k : Fin 1024) :
    (iblk m c 3 t : Vec Ideal S1x1024 .f32) (ix2 0 k) = (V m c main_v4 : Vec Ideal S1x1024 .f32) (ix2 0 k) := by
  blk_ext [iblk, index3 t]

/-- The gate's matrix at a point. -/
theorem block_gate (t : Fin cfg0.N) (k l : Fin 1024) :
    (iblk m c 4 t : Vec Ideal S1024x1024 .bf16) (ix2 k l) = (V m c main_v5 : Vec Ideal S1024x1024 .bf16) (ix2 k l) := by
  blk_ext [iblk, index4 t]

/-- The embedding's matrix at a point. -/
theorem block_proj (t : Fin cfg0.N) (k : Fin 256) (l : Fin 1024) :
    (iblk m c 5 t : Vec Ideal S256x1024 .bf16) (ix2 k l) = (V m c main_v6 : Vec Ideal S256x1024 .bf16) (ix2 k l) := by
  blk_ext [iblk, index5 t]

/-- The last gains at a point. -/
theorem block_last (t : Fin cfg0.N) (k : Fin 1024) :
    (iblk m c 6 t : Vec Ideal S1x1024 .f32) (ix2 0 k) = (V m c main_v7 : Vec Ideal S1x1024 .f32) (ix2 0 k) := by
  blk_ext [iblk, index6 t]

/-! ## The result -/

/-- The result as an array of 16384 rows, one for each batch and row. -/
def outArr (i : S16384x1024.Idx) : EReal :=
  embedded (inX m c) (inE m c) (inP m c) (inG m c) (inGate m c) (inProj m c) (inLast m c) ⟨(i 0).val / 8192, by
      have : (i 0).val < 16384 := (i 0).isLt
      omega⟩ ⟨(i 0).val % 8192, by omega⟩ (i 1)

/-- The same, at coordinates given by what they are. -/
theorem outArr_at (i : S16384x1024.Idx) (b : Fin 2) (s : Fin 8192) (j : Fin 1024) (hb : (i 0).val / 8192 = b.val)
    (hs : (i 0).val % 8192 = s.val) (hj : (i 1).val = j.val) :
    outArr m c i = embedded (inX m c) (inE m c) (inP m c) (inG m c) (inGate m c) (inProj m c) (inLast m c) b s j := by
  obtain ⟨b, _⟩ := b
  obtain ⟨s, _⟩ := s
  obtain rfl : i 1 = j := Fin.ext hj
  subst hb hs
  rfl

/-- What a point leaves at row `r` and column `j` of its block. -/
theorem point_embedded (t : Fin cfg0.N) (r : Fin 512) (j : Fin 1024) :
    out0_7 (iblk m c 0 t) (iblk m c 1 t) (iblk m c 2 t) (iblk m c 3 t) (iblk m c 4 t) (iblk m c 5 t) (iblk m c 6 t) (ix2 r j)
      = embedded (inX m c) (inE m c) (inP m c) (inG m c) (inGate m c) (inProj m c) (inLast m c)
          ⟨(t.val * 512 + r.val) / 8192, by have := point_lt t; omega⟩ ⟨(t.val * 512 + r.val) % 8192, by omega⟩ j := by
  refine (block_apply _ _ _ _ _ _ _ r j).trans ?_
  unfold embedded
  have h0 : ∀ k, (iblk m c 0 t : Vec Ideal S512x1024 .f32) (ix2 r k) = _ := fun k => (block_stream m c t r k).trans (entry_stream m c _ k)
  have h1 : ∀ k, (iblk m c 1 t : Vec Ideal S1024x512 .f32) (ix2 k r) = _ := fun k => (block_experts m c t k r).trans (entry_experts m c k _)
  have h2 : ∀ k, (iblk m c 2 t : Vec Ideal S512x256 .f32) (ix2 r k) = _ := fun k => (block_embedding m c t r k).trans (entry_embedding m c _ k)
  have h3 : ∀ k, (iblk m c 3 t : Vec Ideal S1x1024 .f32) (ix2 0 k) = _ := fun k => (block_gains m c t k).trans (entry_gains m c k)
  have h4 : ∀ k l, (iblk m c 4 t : Vec Ideal S1024x1024 .bf16) (ix2 k l) = _ := fun k l => (block_gate m c t k l).trans (entry_gate m c k l)
  have h5 : ∀ k l, (iblk m c 5 t : Vec Ideal S256x1024 .bf16) (ix2 k l) = _ := fun k l => (block_proj m c t k l).trans (entry_proj m c k l)
  have h6 : ∀ k, (iblk m c 6 t : Vec Ideal S1x1024 .f32) (ix2 0 k) = _ := fun k => (block_last m c t k).trans (entry_last m c k)
  rw [funext fun k => congrArg₂ (fun a b : EReal => a + b) (h0 k) (h1 k), funext h2, funext h3, funext fun k => funext (h4 k), funext fun k => funext (h5 k),
    funext h6]

/-- The result's array after the run is the formula of the arguments. -/
theorem result_array : (dats m 0 c).arrAt 7 cfg0.N = outArr m c := by
  refine (dats m 0 c).arrAt_eq_of_covers 7 _ (by decide +kernel) fun t hf y => ?_
  blk_simp
  rw [after0_7]
  obtain ⟨r, n, rfl⟩ : ∃ (r : Fin 512) (n : Fin 1024), y = ix2 r n := ⟨y 0, y 1, eq_ix2 y⟩
  refine (point_embedded m c t r n).trans ?_
  have e0 : ((((cfg0.win 7).blk t).view.emb (ix2 r n)) 0 : ℕ) = t.val * 512 + r.val := by
    blk_simp [index7 t]
  have e1 : ((((cfg0.win 7).blk t).view.emb (ix2 r n)) 1 : ℕ) = n.val := by
    blk_simp [index7 t]
  exact (outArr_at m c _ _ _ _ (by rw [e0]) (by rw [e0]) e1).symm

end Cert.Embed

end
-- ==== Proof.EmbedRefer.lean ====
/- The reference's last lines read at an index: they compute the formula of `Norm.lean`. -/
module

public import proofs.«01_k».proof.Proof.Norm
public import proofs.«01_k».proof.Proof.Gen.Reference2Ideal.Read

@[expose] public section

set_option maxRecDepth 16384

noncomputable section

namespace Cert.Embed

open Cert.Reference2Ideal Cert.Reference2Ideal.Gen Cert.Reference2Ideal.Read Cert.Norm
open Idealize.ShloMosaic Idealize.ShloMosaic.TcCoe Idealize.SL.Sem

variable (x0 x1 : Vec Ideal S2x8192x1024 .f32) (x2 : Vec Ideal S2x8192x256 .f32) (x3 : Vec Ideal S1024 .f32)
  (x4 : Vec Ideal S1024x1024 .f32) (x5 : Vec Ideal S256x1024 .f32) (x6 : Vec Ideal S1024 .f32)

/-- The reference's normalised stream. -/
theorem ref_rms (b : Fin 2) (s : Fin 8192) (j : Fin 1024) :
    val_main_v13 (F := Ideal) x0 x1 x3 (ix3 b s j) = rms (fun k => x0 (ix3 b s k) + x1 (ix3 b s k)) (fun k => x3 (ix1 k)) j := by
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]
  rw [wide_f32]
  rfl

/-- The reference's stream after the gated embedding. -/
theorem ref_gated (b : Fin 2) (s : Fin 8192) (j : Fin 1024) :
    val_main_v23 (F := Ideal) x0 x1 x2 x3 x4 x5 (ix3 b s j)
      = gated (fun k => x0 (ix3 b s k) + x1 (ix3 b s k)) (fun k => x2 (ix3 b s k)) (fun k => x3 (ix1 k)) (fun k l => x4 (ix2 k l))
          (fun k l => x5 (ix2 k l)) j := by
  have h : val_main_v13 (F := Ideal) x0 x1 x3 = fun i => rms (fun k => x0 (ix3 (i 0) (i 1) k) + x1 (ix3 (i 0) (i 1) k)) (fun k => x3 (ix1 k)) (i 2) :=
    funext fun i => by rw [eq_ix3 i]; exact ref_rms x0 x1 x3 _ _ _
  pointwise [val_main_v23, val_main_v22, val_main_v21, val_main_v20, val_main_v19, val_main_v18, val_main_v17, val_main_v16, val_main_v15,
    val_main_v14, val_main_v0, val_main_cst_2, val_main_cst_3]
  rw [h]
  rfl

/-- The reference's result. -/
theorem ref_embedded (w : Fin 16384) (j : Fin 1024) :
    val_main_v37 (F := Ideal) x0 x1 x2 x3 x4 x5 x6 (ix2 w j)
      = embedded x0 x1 x2 x3 x4 x5 x6 ⟨w.val / 8192, by omega⟩ ⟨w.val % 8192, by omega⟩ j := by
  have h : val_main_v23 (F := Ideal) x0 x1 x2 x3 x4 x5
      = fun i => gated (fun k => x0 (ix3 (i 0) (i 1) k) + x1 (ix3 (i 0) (i 1) k)) (fun k => x2 (ix3 (i 0) (i 1) k)) (fun k => x3 (ix1 k))
          (fun k l => x4 (ix2 k l)) (fun k l => x5 (ix2 k l)) (i 2) :=
    funext fun i => by rw [eq_ix3 i]; exact ref_gated x0 x1 x2 x3 x4 x5 _ _ _
  pointwise [val_main_v37, val_main_v36, val_main_v35, val_main_v34, val_main_v33, val_main_v32, val_main_v31, val_main_v30, val_main_v29,
    val_main_v28, val_main_v27, val_main_v26, val_main_v25, val_main_v24, val_main_cst_4, val_main_cst_5, val_main_cst_6]
  rw [wide_f32, h]
  rfl

end Cert.Embed

end
-- ==== Proof.EmbedClaims.lean ====
/- The claims about the gated embedding: the frame of the reference's last lines and the equality of the two results. -/
module

public import proofs.«01_k».proof.Defs
public import proofs.«01_k».proof.Proof.EmbedResult
public import proofs.«01_k».proof.Proof.EmbedRefer
public import proofs.«01_k».proof.Proof.Gen.Reference2Ideal.Run
public import Idealize.ShloMosaic.Lib.Claim
public import Idealize.ShloMosaic.Lib.Quiescent

@[expose] public section

set_option maxRecDepth 16384

noncomputable section

namespace Cert.Embed

open Idealize.ShloMosaic Idealize.ShloMosaic.TcCoe Idealize.ShloMosaic.Tactic
open Idealize.SL.Sem

/-- The reference's last lines leave their arguments as they were and every semaphore at zero. -/
theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The two programs end with the same result. -/
theorem results_equal : Cert.algebraic_Kernel2Ideal_Reference2Ideal := by
  intro m g m' g' _ hagree
  refine ⟨fun c => outArr m c, (θ_run Cert.Kernel2Ideal.defs _ _).mono (fun r h c => ⟨(h c).1.trans (result_array m c), (h c).2⟩)
    (Cert.Kernel2Ideal.Value.run_blocks (F := Ideal) m g), ?_⟩
  refine (θ_run Cert.Reference2Ideal.defs _ _).mono (fun r h c => ⟨(h c).1.trans ?_, (h c).2⟩) (Cert.Reference2Ideal.Value.run (F := Ideal) m' g')
  obtain ⟨a0, a1, a2, a3, a4, a5, a6⟩ := hagree c
  refine (Cert.Reference2Ideal.Read.val_main_v37_eq (F := Ideal) m' c).trans ?_
  rw [a0, a1, a2, a3, a4, a5, a6]
  funext i
  obtain ⟨w, j, rfl⟩ : ∃ (w : Fin 16384) (j : Fin 1024), i = ix2 w j := ⟨i 0, i 1, eq_ix2 i⟩
  exact ref_embedded (inX m c) (inE m c) (inP m c) (inG m c) (inGate m c) (inProj m c) (inLast m c) w j

end Cert.Embed

end
-- ==== Proof.Mix.lean ====
/- The output projection over the extended reals: the S5 group's skip and gate, the two norms and the projection, as formulas. -/
module

public import proofs.«01_k».proof.Proof.Norm

@[expose] public section

set_option maxRecDepth 16384

noncomputable section

namespace Cert.Mix

open Idealize.ShloMosaic Cert.Norm

/-- The word for 512. -/
theorem half_f32 : Ideal.ofBits .f32 0x44000000#32 = ((512 : ℝ) : EReal) := by
  simp [Ideal.ofBits, Ideal.ieee, -EReal.coe_mul]; norm_num

/-- The smooth rectifier in its hyperbolic tangent form, with the three float constants that the programs share. -/
def gelu (x : EReal) : EReal :=
  x * (Ideal.ofBits .f32 0x3F000000#32
    * (1 + Ideal.tanh (Ideal.ofBits .f32 0x3F4C422A#32 * (x + Ideal.ofBits .f32 0x3D372713#32 * (x * x * x)))))

/-- One row after the S5 group's skip and rectifier. -/
def active (y u d : Fin 512 → EReal) (k : Fin 512) : EReal :=
  gelu (y k + d k * u k)

/-- One row after the S5 group's gate. -/
def glu (y u d : Fin 512 → EReal) (w : Fin 512 → Fin 512 → EReal) (b : Fin 512 → EReal) (j : Fin 512) : EReal :=
  active y u d j * Ideal.logistic ((∑ k, active y u d k * w k j) + b j)

/-- One row of the stream after the output projection: the two groups' normalised rows, side by side, times the matrix. -/
def mixed (x : Fin 1024 → EReal) (s a gs ga : Fin 512 → EReal) (w : Fin 1024 → Fin 1024 → EReal) (j : Fin 1024) : EReal :=
  x j + ((∑ k : Fin 512, rms s gs k * w ⟨k.val, by omega⟩ j) + ∑ k : Fin 512, rms a ga k * w ⟨512 + k.val, by omega⟩ j)

/-- The stream after the mixer at batch `b`, row `s` and column `j`. -/
def stream (x : Shape.Idx ⟨3, ![2, 8192, 1024]⟩ → EReal) (y u a : Shape.Idx ⟨3, ![2, 8192, 512]⟩ → EReal)
    (d : Shape.Idx ⟨1, ![512]⟩ → EReal) (wg : Shape.Idx ⟨2, ![512, 512]⟩ → EReal) (bg gs ga : Shape.Idx ⟨1, ![512]⟩ → EReal)
    (wo : Shape.Idx ⟨2, ![1024, 1024]⟩ → EReal) (b : Fin 2) (s : Fin 8192) (j : Fin 1024) : EReal :=
  mixed (fun k => x (ix3 b s k))
    (glu (fun k => y (ix3 b s k)) (fun k => u (ix3 b s k)) (fun k => d (ix1 k)) (fun k l => wg (ix2 k l)) (fun k => bg (ix1 k)))
    (fun k => a (ix3 b s k)) (fun k => gs (ix1 k)) (fun k => ga (ix1 k)) (fun k l => wo (ix2 k l)) j

end Cert.Mix

end
-- ==== Proof.MixBlock.lean ====
/- The output projection: what the program's body computes at one grid point. -/
module

public import proofs.«01_k».proof.Proof.Mix
public import proofs.«01_k».proof.Proof.Gen.Kernel3Ideal.Frame
public import Idealize.ShloMosaic.Lib.Pipeline.Value
public import Idealize.ShloMosaic.Lib.Pointwise
public import Idealize.ShloMosaic.Lib.Claim

@[expose] public section

set_option maxRecDepth 16384

noncomputable section

namespace Cert.Mix

open Cert.Kernel3Ideal Cert.Kernel3Ideal.Gen Cert.Norm
open Idealize.ShloMosaic Idealize.ShloMosaic.TcCoe Idealize.ShloMosaic.Tactic
open Idealize.SL.Sem

/-- The S5 group's row after its gate. -/
theorem glu_apply (y : Vec Ideal S512x512 .f32) (d : Vec Ideal S1x512 .f32) (u : Vec Ideal S512x512 .f32) (w : Vec Ideal S512x512 .bf16)
    (b : Vec Ideal S1x512 .f32) (r j : Fin 512) :
    k0_pay2 y d u w b (ix2 r j)
      = glu (fun k => y (ix2 r k)) (fun k => u (ix2 r k)) (fun k => d (ix2 0 k)) (fun k l => w (ix2 k l)) (fun k => b (ix2 0 k)) j := by
  pointwise [k0_pay2]
  unfold glu active gelu
  simp only [mul_assoc]

/-- The stream after the projection. -/
theorem mixed_apply (s : FVec Ideal S512x512 .f32) (gs : Vec Ideal S1x512 .f32) (a : Vec Ideal S512x512 .f32) (ga : Vec Ideal S1x512 .f32)
    (x : Vec Ideal S512x1024 .f32) (w w' : Vec Ideal S512x1024 .bf16) (r : Fin 512) (j : Fin 1024) :
    k0_pay5 s (k0_pay3 gs) (divf (shapeCast S512x1 (multiReduction .add [1] S512 (mulf s s) 0x00000000#32 reduces_S512x512_S512 (.inl rfl) rfl)
        shapeCasts_S512_S512x1) (broadcast S512x1 (Scalar.ofBits .f32 0x44000000#32))) (Scalar.ofBits .f32 0x358637BD#32) a ga x w w' (ix2 r j)
      = x (ix2 r j) + (∑ k : Fin 512, rms (fun k => s (ix2 r k)) (fun k => gs (ix2 0 k)) k * w (ix2 k j))
        + ∑ k : Fin 512, rms (fun k => a (ix2 r k)) (fun k => ga (ix2 0 k)) k * w' (ix2 k j) := by
  pointwise [k0_pay5, k0_pay3]
  rw [half_f32]
  rfl

/-- The norm that follows, transposed. -/
theorem next_apply (z : FVec Ideal S512x1024 .f32) (g : Vec Ideal S1x1024 .f32) (j : Fin 1024) (r : Fin 512) :
    k0_pay1 z (k0_pay6 g) (mulf z z) (ix2 j r) = rms (fun k => z (ix2 r k)) (fun k => g (ix2 0 k)) j := by
  pointwise [k0_pay1, k0_pay6]
  rw [wide_f32]
  rfl

theorem zero2 : (![0, 0] : Fin 2 → ℕ) = fun _ => 0 := by decide

/-- The matrix's upper half as loaded. -/
theorem upper_apply (w : Vec Ideal S1024x1024 .bf16) (k : Fin 512) (j : Fin 1024) :
    (View.ld w r0_3 : Vec Ideal S512x1024 .bf16) (ix2 k j) = w (ix2 ⟨k.val, by omega⟩ j) := by
  refine congrArg w (funext fun a => Fin.ext ?_)
  match a with
  | ⟨0, _⟩ => show 0 + 1 * k.val = k.val; omega
  | ⟨1, _⟩ => show 0 + 1 * j.val = j.val; omega

/-- The matrix's lower half as loaded. -/
theorem lower_apply (w : Vec Ideal S1024x1024 .bf16) (k : Fin 512) (j : Fin 1024) :
    (View.ld w r0_4 : Vec Ideal S512x1024 .bf16) (ix2 k j) = w (ix2 ⟨512 + k.val, by omega⟩ j) := by
  refine congrArg w (funext fun a => Fin.ext ?_)
  match a with
  | ⟨0, _⟩ => show 512 + 1 * k.val = 512 + k.val; omega
  | ⟨1, _⟩ => show 0 + 1 * j.val = j.val; omega

/-- One row of a block of the stream after the projection, from the blocks that a grid point loads. -/
def rowOut (x0 : Vec Ideal S512x1024 .f32) (x1 x2 x3 : Vec Ideal S512x512 .f32) (x4 : Vec Ideal S1x512 .f32) (x5 : Vec Ideal S512x512 .bf16)
    (x6 x7 x8 : Vec Ideal S1x512 .f32) (x9 : Vec Ideal S1024x1024 .bf16)
    (r : Fin 512) : Fin 1024 → EReal :=
  mixed (fun k => x0 (ix2 r k))
    (glu (fun k => x1 (ix2 r k)) (fun k => x2 (ix2 r k)) (fun k => x4 (ix2 0 k)) (fun k l => x5 (ix2 k l)) (fun k => x6 (ix2 0 k)))
    (fun k => x3 (ix2 r k)) (fun k => x7 (ix2 0 k)) (fun k => x8 (ix2 0 k)) (fun k l => x9 (ix2 k l))

/-- The stream's payload, at row `r` and column `j` of the block. -/
theorem payload_apply (x0 : Vec Ideal S512x1024 .f32) (x1 x2 x3 : Vec Ideal S512x512 .f32) (x4 : Vec Ideal S1x512 .f32) (x5 : Vec Ideal S512x512 .bf16)
    (x6 x7 x8 : Vec Ideal S1x512 .f32) (x9 : Vec Ideal S1024x1024 .bf16) (x10 : Vec Ideal S1x1024 .f32)
    (r : Fin 512) (j : Fin 1024) :
    k0_pay5 (k0_pay8 x0 x1 x2 x3 x4 x5 x6 x7 x8 x9 x10) (k0_pay9 x0 x1 x2 x3 x4 x5 x6 x7 x8 x9 x10)
        (k0_pay10 x0 x1 x2 x3 x4 x5 x6 x7 x8 x9 x10) (Scalar.ofBits .f32 0x358637BD#32) (View.ld x3 r0_0) (View.ld x8 r0_1) (View.ld x0 r0_2)
        (View.ld x9 r0_3) (View.ld x9 r0_4) (ix2 r j)
      = rowOut x0 x1 x2 x3 x4 x5 x6 x7 x8 x9 r j := by
  unfold k0_pay8 k0_pay9 k0_pay10
  rw [show View.ld x1 r0_0 = x1 from View.ld_unit_zero (S := S512x512) zero2 _ x1,
    show View.ld x2 r0_0 = x2 from View.ld_unit_zero (S := S512x512) zero2 _ x2,
    show View.ld x3 r0_0 = x3 from View.ld_unit_zero (S := S512x512) zero2 _ x3,
    show View.ld x5 r0_0 = x5 from View.ld_unit_zero (S := S512x512) zero2 _ x5,
    show View.ld x4 r0_1 = x4 from View.ld_unit_zero (S := S1x512) zero2 _ x4,
    show View.ld x6 r0_1 = x6 from View.ld_unit_zero (S := S1x512) zero2 _ x6,
    show View.ld x7 r0_1 = x7 from View.ld_unit_zero (S := S1x512) zero2 _ x7,
    show View.ld x8 r0_1 = x8 from View.ld_unit_zero (S := S1x512) zero2 _ x8,
    show View.ld x0 r0_2 = x0 from View.ld_unit_zero (S := S512x1024) zero2 _ x0]
  refine (mixed_apply (k0_pay2 x1 x4 x2 x5 x6) x7 x3 x8 x0 _ _ r j).trans ?_
  simp only [glu_apply]
  rw [add_assoc]
  exact congrArg (fun z : EReal => x0 (ix2 r j) + z) (congrArg₂ (fun a b : EReal => a + b)
    (Finset.sum_congr rfl fun k _ => congrArg _ (upper_apply x9 k j)) (Finset.sum_congr rfl fun k _ => congrArg _ (lower_apply x9 k j)))

/-- What the body leaves in the stream's block. -/
theorem block_stream (x0 : Vec Ideal S512x1024 .f32) (x1 x2 x3 : Vec Ideal S512x512 .f32) (x4 : Vec Ideal S1x512 .f32) (x5 : Vec Ideal S512x512 .bf16)
    (x6 x7 x8 : Vec Ideal S1x512 .f32) (x9 : Vec Ideal S1024x1024 .bf16) (x10 : Vec Ideal S1x1024 .f32)
    (r : Fin 512) (j : Fin 1024) :
    out0_11 x0 x1 x2 x3 x4 x5 x6 x7 x8 x9 x10 (ix2 r j) = rowOut x0 x1 x2 x3 x4 x5 x6 x7 x8 x9 r j := by
  unfold out0_11
  rw [View.canon_unit_zero zero2]
  exact payload_apply x0 x1 x2 x3 x4 x5 x6 x7 x8 x9 x10 r j

/-- What the body leaves in the block of the normalised stream. -/
theorem block_next (x0 : Vec Ideal S512x1024 .f32) (x1 x2 x3 : Vec Ideal S512x512 .f32) (x4 : Vec Ideal S1x512 .f32) (x5 : Vec Ideal S512x512 .bf16)
    (x6 x7 x8 : Vec Ideal S1x512 .f32) (x9 : Vec Ideal S1024x1024 .bf16) (x10 : Vec Ideal S1x1024 .f32)
    (j : Fin 1024) (r : Fin 512) :
    out0_12 x0 x1 x2 x3 x4 x5 x6 x7 x8 x9 x10 (ix2 j r)
      = rms (rowOut x0 x1 x2 x3 x4 x5 x6 x7 x8 x9 r) (fun k => x10 (ix2 0 k)) j := by
  unfold out0_12
  rw [View.canon_unit_zero zero2, show View.ld x10 r0_5 = x10 from View.ld_unit_zero (S := S1x1024) zero2 _ x10]
  refine (next_apply _ x10 j r).trans ?_
  exact congrArg (fun z => rms z (fun k => x10 (ix2 0 k)) j) (funext fun k => payload_apply x0 x1 x2 x3 x4 x5 x6 x7 x8 x9 x10 r k)

end Cert.Mix

end
-- ==== Proof.MixResult.lean ====
/- The output projection's two result arrays over the extended reals: the formulas of its arguments. -/
module

public import proofs.«01_k».proof.Proof.MixBlock
public import Idealize.ShloMosaic.Lib.Pipeline.ValueKit

@[expose] public section

set_option maxRecDepth 16384

noncomputable section

namespace Cert.Mix

open Cert.Kernel3Ideal Cert.Kernel3Ideal.Gen Cert.Norm
open Idealize.ShloMosaic Idealize.ShloMosaic.TcCoe Idealize.ShloMosaic.Tactic
open Idealize.SL.Sem

variable (m : (ℓ : Loc nD τ sig) → Buf (Elt Ideal) ℓ) (c : Dev nD)

/-- The arguments as the program finds them: the stream, the S5 output and input, the attention, the skip, the gate's matrix and
    bias, the two groups' gains, the projection's matrix and the gains of the norm that follows. -/
abbrev inX : S2x8192x1024.Idx → EReal := m ((c : Thread nD τ).loc main_arg0)
abbrev inY : S2x8192x512.Idx → EReal := m ((c : Thread nD τ).loc main_arg1)
abbrev inU : S2x8192x512.Idx → EReal := m ((c : Thread nD τ).loc main_arg2)
abbrev inA : S2x8192x512.Idx → EReal := m ((c : Thread nD τ).loc main_arg3)
abbrev inD : S512.Idx → EReal := m ((c : Thread nD τ).loc main_arg4)
abbrev inWg : S512x512.Idx → EReal := m ((c : Thread nD τ).loc main_arg5)
abbrev inBg : S512.Idx → EReal := m ((c : Thread nD τ).loc main_arg6)
abbrev inGs : S512.Idx → EReal := m ((c : Thread nD τ).loc main_arg7)
abbrev inGa : S512.Idx → EReal := m ((c : Thread nD τ).loc main_arg8)
abbrev inWo : S1024x1024.Idx → EReal := m ((c : Thread nD τ).loc main_arg9)
abbrev inGf : S1024.Idx → EReal := m ((c : Thread nD τ).loc main_arg10)

/-! ## The arrays that the host lines leave -/

/-- The stream as the call finds it. -/
theorem entry_stream (w : Fin 16384) (k : Fin 1024) : (V m c main_v0 : Vec Ideal S16384x1024 .f32) (ix2 w k) = inX m c (ix3 ⟨w.val / 8192, by omega⟩ ⟨w.val % 8192, by omega⟩ k) := by
  simp only [V, V0, hostOps0, List.flatten_cons, List.flatten_nil, List.append_nil, List.cons_append, List.nil_append]
  after_results_simp
  pointwise

/-- The S5 output as the call finds it. -/
theorem entry_ssm (w : Fin 16384) (k : Fin 512) : (V m c main_v1 : Vec Ideal S16384x512 .f32) (ix2 w k) = inY m c (ix3 ⟨w.val / 8192, by omega⟩ ⟨w.val % 8192, by omega⟩ k) := by
  simp only [V, V0, hostOps0, List.flatten_cons, List.flatten_nil, List.append_nil, List.cons_append, List.nil_append]
  after_results_simp
  pointwise

/-- The S5 input as the call finds it. -/
theorem entry_input (w : Fin 16384) (k : Fin 512) : (V m c main_v2 : Vec Ideal S16384x512 .f32) (ix2 w k) = inU m c (ix3 ⟨w.val / 8192, by omega⟩ ⟨w.val % 8192, by omega⟩ k) := by
  simp only [V, V0, hostOps0, List.flatten_cons, List.flatten_nil, List.append_nil, List.cons_append, List.nil_append]
  after_results_simp
  pointwise

/-- The attention output as the call finds it. -/
theorem entry_attention (w : Fin 16384) (k : Fin 512) : (V m c main_v3 : Vec Ideal S16384x512 .f32) (ix2 w k) = inA m c (ix3 ⟨w.val / 8192, by omega⟩ ⟨w.val % 8192, by omega⟩ k) := by
  simp only [V, V0, hostOps0, List.flatten_cons, List.flatten_nil, List.append_nil, List.cons_append, List.nil_append]
  after_results_simp
  pointwise

/-- The skip as the call finds it. -/
theorem entry_skip (k : Fin 512) : (V m c main_v4 : Vec Ideal S1x512 .f32) (ix2 0 k) = inD m c (ix1 k) := by
  simp only [V, V0, hostOps0, List.flatten_cons, List.flatten_nil, List.append_nil, List.cons_append, List.nil_append]
  after_results_simp
  pointwise

/-- The gate's matrix as the call finds it. -/
theorem entry_gate (k l : Fin 512) : (V m c main_v5 : Vec Ideal S512x512 .bf16) (ix2 k l) = inWg m c (ix2 k l) := by
  simp only [V, V0, hostOps0, List.flatten_cons, List.flatten_nil, List.append_nil, List.cons_append, List.nil_append]
  after_results_simp
  pointwise

/-- The gate's bias as the call finds it. -/
theorem entry_bias (k : Fin 512) : (V m c main_v6 : Vec Ideal S1x512 .f32) (ix2 0 k) = inBg m c (ix1 k) := by
  simp only [V, V0, hostOps0, List.flatten_cons, List.flatten_nil, List.append_nil, List.cons_append, List.nil_append]
  after_results_simp
  pointwise

/-- The S5 gains as the call finds it. -/
theorem entry_ssm_gains (k : Fin 512) : (V m c main_v7 : Vec Ideal S1x512 .f32) (ix2 0 k) = inGs m c (ix1 k) := by
  simp only [V, V0, hostOps0, List.flatten_cons, List.flatten_nil, List.append_nil, List.cons_append, List.nil_append]
  after_results_simp
  pointwise

/-- The attention gains as the call finds it. -/
theorem entry_attention_gains (k : Fin 512) : (V m c main_v8 : Vec Ideal S1x512 .f32) (ix2 0 k) = inGa m c (ix1 k) := by
  simp only [V, V0, hostOps0, List.flatten_cons, List.flatten_nil, List.append_nil, List.cons_append, List.nil_append]
  after_results_simp
  pointwise

/-- The projection's matrix as the call finds it. -/
theorem entry_matrix (k l : Fin 1024) : (V m c main_v9 : Vec Ideal S1024x1024 .bf16) (ix2 k l) = inWo m c (ix2 k l) := by
  simp only [V, V0, hostOps0, List.flatten_cons, List.flatten_nil, List.append_nil, List.cons_append, List.nil_append]
  after_results_simp
  pointwise

/-- The next gains as the call finds it. -/
theorem entry_next_gains (k : Fin 1024) : (V m c main_v10 : Vec Ideal S1x1024 .f32) (ix2 0 k) = inGf m c (ix1 k) := by
  simp only [V, V0, hostOps0, List.flatten_cons, List.flatten_nil, List.append_nil, List.cons_append, List.nil_append]
  after_results_simp
  pointwise

/-! ## The blocks of a grid point -/

theorem index0 : ∀ t : Fin cfg0.N, win0_0.index t = ![t.val, 0] := by decide +kernel
theorem index1 : ∀ t : Fin cfg0.N, win0_1.index t = ![t.val, 0] := by decide +kernel
theorem index2 : ∀ t : Fin cfg0.N, win0_2.index t = ![t.val, 0] := by decide +kernel
theorem index3 : ∀ t : Fin cfg0.N, win0_3.index t = ![t.val, 0] := by decide +kernel
theorem index4 : ∀ t : Fin cfg0.N, win0_4.index t = ![0, 0] := by decide +kernel
theorem index5 : ∀ t : Fin cfg0.N, win0_5.index t = ![0, 0] := by decide +kernel
theorem index6 : ∀ t : Fin cfg0.N, win0_6.index t = ![0, 0] := by decide +kernel
theorem index7 : ∀ t : Fin cfg0.N, win0_7.index t = ![0, 0] := by decide +kernel
theorem index8 : ∀ t : Fin cfg0.N, win0_8.index t = ![0, 0] := by decide +kernel
theorem index9 : ∀ t : Fin cfg0.N, win0_9.index t = ![0, 0] := by decide +kernel
theorem index10 : ∀ t : Fin cfg0.N, win0_10.index t = ![0, 0] := by decide +kernel
theorem index11 : ∀ t : Fin cfg0.N, win0_11.index t = ![t.val, 0] := by decide +kernel
theorem index12 : ∀ t : Fin cfg0.N, win0_12.index t = ![0, t.val] := by decide +kernel
theorem point_lt (t : Fin cfg0.N) : t.val < 32 := t.isLt

/-- The stream at a point. -/
theorem at_stream (t : Fin cfg0.N) (r : Fin 512) (k : Fin 1024) :
    (iblk m c 0 t : Vec Ideal S512x1024 .f32) (ix2 r k) = (V m c main_v0 : Vec Ideal S16384x1024 .f32) (ix2 ⟨t.val * 512 + r.val, by have := point_lt t; omega⟩ k) := by
  blk_ext [iblk, index0 t]

/-- The S5 output at a point. -/
theorem at_ssm (t : Fin cfg0.N) (r : Fin 512) (k : Fin 512) :
    (iblk m c 1 t : Vec Ideal S512x512 .f32) (ix2 r k) = (V m c main_v1 : Vec Ideal S16384x512 .f32) (ix2 ⟨t.val * 512 + r.val, by have := point_lt t; omega⟩ k) := by
  blk_ext [iblk, index1 t]

/-- The S5 input at a point. -/
theorem at_input (t : Fin cfg0.N) (r : Fin 512) (k : Fin 512) :
    (iblk m c 2 t : Vec Ideal S512x512 .f32) (ix2 r k) = (V m c main_v2 : Vec Ideal S16384x512 .f32) (ix2 ⟨t.val * 512 + r.val, by have := point_lt t; omega⟩ k) := by
  blk_ext [iblk, index2 t]

/-- The attention output at a point. -/
theorem at_attention (t : Fin cfg0.N) (r : Fin 512) (k : Fin 512) :
    (iblk m c 3 t : Vec Ideal S512x512 .f32) (ix2 r k) = (V m c main_v3 : Vec Ideal S16384x512 .f32) (ix2 ⟨t.val * 512 + r.val, by have := point_lt t; omega⟩ k) := by
  blk_ext [iblk, index3 t]

/-- The skip at a point. -/
theorem at_skip (t : Fin cfg0.N) (k : Fin 512) :
    (iblk m c 4 t : Vec Ideal S1x512 .f32) (ix2 0 k) = (V m c main_v4 : Vec Ideal S1x512 .f32) (ix2 0 k) := by
  blk_ext [iblk, index4 t]

/-- The gate's matrix at a point. -/
theorem at_gate (t : Fin cfg0.N) (k l : Fin 512) :
    (iblk m c 5 t : Vec Ideal S512x512 .bf16) (ix2 k l) = (V m c main_v5 : Vec Ideal S512x512 .bf16) (ix2 k l) := by
  blk_ext [iblk, index5 t]

/-- The gate's bias at a point. -/
theorem at_bias (t : Fin cfg0.N) (k : Fin 512) :
    (iblk m c 6 t : Vec Ideal S1x512 .f32) (ix2 0 k) = (V m c main_v6 : Vec Ideal S1x512 .f32) (ix2 0 k) := by
  blk_ext [iblk, index6 t]

/-- The S5 gains at a point. -/
theorem at_ssm_gains (t : Fin cfg0.N) (k : Fin 512) :
    (iblk m c 7 t : Vec Ideal S1x512 .f32) (ix2 0 k) = (V m c main_v7 : Vec Ideal S1x512 .f32) (ix2 0 k) := by
  blk_ext [iblk, index7 t]

/-- The attention gains at a point. -/
theorem at_attention_gains (t : Fin cfg0.N) (k : Fin 512) :
    (iblk m c 8 t : Vec Ideal S1x512 .f32) (ix2 0 k) = (V m c main_v8 : Vec Ideal S1x512 .f32) (ix2 0 k) := by
  blk_ext [iblk, index8 t]

/-- The projection's matrix at a point. -/
theorem at_matrix (t : Fin cfg0.N) (k l : Fin 1024) :
    (iblk m c 9 t : Vec Ideal S1024x1024 .bf16) (ix2 k l) = (V m c main_v9 : Vec Ideal S1024x1024 .bf16) (ix2 k l) := by
  blk_ext [iblk, index9 t]

/-- The next gains at a point. -/
theorem at_next_gains (t : Fin cfg0.N) (k : Fin 1024) :
    (iblk m c 10 t : Vec Ideal S1x1024 .f32) (ix2 0 k) = (V m c main_v10 : Vec Ideal S1x1024 .f32) (ix2 0 k) := by
  blk_ext [iblk, index10 t]

/-! ## The results -/

/-- The stream after the projection at one of the 16384 rows. -/
def outRow (w : Fin 16384) : Fin 1024 → EReal :=
  stream (inX m c) (inY m c) (inU m c) (inA m c) (inD m c) (inWg m c) (inBg m c) (inGs m c) (inGa m c) (inWo m c) ⟨w.val / 8192, by omega⟩ ⟨w.val % 8192, by omega⟩

/-- The first result. -/
def outX (i : S16384x1024.Idx) : EReal := outRow m c (i 0) (i 1)

/-- The second result: the first one's rows normalised. -/
def outN (i : S16384x1024.Idx) : EReal := rms (outRow m c (i 0)) (fun k => inGf m c (ix1 k)) (i 1)

/-- One row of a point's block is a row of the first result. -/
theorem point_row (t : Fin cfg0.N) (r : Fin 512) :
    rowOut (iblk m c 0 t) (iblk m c 1 t) (iblk m c 2 t) (iblk m c 3 t) (iblk m c 4 t) (iblk m c 5 t) (iblk m c 6 t) (iblk m c 7 t) (iblk m c 8 t) (iblk m c 9 t) r = outRow m c ⟨t.val * 512 + r.val, by have := point_lt t; omega⟩ := by
  unfold rowOut outRow stream
  have h0 : ∀ k, (iblk m c 0 t : Vec Ideal S512x1024 .f32) (ix2 r k) = _ := fun k => (at_stream m c t r k).trans (entry_stream m c _ k)
  have h1 : ∀ k, (iblk m c 1 t : Vec Ideal S512x512 .f32) (ix2 r k) = _ := fun k => (at_ssm m c t r k).trans (entry_ssm m c _ k)
  have h2 : ∀ k, (iblk m c 2 t : Vec Ideal S512x512 .f32) (ix2 r k) = _ := fun k => (at_input m c t r k).trans (entry_input m c _ k)
  have h3 : ∀ k, (iblk m c 3 t : Vec Ideal S512x512 .f32) (ix2 r k) = _ := fun k => (at_attention m c t r k).trans (entry_attention m c _ k)
  have h4 : ∀ k, (iblk m c 4 t : Vec Ideal S1x512 .f32) (ix2 0 k) = _ := fun k => (at_skip m c t k).trans (entry_skip m c k)
  have h5 : ∀ k l, (iblk m c 5 t : Vec Ideal S512x512 .bf16) (ix2 k l) = _ := fun k l => (at_gate m c t k l).trans (entry_gate m c k l)
  have h6 : ∀ k, (iblk m c 6 t : Vec Ideal S1x512 .f32) (ix2 0 k) = _ := fun k => (at_bias m c t k).trans (entry_bias m c k)
  have h7 : ∀ k, (iblk m c 7 t : Vec Ideal S1x512 .f32) (ix2 0 k) = _ := fun k => (at_ssm_gains m c t k).trans (entry_ssm_gains m c k)
  have h8 : ∀ k, (iblk m c 8 t : Vec Ideal S1x512 .f32) (ix2 0 k) = _ := fun k => (at_attention_gains m c t k).trans (entry_attention_gains m c k)
  have h9 : ∀ k l, (iblk m c 9 t : Vec Ideal S1024x1024 .bf16) (ix2 k l) = _ := fun k l => (at_matrix m c t k l).trans (entry_matrix m c k l)
  rw [funext h0, funext h1, funext h2, funext h3, funext h4, funext fun k => funext (h5 k), funext h6, funext h7, funext h8, funext fun k => funext (h9 k)]

/-- The first result's array after the run. -/
theorem array_stream : (dats m 0 c).arrAt 11 cfg0.N = outX m c := by
  refine (dats m 0 c).arrAt_eq_of_covers 11 _ (by decide +kernel) fun t hf y => ?_
  blk_simp
  rw [after0_11]
  obtain ⟨r, n, rfl⟩ : ∃ (r : Fin 512) (n : Fin 1024), y = ix2 r n := ⟨y 0, y 1, eq_ix2 y⟩
  refine (block_stream _ _ _ _ _ _ _ _ _ _ _ r n).trans ?_
  rw [point_row m c t r]
  have e0 : ((((cfg0.win 11).blk t).view.emb (ix2 r n)) 0 : ℕ) = t.val * 512 + r.val := by
    blk_simp [index11 t]
  have e1 : ((((cfg0.win 11).blk t).view.emb (ix2 r n)) 1 : ℕ) = n.val := by
    blk_simp [index11 t]
  exact congrArg₂ (outRow m c) (Fin.ext e0.symm) (Fin.ext e1.symm)

/-- The second result's array after the run, which lies transposed. -/
theorem array_next : (dats m 0 c).arrAt 12 cfg0.N = (fun i : S1024x16384.Idx => outN m c (ix2 (i 1) (i 0))) := by
  refine (dats m 0 c).arrAt_eq_of_covers 12 _ (by decide +kernel) fun t hf y => ?_
  blk_simp
  rw [after0_12]
  obtain ⟨n, r, rfl⟩ : ∃ (n : Fin 1024) (r : Fin 512), y = ix2 n r := ⟨y 0, y 1, eq_ix2 y⟩
  refine (block_next _ _ _ _ _ _ _ _ _ _ _ n r).trans ?_
  rw [point_row m c t r]
  have h : ∀ k, (iblk m c 10 t : Vec Ideal S1x1024 .f32) (ix2 0 k) = _ := fun k => (at_next_gains m c t k).trans (entry_next_gains m c k)
  rw [funext h]
  have e0 : ((((cfg0.win 12).blk t).view.emb (ix2 n r)) 0 : ℕ) = n.val := by
    blk_simp [index12 t]
  have e1 : ((((cfg0.win 12).blk t).view.emb (ix2 n r)) 1 : ℕ) = t.val * 512 + r.val := by
    blk_simp [index12 t]
  exact congrArg₂ (fun (w : Fin 16384) (j : Fin 1024) => rms (outRow m c w) (fun k => inGf m c (ix1 k)) j) (Fin.ext e1.symm) (Fin.ext e0.symm)

/-- The host lines after the call turn the second array over. -/
theorem tail_next : Pipeline.afterTail₀ cfgs (dats m) 0 (V0 m) [hostOps1] c main_v13 = outN m c := by
  have h : Pipeline.withArrays (cfgs 0).spec c (V0 m c) (fun w => (dats m 0 c).arrAt w (cfgs 0).N) (Proc.devRef .tc main_v11_1)
      = (fun i : S1024x16384.Idx => outN m c (ix2 (i 1) (i 0))) :=
    (Pipeline.withArrays_arr (cfgs 0).spec (by decide) c (V0 m c) (fun w => (dats m 0 c).arrAt w (cfgs 0).N) 12).trans (array_next m c)
  unfold Pipeline.afterTail₀
  simp only [hostOps1, List.flatten_cons, List.flatten_nil, List.append_nil, List.cons_append, List.nil_append]
  after_results_simp
  rw [h]
  funext i
  rw [eq_ix2 i]
  pointwise

/-- The program ends with both results in place and its arguments as they were. -/
theorem run_mixed (ρ : Dev nD → PrngReg) : θ_run (defs (F := Ideal)) (onTc (τ := τ) (main (F := Ideal))) ⟨m, fun _ => 0, ρ⟩ (fun r => ∀ c : Dev nD,
    r.2.mem ((c.tc : Thread nD τ).loc main_v11_0) = outX m c ∧ r.2.mem ((c.tc : Thread nD τ).loc main_v13) = outN m c) :=
  (θ_run defs _ _).mono (fun r h c => ⟨((h c).1 11).trans (array_stream m c),
    ((h c).2 main_v13 (Pipeline.mem_restRefs_of main_v13 (by decide) (by decide))).trans (tail_next m c)⟩) (run_main m ρ)

end Cert.Mix

end
-- ==== Proof.MixRefer.lean ====
/- The reference's middle lines read at an index: they compute the formulas of `Mix.lean`. -/
module

public import proofs.«01_k».proof.Proof.Mix
public import proofs.«01_k».proof.Proof.Gen.Reference3Ideal.Read

@[expose] public section

set_option maxRecDepth 16384

noncomputable section

namespace Cert.Mix

open Cert.Reference3Ideal Cert.Reference3Ideal.Gen Cert.Reference3Ideal.Read Cert.Norm
open Idealize.ShloMosaic Idealize.ShloMosaic.TcCoe Idealize.SL.Sem

variable (x0 : Vec Ideal S2x8192x1024 .f32) (x1 x2 x3 : Vec Ideal S2x8192x512 .f32) (x4 : Vec Ideal S512 .f32) (x5 : Vec Ideal S512x512 .f32)
  (x6 x7 x8 : Vec Ideal S512 .f32) (x9 : Vec Ideal S1024x1024 .f32) (x10 : Vec Ideal S1024 .f32)

/-- The reference's S5 row after the skip and the rectifier. -/
theorem ref_active (b : Fin 2) (s : Fin 8192) (j : Fin 512) :
    val_main_v16 (F := Ideal) x1 x2 x4 (ix3 b s j) = active (fun k => x1 (ix3 b s k)) (fun k => x2 (ix3 b s k)) (fun k => x4 (ix1 k)) j := by
  pointwise [val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  rfl

/-- The reference's S5 row after the gate. -/
theorem ref_glu (b : Fin 2) (s : Fin 8192) (j : Fin 512) :
    val_main_v27 (F := Ideal) x1 x2 x4 x5 x6 (ix3 b s j) = glu (fun k => x1 (ix3 b s k)) (fun k => x2 (ix3 b s k)) (fun k => x4 (ix1 k)) (fun k l => x5 (ix2 k l)) (fun k => x6 (ix1 k)) j := by
  have h : val_main_v16 (F := Ideal) x1 x2 x4 = fun i => active (fun k => x1 (ix3 (i 0) (i 1) k)) (fun k => x2 (ix3 (i 0) (i 1) k)) (fun k => x4 (ix1 k)) (i 2) :=
    funext fun i => by rw [eq_ix3 i]; exact ref_active x1 x2 x4 _ _ _
  pointwise [val_main_v27, val_main_v26, val_main_v25, val_main_v24, val_main_v23, val_main_v22, val_main_v21, val_main_v20, val_main_v19, val_main_v18, val_main_v17, val_main_cst_3, val_main_cst_4]
  rw [h]
  rfl

/-- The reference's normalised S5 row. -/
theorem ref_first (b : Fin 2) (s : Fin 8192) (j : Fin 512) :
    val_main_v40 (F := Ideal) x1 x2 x4 x5 x6 x7 (ix3 b s j) = rms (glu (fun k => x1 (ix3 b s k)) (fun k => x2 (ix3 b s k)) (fun k => x4 (ix1 k)) (fun k l => x5 (ix2 k l)) (fun k => x6 (ix1 k))) (fun k => x7 (ix1 k)) j := by
  have h : val_main_v27 (F := Ideal) x1 x2 x4 x5 x6 = fun i => glu (fun k => x1 (ix3 (i 0) (i 1) k)) (fun k => x2 (ix3 (i 0) (i 1) k)) (fun k => x4 (ix1 k)) (fun k l => x5 (ix2 k l)) (fun k => x6 (ix1 k)) (i 2) :=
    funext fun i => by rw [eq_ix3 i]; exact ref_glu x1 x2 x4 x5 x6 _ _ _
  pointwise [val_main_v40, val_main_v39, val_main_v38, val_main_v37, val_main_v36, val_main_v35, val_main_v34, val_main_v33, val_main_v32, val_main_v31, val_main_v30, val_main_v29, val_main_v28, val_main_cst_5, val_main_cst_6, val_main_cst_7]
  rw [half_f32, h]
  rfl

/-- The reference's normalised attention row. -/
theorem ref_second (b : Fin 2) (s : Fin 8192) (j : Fin 512) :
    val_main_v53 (F := Ideal) x3 x8 (ix3 b s j) = rms (fun k => x3 (ix3 b s k)) (fun k => x8 (ix1 k)) j := by
  pointwise [val_main_v53, val_main_v52, val_main_v51, val_main_v50, val_main_v49, val_main_v48, val_main_v47, val_main_v46, val_main_v45, val_main_v44, val_main_v43, val_main_v42, val_main_v41, val_main_cst_8, val_main_cst_9, val_main_cst_10]
  rw [half_f32]
  rfl

/-- The reference's stream after the projection. -/
theorem ref_mixed (b : Fin 2) (s : Fin 8192) (j : Fin 1024) :
    val_main_v56 (F := Ideal) x0 x1 x2 x3 x4 x5 x6 x7 x8 x9 (ix3 b s j) = stream x0 x1 x2 x3 x4 x5 x6 x7 x8 x9 b s j := by
  have h1 : val_main_v40 (F := Ideal) x1 x2 x4 x5 x6 x7 = fun i => rms (glu (fun k => x1 (ix3 (i 0) (i 1) k)) (fun k => x2 (ix3 (i 0) (i 1) k)) (fun k => x4 (ix1 k)) (fun k l => x5 (ix2 k l)) (fun k => x6 (ix1 k))) (fun k => x7 (ix1 k)) (i 2) :=
    funext fun i => by rw [eq_ix3 i]; exact ref_first x1 x2 x4 x5 x6 x7 _ _ _
  have h2 : val_main_v53 (F := Ideal) x3 x8 = fun i => rms (fun k => x3 (ix3 (i 0) (i 1) k)) (fun k => x8 (ix1 k)) (i 2) :=
    funext fun i => by rw [eq_ix3 i]; exact ref_second x3 x8 _ _ _
  pointwise [val_main_v56, val_main_v55, val_main_v54]
  rw [h1, h2]
  rfl

/-- The reference's first result. -/
theorem ref_stream (w : Fin 16384) (j : Fin 1024) :
    val_main_v70 (F := Ideal) x0 x1 x2 x3 x4 x5 x6 x7 x8 x9 (ix2 w j)
      = stream x0 x1 x2 x3 x4 x5 x6 x7 x8 x9 ⟨w.val / 8192, by omega⟩ ⟨w.val % 8192, by omega⟩ j := by
  have h : val_main_v56 (F := Ideal) x0 x1 x2 x3 x4 x5 x6 x7 x8 x9 = fun i => stream x0 x1 x2 x3 x4 x5 x6 x7 x8 x9 (i 0) (i 1) (i 2) :=
    funext fun i => by rw [eq_ix3 i]; exact ref_mixed x0 x1 x2 x3 x4 x5 x6 x7 x8 x9 _ _ _
  pointwise [val_main_v70]
  rw [h]
  rfl

/-- The reference's second result. -/
theorem ref_next (w : Fin 16384) (j : Fin 1024) :
    val_main_v71 (F := Ideal) x0 x1 x2 x3 x4 x5 x6 x7 x8 x9 x10 (ix2 w j)
      = rms (stream x0 x1 x2 x3 x4 x5 x6 x7 x8 x9 ⟨w.val / 8192, by omega⟩ ⟨w.val % 8192, by omega⟩) (fun k => x10 (ix1 k)) j := by
  have h : val_main_v56 (F := Ideal) x0 x1 x2 x3 x4 x5 x6 x7 x8 x9 = fun i => stream x0 x1 x2 x3 x4 x5 x6 x7 x8 x9 (i 0) (i 1) (i 2) :=
    funext fun i => by rw [eq_ix3 i]; exact ref_mixed x0 x1 x2 x3 x4 x5 x6 x7 x8 x9 _ _ _
  pointwise [val_main_v71, val_main_v69, val_main_v68, val_main_v67, val_main_v66, val_main_v65, val_main_v64, val_main_v63, val_main_v62, val_main_v61, val_main_v60, val_main_v59, val_main_v58, val_main_v57, val_main_cst_11, val_main_cst_12, val_main_cst_13]
  rw [wide_f32, h]
  rfl

end Cert.Mix

end
-- ==== Proof.MixClaims.lean ====
/- The claims about the output projection: the frame of the reference's middle lines and the equality of both results. -/
module

public import proofs.«01_k».proof.Defs
public import proofs.«01_k».proof.Proof.MixResult
public import proofs.«01_k».proof.Proof.MixRefer
public import proofs.«01_k».proof.Proof.Gen.Reference3Ideal.Run
public import Idealize.ShloMosaic.Lib.Claim
public import Idealize.ShloMosaic.Lib.Quiescent

@[expose] public section

set_option maxRecDepth 16384

noncomputable section

namespace Cert.Mix

open Idealize.ShloMosaic Idealize.ShloMosaic.TcCoe Idealize.ShloMosaic.Tactic
open Idealize.SL.Sem

/-- The reference's middle lines leave their arguments as they were and every semaphore at zero. -/
theorem frame_reference : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

/-- The two programs end with the same two results. -/
theorem results_equal : Cert.algebraic_Kernel3Ideal_Reference3Ideal := by
  intro m g m' g' _ hagree
  refine ⟨fun c => outX m c, fun c => outN m c, (θ_run Cert.Kernel3Ideal.defs _ _).mono (fun r h c => ⟨(h.1 c).1, (h.1 c).2, h.2 c⟩)
    (θ_run_and (run_mixed m g) (Cert.Kernel3Ideal.Gen.unchanged m g)), ?_⟩
  refine (θ_run Cert.Reference3Ideal.defs _ _).mono (fun r h c => ⟨(h c).1.trans ?_, (h c).2.1.trans ?_, (h c).2.2⟩)
    (Cert.Reference3Ideal.Value.run (F := Ideal) m' g')
  · obtain ⟨a0, a1, a2, a3, a4, a5, a6, a7, a8, a9, a10⟩ := hagree c
    refine (Cert.Reference3Ideal.Read.val_main_v70_eq (F := Ideal) m' c).trans ?_
    rw [a0, a1, a2, a3, a4, a5, a6, a7, a8, a9]
    funext i
    obtain ⟨w, j, rfl⟩ : ∃ (w : Fin 16384) (j : Fin 1024), i = ix2 w j := ⟨i 0, i 1, eq_ix2 i⟩
    exact ref_stream (inX m c) (inY m c) (inU m c) (inA m c) (inD m c) (inWg m c) (inBg m c) (inGs m c) (inGa m c) (inWo m c) w j
  · obtain ⟨a0, a1, a2, a3, a4, a5, a6, a7, a8, a9, a10⟩ := hagree c
    refine (Cert.Reference3Ideal.Read.val_main_v71_eq (F := Ideal) m' c).trans ?_
    rw [a0, a1, a2, a3, a4, a5, a6, a7, a8, a9, a10]
    funext i
    obtain ⟨w, j, rfl⟩ : ∃ (w : Fin 16384) (j : Fin 1024), i = ix2 w j := ⟨i 0, i 1, eq_ix2 i⟩
    exact ref_next (inX m c) (inY m c) (inU m c) (inA m c) (inD m c) (inWg m c) (inBg m c) (inGs m c) (inGa m c) (inWo m c) (inGf m c) w j

end Cert.Mix

end
-- ==== Proof.Proj.lean ====
/- The input projection over the extended reals: the projected rows, the head norms and the axial rotation. -/
module

public import proofs.«01_k».proof.Proof.Norm

@[expose] public section

noncomputable section

namespace Cert.Proj

open Idealize.ShloMosaic Cert.Norm

/-- The word for 64. -/
theorem head_f32 : Ideal.ofBits .f32 0x42800000#32 = ((64 : ℝ) : EReal) := by
  simp [Ideal.ofBits, Ideal.ieee, -EReal.coe_mul]; norm_num

/-- The word for one sixty-fourth. -/
theorem share_f32 : Ideal.ofBits .f32 0x3C800000#32 = ((1 / 64 : ℝ) : EReal) := by
  simp [Ideal.ofBits, Ideal.ieee, -EReal.coe_mul]; norm_num

/-- The word for one. -/
theorem one_f32 : Ideal.ofBits .f32 0x3F800000#32 = ((1 : ℝ) : EReal) := by
  simp [Ideal.ofBits, Ideal.ieee, -EReal.coe_mul]; norm_num

/-- The scale that the queries carry: a positive number. -/
theorem scale_f32 : ∃ r : ℝ, r ≠ 0 ∧ Ideal.ofBits .f32 0x3E38AA3B#32 = (r : EReal) := by
  refine ⟨12102203 / 2 ^ 26, by norm_num, ?_⟩
  simp [Ideal.ofBits, Ideal.ieee, -EReal.coe_mul]; norm_num

/-- A number divided by the scale that it was multiplied with. -/
theorem unscale (x : EReal) : Ideal.div (x * Ideal.ofBits .f32 0x3E38AA3B#32) (Ideal.ofBits .f32 0x3E38AA3B#32) = x := by
  obtain ⟨r, hr, h⟩ := scale_f32
  rw [h, Ideal.div_coe hr, mul_assoc, ← EReal.coe_mul, mul_one_div_cancel hr, EReal.coe_one, mul_one]

/-- The rotation's frequency number `f`: ten thousand to the power of minus a sixteenth of `f`. -/
def freq (f : ℕ) : EReal :=
  Ideal.pow (Ideal.ofBits .f32 0x461C4000#32) (Ideal.div (-(FloatOps.sitofp (F := Ideal) .f32 (BitVec.ofNat 32 f))) (Ideal.ofBits .f32 0x41800000#32))

/-- The angle of a position at a frequency. -/
def angleAt (p f : ℕ) : EReal := FloatOps.sitofp (F := Ideal) .f32 (BitVec.ofNat 32 p) * freq f

/-- The angle at row `s` of a head's coordinate `e`: the first half of the head turns with the position's row in the grid, the
    second with its column. -/
def angle (s e : ℕ) : EReal := angleAt (if e < 32 then s / 64 else s % 64) (e % 16)

/-- Coordinate `e` of a head at row `s` after the axial rotation: the coordinates sixteen apart in each half are turned. -/
def turn (x : Fin 64 → EReal) (s : ℕ) (e : Fin 64) : EReal :=
  if h : e.val % 32 < 16 then x e * Ideal.cos (angle s e.val) - x ⟨e.val + 16, by omega⟩ * Ideal.sin (angle s e.val)
  else x e * Ideal.cos (angle s e.val) + x ⟨e.val - 16, by omega⟩ * Ideal.sin (angle s e.val)

/-- The 64 numbers of a row from place `o` on. -/
def head {n : ℕ} (z : Fin n → EReal) (o : ℕ) (h : o + 64 ≤ n) (e : Fin 64) : EReal := z ⟨o + e.val, by omega⟩

/-- A row of the projection: the normalised row `x` times the matrix `w`. -/
def projected (x : Shape.Idx ⟨3, ![2, 8192, 1024]⟩ → EReal) (g : Shape.Idx ⟨1, ![1024]⟩ → EReal)
    (w : Shape.Idx ⟨2, ![1024, 1280]⟩ → EReal) (b : Fin 2) (s : Fin 8192) (j : Fin 1280) : EReal :=
  ∑ k, rms (fun k => x (ix3 b s k)) (fun k => g (ix1 k)) k * w (ix2 k j)

/-- The head of the projected row that starts at place `o`, normalised and rotated. -/
def rotated (z : Fin 1280 → EReal) (g : Shape.Idx ⟨1, ![64]⟩ → EReal) (s o : ℕ) (h : o + 64 ≤ 1280) (e : Fin 64) : EReal :=
  turn (rms (head z o h) (fun k => g (ix1 k))) s e

/-- The rotation at the first sixteen coordinates of a half, the angle given by its position and frequency. -/
theorem turn_low (x : Fin 64 → EReal) (s : ℕ) (e a b : Fin 64) (p f : ℕ) (h : e.val % 32 < 16) (ha : a.val = e.val) (hb : b.val = e.val + 16)
    (hp : p = if e.val < 32 then s / 64 else s % 64) (hf : f = e.val % 16) :
    x a * Ideal.cos (angleAt p f) - x b * Ideal.sin (angleAt p f) = turn x s e := by
  subst hp hf
  unfold turn
  rw [dif_pos h, show a = e from Fin.ext ha, show b = ⟨e.val + 16, by omega⟩ from Fin.ext hb]
  rfl

/-- The rotation at the last sixteen coordinates of a half. -/
theorem turn_high (x : Fin 64 → EReal) (s : ℕ) (e a b : Fin 64) (p f : ℕ) (h : ¬ e.val % 32 < 16) (ha : a.val = e.val) (hb : b.val = e.val - 16)
    (hp : p = if e.val < 32 then s / 64 else s % 64) (hf : f = e.val % 16) :
    x a * Ideal.cos (angleAt p f) + x b * Ideal.sin (angleAt p f) = turn x s e := by
  subst hp hf
  unfold turn
  rw [dif_neg h, show a = e from Fin.ext ha, show b = ⟨e.val - 16, by omega⟩ from Fin.ext hb]
  rfl

/-! ## The lanes of several heads side by side -/

/-- A sum over all lanes that keeps the lanes of one head. -/
theorem sum_lanes {n : ℕ} (f : Fin n → EReal) (j : Fin n) (h : 64 * (j.val / 64) + 64 ≤ n) :
    ∑ l, f l * (if l.val / 64 = j.val / 64 then (1 : EReal) else 0) = ∑ e, head f (64 * (j.val / 64)) h e := by
  simp only [mul_ite, mul_one, mul_zero]
  rw [← Finset.sum_filter]
  symm
  refine Finset.sum_bij (fun e _ => ⟨64 * (j.val / 64) + e.val, by omega⟩) (fun e _ => ?_) (fun a _ b _ hab => ?_) (fun l hl => ?_) (fun e _ => rfl)
  · simp only [Finset.mem_filter, Finset.mem_univ, true_and]
    omega
  · have := congrArg Fin.val hab
    simp only at this
    exact Fin.ext (by omega)
  · simp only [Finset.mem_filter, Finset.mem_univ, true_and] at hl
    exact ⟨⟨l.val % 64, by omega⟩, Finset.mem_univ _, Fin.ext (by simp only; omega)⟩

/-- The norm of the lanes, by the matrix that sums each head's lanes, is the head's norm. -/
theorem norm_lanes {n : ℕ} (t g : Fin n → EReal) (m : Fin n → Fin n → EReal) (g0 : Fin 64 → EReal)
    (hm : ∀ l j : Fin n, m l j = if l.val / 64 = j.val / 64 then 1 else 0) (hg : ∀ j : Fin n, g j = g0 ⟨j.val % 64, by omega⟩)
    (j : Fin n) (h : 64 * (j.val / 64) + 64 ≤ n) (j' : Fin n) (e : Fin 64) (hj : j'.val = 64 * (j.val / 64) + e.val) :
    t j' * Ideal.rsqrt ((∑ l, t l * t l * m l j') * Ideal.ofBits .f32 0x3C800000#32 + Ideal.ofBits .f32 0x358637BD#32) * g j'
      = rms (head t (64 * (j.val / 64)) h) g0 e := by
  have hd : j'.val / 64 = j.val / 64 := by omega
  have hs : ∑ l, t l * t l * m l j' = ∑ e, head t (64 * (j.val / 64)) h e * head t (64 * (j.val / 64)) h e := by
    simp only [hm, hd]
    exact sum_lanes (fun l => t l * t l) j h
  rw [hs, hg, share_f32]
  unfold rms
  rw [show ((64 : ℕ) : ℝ) = (64 : ℝ) by norm_num, Ideal.div_coe (by norm_num : (64 : ℝ) ≠ 0)]
  rw [show (⟨j'.val % 64, by omega⟩ : Fin 64) = e from Fin.ext (by simp only; omega)]
  rw [show t j' = head t (64 * (j.val / 64)) h e from congrArg t (Fin.ext hj)]
  rfl

/-- The rotation of the lanes, by the tables with the sine's sign in them, is the head's rotation. -/
theorem turn_lanes (x : Fin 64 → EReal) (s : ℕ) (e : Fin 64) (t c si up down : EReal) (ht : t = x e) (hc : c = Ideal.cos (angle s e.val))
    (hs : si = if e.val % 32 < 16 then -Ideal.sin (angle s e.val) else Ideal.sin (angle s e.val))
    (hu : ∀ h : e.val % 32 < 16, up = x ⟨e.val + 16, by omega⟩) (hd : ∀ h : ¬ e.val % 32 < 16, down = x ⟨e.val - 16, by omega⟩) :
    t * c + (if e.val % 32 < 16 then up else down) * si = turn x s e := by
  unfold turn
  subst ht hc hs
  by_cases h : e.val % 32 < 16
  · rw [if_pos h, if_pos h, dif_pos h, hu h, mul_neg, sub_eq_add_neg]
  · rw [if_neg h, if_neg h, dif_neg h, hd h]

end Cert.Proj

end
-- ==== Proof.ProjBlock.lean ====
/- The input projection: what the program's body computes at one grid point. -/
module

public import proofs.«01_k».proof.Proof.Proj
public import proofs.«01_k».proof.Proof.Gen.Kernel4Ideal.Frame
public import Idealize.ShloMosaic.Lib.Pipeline.Value
public import Idealize.ShloMosaic.Lib.Pointwise
public import Idealize.ShloMosaic.Lib.Claim

@[expose] public section

set_option maxRecDepth 16384

noncomputable section

namespace Cert.Proj

open Cert.Kernel4Ideal Cert.Kernel4Ideal.Gen Cert.Norm
open Idealize.ShloMosaic Idealize.ShloMosaic.TcCoe Idealize.ShloMosaic.Tactic
open Idealize.SL.Sem

theorem zeros2 : (![0, 0] : Fin 2 → ℕ) = fun _ => 0 := by decide

/-- A row of the projection from the blocks that a grid point loads. -/
def rowZ (x0 : Vec Ideal S512x1024 .f32) (x1 : Vec Ideal S1x1024 .f32) (x2 : Vec Ideal S1024x1280 .bf16) (r : Fin 512) (j : Fin 1280) : EReal :=
  ∑ k, rms (fun k => x0 (ix2 r k)) (fun k => x1 (ix2 0 k)) k * x2 (ix2 k j)

/-- The projection's payload. -/
theorem projected_apply (x0 : Vec Ideal S512x1024 .f32) (x1 : Vec Ideal S1x1024 .f32) (x2 : Vec Ideal S1024x1280 .bf16) (r : Fin 512) (j : Fin 1280) :
    k0_pay6 x0 x1 x2 (ix2 r j) = rowZ x0 x1 x2 r j := by
  pointwise [k0_pay6]
  rw [wide_f32]
  rfl

/-- The S5 input's payload is the projection's first 512 columns. -/
theorem input_apply (x0 : Vec Ideal S512x1024 .f32) (x1 : Vec Ideal S1x1024 .f32) (x2 : Vec Ideal S1024x1280 .bf16) (r j : Fin 512) :
    k0_pay7 x0 x1 x2 (ix2 r j) = rowZ x0 x1 x2 r ⟨j.val, by omega⟩ := by
  pointwise [k0_pay7]
  exact projected_apply x0 x1 x2 r ⟨j.val, by omega⟩

/-- The queries' lanes are the projection's next 512 columns. -/
theorem query_apply (x0 : Vec Ideal S512x1024 .f32) (x1 : Vec Ideal S1x1024 .f32) (x2 : Vec Ideal S1024x1280 .bf16) (r j : Fin 512) :
    k0_pay11 x0 x1 x2 (ix2 r j) = rowZ x0 x1 x2 r ⟨512 + j.val, by omega⟩ := by
  pointwise [k0_pay11]
  exact projected_apply x0 x1 x2 r ⟨512 + j.val, by omega⟩

/-- The program's bit for the low sixteen of every 32 lanes, at each of the 512 lanes. -/
theorem lanes_low_fin : ∀ j : Fin 512, (IntOp.cmpi CmpIPredicate.slt
      (Scalar.select
        (IntOp.andi
          (IntOp.xori
            (IntOp.cmpi CmpIPredicate.slt
              (IntOp.remsi ArithUnit.vector (BitVec.ofNat 32 j.val) (Scalar.select (Scalar.cmpi CmpIPredicate.eq 32#32 0#32) 1#32 32#32)) 0#32)
            (Scalar.cmpi CmpIPredicate.slt (Scalar.select (Scalar.cmpi CmpIPredicate.eq 32#32 0#32) 1#32 32#32) 0#32))
          (IntOp.cmpi CmpIPredicate.ne
            (IntOp.remsi ArithUnit.vector (BitVec.ofNat 32 j.val) (Scalar.select (Scalar.cmpi CmpIPredicate.eq 32#32 0#32) 1#32 32#32)) 0#32))
        (IntOp.addi (IntOp.remsi ArithUnit.vector (BitVec.ofNat 32 j.val) (Scalar.select (Scalar.cmpi CmpIPredicate.eq 32#32 0#32) 1#32 32#32))
          (Scalar.select (Scalar.cmpi CmpIPredicate.eq 32#32 0#32) 1#32 32#32))
        (IntOp.remsi ArithUnit.vector (BitVec.ofNat 32 j.val) (Scalar.select (Scalar.cmpi CmpIPredicate.eq 32#32 0#32) 1#32 32#32)))
      16#32) = if j.val % 64 % 32 < 16 then 1#1 else 0#1 := by
  decide +kernel

/-- The same at a lane given by its number. -/
theorem lanes_low (j : ℕ) (h : j < 512) : (IntOp.cmpi CmpIPredicate.slt
      (Scalar.select
        (IntOp.andi
          (IntOp.xori
            (IntOp.cmpi CmpIPredicate.slt
              (IntOp.remsi ArithUnit.vector (BitVec.ofNat 32 j) (Scalar.select (Scalar.cmpi CmpIPredicate.eq 32#32 0#32) 1#32 32#32)) 0#32)
            (Scalar.cmpi CmpIPredicate.slt (Scalar.select (Scalar.cmpi CmpIPredicate.eq 32#32 0#32) 1#32 32#32) 0#32))
          (IntOp.cmpi CmpIPredicate.ne
            (IntOp.remsi ArithUnit.vector (BitVec.ofNat 32 j) (Scalar.select (Scalar.cmpi CmpIPredicate.eq 32#32 0#32) 1#32 32#32)) 0#32))
        (IntOp.addi (IntOp.remsi ArithUnit.vector (BitVec.ofNat 32 j) (Scalar.select (Scalar.cmpi CmpIPredicate.eq 32#32 0#32) 1#32 32#32))
          (Scalar.select (Scalar.cmpi CmpIPredicate.eq 32#32 0#32) 1#32 32#32))
        (IntOp.remsi ArithUnit.vector (BitVec.ofNat 32 j) (Scalar.select (Scalar.cmpi CmpIPredicate.eq 32#32 0#32) 1#32 32#32)))
      16#32) = if j % 64 % 32 < 16 then 1#1 else 0#1 :=
  lanes_low_fin ⟨j, h⟩

/-- A choice by a bit that a condition sets. -/
theorem select_bit (p : Prop) [Decidable p] (a b : EReal) : Scalar.select (if p then 1#1 else 0#1) a b = if p then a else b := by
  by_cases h : p <;> simp [Scalar.select, h]

/-- The tables, the gains and the summing matrix pass unchanged. -/
theorem pass9 (x : Vec Ideal S512x512 .f32) (r j : Fin 512) : k0_pay9 x (ix2 r j) = x (ix2 r j) := by
  pointwise [k0_pay9]
theorem pass10 (x : Vec Ideal S512x512 .f32) (r j : Fin 512) : k0_pay10 x (ix2 r j) = x (ix2 r j) := by
  pointwise [k0_pay10]
theorem pass12 (x : Vec Ideal S1x512 .f32) (j : Fin 512) : k0_pay12 x (ix2 0 j) = x (ix2 0 j) := by
  pointwise [k0_pay12]
theorem pass13 (x : Vec Ideal S512x512 .bf16) (r j : Fin 512) : k0_pay13 x (ix2 r j) = x (ix2 r j) := by
  pointwise [k0_pay13]

/-- The queries' payload: every head normalised, rotated and scaled, transposed. -/
theorem turned_query (c si t : FVec Ideal S512x512 .f32) (g : FVec Ideal S1x512 .f32) (bd : FVec Ideal S512x512 .bf16) (g0 : Fin 64 → EReal)
    (p : ℕ) (r : Fin 512)
    (hbd : ∀ l j : Fin 512, bd (ix2 l j) = if l.val / 64 = j.val / 64 then 1 else 0) (hg : ∀ j : Fin 512, g (ix2 0 j) = g0 ⟨j.val % 64, by omega⟩)
    (hc : ∀ j : Fin 512, c (ix2 r j) = Ideal.cos (angle p (j.val % 64)))
    (hs : ∀ j : Fin 512, si (ix2 r j) = if j.val % 64 % 32 < 16 then -Ideal.sin (angle p (j.val % 64)) else Ideal.sin (angle p (j.val % 64)))
    (j : Fin 512) :
    k0_pay15 c si t g bd (mulf t t) (ix2 j r)
      = turn (rms (head (fun k => t (ix2 r k)) (64 * (j.val / 64)) (by omega)) g0) p ⟨j.val % 64, by omega⟩ * Ideal.ofBits .f32 0x3E38AA3B#32 := by
  have n := norm_lanes (fun k => t (ix2 r k)) (fun k => g (ix2 0 k)) (fun l j => bd (ix2 l j)) g0 hbd hg j (by omega)
  pointwise [k0_pay15]
  rw [lanes_low j.val (by omega), select_bit]
  refine congrArg (fun z : EReal => z * Ideal.ofBits .f32 0x3E38AA3B#32) ?_
  exact turn_lanes _ p ⟨j.val % 64, by omega⟩ _ _ _ _ _ (n j ⟨j.val % 64, by omega⟩ (by simp only; omega)) (hc j) (hs j)
    (fun h => n ⟨(j.val + 512 - 496) % 512, by omega⟩ ⟨j.val % 64 + 16, by simp only at h; omega⟩ (by simp only at h ⊢; omega))
    (fun h => n ⟨(j.val + 512 - 16) % 512, by omega⟩ ⟨j.val % 64 - 16, by omega⟩ (by simp only at h ⊢; omega))

/-- The keys' payload: both heads normalised and rotated. -/
theorem turned_key (c si : FVec Ideal S512x512 .f32) (t : FVec Ideal S512x128 .f32) (g : Vec Ideal S1x128 .f32) (bd : Vec Ideal S128x128 .bf16)
    (g0 : Fin 64 → EReal) (p : ℕ) (r : Fin 512)
    (hbd : ∀ l j : Fin 128, bd (ix2 l j) = if l.val / 64 = j.val / 64 then (1 : EReal) else 0)
    (hg : ∀ j : Fin 128, (g (ix2 0 j) : EReal) = g0 ⟨j.val % 64, by omega⟩)
    (hc : ∀ j : Fin 512, c (ix2 r j) = Ideal.cos (angle p (j.val % 64)))
    (hs : ∀ j : Fin 512, si (ix2 r j) = if j.val % 64 % 32 < 16 then -Ideal.sin (angle p (j.val % 64)) else Ideal.sin (angle p (j.val % 64)))
    (j : Fin 128) :
    k0_pay17 c si t g bd (ix2 r j)
      = turn (rms (head (fun k => t (ix2 r k)) (64 * (j.val / 64)) (by omega)) g0) p ⟨j.val % 64, by omega⟩ := by
  have n := norm_lanes (fun k => t (ix2 r k)) (fun k => g (ix2 0 k)) (fun l j => bd (ix2 l j)) g0 hbd hg j (by omega)
  pointwise [k0_pay17]
  rw [lanes_low j.val (by omega), select_bit]
  exact turn_lanes _ p ⟨j.val % 64, by omega⟩ _ _ _ _ _ (n j ⟨j.val % 64, by omega⟩ (by simp only; omega)) (hc ⟨j.val, by omega⟩) (hs ⟨j.val, by omega⟩)
    (fun h => n ⟨(j.val + 128 - 112) % 128, by omega⟩ ⟨j.val % 64 + 16, by simp only at h; omega⟩ (by simp only at h ⊢; omega))
    (fun h => n ⟨(j.val + 128 - 16) % 128, by omega⟩ ⟨j.val % 64 - 16, by omega⟩ (by simp only at h ⊢; omega))

/-- The keys' lanes. -/
theorem key_apply (z : FVec Ideal S512x1280 .f32) (r : Fin 512) (j : Fin 128) : k0_pay16 z (ix2 r j) = z (ix2 r ⟨1024 + j.val, by omega⟩) := by
  pointwise [k0_pay16]

/-- The first key head's payload. -/
theorem first_key (t : FVec Ideal S512x128 .f32) (r : Fin 512) (e : Fin 64) : k0_pay2 t (ix3 0 r e) = t (ix2 r ⟨e.val, by omega⟩) := by
  pointwise [k0_pay2]

/-- The second key head's payload. -/
theorem second_key (t : FVec Ideal S512x128 .f32) (r : Fin 512) (e : Fin 64) : k0_pay4 t (ix3 0 r e) = t (ix2 r ⟨64 + e.val, by omega⟩) := by
  pointwise [k0_pay4]

/-- The first value head's payload above its rows of ones. -/
theorem first_value (z : FVec Ideal S512x1280 .f32) (a b : IVec S16x512 32) (r : Fin 512) (e : Fin 64) :
    k0_pay3 (k0_pay18 z) a b (ix4 0 0 ⟨e.val, by omega⟩ r) = z (ix2 r ⟨1152 + e.val, by omega⟩) := by
  pointwise [k0_pay3, k0_pay18]

/-- The second value head's payload above its rows of ones. -/
theorem second_value (z : FVec Ideal S512x1280 .f32) (a b : IVec S16x512 32) (r : Fin 512) (e : Fin 64) :
    k0_pay5 (k0_pay18 z) a b (ix4 0 0 ⟨e.val, by omega⟩ r) = z (ix2 r ⟨1216 + e.val, by omega⟩) := by
  pointwise [k0_pay5, k0_pay18]
  exact congrArg z (congrArg (ix2 r) (Fin.ext (by simp only; omega)))

/-! ## The blocks that a grid point leaves -/

section Blocks

variable (x0 : Vec Ideal S512x1024 .f32) (x1 : Vec Ideal S1x1024 .f32) (x2 : Vec Ideal S1024x1280 .bf16) (x3 x4 : Vec Ideal S512x512 .f32)
  (x5 : Vec Ideal S1x512 .f32) (x6 : Vec Ideal S1x128 .f32) (x7 : Vec Ideal S512x512 .bf16)

theorem load0 : View.ld x0 r0_0 = x0 := View.ld_unit_zero (S := S512x1024) zeros2 _ x0
theorem load1 : View.ld x1 r0_1 = x1 := View.ld_unit_zero (S := S1x1024) zeros2 _ x1
theorem load2 : View.ld x2 r0_2 = x2 := View.ld_unit_zero (S := S1024x1280) zeros2 _ x2
theorem load3 : View.ld x3 r0_3 = x3 := View.ld_unit_zero (S := S512x512) zeros2 _ x3
theorem load5 : View.ld x5 r0_4 = x5 := View.ld_unit_zero (S := S1x512) zeros2 _ x5
theorem load6 : View.ld x6 r0_5 = x6 := View.ld_unit_zero (S := S1x128) zeros2 _ x6
theorem load7 : View.ld x7 r0_3 = x7 := View.ld_unit_zero (S := S512x512) zeros2 _ x7

/-- The corner of the summing matrix as loaded. -/
theorem corner_apply (l j : Fin 128) :
    (View.ld x7 r0_6 : Vec Ideal S128x128 .bf16) (ix2 l j) = x7 (ix2 ⟨l.val, by omega⟩ ⟨j.val, by omega⟩) := by
  refine congrArg x7 (funext fun a => Fin.ext ?_)
  match a with
  | ⟨0, _⟩ => show 0 + 1 * l.val = l.val; omega
  | ⟨1, _⟩ => show 0 + 1 * j.val = j.val; omega

/-- What the body leaves in the block of the S5 input. -/
theorem block_input (r j : Fin 512) : out0_8 x0 x1 x2 x3 x4 x5 x6 x7 (ix2 r j) = rowZ x0 x1 x2 r ⟨j.val, by omega⟩ := by
  unfold_out out0_8
  rw [View.canon_unit_zero zeros2, load0, load1, load2]
  exact input_apply x0 x1 x2 r j

/-- What the body leaves in the queries' block. -/
theorem block_query (g0 : Fin 64 → EReal) (p : ℕ) (r : Fin 512)
    (hbd : ∀ l j : Fin 512, (x7 (ix2 l j) : EReal) = if l.val / 64 = j.val / 64 then 1 else 0)
    (hg : ∀ j : Fin 512, (x5 (ix2 0 j) : EReal) = g0 ⟨j.val % 64, by omega⟩)
    (hc : ∀ j : Fin 512, x3 (ix2 r j) = Ideal.cos (angle p (j.val % 64)))
    (hs : ∀ j : Fin 512, x4 (ix2 r j) = if j.val % 64 % 32 < 16 then -Ideal.sin (angle p (j.val % 64)) else Ideal.sin (angle p (j.val % 64)))
    (j : Fin 512) :
    out0_10 x0 x1 x2 x3 x4 x5 x6 x7 (ix2 j r)
      = turn (rms (head (rowZ x0 x1 x2 r) (512 + 64 * (j.val / 64)) (by omega)) g0) p ⟨j.val % 64, by omega⟩ * Ideal.ofBits .f32 0x3E38AA3B#32 := by
  unfold_out out0_10
  rw [View.canon_unit_zero zeros2, load0, load1, load2, load3, show View.ld x4 r0_3 = x4 from load3 x4, load5, load7]
  refine (turned_query (k0_pay9 x3) (k0_pay10 x4) (k0_pay11 x0 x1 x2) (k0_pay12 x5) (k0_pay13 x7) g0 p r ?_ ?_ ?_ ?_ j).trans ?_
  · exact fun l j => (pass13 x7 l j).trans (hbd l j)
  · exact fun j => (pass12 x5 j).trans (hg j)
  · exact fun j => (pass9 x3 r j).trans (hc j)
  · exact fun j => (pass10 x4 r j).trans (hs j)
  · rw [show head (fun k => k0_pay11 x0 x1 x2 (ix2 r k)) (64 * (j.val / 64)) (by omega) = head (rowZ x0 x1 x2 r) (512 + 64 * (j.val / 64)) (by omega)
      from funext fun e => (query_apply x0 x1 x2 r _).trans (congrArg (rowZ x0 x1 x2 r) (Fin.ext (by simp only; omega)))]

/-- The keys' payload from the loaded blocks. -/
theorem payload_key (g0 : Fin 64 → EReal) (p : ℕ) (r : Fin 512)
    (hbd : ∀ l j : Fin 512, (x7 (ix2 l j) : EReal) = if l.val / 64 = j.val / 64 then 1 else 0)
    (hg : ∀ j : Fin 128, (x6 (ix2 0 j) : EReal) = g0 ⟨j.val % 64, by omega⟩)
    (hc : ∀ j : Fin 512, x3 (ix2 r j) = Ideal.cos (angle p (j.val % 64)))
    (hs : ∀ j : Fin 512, x4 (ix2 r j) = if j.val % 64 % 32 < 16 then -Ideal.sin (angle p (j.val % 64)) else Ideal.sin (angle p (j.val % 64)))
    (h : Fin 2) (e : Fin 64) (j : Fin 128) (hj : j.val = 64 * h.val + e.val) :
    k0_pay24 x0 x1 x2 x3 x4 x5 x6 x7 (ix2 r j)
      = turn (rms (head (rowZ x0 x1 x2 r) (1024 + 64 * h.val) (by omega)) g0) p e := by
  unfold k0_pay24 k0_pay22 k0_pay21 k0_pay20
  rw [load0, load1, load2, load3, show View.ld x4 r0_3 = x4 from load3 x4, load6]
  refine (turned_key (k0_pay9 x3) (k0_pay10 x4) (k0_pay16 (k0_pay6 x0 x1 x2)) x6 (View.ld x7 r0_6) g0 p r ?_ ?_ ?_ ?_ j).trans ?_
  · exact fun l j => (corner_apply x7 l j).trans (hbd _ _)
  · exact hg
  · exact fun j => (pass9 x3 r j).trans (hc j)
  · exact fun j => (pass10 x4 r j).trans (hs j)
  · have hd : j.val / 64 = h.val := by omega
    rw [show head (fun k => k0_pay16 (k0_pay6 x0 x1 x2) (ix2 r k)) (64 * (j.val / 64)) (by omega) = head (rowZ x0 x1 x2 r) (1024 + 64 * h.val) (by omega)
      from funext fun e => ((key_apply _ r _).trans (projected_apply x0 x1 x2 r _)).trans (congrArg (rowZ x0 x1 x2 r) (Fin.ext (by simp only; omega))),
      show (⟨j.val % 64, by omega⟩ : Fin 64) = e from Fin.ext (by simp only; omega)]

/-- What the body leaves in the keys' block. -/
theorem block_key (g0 : Fin 64 → EReal) (p : ℕ) (r : Fin 512)
    (hbd : ∀ l j : Fin 512, (x7 (ix2 l j) : EReal) = if l.val / 64 = j.val / 64 then 1 else 0)
    (hg : ∀ j : Fin 128, (x6 (ix2 0 j) : EReal) = g0 ⟨j.val % 64, by omega⟩)
    (hc : ∀ j : Fin 512, x3 (ix2 r j) = Ideal.cos (angle p (j.val % 64)))
    (hs : ∀ j : Fin 512, x4 (ix2 r j) = if j.val % 64 % 32 < 16 then -Ideal.sin (angle p (j.val % 64)) else Ideal.sin (angle p (j.val % 64)))
    (h : Fin 2) (e : Fin 64) :
    out0_11 x0 x1 x2 x3 x4 x5 x6 x7 (ix3 h r e)
      = turn (rms (head (rowZ x0 x1 x2 r) (1024 + 64 * h.val) (by omega)) g0) p e := by
  unfold out0_11
  have e1 : (ix3 1 r e : S2x512x64.Idx) = r0_9.emb (ix3 0 r e) := funext fun a => Fin.ext (by
    match a with
    | ⟨0, _⟩ => rfl
    | ⟨1, _⟩ => show r.val = 0 + 1 * r.val; omega
    | ⟨2, _⟩ => show e.val = 0 + 1 * e.val; omega)
  have e0 : (ix3 0 r e : S2x512x64.Idx) = r0_7.emb (ix3 0 r e) := funext fun a => Fin.ext (by
    match a with
    | ⟨0, _⟩ => rfl
    | ⟨1, _⟩ => show r.val = 0 + 1 * r.val; omega
    | ⟨2, _⟩ => show e.val = 0 + 1 * e.val; omega)
  match h with
  | ⟨0, _⟩ =>
    refine (View.canon_cons_of_not_mem _ _ fun hm => ?_).trans ?_
    · have := ((Rect.mem_set_unit (inb := inb_S2x512x64_S1x512x64_1_0_0)).mp hm 0).1
      change 1 ≤ 0 at this
      omega
    · refine (congrArg _ e0).trans ((View.canon_cons_emb _ _ _ _).trans ((first_key _ r e).trans ?_))
      exact payload_key x0 x1 x2 x3 x4 x5 x6 x7 g0 p r hbd hg hc hs 0 e _ (by simp)
  | ⟨1, _⟩ =>
    refine (congrArg _ e1).trans ((View.canon_cons_emb _ _ _ _).trans ((second_key _ r e).trans ?_))
    exact payload_key x0 x1 x2 x3 x4 x5 x6 x7 g0 p r hbd hg hc hs 1 e _ (by simp)

/-- What the body leaves in the values' block above the rows of ones. -/
theorem block_value (r : Fin 512) (h : Fin 2) (e : Fin 64) :
    out0_12 x0 x1 x2 x3 x4 x5 x6 x7 (ix4 h 0 ⟨e.val, by omega⟩ r) = rowZ x0 x1 x2 r ⟨1152 + 64 * h.val + e.val, by omega⟩ := by
  unfold out0_12 k0_pay25 k0_pay20
  rw [load0, load1, load2]
  have e1 : (ix4 1 0 ⟨e.val, by omega⟩ r : S2x1x80x512.Idx) = r0_10.emb (ix4 0 0 ⟨e.val, by omega⟩ r) := funext fun a => Fin.ext (by
    match a with
    | ⟨0, _⟩ => rfl
    | ⟨1, _⟩ => rfl
    | ⟨2, _⟩ => show e.val = 0 + 1 * e.val; omega
    | ⟨3, _⟩ => show r.val = 0 + 1 * r.val; omega)
  have e0 : (ix4 0 0 ⟨e.val, by omega⟩ r : S2x1x80x512.Idx) = r0_8.emb (ix4 0 0 ⟨e.val, by omega⟩ r) := funext fun a => Fin.ext (by
    match a with
    | ⟨0, _⟩ => rfl
    | ⟨1, _⟩ => rfl
    | ⟨2, _⟩ => show e.val = 0 + 1 * e.val; omega
    | ⟨3, _⟩ => show r.val = 0 + 1 * r.val; omega)
  match h with
  | ⟨0, _⟩ =>
    refine (View.canon_cons_of_not_mem _ _ fun hm => ?_).trans ?_
    · have := ((Rect.mem_set_unit (inb := inb_S2x1x80x512_S1x1x80x512_1_0_0_0)).mp hm 0).1
      change 1 ≤ 0 at this
      omega
    · refine (congrArg _ e0).trans ((View.canon_cons_emb _ _ _ _).trans ((first_value _ _ _ r e).trans ((projected_apply x0 x1 x2 r _).trans ?_)))
      exact congrArg (rowZ x0 x1 x2 r) (Fin.ext (by simp))
  | ⟨1, _⟩ =>
    refine (congrArg _ e1).trans ((View.canon_cons_emb _ _ _ _).trans ((second_value _ _ _ r e).trans ((projected_apply x0 x1 x2 r _).trans ?_)))
    exact congrArg (rowZ x0 x1 x2 r) (Fin.ext (by simp))

end Blocks

end Cert.Proj

end
-- ==== Proof.ProjResult.lean ====
/- The input projection's four result arrays over the extended reals: the formulas of its arguments. -/
module

public import proofs.«01_k».proof.Proof.ProjBlock
public import Idealize.ShloMosaic.Lib.Pipeline.ValueKit

@[expose] public section

set_option maxRecDepth 16384

noncomputable section

namespace Cert.Proj

open Cert.Kernel4Ideal Cert.Kernel4Ideal.Gen Cert.Norm
open Idealize.ShloMosaic Idealize.ShloMosaic.TcCoe Idealize.ShloMosaic.Tactic
open Idealize.SL.Sem

variable (m : (ℓ : Loc nD τ sig) → Buf (Elt Ideal) ℓ) (c : Dev nD)

/-- The arguments as the program finds them: the stream, the norm's gains, the projection's matrix and the gains of the query and
    key heads. -/
abbrev inX : S2x8192x1024.Idx → EReal := m ((c : Thread nD τ).loc main_arg0)
abbrev inG : S1024.Idx → EReal := m ((c : Thread nD τ).loc main_arg1)
abbrev inW : S1024x1280.Idx → EReal := m ((c : Thread nD τ).loc main_arg2)
abbrev inGq : S64.Idx → EReal := m ((c : Thread nD τ).loc main_arg3)
abbrev inGk : S64.Idx → EReal := m ((c : Thread nD τ).loc main_arg4)

/-! ## The arrays that the host lines leave -/

/-- The stream as the call finds it. -/
theorem entry_x (w : Fin 16384) (k : Fin 1024) : (V m c main_v50 : Vec Ideal S16384x1024 .f32) (ix2 w k) = inX m c (ix3 ⟨w.val / 8192, by omega⟩ ⟨w.val % 8192, by omega⟩ k) := by
  simp only [V, V0, hostOps0, hostOps0_1, hostOps0_2, List.flatten_cons, List.flatten_nil, List.append_nil, List.cons_append, List.nil_append]
  after_results_simp
  pointwise

/-- The gains as the call finds them. -/
theorem entry_g (k : Fin 1024) : (V m c main_v51 : Vec Ideal S1x1024 .f32) (ix2 0 k) = inG m c (ix1 k) := by
  simp only [V, V0, hostOps0, hostOps0_1, hostOps0_2, List.flatten_cons, List.flatten_nil, List.append_nil, List.cons_append, List.nil_append]
  after_results_simp
  pointwise

/-- The matrix as the call finds it. -/
theorem entry_w (k : Fin 1024) (j : Fin 1280) : (V m c main_v52 : Vec Ideal S1024x1280 .bf16) (ix2 k j) = inW m c (ix2 k j) := by
  simp only [V, V0, hostOps0, hostOps0_1, hostOps0_2, List.flatten_cons, List.flatten_nil, List.append_nil, List.cons_append, List.nil_append]
  after_results_simp
  pointwise

/-- The table of cosines as the call finds it. -/
theorem entry_cos (s : Fin 8192) (k : Fin 512) : (V m c main_v37 : Vec Ideal S8192x512 .f32) (ix2 s k) = Ideal.cos (angle s.val (k.val % 64)) := by
  simp only [V, V0, hostOps0, hostOps0_1, hostOps0_2, List.flatten_cons, List.flatten_nil, List.append_nil, List.cons_append, List.nil_append]
  after_results_simp
  pointwise
  after_results_simp
  pointwise
  unfold angle
  by_cases h1 : k.val % 64 < 16
  · rw [dif_pos h1, if_pos (by omega : k.val % 64 < 32), (by omega : k.val % 64 % 16 = k.val % 64)]
    rfl
  rw [dif_neg h1]
  by_cases h2 : k.val % 64 - 16 < 16
  · rw [dif_pos h2, if_pos (by omega : k.val % 64 < 32), (by omega : k.val % 64 % 16 = k.val % 64 - 16)]
    rfl
  rw [dif_neg h2]
  by_cases h3 : k.val % 64 - 16 - 16 < 16
  · rw [dif_pos h3, if_neg (by omega : ¬ k.val % 64 < 32), (by omega : k.val % 64 % 16 = k.val % 64 - 16 - 16)]
    rfl
  · rw [dif_neg h3, if_neg (by omega : ¬ k.val % 64 < 32), (by omega : k.val % 64 % 16 = k.val % 64 - 16 - 16 - 16)]
    rfl

/-- The table of sines, with the rotation's signs, as the call finds it. -/
theorem entry_sin (s : Fin 8192) (k : Fin 512) : (V m c main_v40 : Vec Ideal S8192x512 .f32) (ix2 s k) = if k.val % 64 % 32 < 16 then -Ideal.sin (angle s.val (k.val % 64)) else Ideal.sin (angle s.val (k.val % 64)) := by
  simp only [V, V0, hostOps0, hostOps0_1, hostOps0_2, List.flatten_cons, List.flatten_nil, List.append_nil, List.cons_append, List.nil_append]
  after_results_simp
  pointwise
  after_results_simp
  pointwise
  unfold angle
  by_cases h1 : k.val % 64 < 16
  · rw [dif_pos h1, if_pos (by omega : k.val % 64 < 32), if_pos (by omega : k.val % 64 % 32 < 16), (by omega : k.val % 64 % 16 = k.val % 64)]
    rfl
  rw [dif_neg h1]
  by_cases h2 : k.val % 64 - 16 < 16
  · rw [dif_pos h2, if_pos (by omega : k.val % 64 < 32), if_neg (by omega : ¬ k.val % 64 % 32 < 16), (by omega : k.val % 64 % 16 = k.val % 64 - 16)]
    rfl
  rw [dif_neg h2]
  by_cases h3 : k.val % 64 - 16 - 16 < 16
  · rw [dif_pos h3, if_neg (by omega : ¬ k.val % 64 < 32), if_pos (by omega : k.val % 64 % 32 < 16), (by omega : k.val % 64 % 16 = k.val % 64 - 16 - 16)]
    rfl
  · rw [dif_neg h3, if_neg (by omega : ¬ k.val % 64 < 32), if_neg (by omega : ¬ k.val % 64 % 32 < 16), (by omega : k.val % 64 % 16 = k.val % 64 - 16 - 16 - 16)]
    rfl

/-- The query gains as the call finds them, once per head. -/
theorem entry_gq (k : Fin 512) : (V m c main_v56 : Vec Ideal S1x512 .f32) (ix2 0 k) = inGq m c (ix1 ⟨k.val % 64, by omega⟩) := by
  simp only [V, V0, hostOps0, hostOps0_1, hostOps0_2, List.flatten_cons, List.flatten_nil, List.append_nil, List.cons_append, List.nil_append]
  after_results_simp
  pointwise

/-- The key gains as the call finds them, once per head. -/
theorem entry_gk (k : Fin 128) : (V m c main_v60 : Vec Ideal S1x128 .f32) (ix2 0 k) = inGk m c (ix1 ⟨k.val % 64, by omega⟩) := by
  simp only [V, V0, hostOps0, hostOps0_1, hostOps0_2, List.flatten_cons, List.flatten_nil, List.append_nil, List.cons_append, List.nil_append]
  after_results_simp
  pointwise

/-- The identity's entry as the host computes it. -/
theorem identity_bit : ∀ a b : Fin 8, IntOp.cmpi CmpIPredicate.eq (BitVec.ofNat 32 a.val + 0#32) (BitVec.ofNat 32 b.val) = if a.val = b.val then 1#1 else 0#1 := by
  decide +kernel

/-- The matrix that sums each head's lanes as the call finds it: one where both lanes are of the same head, else zero. -/
theorem entry_bd (l k : Fin 512) : (V m c main_v49 : Vec Ideal S512x512 .bf16) (ix2 l k) = (if l.val / 64 = k.val / 64 then (1 : EReal) else 0) := by
  simp only [V, V0, hostOps0, hostOps0_1, hostOps0_2, List.flatten_cons, List.flatten_nil, List.append_nil, List.cons_append, List.nil_append]
  after_results_simp
  simp only [StableHlo.TRef.ofBuf_toBuf, StableHlo.TRef.toBuf, StableHlo.TRef.ofBuf, cast_eq]
  pointwise
  have hb : IntOp.cmpi CmpIPredicate.eq (IntOp.addi (BitVec.ofNat 32 (l.val / 64)) 0#32) (BitVec.ofNat 32 (k.val / 64)) = if l.val / 64 = k.val / 64 then 1#1 else 0#1 :=
    identity_bit ⟨l.val / 64, by omega⟩ ⟨k.val / 64, by omega⟩
  rw [hb]
  have h1 : FloatOps.uitofp (F := Ideal) .f32 1#1 = (1 : EReal) := by
    show (((1#1 : BitVec 1).toNat : ℝ) : EReal) = 1
    simp
  have h0 : FloatOps.uitofp (F := Ideal) .f32 0#1 = (0 : EReal) := by
    show (((0#1 : BitVec 1).toNat : ℝ) : EReal) = 0
    simp
  by_cases h : l.val / 64 = k.val / 64
  · rw [if_pos h, if_pos h]
    exact h1
  · rw [if_neg h, if_neg h]
    exact h0

/-! ## The blocks of a grid point -/

theorem index0 : ∀ t : Fin cfg0.N, win0_0.index t = ![t.val, 0] := by decide +kernel
theorem index1 : ∀ t : Fin cfg0.N, win0_1.index t = ![0, 0] := by decide +kernel
theorem index2 : ∀ t : Fin cfg0.N, win0_2.index t = ![0, 0] := by decide +kernel
theorem index3 : ∀ t : Fin cfg0.N, win0_3.index t = ![t.val % 16, 0] := by decide +kernel
theorem index4 : ∀ t : Fin cfg0.N, win0_4.index t = ![t.val % 16, 0] := by decide +kernel
theorem index5 : ∀ t : Fin cfg0.N, win0_5.index t = ![0, 0] := by decide +kernel
theorem index6 : ∀ t : Fin cfg0.N, win0_6.index t = ![0, 0] := by decide +kernel
theorem index7 : ∀ t : Fin cfg0.N, win0_7.index t = ![0, 0] := by decide +kernel
theorem index8 : ∀ t : Fin cfg0.N, win0_8.index t = ![t.val, 0] := by decide +kernel
theorem index10 : ∀ t : Fin cfg0.N, win0_10.index t = ![0, t.val] := by decide +kernel
theorem index11 : ∀ t : Fin cfg0.N, win0_11.index t = ![0, t.val, 0] := by decide +kernel
theorem index12 : ∀ t : Fin cfg0.N, win0_12.index t = ![0, t.val, 0, 0] := by decide +kernel
theorem point_lt (t : Fin cfg0.N) : t.val < 32 := t.isLt

/-- The stream's block at a point. -/
theorem at_x (t : Fin cfg0.N) (r : Fin 512) (k : Fin 1024) :
    (iblk m c 0 t : Vec Ideal S512x1024 .f32) (ix2 r k) = (V m c main_v50 : Vec Ideal S16384x1024 .f32) (ix2 ⟨t.val * 512 + r.val, by have := point_lt t; omega⟩ k) := by
  blk_ext [iblk, index0 t]

/-- The gains at a point. -/
theorem at_g (t : Fin cfg0.N) (k : Fin 1024) :
    (iblk m c 1 t : Vec Ideal S1x1024 .f32) (ix2 0 k) = (V m c main_v51 : Vec Ideal S1x1024 .f32) (ix2 0 k) := by
  blk_ext [iblk, index1 t]

/-- The matrix at a point. -/
theorem at_w (t : Fin cfg0.N) (k : Fin 1024) (j : Fin 1280) :
    (iblk m c 2 t : Vec Ideal S1024x1280 .bf16) (ix2 k j) = (V m c main_v52 : Vec Ideal S1024x1280 .bf16) (ix2 k j) := by
  blk_ext [iblk, index2 t]

/-- The cosines at a point. -/
theorem at_cos (t : Fin cfg0.N) (r k : Fin 512) :
    (iblk m c 3 t : Vec Ideal S512x512 .f32) (ix2 r k) = (V m c main_v37 : Vec Ideal S8192x512 .f32) (ix2 ⟨t.val % 16 * 512 + r.val, by omega⟩ k) := by
  blk_ext [iblk, index3 t]

/-- The sines at a point. -/
theorem at_sin (t : Fin cfg0.N) (r k : Fin 512) :
    (iblk m c 4 t : Vec Ideal S512x512 .f32) (ix2 r k) = (V m c main_v40 : Vec Ideal S8192x512 .f32) (ix2 ⟨t.val % 16 * 512 + r.val, by omega⟩ k) := by
  blk_ext [iblk, index4 t]

/-- The query gains at a point. -/
theorem at_gq (t : Fin cfg0.N) (k : Fin 512) :
    (iblk m c 5 t : Vec Ideal S1x512 .f32) (ix2 0 k) = (V m c main_v56 : Vec Ideal S1x512 .f32) (ix2 0 k) := by
  blk_ext [iblk, index5 t]

/-- The key gains at a point. -/
theorem at_gk (t : Fin cfg0.N) (k : Fin 128) :
    (iblk m c 6 t : Vec Ideal S1x128 .f32) (ix2 0 k) = (V m c main_v60 : Vec Ideal S1x128 .f32) (ix2 0 k) := by
  blk_ext [iblk, index6 t]

/-- The summing matrix at a point. -/
theorem at_bd (t : Fin cfg0.N) (l k : Fin 512) :
    (iblk m c 7 t : Vec Ideal S512x512 .bf16) (ix2 l k) = (V m c main_v49 : Vec Ideal S512x512 .bf16) (ix2 l k) := by
  blk_ext [iblk, index7 t]

/-! ## The results -/

/-- One of the 16384 projected rows. -/
def outRow (w : Fin 16384) : Fin 1280 → EReal := projected (inX m c) (inG m c) (inW m c) ⟨w.val / 8192, by omega⟩ ⟨w.val % 8192, by omega⟩

/-- The first result: the S5 input. -/
def outU (i : S16384x512.Idx) : EReal := outRow m c (i 0) ⟨(i 1).val, by have : (i 1).val < 512 := (i 1).isLt; omega⟩

/-- The second result: the rotated queries. -/
def outQ (i : S16384x512.Idx) : EReal :=
  rotated (outRow m c (i 0)) (inGq m c) ((i 0).val % 8192) (512 + 64 * ((i 1).val / 64)) (by have : (i 1).val < 512 := (i 1).isLt; omega) ⟨(i 1).val % 64, by omega⟩

/-- The third result: the rotated keys. -/
def outK (i : S16384x128.Idx) : EReal :=
  rotated (outRow m c (i 0)) (inGk m c) ((i 0).val % 8192) (1024 + 64 * ((i 1).val / 64)) (by have : (i 1).val < 128 := (i 1).isLt; omega) ⟨(i 1).val % 64, by omega⟩

/-- The fourth result: the values. -/
def outV (i : S16384x128.Idx) : EReal := outRow m c (i 0) ⟨1152 + (i 1).val, by have : (i 1).val < 128 := (i 1).isLt; omega⟩

/-- One row of a point's block is a projected row. -/
theorem point_row (t : Fin cfg0.N) (r : Fin 512) :
    rowZ (iblk m c 0 t) (iblk m c 1 t) (iblk m c 2 t) r = outRow m c ⟨t.val * 512 + r.val, by have := point_lt t; omega⟩ := by
  funext j
  unfold rowZ outRow projected
  have h0 : ∀ k, (iblk m c 0 t : Vec Ideal S512x1024 .f32) (ix2 r k) = _ := fun k => (at_x m c t r k).trans (entry_x m c _ k)
  have h1 : ∀ k, (iblk m c 1 t : Vec Ideal S1x1024 .f32) (ix2 0 k) = _ := fun k => (at_g m c t k).trans (entry_g m c k)
  have h2 : ∀ k, (iblk m c 2 t : Vec Ideal S1024x1280 .bf16) (ix2 k j) = _ := fun k => (at_w m c t k j).trans (entry_w m c k j)
  rw [funext h0, funext h1]
  exact Finset.sum_congr rfl fun k _ => congrArg _ (h2 k)

/-- The position of a point's row in its sequence. -/
theorem point_place (t : Fin cfg0.N) (r : Fin 512) : t.val % 16 * 512 + r.val = (t.val * 512 + r.val) % 8192 := by omega

/-- The cosines that a point's row meets. -/
theorem point_cos (t : Fin cfg0.N) (r j : Fin 512) :
    (iblk m c 3 t : Vec Ideal S512x512 .f32) (ix2 r j) = Ideal.cos (angle ((t.val * 512 + r.val) % 8192) (j.val % 64)) := by
  refine ((at_cos m c t r j).trans (entry_cos m c _ j)).trans ?_
  exact congrArg (fun s => Ideal.cos (angle s (j.val % 64))) (point_place t r)

/-- The sines that a point's row meets. -/
theorem point_sin (t : Fin cfg0.N) (r j : Fin 512) :
    (iblk m c 4 t : Vec Ideal S512x512 .f32) (ix2 r j)
      = if j.val % 64 % 32 < 16 then -Ideal.sin (angle ((t.val * 512 + r.val) % 8192) (j.val % 64)) else Ideal.sin (angle ((t.val * 512 + r.val) % 8192) (j.val % 64)) := by
  refine ((at_sin m c t r j).trans (entry_sin m c _ j)).trans ?_
  exact congrArg (fun s => if j.val % 64 % 32 < 16 then -Ideal.sin (angle s (j.val % 64)) else Ideal.sin (angle s (j.val % 64))) (point_place t r)

/-- The first result's array after the run. -/
theorem array_input : (dats m 0 c).arrAt 8 cfg0.N = outU m c := by
  refine (dats m 0 c).arrAt_eq_of_covers 8 _ (by decide +kernel) fun t hf y => ?_
  blk_simp
  rw [after0_8]
  obtain ⟨r, n, rfl⟩ : ∃ (r : Fin 512) (n : Fin 512), y = ix2 r n := ⟨y 0, y 1, eq_ix2 y⟩
  refine (block_input _ _ _ _ _ _ _ _ r n).trans ?_
  rw [point_row m c t r]
  have e0 : ((((cfg0.win 8).blk t).view.emb (ix2 r n)) 0 : ℕ) = t.val * 512 + r.val := by
    blk_simp [index8 t]
  have e1 : ((((cfg0.win 8).blk t).view.emb (ix2 r n)) 1 : ℕ) = n.val := by
    blk_simp [index8 t]
  exact congrArg₂ (outRow m c) (Fin.ext e0.symm) (Fin.ext e1.symm)

/-- The queries' array after the run, which lies transposed and scaled. -/
theorem array_query : (dats m 0 c).arrAt 10 cfg0.N = (fun i : S512x16384.Idx => outQ m c (ix2 (i 1) (i 0)) * Ideal.ofBits .f32 0x3E38AA3B#32) := by
  refine (dats m 0 c).arrAt_eq_of_covers 10 _ (by decide +kernel) fun t hf y => ?_
  blk_simp
  rw [after0_10]
  obtain ⟨n, r, rfl⟩ : ∃ (n : Fin 512) (r : Fin 512), y = ix2 n r := ⟨y 0, y 1, eq_ix2 y⟩
  refine (block_query _ _ _ _ _ _ _ _ (fun k => inGq m c (ix1 k)) ((t.val * 512 + r.val) % 8192) r
    (fun l j => (at_bd m c t l j).trans (entry_bd m c l j)) (fun j => (at_gq m c t j).trans (entry_gq m c j))
    (point_cos m c t r) (point_sin m c t r) n).trans ?_
  rw [point_row m c t r]
  have e0 : ((((cfg0.win 10).blk t).view.emb (ix2 n r)) 0 : ℕ) = n.val := by
    blk_simp [index10 t]
  have e1 : ((((cfg0.win 10).blk t).view.emb (ix2 n r)) 1 : ℕ) = t.val * 512 + r.val := by
    blk_simp [index10 t]
  exact congrArg₂ (fun (w : Fin 16384) (j : Fin 512) => outQ m c (ix2 w j) * Ideal.ofBits .f32 0x3E38AA3B#32)
    (x := ⟨t.val * 512 + r.val, by have := point_lt t; omega⟩) (y := n) (Fin.ext e1.symm) (Fin.ext e0.symm)

/-- One lane of one key head of one row. -/
def keyLane (h : Fin 2) (w : Fin 16384) (e : Fin 64) : EReal :=
  rotated (outRow m c w) (inGk m c) (w.val % 8192) (1024 + 64 * h.val) (by omega) e

/-- The keys' array after the run, one head after the other. -/
theorem array_key : (dats m 0 c).arrAt 11 cfg0.N = (fun i : S2x16384x64.Idx => keyLane m c (i 0) (i 1) (i 2)) := by
  refine (dats m 0 c).arrAt_eq_of_covers 11 _ (by decide +kernel) fun t hf y => ?_
  blk_simp
  rw [after0_11]
  obtain ⟨h, r, e, rfl⟩ : ∃ (h : Fin 2) (r : Fin 512) (e : Fin 64), y = ix3 h r e := ⟨y 0, y 1, y 2, eq_ix3 y⟩
  refine (block_key _ _ _ _ _ _ _ _ (fun k => inGk m c (ix1 k)) ((t.val * 512 + r.val) % 8192) r
    (fun l j => (at_bd m c t l j).trans (entry_bd m c l j)) (fun j => (at_gk m c t j).trans (entry_gk m c j))
    (point_cos m c t r) (point_sin m c t r) h e).trans ?_
  rw [point_row m c t r]
  have e0 : ((((cfg0.win 11).blk t).view.emb (ix3 h r e)) 0 : ℕ) = h.val := by
    blk_simp [index11 t]
  have e1 : ((((cfg0.win 11).blk t).view.emb (ix3 h r e)) 1 : ℕ) = t.val * 512 + r.val := by
    blk_simp [index11 t]
  have e2 : ((((cfg0.win 11).blk t).view.emb (ix3 h r e)) 2 : ℕ) = e.val := by
    blk_simp [index11 t]
  have key : ∀ (h h' : Fin 2) (w w' : Fin 16384) (e e' : Fin 64), h = h' → w = w' → e = e' →
      keyLane m c h w e = keyLane m c h' w' e' := by
    rintro h _ w _ e _ rfl rfl rfl
    rfl
  refine Eq.trans (show _ = keyLane m c h ⟨t.val * 512 + r.val, by have := point_lt t; omega⟩ e from rfl) ?_
  exact key h _ ⟨t.val * 512 + r.val, by have := point_lt t; omega⟩ _ e _ (Fin.ext e0.symm) (Fin.ext e1.symm) (Fin.ext e2.symm)

/-- One entry of the values' block at one point, a row of ones below the values among them. -/
def valueLane (h : Fin 2) (t : Fin 32) (e : Fin 80) (r : Fin 512) : EReal :=
  out0_12 (iblk m c 0 t) (iblk m c 1 t) (iblk m c 2 t) (iblk m c 3 t) (iblk m c 4 t) (iblk m c 5 t) (iblk m c 6 t) (iblk m c 7 t) (ix4 h 0 e r)

/-- The first 64 rows of the values' block are the projected lanes. -/
theorem valueLane_low (h : Fin 2) (t : Fin 32) (e : Fin 64) (r : Fin 512) :
    valueLane m c h t ⟨e.val, by omega⟩ r = outRow m c ⟨t.val * 512 + r.val, by omega⟩ ⟨1152 + 64 * h.val + e.val, by omega⟩ := by
  unfold valueLane
  refine (block_value _ _ _ _ _ _ _ _ r h e).trans ?_
  exact congrFun (point_row m c t r) _

/-- The values' array after the run, as each point's block has it. -/
theorem array_value : (dats m 0 c).arrAt 12 cfg0.N = (fun i : S2x32x80x512.Idx => valueLane m c (i 0) (i 1) (i 2) (i 3)) := by
  refine (dats m 0 c).arrAt_eq_of_covers 12 _ (by decide +kernel) fun t hf y => ?_
  blk_simp
  rw [after0_12]
  obtain ⟨h, z, e, r, rfl⟩ : ∃ (h : Fin 2) (z : Fin 1) (e : Fin 80) (r : Fin 512), y = ix4 h z e r := ⟨y 0, y 1, y 2, y 3, eq_ix4 y⟩
  obtain rfl : z = 0 := Subsingleton.elim _ _
  have e0 : ((((cfg0.win 12).blk t).view.emb (ix4 h 0 e r)) 0 : ℕ) = h.val := by
    blk_simp [index12 t]
  have e1 : ((((cfg0.win 12).blk t).view.emb (ix4 h 0 e r)) 1 : ℕ) = t.val := by
    blk_simp [index12 t]
    rfl
  have e2 : ((((cfg0.win 12).blk t).view.emb (ix4 h 0 e r)) 2 : ℕ) = e.val := by
    blk_simp [index12 t]
  have e3 : ((((cfg0.win 12).blk t).view.emb (ix4 h 0 e r)) 3 : ℕ) = r.val := by
    blk_simp [index12 t]
  have key : ∀ (t t' : Fin cfg0.N) (h h' : Fin 2) (e e' : Fin 80) (r r' : Fin 512), t = t' → h = h' → e = e' → r = r' →
      valueLane m c h t e r = valueLane m c h' t' e' r' := by
    rintro t _ h _ e _ r _ rfl rfl rfl rfl
    rfl
  exact key t _ h _ e _ r _ (Fin.ext e1.symm) (Fin.ext e0.symm) (Fin.ext e2.symm) (Fin.ext e3.symm)

/-! ## The host lines after the call -/

/-- The host lines turn the queries over and divide their scale out. -/
theorem tail_query : Pipeline.afterTail₀ cfgs (dats m) 0 (V0 m) [hostOps1] c main_v65 = outQ m c := by
  have h : Pipeline.withArrays (cfgs 0).spec c (V0 m c) (fun w => (dats m 0 c).arrAt w (cfgs 0).N) (Proc.devRef .tc main_v61_2) = _ :=
    (Pipeline.withArrays_arr (cfgs 0).spec (by decide) c (V0 m c) (fun w => (dats m 0 c).arrAt w (cfgs 0).N) 10).trans (array_query m c)
  unfold Pipeline.afterTail₀
  simp only [hostOps1, List.flatten_cons, List.flatten_nil, List.append_nil, List.cons_append, List.nil_append]
  after_results_simp
  rw [h]
  funext i
  rw [eq_ix2 i]
  pointwise
  exact unscale _

/-- The host lines put the key heads side by side. -/
theorem tail_key : Pipeline.afterTail₀ cfgs (dats m) 0 (V0 m) [hostOps1] c main_v68 = outK m c := by
  have h : Pipeline.withArrays (cfgs 0).spec c (V0 m c) (fun w => (dats m 0 c).arrAt w (cfgs 0).N) (Proc.devRef .tc main_v61_3) = _ :=
    (Pipeline.withArrays_arr (cfgs 0).spec (by decide) c (V0 m c) (fun w => (dats m 0 c).arrAt w (cfgs 0).N) 11).trans (array_key m c)
  unfold Pipeline.afterTail₀
  simp only [hostOps1, List.flatten_cons, List.flatten_nil, List.append_nil, List.cons_append, List.nil_append]
  after_results_simp
  rw [h]
  funext i
  rw [eq_ix2 i]
  pointwise
  rfl

/-- The host lines drop the rows of ones and put the value heads side by side. -/
theorem tail_value : Pipeline.afterTail₀ cfgs (dats m) 0 (V0 m) [hostOps1] c main_v72 = outV m c := by
  have h : Pipeline.withArrays (cfgs 0).spec c (V0 m c) (fun w => (dats m 0 c).arrAt w (cfgs 0).N) (Proc.devRef .tc main_v61_4) = _ :=
    (Pipeline.withArrays_arr (cfgs 0).spec (by decide) c (V0 m c) (fun w => (dats m 0 c).arrAt w (cfgs 0).N) 12).trans (array_value m c)
  unfold Pipeline.afterTail₀
  simp only [hostOps1, List.flatten_cons, List.flatten_nil, List.append_nil, List.cons_append, List.nil_append]
  after_results_simp
  rw [h]
  funext i
  rw [eq_ix2 i]
  pointwise
  refine Eq.trans (show _ = valueLane m c ⟨(i 1).val / 64, by have : (i 1).val < 128 := (i 1).isLt; omega⟩ ⟨(i 0).val / 512, by have : (i 0).val < 16384 := (i 0).isLt; omega⟩ ⟨(i 1).val % 64, by omega⟩ ⟨(i 0).val % 512, by omega⟩ from rfl) ?_
  refine (valueLane_low m c _ _ ⟨(i 1).val % 64, by omega⟩ _).trans ?_
  exact congrArg₂ (outRow m c) (Fin.ext (by show (i 0).val / 512 * 512 + (i 0).val % 512 = (i 0).val; omega)) (Fin.ext (by show 1152 + 64 * ((i 1).val / 64) + (i 1).val % 64 = 1152 + (i 1).val; omega))

/-- The program ends with its four results in place. -/
theorem run_projected (ρ : Dev nD → PrngReg) : θ_run (defs (F := Ideal)) (onTc (τ := τ) (main (F := Ideal))) ⟨m, fun _ => 0, ρ⟩ (fun r => ∀ c : Dev nD,
    r.2.mem ((c.tc : Thread nD τ).loc main_v61_0) = outU m c ∧ r.2.mem ((c.tc : Thread nD τ).loc main_v65) = outQ m c
      ∧ r.2.mem ((c.tc : Thread nD τ).loc main_v68) = outK m c ∧ r.2.mem ((c.tc : Thread nD τ).loc main_v72) = outV m c) :=
  (θ_run defs _ _).mono (fun r h c => ⟨((h c).1 8).trans (array_input m c),
    ((h c).2 main_v65 (Pipeline.mem_restRefs_of main_v65 (by decide) (by decide))).trans (tail_query m c),
    ((h c).2 main_v68 (Pipeline.mem_restRefs_of main_v68 (by decide) (by decide))).trans (tail_key m c),
    ((h c).2 main_v72 (Pipeline.mem_restRefs_of main_v72 (by decide) (by decide))).trans (tail_value m c)⟩) (run_main m ρ)

end Cert.Proj

end
-- ==== Proof.ProjRefer.lean ====
/- The reference's first lines read at an index: they compute the formulas of `Proj.lean`. -/
module

public import proofs.«01_k».proof.Proof.Proj
public import proofs.«01_k».proof.Proof.Gen.Reference4Ideal.Read

@[expose] public section

set_option maxRecDepth 16384

noncomputable section

namespace Cert.Proj

open Cert.Reference4Ideal Cert.Reference4Ideal.Gen Cert.Reference4Ideal.Read Cert.Norm
open Idealize.ShloMosaic Idealize.ShloMosaic.TcCoe Idealize.SL.Sem

variable (x0 : Vec Ideal S2x8192x1024 .f32) (x1 : Vec Ideal S1024 .f32) (x2 : Vec Ideal S1024x1280 .f32) (x3 x4 : Vec Ideal S64 .f32)

/-- The reference's projected row. -/
theorem ref_projected (b : Fin 2) (s : Fin 8192) (j : Fin 1280) :
    val_main_v42 (F := Ideal) x0 x1 x2 (ix3 b s j) = projected x0 x1 x2 b s j := by
  pointwise [val_main_v42, val_main_v41, val_main_v40, val_main_v39, val_main_v38, val_main_v37, val_main_v36, val_main_v35, val_main_v34, val_main_v33, val_main_v32, val_main_v31, val_main_v30, val_main_v29, val_main_cst_1, val_main_cst_2, val_main_cst_3]
  rw [wide_f32]
  rfl

/-- The same for the whole array. -/
theorem ref_projected_all : val_main_v42 (F := Ideal) x0 x1 x2 = fun i => projected x0 x1 x2 (i 0) (i 1) (i 2) :=
  funext fun i => by rw [eq_ix3 i]; exact ref_projected x0 x1 x2 _ _ _

/-- The reference's tables of cosines and sines. -/
theorem ref_cos_row (s : Fin 8192) (f : Fin 16) : val_main_v25 (F := Ideal) (ix2 s f) = Ideal.cos (angleAt (s.val / 64) f.val) := by
  pointwise [val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0]
  rfl
theorem ref_sin_row (s : Fin 8192) (f : Fin 16) : val_main_v26 (F := Ideal) (ix2 s f) = Ideal.sin (angleAt (s.val / 64) f.val) := by
  pointwise [val_main_v26, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0]
  rfl
theorem ref_cos_column (s : Fin 8192) (f : Fin 16) : val_main_v27 (F := Ideal) (ix2 s f) = Ideal.cos (angleAt (s.val % 64) f.val) := by
  pointwise [val_main_v27, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0]
  rfl
theorem ref_sin_column (s : Fin 8192) (f : Fin 16) : val_main_v28 (F := Ideal) (ix2 s f) = Ideal.sin (angleAt (s.val % 64) f.val) := by
  pointwise [val_main_v28, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0]
  rfl

/-- The reference's normalised query heads. -/
theorem ref_query_norm (b : Fin 2) (s : Fin 8192) (h : Fin 8) (e : Fin 64) :
    val_main_v61 (F := Ideal) x0 x1 x2 x3 (ix4 b s h e) = rms (head (projected x0 x1 x2 b s) (512 + 64 * h.val) (by omega)) (fun k => x3 (ix1 k)) e := by
  pointwise [val_main_v61, val_main_v60, val_main_v59, val_main_v58, val_main_v57, val_main_v56, val_main_v55, val_main_v54, val_main_v53, val_main_v52, val_main_v51, val_main_v50, val_main_v49, val_main_v45, val_main_v44, val_main_cst_4, val_main_cst_5, val_main_cst_6]
  rw [head_f32, ref_projected_all]
  have hd : ∀ x : Fin 64, projected x0 x1 x2 b s ⟨512 + (h.val * 64 + x.val), by omega⟩ = head (projected x0 x1 x2 b s) (512 + 64 * h.val) (by omega) x :=
    fun x => congrArg (projected x0 x1 x2 b s) (Fin.ext (by simp only; omega))
  refine Eq.trans ?_ (congrArg (fun z => rms z (fun k => x3 (ix1 k)) e) (funext hd))
  rfl

/-- The reference's normalised key heads. -/
theorem ref_key_norm (b : Fin 2) (s : Fin 8192) (h : Fin 2) (e : Fin 64) :
    val_main_v107 (F := Ideal) x0 x1 x2 x4 (ix4 b s h e) = rms (head (projected x0 x1 x2 b s) (1024 + 64 * h.val) (by omega)) (fun k => x4 (ix1 k)) e := by
  pointwise [val_main_v107, val_main_v106, val_main_v105, val_main_v104, val_main_v103, val_main_v102, val_main_v101, val_main_v100, val_main_v99, val_main_v98, val_main_v97, val_main_v96, val_main_v95, val_main_v47, val_main_v46, val_main_cst_7, val_main_cst_8, val_main_cst_9]
  rw [head_f32, ref_projected_all]
  have hd : ∀ x : Fin 64, projected x0 x1 x2 b s ⟨1024 + (h.val * 64 + x.val), by omega⟩ = head (projected x0 x1 x2 b s) (1024 + 64 * h.val) (by omega) x :=
    fun x => congrArg (projected x0 x1 x2 b s) (Fin.ext (by simp only; omega))
  refine Eq.trans ?_ (congrArg (fun z => rms z (fun k => x4 (ix1 k)) e) (funext hd))
  rfl

/-- The four quarters of a head, read from a normalised head and the tables, are the head's rotation. -/
theorem quarters (N X : Fin 64 → EReal) (C D C' D' : Fin 16 → EReal) (s : ℕ) (hx : ∀ e, N e = X e)
    (hcr : ∀ f, C f = Ideal.cos (angleAt (s / 64) f.val)) (hsr : ∀ f, D f = Ideal.sin (angleAt (s / 64) f.val))
    (hcc : ∀ f, C' f = Ideal.cos (angleAt (s % 64) f.val)) (hsc : ∀ f, D' f = Ideal.sin (angleAt (s % 64) f.val)) (e : Fin 64) :
    (if h1 : e.val < 32 then
      if h2 : e.val < 16 then N e * C ⟨e.val, by omega⟩ - N ⟨16 + e.val, by omega⟩ * D ⟨e.val, by omega⟩
      else N ⟨16 + (e.val - 16), by omega⟩ * C ⟨e.val - 16, by omega⟩ + N ⟨e.val - 16, by omega⟩ * D ⟨e.val - 16, by omega⟩
    else
      if h2 : e.val - 32 < 16 then
        N ⟨32 + (e.val - 32), by omega⟩ * C' ⟨e.val - 32, by omega⟩ - N ⟨32 + (16 + (e.val - 32)), by omega⟩ * D' ⟨e.val - 32, by omega⟩
      else N ⟨32 + (16 + (e.val - 32 - 16)), by omega⟩ * C' ⟨e.val - 32 - 16, by omega⟩
        + N ⟨32 + (e.val - 32 - 16), by omega⟩ * D' ⟨e.val - 32 - 16, by omega⟩) = turn X s e := by
  by_cases h1 : e.val < 32
  · rw [dif_pos h1]
    by_cases h2 : e.val < 16
    · rw [dif_pos h2]
      rw [hx, hx, hcr, hsr]
      exact turn_low X s e _ _ _ _ (by omega) (by first | omega | (simp only <;> omega)) (by first | omega | (simp only <;> omega)) (by rw [if_pos h1]) (by first | omega | (simp only <;> omega))
    · rw [dif_neg h2]
      rw [hx, hx, hcr, hsr]
      exact turn_high X s e _ _ _ _ (by omega) (by first | omega | (simp only <;> omega)) (by first | omega | (simp only <;> omega)) (by rw [if_pos h1]) (by first | omega | (simp only <;> omega))
  · rw [dif_neg h1]
    by_cases h2 : e.val - 32 < 16
    · rw [dif_pos h2]
      rw [hx, hx, hcc, hsc]
      exact turn_low X s e _ _ _ _ (by omega) (by first | omega | (simp only <;> omega)) (by first | omega | (simp only <;> omega)) (by rw [if_neg h1]) (by first | omega | (simp only <;> omega))
    · rw [dif_neg h2]
      rw [hx, hx, hcc, hsc]
      exact turn_high X s e _ _ _ _ (by omega) (by first | omega | (simp only <;> omega)) (by first | omega | (simp only <;> omega)) (by rw [if_neg h1]) (by first | omega | (simp only <;> omega))

/-- The reference's rotated query heads. -/
theorem ref_query_turn (b : Fin 2) (s : Fin 8192) (h : Fin 8) (e : Fin 64) :
    val_main_v94 (F := Ideal) x0 x1 x2 x3 (ix4 b s h e) = rotated (projected x0 x1 x2 b s) x3 s.val (512 + 64 * h.val) (by omega) e := by
  have q := quarters (fun e => val_main_v61 (F := Ideal) x0 x1 x2 x3 (ix4 b s h e)) _ (fun f => val_main_v25 (F := Ideal) (ix2 s f))
    (fun f => val_main_v26 (F := Ideal) (ix2 s f)) (fun f => val_main_v27 (F := Ideal) (ix2 s f)) (fun f => val_main_v28 (F := Ideal) (ix2 s f)) s.val
    (ref_query_norm x0 x1 x2 x3 b s h) (ref_cos_row s) (ref_sin_row s) (ref_cos_column s) (ref_sin_column s) e
  refine Eq.trans ?_ q
  pointwise [val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62]

/-- The reference's rotated key heads. -/
theorem ref_key_turn (b : Fin 2) (s : Fin 8192) (h : Fin 2) (e : Fin 64) :
    val_main_v140 (F := Ideal) x0 x1 x2 x4 (ix4 b s h e) = rotated (projected x0 x1 x2 b s) x4 s.val (1024 + 64 * h.val) (by omega) e := by
  have q := quarters (fun e => val_main_v107 (F := Ideal) x0 x1 x2 x4 (ix4 b s h e)) _ (fun f => val_main_v25 (F := Ideal) (ix2 s f))
    (fun f => val_main_v26 (F := Ideal) (ix2 s f)) (fun f => val_main_v27 (F := Ideal) (ix2 s f)) (fun f => val_main_v28 (F := Ideal) (ix2 s f)) s.val
    (ref_key_norm x0 x1 x2 x4 b s h) (ref_cos_row s) (ref_sin_row s) (ref_cos_column s) (ref_sin_column s) e
  refine Eq.trans ?_ q
  pointwise [val_main_v140, val_main_v139, val_main_v138, val_main_v137, val_main_v136, val_main_v135, val_main_v134, val_main_v133, val_main_v132, val_main_v131, val_main_v130, val_main_v129, val_main_v128, val_main_v127, val_main_v126, val_main_v125, val_main_v124, val_main_v123, val_main_v122, val_main_v121, val_main_v120, val_main_v119, val_main_v118, val_main_v117, val_main_v116, val_main_v115, val_main_v114, val_main_v113, val_main_v112, val_main_v111, val_main_v110, val_main_v109, val_main_v108]

/-- The reference's four results: the S5 input, the queries, the keys and the values, one row after another. -/
theorem ref_input (w : Fin 16384) (j : Fin 512) : val_main_v141 (F := Ideal) x0 x1 x2 (ix2 w j)
    = projected x0 x1 x2 ⟨w.val / 8192, by omega⟩ ⟨w.val % 8192, by omega⟩ ⟨j.val, by omega⟩ := by
  pointwise [val_main_v141, val_main_v43]
  exact ref_projected x0 x1 x2 _ _ _
theorem ref_query (w : Fin 16384) (j : Fin 512) : val_main_v142 (F := Ideal) x0 x1 x2 x3 (ix2 w j)
    = rotated (projected x0 x1 x2 ⟨w.val / 8192, by omega⟩ ⟨w.val % 8192, by omega⟩) x3 (w.val % 8192) (512 + 64 * (j.val / 64)) (by omega) ⟨j.val % 64, by omega⟩ := by
  pointwise [val_main_v142]
  exact ref_query_turn x0 x1 x2 x3 _ _ _ _
theorem ref_key (w : Fin 16384) (j : Fin 128) : val_main_v143 (F := Ideal) x0 x1 x2 x4 (ix2 w j)
    = rotated (projected x0 x1 x2 ⟨w.val / 8192, by omega⟩ ⟨w.val % 8192, by omega⟩) x4 (w.val % 8192) (1024 + 64 * (j.val / 64)) (by omega) ⟨j.val % 64, by omega⟩ := by
  pointwise [val_main_v143]
  exact ref_key_turn x0 x1 x2 x4 _ _ _ _
theorem ref_value (w : Fin 16384) (j : Fin 128) : val_main_v144 (F := Ideal) x0 x1 x2 (ix2 w j)
    = projected x0 x1 x2 ⟨w.val / 8192, by omega⟩ ⟨w.val % 8192, by omega⟩ ⟨1152 + j.val, by omega⟩ := by
  pointwise [val_main_v144, val_main_v48]
  exact ref_projected x0 x1 x2 _ _ _

end Cert.Proj

end
-- ==== Proof.ProjClaims.lean ====
/- The claims about the input projection: the frame of the reference's first lines and the equality of the four results. -/
module

public import proofs.«01_k».proof.Defs
public import proofs.«01_k».proof.Proof.ProjResult
public import proofs.«01_k».proof.Proof.ProjRefer
public import proofs.«01_k».proof.Proof.Gen.Reference4Ideal.Run
public import Idealize.ShloMosaic.Lib.Claim
public import Idealize.ShloMosaic.Lib.Quiescent

@[expose] public section

set_option maxRecDepth 16384

noncomputable section

namespace Cert.Proj

open Idealize.ShloMosaic Idealize.ShloMosaic.TcCoe Idealize.ShloMosaic.Tactic
open Idealize.SL.Sem

/-- The reference's first lines leave their arguments as they were and every semaphore at zero. -/
theorem frame_reference : Cert.quiescent_Reference4Ideal := fun m ρ _ =>
  (θ_run Cert.Reference4Ideal.defs _ _).mono (fun r h => ⟨fun c => (h c).2.2.2.2, sem_eq_zero_of_no_sems (by decide) r.2⟩)
    (Cert.Reference4Ideal.Value.run (F := Ideal) m ρ)

/-- The two programs end with the same four results. -/
theorem results_equal : Cert.algebraic_Kernel4Ideal_Reference4Ideal := by
  intro m g m' g' _ hagree
  refine ⟨fun c => outU m c, fun c => outQ m c, fun c => outK m c, fun c => outV m c,
    (θ_run Cert.Kernel4Ideal.defs _ _).mono (fun r h c => ⟨(h.1 c).1, (h.1 c).2.1, (h.1 c).2.2.1, (h.1 c).2.2.2, h.2 c⟩)
    (θ_run_and (run_projected m g) (Cert.Kernel4Ideal.Gen.unchanged m g)), ?_⟩
  refine (θ_run Cert.Reference4Ideal.defs _ _).mono (fun r h c => ⟨(h c).1.trans ?_, (h c).2.1.trans ?_, (h c).2.2.1.trans ?_, (h c).2.2.2.1.trans ?_, (h c).2.2.2.2⟩)
    (Cert.Reference4Ideal.Value.run (F := Ideal) m' g')
  · obtain ⟨a0, a1, a2, a3, a4⟩ := hagree c
    refine (Cert.Reference4Ideal.Read.val_main_v141_eq (F := Ideal) _ _ _).trans ?_
    rw [a0, a1, a2]
    funext i
    obtain ⟨w, j, rfl⟩ : ∃ (w : Fin 16384) (j : Fin 512), i = ix2 w j := ⟨i 0, i 1, eq_ix2 i⟩
    exact ref_input (inX m c) (inG m c) (inW m c) w j
  · obtain ⟨a0, a1, a2, a3, a4⟩ := hagree c
    refine (Cert.Reference4Ideal.Read.val_main_v142_eq (F := Ideal) m' c).trans ?_
    rw [a0, a1, a2, a3]
    funext i
    obtain ⟨w, j, rfl⟩ : ∃ (w : Fin 16384) (j : Fin 512), i = ix2 w j := ⟨i 0, i 1, eq_ix2 i⟩
    exact ref_query (inX m c) (inG m c) (inW m c) (inGq m c) w j
  · obtain ⟨a0, a1, a2, a3, a4⟩ := hagree c
    refine (Cert.Reference4Ideal.Read.val_main_v143_eq (F := Ideal) m' c).trans ?_
    rw [a0, a1, a2, a4]
    funext i
    obtain ⟨w, j, rfl⟩ : ∃ (w : Fin 16384) (j : Fin 128), i = ix2 w j := ⟨i 0, i 1, eq_ix2 i⟩
    exact ref_key (inX m c) (inG m c) (inW m c) (inGk m c) w j
  · obtain ⟨a0, a1, a2, a3, a4⟩ := hagree c
    refine (Cert.Reference4Ideal.Read.val_main_v144_eq (F := Ideal) _ _ _).trans ?_
    rw [a0, a1, a2]
    funext i
    obtain ⟨w, j, rfl⟩ : ∃ (w : Fin 16384) (j : Fin 128), i = ix2 w j := ⟨i 0, i 1, eq_ix2 i⟩
    exact ref_value (inX m c) (inG m c) (inW m c) w j

end Cert.Proj

end
-- ==== Proof.S5.lean ====
/- The S5 group over the complex numbers: the recurrence, its split into chunks of 32 steps, and the scan by doubling. -/
module

public import proofs.«01_k».proof.Proof.Online

@[expose] public section

noncomputable section

namespace Cert.S5

open Finset

/-- The recurrence's state after `t` steps: every step multiplies it by `A` and adds the step's input. -/
def state (A : ℂ) (v : ℕ → ℂ) : ℕ → ℂ
  | 0 => 0
  | t + 1 => A * state A v t + v t

/-- The state `m` steps on. -/
theorem state_add (A : ℂ) (v : ℕ → ℂ) (a m : ℕ) :
    state A v (a + m) = A ^ m * state A v a + ∑ s ∈ range m, A ^ (m - 1 - s) * v (a + s) := by
  induction m with
  | zero => simp
  | succ m ih =>
    have e : ∑ s ∈ range m, A ^ (m + 1 - 1 - s) * v (a + s) = A * ∑ s ∈ range m, A ^ (m - 1 - s) * v (a + s) := by
      rw [mul_sum]
      refine sum_congr rfl fun s hs => ?_
      rw [show m + 1 - 1 - s = (m - 1 - s) + 1 by have := mem_range.mp hs; omega, pow_succ]
      ring
    rw [← add_assoc, state, ih, sum_range_succ, e]
    simp only [Nat.add_sub_cancel, Nat.sub_self, pow_zero, one_mul, pow_succ]
    ring

/-- What the `m` chunks up to chunk `c` add to the state after it, whose values before each chunk are `K`. -/
def gap (P : ℂ) (K : ℕ → ℂ) (m c : ℕ) : ℂ := K (c + 1) - P ^ m * K (c + 1 - m)

/-- Twice as many chunks are two runs of chunks, the earlier one carried over the later. -/
theorem gap_double (P : ℂ) (K : ℕ → ℂ) (h : K 0 = 0) (m c : ℕ) :
    gap P K m c + (if m ≤ c then P ^ m * gap P K m (c - m) else 0) = gap P K (2 * m) c := by
  unfold gap
  split
  · rw [show c + 1 - 2 * m = c - m + 1 - m by omega, show c - m + 1 = c + 1 - m by omega, show 2 * m = m + m by omega, pow_add]
    ring
  · rw [show c + 1 - m = 0 by omega, show c + 1 - 2 * m = 0 by omega, h]
    simp

/-- As many chunks as there are before the chunk's end make the whole state. -/
theorem gap_all (P : ℂ) (K : ℕ → ℂ) (h : K 0 = 0) (m c : ℕ) (hc : c < m) : gap P K m c = K (c + 1) := by
  unfold gap
  rw [show c + 1 - m = 0 by omega, h]
  simp

/-- One chunk adds its 32 inputs, each carried to the chunk's end. -/
theorem gap_one (A : ℂ) (v : ℕ → ℂ) (c : ℕ) :
    gap (A ^ 32) (fun c => state A v (32 * c)) 1 c = ∑ s : Fin 32, A ^ (31 - s.val) * v (32 * c + s.val) := by
  unfold gap
  rw [Fin.sum_univ_eq_sum_range (fun s => A ^ (31 - s) * v (32 * c + s)) 32]
  show state A v (32 * (c + 1)) - (A ^ 32) ^ 1 * state A v (32 * (c + 1 - 1)) = _
  rw [show 32 * (c + 1) = 32 * c + 32 by omega, state_add, pow_one, Nat.add_sub_cancel]
  simp

/-- Without inputs nothing is added and the state stays zero. -/
theorem state_zero (A : ℂ) {v : ℕ → ℂ} (h : ∀ t, v t = 0) (t : ℕ) : state A v t = 0 := by
  induction t with
  | zero => rfl
  | succ t ih => rw [state, ih, h, mul_zero, add_zero]
theorem gap_zero (P : ℂ) {K : ℕ → ℂ} (h : ∀ t, K t = 0) (m c : ℕ) : gap P K m c = 0 := by
  rw [gap, h, h, mul_zero, sub_zero]

/-- Powers of a complex number given by its logarithm. -/
theorem pow_re (z : ℂ) (k : ℕ) : (Complex.exp z ^ k).re = Real.exp (k * z.re) * Real.cos (k * z.im) := by
  rw [← Complex.exp_nat_mul, Complex.exp_re]; simp
theorem pow_im (z : ℂ) (k : ℕ) : (Complex.exp z ^ k).im = Real.exp (k * z.re) * Real.sin (k * z.im) := by
  rw [← Complex.exp_nat_mul, Complex.exp_im]; simp

/-- The state's decay over one step of length `dt`. -/
def pole (lr li dt : ℝ) : ℂ := Complex.exp ⟨lr * dt, li * dt⟩

/-- The factor that the step's length puts on the inputs. -/
def fac (lr li dt : ℝ) : ℂ :=
  ⟨(((pole lr li dt).re - 1) * lr + (pole lr li dt).im * li) / (lr * lr + li * li),
   ((pole lr li dt).im * lr - ((pole lr li dt).re - 1) * li) / (lr * lr + li * li)⟩

/-- The input of a step: the coordinates of the position, weighed. -/
def drive (B : Fin 16 → ℂ) (u : ℕ → Fin 16 → ℝ) (t : ℕ) : ℂ := ∑ p, B p * (u t p : ℂ)

theorem drive_zero {B : Fin 16 → ℂ} (h : ∀ p, B p = 0) (u : ℕ → Fin 16 → ℝ) (t : ℕ) : drive B u t = 0 :=
  sum_eq_zero fun p _ => by rw [h, zero_mul]

/-- An output coordinate, from the states of its group. -/
def seen (A C : Fin 64 → ℂ) (B : Fin 64 → Fin 16 → ℂ) (u : ℕ → Fin 16 → ℝ) (t : ℕ) : ℝ :=
  ∑ n, (C n * state (A n) (drive (B n) u) t).re

/-- The weight of an input in an output `k` steps on. -/
def reach (A C : Fin 64 → ℂ) (B : Fin 64 → Fin 16 → ℂ) (k : ℕ) (p : Fin 16) : ℝ := ∑ n, (B n p * (C n * A n ^ k)).re

/-- The output within a chunk: the chunk's inputs up to it and the state before the chunk. -/
theorem seen_split (A C : Fin 64 → ℂ) (B : Fin 64 → Fin 16 → ℂ) (u : ℕ → Fin 16 → ℝ) (c l : ℕ) (hl : l < 32) :
    seen A C B u (32 * c + l + 1)
      = (∑ s : Fin 32, ∑ p, u (32 * c + s.val) p * (if s.val ≤ l then reach A C B (l - s.val) p else 0))
        + ∑ n, ((C n * A n ^ (l + 1)) * state (A n) (drive (B n) u) (32 * c)).re := by
  have e : ∀ n, (C n * state (A n) (drive (B n) u) (32 * c + l + 1)).re
      = (∑ s : Fin 32, ∑ p, u (32 * c + s.val) p * (if s.val ≤ l then (B n p * (C n * A n ^ (l - s.val))).re else 0))
        + ((C n * A n ^ (l + 1)) * state (A n) (drive (B n) u) (32 * c)).re := by
    intro n
    rw [add_assoc, state_add, mul_add, Complex.add_re, ← mul_assoc, add_comm]
    congr 1
    rw [Fin.sum_univ_eq_sum_range (fun s => ∑ p, u (32 * c + s) p * (if s ≤ l then (B n p * (C n * A n ^ (l - s))).re else 0)) 32]
    rw [← sum_subset (range_subset_range.mpr (show l + 1 ≤ 32 by omega)), mul_sum, Complex.re_sum]
    · refine sum_congr rfl fun s hs => ?_
      have hs' := mem_range.mp hs
      rw [drive, mul_sum, mul_sum, Complex.re_sum]
      refine sum_congr rfl fun p _ => ?_
      rw [if_pos (by omega), show l + 1 - 1 - s = l - s by omega, ← Complex.re_ofReal_mul]
      congr 1
      ring
    · intro s _ hs
      have hs' : ¬ s < l + 1 := fun h => hs (mem_range.mpr h)
      refine sum_eq_zero fun p _ => ?_
      rw [if_neg (by omega), mul_zero]
  unfold seen
  rw [sum_congr rfl fun n _ => e n, sum_add_distrib]
  congr 1
  rw [sum_comm]
  refine sum_congr rfl fun s _ => ?_
  rw [sum_comm]
  refine sum_congr rfl fun p _ => ?_
  rw [← mul_sum]
  congr 1
  split
  · rfl
  · simp

/-- The sequence read from its end. -/
def back (u : ℕ → Fin 16 → ℝ) (t : ℕ) : Fin 16 → ℝ := u (8191 - t)

/-- The same for the recurrence over the reversed sequence. -/
theorem back_split (A C : Fin 64 → ℂ) (B : Fin 64 → Fin 16 → ℂ) (u : ℕ → Fin 16 → ℝ) (c l : ℕ) (hc : c < 256) (hl : l < 32) :
    seen A C B (back u) (8192 - (32 * c + l))
      = (∑ s : Fin 32, ∑ p, u (32 * c + s.val) p * (if l ≤ s.val then reach A C B (s.val - l) p else 0))
        + ∑ n, ((C n * A n ^ (32 - l)) * state (A n) (drive (B n) (back u)) (32 * (255 - c))).re := by
  have h := seen_split A C B (back u) (255 - c) (31 - l) (by omega)
  rw [show 32 * (255 - c) + (31 - l) + 1 = 8192 - (32 * c + l) by omega, show 31 - l + 1 = 32 - l by omega] at h
  rw [h, ← Equiv.sum_comp Fin.revPerm]
  congr 1
  refine sum_congr rfl fun s _ => sum_congr rfl fun p _ => ?_
  have hs := s.isLt
  have e : (Fin.revPerm s).val = 31 - s.val := by simp [Fin.revPerm, Fin.val_rev]
  rw [e, back, show 8191 - (32 * (255 - c) + (31 - s.val)) = 32 * c + s.val by omega]
  by_cases hls : l ≤ s.val
  · rw [if_pos hls, if_pos (by omega), show 31 - l - (31 - s.val) = s.val - l by omega]
  · rw [if_neg hls, if_neg (by omega)]

/-- What a chunk of the reversed sequence adds, by the inputs' places in the chunk. -/
theorem back_one (A : ℂ) (B : Fin 16 → ℂ) (u : ℕ → Fin 16 → ℝ) (c : ℕ) (hc : c < 256) :
    gap (A ^ 32) (fun c => state A (drive B (back u)) (32 * c)) 1 (255 - c) = ∑ s : Fin 32, A ^ s.val * drive B u (32 * c + s.val) := by
  rw [gap_one, ← Equiv.sum_comp Fin.revPerm]
  refine sum_congr rfl fun s _ => ?_
  have hs := s.isLt
  have e : (Fin.revPerm s).val = 31 - s.val := by simp [Fin.revPerm, Fin.val_rev]
  rw [e, show 31 - (31 - s.val) = s.val by omega]
  unfold drive back
  rw [show 8191 - (32 * (255 - c) + (31 - s.val)) = 32 * c + s.val by omega]

/-- A sum over 512 places, 16 to each of 32. -/
theorem sum512 {M : Type*} [AddCommMonoid M] (f : Fin 512 → M) : ∑ k, f k = ∑ s : Fin 32, ∑ p : Fin 16, f ⟨16 * s.val + p.val, by omega⟩ := by
  rw [← Fintype.sum_prod_type' (f := fun (s : Fin 32) (p : Fin 16) => f ⟨16 * s.val + p.val, by omega⟩)]
  refine (Fintype.sum_equiv (finProdFinEquiv (m := 32) (n := 16)) _ _ fun x => ?_).symm
  refine congrArg f (Fin.ext ?_)
  simp only [finProdFinEquiv_apply_val]
  omega

/-- A sum over 256 lanes, 64 to each of four. -/
theorem sum256 {M : Type*} [AddCommMonoid M] (f : Fin 256 → M) :
    ∑ k, f k = ∑ n : Fin 64, (f ⟨n.val, by omega⟩ + f ⟨64 + n.val, by omega⟩ + f ⟨128 + n.val, by omega⟩ + f ⟨192 + n.val, by omega⟩) := by
  have h : ∑ k, f k = ∑ w : Fin 4, ∑ n : Fin 64, f ⟨64 * w.val + n.val, by omega⟩ := by
    rw [← Fintype.sum_prod_type' (f := fun (w : Fin 4) (n : Fin 64) => f ⟨64 * w.val + n.val, by omega⟩)]
    refine (Fintype.sum_equiv (finProdFinEquiv (m := 4) (n := 64)) _ _ fun x => ?_).symm
    refine congrArg f (Fin.ext ?_)
    simp only [finProdFinEquiv_apply_val]
    omega
  rw [h, Fin.sum_univ_four, ← sum_add_distrib, ← sum_add_distrib, ← sum_add_distrib]
  refine sum_congr rfl fun n _ => ?_
  simp

end Cert.S5
-- ==== Proof.S5Params.lean ====
/- The S5 scan: what the first call's body computes at one grid point, in terms of one direction at a time. -/
module

public import proofs.«01_k».proof.Proof.S5
public import proofs.«01_k».proof.Proof.Gen.Kernel5Ideal.Frame
public import Idealize.ShloMosaic.Lib.Pipeline.Value
public import Idealize.ShloMosaic.Lib.Pointwise
public import Idealize.ShloMosaic.Lib.Claim

@[expose] public section

set_option maxRecDepth 16384

noncomputable section

namespace Cert.S5

open Cert.Kernel5Ideal Cert.Kernel5Ideal.Gen
open Idealize.ShloMosaic Idealize.ShloMosaic.TcCoe Idealize.ShloMosaic.Tactic
open Idealize.SL.Sem

abbrev V1 := FVec Ideal S1x64 .f32
abbrev V16 := FVec Ideal S16x64 .f32
abbrev V32 := FVec Ideal S32x64 .f32
abbrev V512 := FVec Ideal S512x64 .f32

/-- One direction's row of 64. -/
def line (x : Vec Ideal S1x1x1x64 .f32) : V1 := shapeCast S1x64 x shapeCasts_S1x1x1x64_S1x64
/-- One direction's table of 16 by 64. -/
def table (x : Vec Ideal S1x1x16x64 .f32) : V16 := shapeCast S16x64 x shapeCasts_S1x1x16x64_S16x64

/-- A power of the decay, in one row. -/
def rowRe (t lr li dt : V1) : V1 := mulf (exp (mulf t (mulf lr dt))) (cos (mulf t (mulf li dt)))
def rowIm (t lr li dt : V1) : V1 := mulf (exp (mulf t (mulf lr dt))) (sin (mulf t (mulf li dt)))
/-- Powers of the decay, in 32 rows. -/
def powRe (t : V32) (lr li dt : V1) : V32 :=
  mulf (exp (mulf t (broadcastTo S32x64 (mulf lr dt) broadcasts_S1x64_S32x64))) (cos (mulf t (broadcastTo S32x64 (mulf li dt) broadcasts_S1x64_S32x64)))
def powIm (t : V32) (lr li dt : V1) : V32 :=
  mulf (exp (mulf t (broadcastTo S32x64 (mulf lr dt) broadcasts_S1x64_S32x64))) (sin (mulf t (broadcastTo S32x64 (mulf li dt) broadcasts_S1x64_S32x64)))

def ones : V1 := broadcast S1x64 (Scalar.ofBits .f32 0x3F800000#32 : Ideal .f32)
def whole : V1 := broadcast S1x64 (Scalar.ofBits .f32 0x42000000#32 : Ideal .f32)
def zeros : V1 := broadcast S1x64 (Scalar.ofBits .f32 0x00000000#32 : Ideal .f32)

/-- The factor on the inputs. -/
def facRe (lr li dt : V1) : V1 :=
  divf (addf (mulf (subf (rowRe ones lr li dt) ones) lr) (mulf (rowIm ones lr li dt) li)) (addf (mulf lr lr) (mulf li li))
def facIm (lr li dt : V1) : V1 :=
  divf (subf (mulf (rowIm ones lr li dt) lr) (mulf (subf (rowRe ones lr li dt) ones) li)) (addf (mulf lr lr) (mulf li li))
/-- The input weights with the factor. -/
def inRe (lr li dt : V1) (br bi : V16) : V16 :=
  subf (mulf (broadcastTo S16x64 (facRe lr li dt) broadcasts_S1x64_S16x64) br) (mulf (broadcastTo S16x64 (facIm lr li dt) broadcasts_S1x64_S16x64) bi)
def inIm (lr li dt : V1) (br bi : V16) : V16 :=
  addf (mulf (broadcastTo S16x64 (facRe lr li dt) broadcasts_S1x64_S16x64) bi) (mulf (broadcastTo S16x64 (facIm lr li dt) broadcasts_S1x64_S16x64) br)

/-- A table and a table of powers spread over all 512 pairs of rows. -/
def spread16 (c : V16) : FVec Ideal S32x16x64 .f32 :=
  broadcastTo S32x16x64 (shapeCast S1x16x64 c shapeCasts_S16x64_S1x16x64) broadcasts_S1x16x64_S32x16x64
def spread32 (p : V32) : FVec Ideal S32x16x64 .f32 :=
  broadcastTo S32x16x64 (shapeCast S32x1x64 p shapeCasts_S32x64_S32x1x64) broadcasts_S32x1x64_S32x16x64
def pairs (x : FVec Ideal S32x16x64 .f32) : V512 := shapeCast S512x64 x shapeCasts_S32x16x64_S512x64

/-- The products of a table with powers. -/
def outRe (cr ci : V16) (pr pi : V32) : V512 := pairs (subf (mulf (spread16 cr) (spread32 pr)) (mulf (spread16 ci) (spread32 pi)))
def outIm (cr ci : V16) (pr pi : V32) : V512 := pairs (addf (mulf (spread16 cr) (spread32 pi)) (mulf (spread16 ci) (spread32 pr)))
def entRe (br bi : V16) (pr pi : V32) : V512 := pairs (subf (mulf (spread32 pr) (spread16 br)) (mulf (spread32 pi) (spread16 bi)))
def entIm (br bi : V16) (pr pi : V32) : V512 := pairs (addf (mulf (spread32 pr) (spread16 bi)) (mulf (spread32 pi) (spread16 br)))
def minus (x : V512) : V512 := subf (broadcast S512x64 (Scalar.ofBits .f32 0x00000000#32 : Ideal .f32)) x

/-- The weights of the inputs in the outputs at 32 distances. -/
def lags (br bi : V16) (cr ci : V16) (pr pi : V32) : FVec Ideal S16x512 .f32 :=
  subf (matmul dot_S16x64_S512x64_S16x512_1_1_0_0_n_n (some .fp32) br (outRe cr ci pr pi) (constant S16x512 .f32 0x00000000#32))
    (matmul dot_S16x64_S512x64_S16x512_1_1_0_0_n_n (some .fp32) bi (outIm cr ci pr pi) (constant S16x512 .f32 0x00000000#32))

/-- The exponents by row. -/
def upTo : V32 := sitofp .f32 (iota .tc S32x64 32 [0] iota_S32x64_d0_w32)
def downFrom : V32 := subf (broadcast S32x64 (Scalar.ofBits .f32 0x41F80000#32 : Ideal .f32)) upTo
def upFrom : V32 := addf upTo (broadcast S32x64 (Scalar.ofBits .f32 0x3F800000#32 : Ideal .f32))
def downTo : V32 := subf (broadcast S32x64 (Scalar.ofBits .f32 0x42000000#32 : Ideal .f32)) upTo

/-- One direction's arrays. -/
structure Dir where
  lr : V1
  li : V1
  dt : V1
  br : V16
  bi : V16
  cr : V16
  ci : V16

def Dir.pr (d : Dir) (t : V32) : V32 := powRe t d.lr d.li d.dt
def Dir.pi (d : Dir) (t : V32) : V32 := powIm t d.lr d.li d.dt
def Dir.ir (d : Dir) : V16 := inRe d.lr d.li d.dt d.br d.bi
def Dir.ii (d : Dir) : V16 := inIm d.lr d.li d.dt d.br d.bi
def Dir.lag (d : Dir) (t : V32) : FVec Ideal S16x512 .f32 := lags d.ir d.ii d.cr d.ci (d.pr t) (d.pi t)

section
variable (x0 x1 x2 : Vec Ideal S1x2x1x64 .f32) (x3 x4 x5 x6 : Vec Ideal S1x2x16x64 .f32)

/-- The two directions of a group. -/
def fwd : Dir := ⟨line (View.ld x0 r0_0), line (View.ld x1 r0_0), exp (line (View.ld x2 r0_0)), table (View.ld x3 r0_1), table (View.ld x4 r0_1),
  table (View.ld x5 r0_1), table (View.ld x6 r0_1)⟩
def bwd : Dir := ⟨line (View.ld x0 r0_2), line (View.ld x1 r0_2), exp (line (View.ld x2 r0_2)), table (View.ld x3 r0_3), table (View.ld x4 r0_3),
  table (View.ld x5 r0_3), table (View.ld x6 r0_3)⟩

theorem lag_eq : k0_pay152 x0 x1 x2 x3 x4 x5 x6
    = k0_pay89 ((fwd x0 x1 x2 x3 x4 x5 x6).lag upTo) ((bwd x0 x1 x2 x3 x4 x5 x6).lag downFrom) := rfl

theorem enter_eq : out0_8 x0 x1 x2 x3 x4 x5 x6
    = k0_pay126 (entRe (fwd x0 x1 x2 x3 x4 x5 x6).ir (fwd x0 x1 x2 x3 x4 x5 x6).ii ((fwd x0 x1 x2 x3 x4 x5 x6).pr downFrom) ((fwd x0 x1 x2 x3 x4 x5 x6).pi downFrom))
        (entIm (fwd x0 x1 x2 x3 x4 x5 x6).ir (fwd x0 x1 x2 x3 x4 x5 x6).ii ((fwd x0 x1 x2 x3 x4 x5 x6).pr downFrom) ((fwd x0 x1 x2 x3 x4 x5 x6).pi downFrom))
        (entRe (bwd x0 x1 x2 x3 x4 x5 x6).ir (bwd x0 x1 x2 x3 x4 x5 x6).ii ((bwd x0 x1 x2 x3 x4 x5 x6).pr upTo) ((bwd x0 x1 x2 x3 x4 x5 x6).pi upTo))
        (entIm (bwd x0 x1 x2 x3 x4 x5 x6).ir (bwd x0 x1 x2 x3 x4 x5 x6).ii ((bwd x0 x1 x2 x3 x4 x5 x6).pr upTo) ((bwd x0 x1 x2 x3 x4 x5 x6).pi upTo)) :=
  (View.canon_unit_zero (S := S1x512x256) (by decide) _ _).trans rfl

theorem leave_eq : out0_9 x0 x1 x2 x3 x4 x5 x6
    = k0_pay1 (k0_pay127 (outRe (fwd x0 x1 x2 x3 x4 x5 x6).cr (fwd x0 x1 x2 x3 x4 x5 x6).ci ((fwd x0 x1 x2 x3 x4 x5 x6).pr upFrom) ((fwd x0 x1 x2 x3 x4 x5 x6).pi upFrom))
        (minus (outIm (fwd x0 x1 x2 x3 x4 x5 x6).cr (fwd x0 x1 x2 x3 x4 x5 x6).ci ((fwd x0 x1 x2 x3 x4 x5 x6).pr upFrom) ((fwd x0 x1 x2 x3 x4 x5 x6).pi upFrom)))
        (outRe (bwd x0 x1 x2 x3 x4 x5 x6).cr (bwd x0 x1 x2 x3 x4 x5 x6).ci ((bwd x0 x1 x2 x3 x4 x5 x6).pr downTo) ((bwd x0 x1 x2 x3 x4 x5 x6).pi downTo))
        (minus (outIm (bwd x0 x1 x2 x3 x4 x5 x6).cr (bwd x0 x1 x2 x3 x4 x5 x6).ci ((bwd x0 x1 x2 x3 x4 x5 x6).pr downTo) ((bwd x0 x1 x2 x3 x4 x5 x6).pi downTo)))) :=
  (View.canon_unit_zero (S := S1x512x256) (by decide) _ _).trans rfl

theorem decay_eq : out0_10 x0 x1 x2 x3 x4 x5 x6
    = k0_pay2 (rowRe whole (fwd x0 x1 x2 x3 x4 x5 x6).lr (fwd x0 x1 x2 x3 x4 x5 x6).li (fwd x0 x1 x2 x3 x4 x5 x6).dt)
        (rowIm whole (fwd x0 x1 x2 x3 x4 x5 x6).lr (fwd x0 x1 x2 x3 x4 x5 x6).li (fwd x0 x1 x2 x3 x4 x5 x6).dt)
        (subf zeros (rowIm whole (fwd x0 x1 x2 x3 x4 x5 x6).lr (fwd x0 x1 x2 x3 x4 x5 x6).li (fwd x0 x1 x2 x3 x4 x5 x6).dt))
        (rowRe whole (bwd x0 x1 x2 x3 x4 x5 x6).lr (bwd x0 x1 x2 x3 x4 x5 x6).li (bwd x0 x1 x2 x3 x4 x5 x6).dt)
        (rowIm whole (bwd x0 x1 x2 x3 x4 x5 x6).lr (bwd x0 x1 x2 x3 x4 x5 x6).li (bwd x0 x1 x2 x3 x4 x5 x6).dt)
        (subf zeros (rowIm whole (bwd x0 x1 x2 x3 x4 x5 x6).lr (bwd x0 x1 x2 x3 x4 x5 x6).li (bwd x0 x1 x2 x3 x4 x5 x6).dt)) :=
  (View.canon_unit_zero (S := S1x2x256) (by decide) _ _).trans rfl

/-- Rows `16 s …` of the weights inside a chunk: the lags moved by `s`. -/
def window (v : FVec Ideal S16x1024 .f32) (k : BitVec 32) : FVec Ideal S1x16x512 .bf16 :=
  shapeCast S1x16x512 (truncf .bf16 (extractStridedSlice S16x512 ![0, 0] (dynamicRotate 1 k none v rotates_S16x1024_d1) slices_S16x1024_o0_0_S16x512) bitsLt_bf16_f32)
    shapeCasts_S16x512_S1x16x512

theorem fits (s : Fin 31) : ∀ a, (![0, 16 * s.val, 0] : Fin 3 → ℕ) a + S1x16x512.size a ≤ S1x512x512.size a := by
  have := s.isLt
  intro a
  match a with
  | 0 => show 0 + 1 ≤ 1; omega
  | 1 => show 16 * s.val + 16 ≤ 512; omega
  | 2 => show 0 + 512 ≤ 512; omega

def piece (v : FVec Ideal S16x1024 .f32) (s : Fin 31) : View.Piece (Elt Ideal) S1x512x512 .bf16 :=
  ⟨Rect.unit (s := S1x512x512) ![0, 16 * s.val, 0] S1x16x512.size (fits s), window v (BitVec.ofNat 32 (528 + 16 * s.val))⟩

theorem inner_eq : out0_7 x0 x1 x2 x3 x4 x5 x6
    = View.canon (⟨r0_35, k0_pay125 (k0_pay152 x0 x1 x2 x3 x4 x5 x6)⟩ :: (List.ofFn (piece (k0_pay152 x0 x1 x2 x3 x4 x5 x6))).reverse) := rfl
end

end Cert.S5
-- ==== Proof.S5Conv.lean ====
/- The S5 scan: what the second call's body computes at one grid point. -/
module

public import proofs.«01_k».proof.Proof.S5
public import proofs.«01_k».proof.Proof.Gen.Kernel5Ideal.Frame
public import Idealize.ShloMosaic.Lib.Pipeline.Value
public import Idealize.ShloMosaic.Lib.Pointwise
public import Idealize.ShloMosaic.Lib.Claim

@[expose] public section

set_option maxRecDepth 16384

noncomputable section

namespace Cert.S5

open Cert.Kernel5Ideal Cert.Kernel5Ideal.Gen
open Idealize.ShloMosaic Idealize.ShloMosaic.TcCoe Idealize.ShloMosaic.Tactic
open Idealize.SL.Sem

/-- A block of rows holding a complex number in 64 pairs of lanes 64 apart. -/
def Rows (x : FVec Ideal S256x128 .f32) (z : ℕ → Fin 64 → ℂ) : Prop :=
  ∀ (r : Fin 256) (n : Fin 64), (x (ix2 r ⟨n.val, by omega⟩) : EReal) = ((z r.val n).re : ℝ) ∧ (x (ix2 r ⟨64 + n.val, by omega⟩) : EReal) = ((z r.val n).im : ℝ)

/-- A pair of rows holding a complex factor for every such pair of lanes that `L` names. -/
def Factor (L : Fin 64 → Prop) (p q : FVec Ideal S1x128 .f32) (P : Fin 64 → ℂ) : Prop :=
  ∀ n : Fin 64, L n → (p (ix2 0 ⟨n.val, by omega⟩) : EReal) = ((P n).re : ℝ) ∧ (p (ix2 0 ⟨64 + n.val, by omega⟩) : EReal) = ((P n).re : ℝ)
    ∧ (q (ix2 0 ⟨n.val, by omega⟩) : EReal) = ((-(P n).im : ℝ)) ∧ (q (ix2 0 ⟨64 + n.val, by omega⟩) : EReal) = ((P n).im : ℝ)

/-- The rows multiplied by the factor. -/
def turned (x : FVec Ideal S256x128 .f32) (p q : FVec Ideal S1x128 .f32) : FVec Ideal S256x128 .f32 :=
  addf (mulf (broadcastTo S256x128 p broadcasts_S1x128_S256x128) x)
    (mulf (broadcastTo S256x128 q broadcasts_S1x128_S256x128) (dynamicRotate 1 64#32 none x rotates_S256x128_d1))

/-- Every row's number. -/
def rowNo : IVec S256x128 32 := iota .tc S256x128 32 [0] iota_S256x128_d0_w32

/-- A doubling step downwards: to every row the row `k` above it, multiplied by the factor. -/
def down (k : BitVec 32) (x : FVec Ideal S256x128 .f32) (p q : FVec Ideal S1x128 .f32) : FVec Ideal S256x128 .f32 :=
  addf x (select (cmpi .sge rowNo (broadcast S256x128 k)) (turned (dynamicRotate 0 k none x rotates_S256x128_d0) p q)
    (broadcast S256x128 (Scalar.ofBits .f32 0x00000000#32 : Ideal .f32)))

/-- A doubling step upwards, `k` being 256 less the distance. -/
def up (k : BitVec 32) (x : FVec Ideal S256x128 .f32) (p q : FVec Ideal S1x128 .f32) : FVec Ideal S256x128 .f32 :=
  addf x (select (cmpi .slt rowNo (broadcast S256x128 k)) (turned (dynamicRotate 0 k none x rotates_S256x128_d0) p q)
    (broadcast S256x128 (Scalar.ofBits .f32 0x00000000#32 : Ideal .f32)))

/-- The factor's square. -/
def sqP (p q : FVec Ideal S1x128 .f32) : FVec Ideal S1x128 .f32 := subf (mulf p p) (mulf q q)
def sqQ (p q : FVec Ideal S1x128 .f32) : FVec Ideal S1x128 .f32 :=
  mulf (mulf (broadcast S1x128 (Scalar.ofBits .f32 0x40000000#32 : Ideal .f32)) p) q

/-- `j` doubling steps from distance `k` on. -/
def scanDown : ℕ → ℕ → FVec Ideal S256x128 .f32 → FVec Ideal S1x128 .f32 → FVec Ideal S1x128 .f32 → FVec Ideal S256x128 .f32
  | 0, _, x, _, _ => x
  | j + 1, k, x, p, q => scanDown j (2 * k) (down (BitVec.ofNat 32 k) x p q) (sqP p q) (sqQ p q)
def scanUp : ℕ → ℕ → FVec Ideal S256x128 .f32 → FVec Ideal S1x128 .f32 → FVec Ideal S1x128 .f32 → FVec Ideal S256x128 .f32
  | 0, _, x, _, _ => x
  | j + 1, k, x, p, q => scanUp j (2 * k) (up (BitVec.ofNat 32 (256 - k)) x p q) (sqP p q) (sqQ p q)

/-- The state before every chunk, from the states after them. -/
def before (x : FVec Ideal S256x128 .f32) : FVec Ideal S256x128 .f32 :=
  select (cmpi .sge rowNo (broadcast S256x128 1#32)) (dynamicRotate 0 1#32 none x rotates_S256x128_d0)
    (broadcast S256x128 (Scalar.ofBits .f32 0x00000000#32 : Ideal .f32))
def beyond (x : FVec Ideal S256x128 .f32) : FVec Ideal S256x128 .f32 :=
  select (cmpi .slt rowNo (broadcast S256x128 255#32)) (dynamicRotate 0 255#32 none x rotates_S256x128_d0)
    (broadcast S256x128 (Scalar.ofBits .f32 0x00000000#32 : Ideal .f32))

/-- Both directions' states at the chunks of one batch, from what the chunks add. -/
def both (s : FVec Ideal S256x256 .f32) (d : FVec Ideal S2x256 .f32) : FVec Ideal S256x256 .f32 :=
  concatenate S256x256 1 [
    ⟨S256x128, before (scanDown 8 1 (extractStridedSlice S256x128 ![0, 0] s slices_S256x256_o0_0_S256x128)
      (extractStridedSlice S1x128 ![0, 0] d slices_S2x256_o0_0_S1x128) (extractStridedSlice S1x128 ![1, 0] d slices_S2x256_o1_0_S1x128))⟩,
    ⟨S256x128, beyond (scanUp 8 1 (extractStridedSlice S256x128 ![0, 128] s slices_S256x256_o0_128_S256x128)
      (extractStridedSlice S1x128 ![0, 128] d slices_S2x256_o0_128_S1x128) (extractStridedSlice S1x128 ![1, 128] d slices_S2x256_o1_128_S1x128))⟩]
    concatenates_S256x128_S256x128_S256x256_d1

/-- The states at both batches' chunks. -/
def states (s : FVec Ideal S512x256 .f32) (d : FVec Ideal S2x256 .f32) : FVec Ideal S512x256 .f32 :=
  concatenate S512x256 0 [
    ⟨S256x256, both (extractStridedSlice S256x256 ![0, 0] s slices_S512x256_o0_0_S256x256) d⟩,
    ⟨S256x256, both (extractStridedSlice S256x256 ![256, 0] s slices_S512x256_o256_0_S256x256) d⟩]
    concatenates_S256x256_S256x256_S512x256_d0

/-- What the chunks' inputs add to the states. -/
def added (x0 : Vec Ideal S1x512x512 .bf16) (x2 : Vec Ideal S1x512x256 .bf16) : FVec Ideal S512x256 .f32 := k1_pay3 x0 x2

theorem zeros3 : (![0, 0, 0] : Fin 3 → ℕ) = fun _ => 0 := by decide

/-- What the body leaves in its block. -/
theorem conv_body (x0 x1 : Vec Ideal S1x512x512 .bf16) (x2 x3 : Vec Ideal S1x512x256 .bf16) (x4 : Vec Ideal S1x2x256 .f32) :
    out1_5 x0 x1 x2 x3 x4 = k1_pay1 (k1_pay2 x0) (truncf .bf16 (states (added x0 x2) (k1_pay4 x4)) bitsLt_bf16_f32) x1 x3 := by
  refine (View.canon_unit_zero (S := S1x512x512) zeros3 _ _).trans ?_
  have l0 : View.ld x0 r1_0 = x0 := View.ld_unit_zero (S := S1x512x512) zeros3 _ x0
  have l1 : View.ld x1 r1_0 = x1 := View.ld_unit_zero (S := S1x512x512) zeros3 _ x1
  have l3 : View.ld x3 r1_1 = x3 := View.ld_unit_zero (S := S1x512x256) zeros3 _ x3
  have l2 : View.ld x2 r1_1 = x2 := View.ld_unit_zero (S := S1x512x256) zeros3 _ x2
  have l4 : View.ld x4 r1_2 = x4 := View.ld_unit_zero (S := S1x2x256) zeros3 _ x4
  refine Eq.trans (b := k1_pay1 (k1_pay2 (View.ld x0 r1_0)) (truncf .bf16 (states (added (View.ld x0 r1_0) (View.ld x2 r1_1)) (k1_pay4 (View.ld x4 r1_2))) bitsLt_bf16_f32) (View.ld x1 r1_0) (View.ld x3 r1_1)) ?_ (by rw [l0, l1, l2, l3, l4])
  rfl

/-! ### The steps at an index -/

theorem rowNo_apply (r : Fin 256) (l : Fin 128) : rowNo (ix2 r l) = BitVec.ofNat 32 r.val := by
  pointwise [rowNo]

theorem turn0_apply (k : BitVec 32) (x : FVec Ideal S256x128 .f32) (r : Fin 256) (l : Fin 128) :
    (dynamicRotate 0 k none x rotates_S256x128_d0) (ix2 r l) = x (ix2 ⟨(r.val + 256 - k.toNat % 256) % 256, by omega⟩ l) := by
  pointwise

theorem turned_apply (x : FVec Ideal S256x128 .f32) (p q : FVec Ideal S1x128 .f32) (r : Fin 256) (l : Fin 128) :
    (turned x p q (ix2 r l) : EReal) = p (ix2 0 l) * x (ix2 r l) + q (ix2 0 l) * x (ix2 r ⟨(l.val + 64) % 128, by omega⟩) := by
  have e : (⟨(l.val + 128 - 64) % 128, by omega⟩ : Fin 128) = ⟨(l.val + 64) % 128, by omega⟩ := Fin.ext (by simp only; omega)
  rw [← e]
  pointwise [turned]

theorem zero_f32 : Ideal.ofBits .f32 0x00000000#32 = 0 := by simp [Ideal.ofBits, Ideal.ieee]
theorem two_f32 : Ideal.ofBits .f32 0x40000000#32 = ((2 : ℝ) : EReal) := by simp [Ideal.ofBits, Ideal.ieee, -EReal.coe_mul]; norm_num

theorem down_apply (k : BitVec 32) (x : FVec Ideal S256x128 .f32) (p q : FVec Ideal S1x128 .f32) (r : Fin 256) (l : Fin 128) (hk : k.toNat < 256) :
    (down k x p q (ix2 r l) : EReal) = x (ix2 r l)
      + if k.toNat ≤ r.val then turned (dynamicRotate 0 k none x rotates_S256x128_d0) p q (ix2 r l) else (0 : EReal) := by
  have e : cmpi .sge rowNo (broadcast S256x128 k) (ix2 r l) = BitVec.ofBool (decide (k.toNat ≤ r.val)) := by
    show IntOp.cmpi .sge (rowNo (ix2 r l)) k = _
    rw [rowNo_apply, WordCmp.cmpi_sge_of_lt (by simp; omega) (by omega)]
    simp [Nat.mod_eq_of_lt (show r.val < 4294967296 by omega)]
  refine Eq.trans (show _ = (x (ix2 r l) : EReal) + Scalar.select (cmpi .sge rowNo (broadcast S256x128 k) (ix2 r l)) (turned (dynamicRotate 0 k none x rotates_S256x128_d0) p q (ix2 r l)) (Ideal.ofBits .f32 0x00000000#32) from rfl) ?_
  rw [e, zero_f32]
  by_cases h : k.toNat ≤ r.val <;> simp [Scalar.select, h]

theorem slt_apply (k : BitVec 32) (r : Fin 256) (l : Fin 128) (hk : k.toNat < 256) :
    cmpi .slt rowNo (broadcast S256x128 k) (ix2 r l) = BitVec.ofBool (decide (r.val < k.toNat)) := by
  show IntOp.cmpi .slt (rowNo (ix2 r l)) k = _
  rw [rowNo_apply, WordCmp.cmpi_slt_of_lt (by simp; omega) (by omega)]
  simp [Nat.mod_eq_of_lt (show r.val < 4294967296 by omega)]

theorem up_apply (k : BitVec 32) (x : FVec Ideal S256x128 .f32) (p q : FVec Ideal S1x128 .f32) (r : Fin 256) (l : Fin 128) (hk : k.toNat < 256) :
    (up k x p q (ix2 r l) : EReal) = x (ix2 r l)
      + if r.val < k.toNat then turned (dynamicRotate 0 k none x rotates_S256x128_d0) p q (ix2 r l) else (0 : EReal) := by
  refine Eq.trans (show _ = (x (ix2 r l) : EReal) + Scalar.select (cmpi .slt rowNo (broadcast S256x128 k) (ix2 r l)) (turned (dynamicRotate 0 k none x rotates_S256x128_d0) p q (ix2 r l)) (Ideal.ofBits .f32 0x00000000#32) from rfl) ?_
  rw [slt_apply k r l hk, zero_f32]
  by_cases h : r.val < k.toNat <;> simp [Scalar.select, h]

/-- The rows multiplied by the factor hold the products; where there is no factor the rows hold zeros. -/
theorem turned_rows {L : Fin 64 → Prop} {x : FVec Ideal S256x128 .f32} {p q : FVec Ideal S1x128 .f32} {z : ℕ → Fin 64 → ℂ} {P : Fin 64 → ℂ}
    (hx : Rows x z) (hp : Factor L p q P) (hz : ∀ n, ¬ L n → ∀ r, z r n = 0) : Rows (turned x p q) (fun r n => P n * z r n) := by
  intro r n
  obtain ⟨x0, x1⟩ := hx r n
  by_cases hn : L n
  swap
  · have e : (⟨(n.val + 64) % 128, by omega⟩ : Fin 128) = ⟨64 + n.val, by omega⟩ := Fin.ext (by simp only; omega)
    have e' : (⟨(64 + n.val + 64) % 128, by omega⟩ : Fin 128) = ⟨n.val, by omega⟩ := Fin.ext (by simp only; omega)
    rw [turned_apply, turned_apply, e, e', x0, x1]
    simp only [hz n hn, mul_zero, Complex.zero_re, Complex.zero_im, EReal.coe_zero, add_zero, and_self]
  obtain ⟨p0, p1, q0, q1⟩ := hp n hn
  constructor
  · rw [turned_apply, p0, q0, x0]
    have e : (⟨(n.val + 64) % 128, by omega⟩ : Fin 128) = ⟨64 + n.val, by omega⟩ := Fin.ext (by simp only; omega)
    rw [e, x1, Complex.mul_re]; push_cast; rw [EReal.neg_mul, ← sub_eq_add_neg]
  · rw [turned_apply, p1, q1, x1]
    have e : (⟨(64 + n.val + 64) % 128, by omega⟩ : Fin 128) = ⟨n.val, by omega⟩ := Fin.ext (by simp only; omega)
    rw [e, x0, Complex.mul_im]; push_cast; rfl

theorem turn0_rows {x : FVec Ideal S256x128 .f32} {z : ℕ → Fin 64 → ℂ} (hx : Rows x z) (k : BitVec 32) :
    Rows (dynamicRotate 0 k none x rotates_S256x128_d0) (fun r n => z ((r + 256 - k.toNat % 256) % 256) n) := by
  intro r n
  rw [turn0_apply, turn0_apply]
  exact hx ⟨(r.val + 256 - k.toNat % 256) % 256, by omega⟩ n

theorem add_if (a b : ℝ) (p : Prop) [Decidable p] : ((a : EReal) + if p then (b : EReal) else 0) = ((a + if p then b else 0 : ℝ) : EReal) := by
  by_cases h : p <;> simp [h]

theorem re_if (a b : ℂ) (p : Prop) [Decidable p] : (a + if p then b else 0).re = a.re + if p then b.re else 0 := by
  by_cases h : p <;> simp [h]
theorem im_if (a b : ℂ) (p : Prop) [Decidable p] : (a + if p then b else 0).im = a.im + if p then b.im else 0 := by
  by_cases h : p <;> simp [h]

theorem down_rows {L : Fin 64 → Prop} {x : FVec Ideal S256x128 .f32} {p q : FVec Ideal S1x128 .f32} {z : ℕ → Fin 64 → ℂ} {P : Fin 64 → ℂ}
    (hx : Rows x z) (hp : Factor L p q P) (hz : ∀ n, ¬ L n → ∀ r, z r n = 0) (k : ℕ) (hk : k < 256) :
    Rows (down (BitVec.ofNat 32 k) x p q) (fun r n => z r n + if k ≤ r then P n * z (r - k) n else 0) := by
  have e : (BitVec.ofNat 32 k).toNat = k := by simp; omega
  intro r n
  have t := turned_rows (turn0_rows hx (BitVec.ofNat 32 k)) hp (fun n hn r => hz n hn _) r n
  have f : k ≤ r.val → (r.val + 256 - (BitVec.ofNat 32 k).toNat % 256) % 256 = r.val - k := fun h => by rw [e]; omega
  rw [down_apply _ _ _ _ _ _ (by omega), down_apply _ _ _ _ _ _ (by omega), t.1, t.2, (hx r n).1, (hx r n).2, re_if, im_if, add_if, add_if, e]
  by_cases h : k ≤ r.val
  · simp only [h, if_true]
    rw [← f h]
    simp only [e, and_self]
  · simp only [h, if_false, and_self]

theorem up_rows {L : Fin 64 → Prop} {x : FVec Ideal S256x128 .f32} {p q : FVec Ideal S1x128 .f32} {z : ℕ → Fin 64 → ℂ} {P : Fin 64 → ℂ}
    (hx : Rows x z) (hp : Factor L p q P) (hz : ∀ n, ¬ L n → ∀ r, z r n = 0) (k : ℕ) (h0 : 0 < k) (hk : k < 256) :
    Rows (up (BitVec.ofNat 32 (256 - k)) x p q) (fun r n => z r n + if r + k < 256 then P n * z (r + k) n else 0) := by
  have e : (BitVec.ofNat 32 (256 - k)).toNat = 256 - k := by simp; omega
  intro r n
  have t := turned_rows (turn0_rows hx (BitVec.ofNat 32 (256 - k))) hp (fun n hn r => hz n hn _) r n
  have f : r.val + k < 256 → (r.val + 256 - (BitVec.ofNat 32 (256 - k)).toNat % 256) % 256 = r.val + k := fun h => by rw [e]; omega
  rw [up_apply _ _ _ _ _ _ (by omega), up_apply _ _ _ _ _ _ (by omega), t.1, t.2, (hx r n).1, (hx r n).2, re_if, im_if, add_if, add_if, e]
  by_cases h : r.val + k < 256
  · simp only [h, if_true, show r.val < 256 - k by omega]
    rw [← f h]
    simp only [e, and_self]
  · simp only [h, if_false, show ¬ r.val < 256 - k by omega, and_self]

theorem Rows.congr {x : FVec Ideal S256x128 .f32} {z z' : ℕ → Fin 64 → ℂ} (h : Rows x z) (e : ∀ r < 256, ∀ n, z r n = z' r n) : Rows x z' := by
  intro r n; rw [← e r.val r.isLt n]; exact h r n

/-- The factor's square. -/
theorem square {L : Fin 64 → Prop} {p q : FVec Ideal S1x128 .f32} {P : Fin 64 → ℂ} (h : Factor L p q P) : Factor L (sqP p q) (sqQ p q) (fun n => P n ^ 2) := by
  intro n hn
  obtain ⟨p0, p1, q0, q1⟩ := h n hn
  have eP : ∀ l : Fin 128, (sqP p q (ix2 0 l) : EReal) = p (ix2 0 l) * p (ix2 0 l) - q (ix2 0 l) * q (ix2 0 l) := fun l => rfl
  have eQ : ∀ l : Fin 128, (sqQ p q (ix2 0 l) : EReal) = Ideal.ofBits .f32 0x40000000#32 * p (ix2 0 l) * q (ix2 0 l) := fun l => rfl
  rw [eP, eP, eQ, eQ, p0, p1, q0, q1, two_f32]
  simp only [pow_two, Complex.mul_re, Complex.mul_im, ← EReal.coe_mul, ← EReal.coe_sub, EReal.coe_eq_coe_iff]
  refine ⟨?_, ?_, ?_, ?_⟩ <;> first | trivial | ring

/-- The doubling steps bring every row the sum over all the rows before it. -/
theorem scanDown_rows {L : Fin 64 → Prop} (P : Fin 64 → ℂ) (K : Fin 64 → ℕ → ℂ) (hK : ∀ n, K n 0 = 0) (hz : ∀ n, ¬ L n → ∀ t, K n t = 0) : ∀ (j k : ℕ) (x : FVec Ideal S256x128 .f32) (p q : FVec Ideal S1x128 .f32),
    k * 2 ^ j ≤ 256 → Rows x (fun r n => gap (P n) (K n) k r) → Factor L p q (fun n => P n ^ k) →
    Rows (scanDown j k x p q) (fun r n => gap (P n) (K n) (k * 2 ^ j) r)
  | 0, k, x, p, q, _, hx, _ => by simpa [scanDown] using hx
  | j + 1, k, x, p, q, hk, hx, hp => by
      have hj : 1 ≤ 2 ^ j := Nat.one_le_two_pow
      have h2 : 2 * k * 2 ^ j ≤ 256 := by rw [pow_succ] at hk; nlinarith
      have hk' : k < 256 := by nlinarith
      have d := down_rows hx hp (fun n hn r => gap_zero _ (hz n hn) _ _) k hk'
      have d' : Rows (down (BitVec.ofNat 32 k) x p q) (fun r n => gap (P n) (K n) (2 * k) r) :=
        d.congr fun r _ n => gap_double (P n) (K n) (hK n) k r
      have s := square hp
      have s' : Factor L (sqP p q) (sqQ p q) (fun n => P n ^ (2 * k)) := by
        simpa only [← pow_mul, mul_comm k 2] using s
      have := scanDown_rows P K hK hz j (2 * k) _ _ _ h2 d' s'
      rw [show 2 * k * 2 ^ j = k * 2 ^ (j + 1) by rw [pow_succ]; ring] at this
      exact this

theorem scanUp_rows {L : Fin 64 → Prop} (P : Fin 64 → ℂ) (K : Fin 64 → ℕ → ℂ) (hK : ∀ n, K n 0 = 0) (hz : ∀ n, ¬ L n → ∀ t, K n t = 0) : ∀ (j k : ℕ) (x : FVec Ideal S256x128 .f32) (p q : FVec Ideal S1x128 .f32),
    0 < k → k * 2 ^ j ≤ 256 → Rows x (fun r n => gap (P n) (K n) k (255 - r)) → Factor L p q (fun n => P n ^ k) →
    Rows (scanUp j k x p q) (fun r n => gap (P n) (K n) (k * 2 ^ j) (255 - r))
  | 0, k, x, p, q, _, _, hx, _ => by simpa [scanUp] using hx
  | j + 1, k, x, p, q, h0, hk, hx, hp => by
      have hj : 1 ≤ 2 ^ j := Nat.one_le_two_pow
      have h2 : 2 * k * 2 ^ j ≤ 256 := by rw [pow_succ] at hk; nlinarith
      have hk' : k < 256 := by nlinarith
      have d := up_rows hx hp (fun n hn r => gap_zero _ (hz n hn) _ _) k h0 hk'
      have d' : Rows (up (BitVec.ofNat 32 (256 - k)) x p q) (fun r n => gap (P n) (K n) (2 * k) (255 - r)) := by
        refine d.congr fun r hr n => ?_
        rw [← gap_double (P n) (K n) (hK n) k (255 - r)]
        by_cases h : r + k < 256
        · simp only [h, if_true, show k ≤ 255 - r by omega, show 255 - (r + k) = 255 - r - k by omega]
        · simp only [h, if_false, show ¬ k ≤ 255 - r by omega]
      have s := square hp
      have s' : Factor L (sqP p q) (sqQ p q) (fun n => P n ^ (2 * k)) := by
        simpa only [← pow_mul, mul_comm k 2] using s
      have := scanUp_rows P K hK hz j (2 * k) _ _ _ (by omega) h2 d' s'
      rw [show 2 * k * 2 ^ j = k * 2 ^ (j + 1) by rw [pow_succ]; ring] at this
      exact this

/-- The states before every chunk. -/
theorem before_rows {x : FVec Ideal S256x128 .f32} {K : Fin 64 → ℕ → ℂ} (hK : ∀ n, K n 0 = 0) (hx : Rows x (fun r n => K n (r + 1))) :
    Rows (before x) (fun r n => K n r) := by
  have e : ∀ (r : Fin 256) (l : Fin 128), (before x (ix2 r l) : EReal) = if 1 ≤ r.val then (x (ix2 ⟨(r.val + 255) % 256, by omega⟩ l) : EReal) else 0 := by
    intro r l
    have c : cmpi .sge rowNo (broadcast S256x128 1#32) (ix2 r l) = BitVec.ofBool (decide (1 ≤ r.val)) := by
      show IntOp.cmpi .sge (rowNo (ix2 r l)) 1#32 = _
      rw [rowNo_apply, WordCmp.cmpi_sge_of_lt (by simp; omega) (by simp)]
      simp [Nat.mod_eq_of_lt (show r.val < 4294967296 by omega)]
    refine Eq.trans (show _ = Scalar.select (cmpi .sge rowNo (broadcast S256x128 1#32) (ix2 r l)) ((dynamicRotate 0 1#32 none x rotates_S256x128_d0) (ix2 r l) : EReal) (Ideal.ofBits .f32 0x00000000#32) from rfl) ?_
    rw [c, zero_f32, turn0_apply]
    by_cases h : 1 ≤ r.val <;> simp [Scalar.select, h]
  intro r n
  rw [e, e]
  by_cases h : 1 ≤ r.val
  · simp only [h, if_true]
    have := hx ⟨(r.val + 255) % 256, by omega⟩ n
    simp only [show (r.val + 255) % 256 + 1 = r.val by omega] at this
    exact this
  · simp [show r.val = 0 by omega, hK n]

theorem beyond_rows {x : FVec Ideal S256x128 .f32} {K : Fin 64 → ℕ → ℂ} (hK : ∀ n, K n 0 = 0) (hx : Rows x (fun r n => K n (255 - r + 1))) :
    Rows (beyond x) (fun r n => K n (255 - r)) := by
  have e : ∀ (r : Fin 256) (l : Fin 128), (beyond x (ix2 r l) : EReal) = if r.val < 255 then (x (ix2 ⟨(r.val + 1) % 256, by omega⟩ l) : EReal) else 0 := by
    intro r l
    refine Eq.trans (show _ = Scalar.select (cmpi .slt rowNo (broadcast S256x128 255#32) (ix2 r l)) ((dynamicRotate 0 255#32 none x rotates_S256x128_d0) (ix2 r l) : EReal) (Ideal.ofBits .f32 0x00000000#32) from rfl) ?_
    rw [slt_apply _ r l (by simp), zero_f32, turn0_apply]
    by_cases h : r.val < 255 <;> simp [Scalar.select, h]
  intro r n
  rw [e, e]
  by_cases h : r.val < 255
  · simp only [h, if_true]
    have := hx ⟨(r.val + 1) % 256, by omega⟩ n
    simp only [show 255 - (r.val + 1) % 256 + 1 = 255 - r.val by omega] at this
    exact this
  · simp [show r.val = 255 by omega, hK n]

end Cert.S5
-- ==== Proof.S5Block.lean ====
/- The S5 scan: the entries of the block the second call's body writes. -/
module

public import proofs.«01_k».proof.Proof.S5Conv

@[expose] public section

set_option maxRecDepth 16384

noncomputable section

namespace Cert.S5

open Cert.Kernel5Ideal Cert.Kernel5Ideal.Gen
open Idealize.ShloMosaic Idealize.ShloMosaic.TcCoe Idealize.ShloMosaic.Tactic
open Idealize.SL.Sem
open Finset

/-! ### The body's parts at an index -/

theorem added_apply (x0 : Vec Ideal S1x512x512 .bf16) (x2 : Vec Ideal S1x512x256 .bf16) (r : Fin 512) (j : Fin 256) :
    (added x0 x2 (ix2 r j) : EReal) = ∑ k : Fin 512, (x0 (ix3 0 r k) : EReal) * x2 (ix3 0 k j) := by
  pointwise [added, k1_pay3, k1_pay2]

theorem decay_apply (x4 : Vec Ideal S1x2x256 .f32) (a : Fin 2) (j : Fin 256) : k1_pay4 x4 (ix2 a j) = x4 (ix3 0 a j) := by
  pointwise [k1_pay4]

theorem final_apply (x0 x1 : Vec Ideal S1x512x512 .bf16) (h : FVec Ideal S512x256 .bf16) (x3 : Vec Ideal S1x512x256 .bf16) (r j : Fin 512) :
    (k1_pay1 (k1_pay2 x0) h x1 x3 (ix3 0 r j) : EReal)
      = (∑ k : Fin 512, (x0 (ix3 0 r k) : EReal) * x1 (ix3 0 k j)) + ∑ k : Fin 256, (h (ix2 r k) : EReal) * x3 (ix3 0 j k) := by
  pointwise [k1_pay1, k1_pay2]

/-- The first and the second half of the lanes of one batch's states. -/
theorem both_first (s : FVec Ideal S256x256 .f32) (d : FVec Ideal S2x256 .f32) (r : Fin 256) (l : Fin 128) :
    both s d (ix2 r ⟨l.val, by omega⟩) = before (scanDown 8 1 (extractStridedSlice S256x128 ![0, 0] s slices_S256x256_o0_0_S256x128)
      (extractStridedSlice S1x128 ![0, 0] d slices_S2x256_o0_0_S1x128) (extractStridedSlice S1x128 ![1, 0] d slices_S2x256_o1_0_S1x128)) (ix2 r l) := by
  pointwise [both]
theorem both_second (s : FVec Ideal S256x256 .f32) (d : FVec Ideal S2x256 .f32) (r : Fin 256) (l : Fin 128) :
    both s d (ix2 r ⟨128 + l.val, by omega⟩) = beyond (scanUp 8 1 (extractStridedSlice S256x128 ![0, 128] s slices_S256x256_o0_128_S256x128)
      (extractStridedSlice S1x128 ![0, 128] d slices_S2x256_o0_128_S1x128) (extractStridedSlice S1x128 ![1, 128] d slices_S2x256_o1_128_S1x128)) (ix2 r l) := by
  pointwise [both]

/-- The rows of either batch. -/
theorem states_first (s : FVec Ideal S512x256 .f32) (d : FVec Ideal S2x256 .f32) (r : Fin 256) (j : Fin 256) :
    states s d (ix2 ⟨r.val, by omega⟩ j) = both (extractStridedSlice S256x256 ![0, 0] s slices_S512x256_o0_0_S256x256) d (ix2 r j) := by
  pointwise [states]
theorem states_second (s : FVec Ideal S512x256 .f32) (d : FVec Ideal S2x256 .f32) (r : Fin 256) (j : Fin 256) :
    states s d (ix2 ⟨256 + r.val, by omega⟩ j) = both (extractStridedSlice S256x256 ![256, 0] s slices_S512x256_o256_0_S256x256) d (ix2 r j) := by
  pointwise [states]

/-- A row of 256 lanes holding two complex numbers in 64 groups of four lanes 64 apart. -/
def Lanes (x : Fin 256 → EReal) (z w : Fin 64 → ℂ) : Prop :=
  ∀ n : Fin 64, x ⟨n.val, by omega⟩ = ((z n).re : ℝ) ∧ x ⟨64 + n.val, by omega⟩ = ((z n).im : ℝ)
    ∧ x ⟨128 + n.val, by omega⟩ = ((w n).re : ℝ) ∧ x ⟨192 + n.val, by omega⟩ = ((w n).im : ℝ)

/-- The factors of both directions in the two rows of the decays, for the states that `L` and `M` name. -/
structure Decays (L M : Fin 64 → Prop) (d : FVec Ideal S2x256 .f32) (P Q : Fin 64 → ℂ) : Prop where
  first : Factor L (extractStridedSlice S1x128 ![0, 0] d slices_S2x256_o0_0_S1x128) (extractStridedSlice S1x128 ![1, 0] d slices_S2x256_o1_0_S1x128) P
  second : Factor M (extractStridedSlice S1x128 ![0, 128] d slices_S2x256_o0_128_S1x128) (extractStridedSlice S1x128 ![1, 128] d slices_S2x256_o1_128_S1x128) Q

/-- One batch's states: what all the chunks before, and all the chunks behind, add. -/
theorem both_lanes {L M : Fin 64 → Prop} (s : FVec Ideal S256x256 .f32) (d : FVec Ideal S2x256 .f32) (P Q : Fin 64 → ℂ) (K J : Fin 64 → ℕ → ℂ)
    (hK : ∀ n, K n 0 = 0) (hJ : ∀ n, J n 0 = 0) (zK : ∀ n, ¬ L n → ∀ t, K n t = 0) (zJ : ∀ n, ¬ M n → ∀ t, J n t = 0) (hd : Decays L M d P Q)
    (hs : ∀ r : Fin 256, Lanes (fun j => (s (ix2 r j) : EReal)) (fun n => gap (P n) (K n) 1 r.val) (fun n => gap (Q n) (J n) 1 (255 - r.val))) (r : Fin 256) :
    Lanes (fun j => (both s d (ix2 r j) : EReal)) (fun n => K n r.val) (fun n => J n (255 - r.val)) := by
  have s0 : ∀ (r : Fin 256) (l : Fin 128), extractStridedSlice S256x128 ![0, 0] s slices_S256x256_o0_0_S256x128 (ix2 r l) = s (ix2 r ⟨l.val, by omega⟩) := by
    intro r l; pointwise
  have s1 : ∀ (r : Fin 256) (l : Fin 128), extractStridedSlice S256x128 ![0, 128] s slices_S256x256_o0_128_S256x128 (ix2 r l) = s (ix2 r ⟨128 + l.val, by omega⟩) := by
    intro r l; pointwise
  have f := before_rows hK ((scanDown_rows P K hK zK 8 1 (extractStridedSlice S256x128 ![0, 0] s slices_S256x256_o0_0_S256x128) _ _ (by norm_num)
    (fun r n => by rw [s0, s0]; exact ⟨(hs r n).1, (hs r n).2.1⟩) (by simpa only [pow_one] using hd.first)).congr
      fun r hr n => gap_all (P n) (K n) (hK n) _ r (by omega))
  have b := beyond_rows hJ ((scanUp_rows Q J hJ zJ 8 1 (extractStridedSlice S256x128 ![0, 128] s slices_S256x256_o0_128_S256x128) _ _ (by norm_num) (by norm_num)
    (fun r n => by
      rw [s1, s1]
      have e : (⟨128 + (64 + n.val), by omega⟩ : Fin 256) = ⟨192 + n.val, by omega⟩ := Fin.ext (by simp only; omega)
      exact ⟨(hs r n).2.2.1, (congrArg (fun j => (s (ix2 r j) : EReal)) e).trans (hs r n).2.2.2⟩) (by simpa only [pow_one] using hd.second)).congr
      fun r hr n => gap_all (Q n) (J n) (hJ n) _ (255 - r) (by omega))
  intro n
  refine ⟨?_, ?_, ?_, ?_⟩
  · exact (both_first s d r ⟨n.val, by omega⟩).trans (f r n).1
  · exact (both_first s d r ⟨64 + n.val, by omega⟩).trans (f r n).2
  · exact (both_second s d r ⟨n.val, by omega⟩).trans (b r n).1
  · have e : (⟨192 + n.val, by omega⟩ : Fin 256) = ⟨128 + (64 + n.val), by omega⟩ := Fin.ext (by simp only; omega)
    exact (congrArg (fun j => (both s d (ix2 r j) : EReal)) e).trans ((both_second s d r ⟨64 + n.val, by omega⟩).trans (b r n).2)

/-- Row `256 b + c` of the 512. -/
abbrev at512 (b : Fin 2) (c : Fin 256) : Fin 512 := ⟨256 * b.val + c.val, by omega⟩
/-- Place `16 s + p` of the 512. -/
abbrev in512 (s : Fin 32) (p : Fin 16) : Fin 512 := ⟨16 * s.val + p.val, by omega⟩

theorem states_lanes {L M : Fin 64 → Prop} (s : FVec Ideal S512x256 .f32) (d : FVec Ideal S2x256 .f32) (P Q : Fin 64 → ℂ) (K J : Fin 2 → Fin 64 → ℕ → ℂ)
    (hK : ∀ b n, K b n 0 = 0) (hJ : ∀ b n, J b n 0 = 0) (zK : ∀ n, ¬ L n → ∀ b t, K b n t = 0) (zJ : ∀ n, ¬ M n → ∀ b t, J b n t = 0) (hd : Decays L M d P Q)
    (hs : ∀ b c, Lanes (fun j => (s (ix2 (at512 b c) j) : EReal)) (fun n => gap (P n) (K b n) 1 c.val) (fun n => gap (Q n) (J b n) 1 (255 - c.val)))
    (b : Fin 2) (c : Fin 256) :
    Lanes (fun j => (states s d (ix2 (at512 b c) j) : EReal)) (fun n => K b n c.val) (fun n => J b n (255 - c.val)) := by
  match b with
  | 0 =>
    have e : at512 0 c = ⟨c.val, by omega⟩ := Fin.ext (by simp)
    have t : ∀ (r j : Fin 256), extractStridedSlice S256x256 ![0, 0] s slices_S512x256_o0_0_S256x256 (ix2 r j) = s (ix2 (at512 0 r) j) := by
      intro r j; rw [show at512 0 r = ⟨r.val, by omega⟩ from Fin.ext (by simp)]; pointwise
    have := both_lanes (extractStridedSlice S256x256 ![0, 0] s slices_S512x256_o0_0_S256x256) d P Q (K 0) (J 0) (hK 0) (hJ 0) (fun n hn => zK n hn 0) (fun n hn => zJ n hn 0) hd
      (fun r => by simp only [t]; exact hs 0 r) c
    rw [e]; simp only [states_first]; exact this
  | 1 =>
    have e : at512 1 c = ⟨256 + c.val, by omega⟩ := Fin.ext (by simp)
    have t : ∀ (r j : Fin 256), extractStridedSlice S256x256 ![256, 0] s slices_S512x256_o256_0_S256x256 (ix2 r j) = s (ix2 (at512 1 r) j) := by
      intro r j; rw [show at512 1 r = ⟨256 + r.val, by omega⟩ from Fin.ext (by simp)]; pointwise
    have := both_lanes (extractStridedSlice S256x256 ![256, 0] s slices_S512x256_o256_0_S256x256) d P Q (K 1) (J 1) (hK 1) (hJ 1) (fun n hn => zK n hn 1) (fun n hn => zJ n hn 1) hd
      (fun r => by simp only [t]; exact hs 1 r) c
    rw [e]; simp only [states_second]; exact this

/-! ### The block -/

/-- What the first call leaves of one group: the weights inside a chunk, into the states, out of them, and their decays. The weights
    out of a state and its decay are known for the states that `L` and `M` name; the others take no inputs. -/
structure Chunk (L M : Fin 64 → Prop) (A D : Fin 64 → ℂ) (B E : Fin 64 → Fin 16 → ℂ) (C G : Fin 16 → Fin 64 → ℂ)
    (x1 : Vec Ideal S1x512x512 .bf16) (x2 x3 : Vec Ideal S1x512x256 .bf16) (x4 : Vec Ideal S1x2x256 .f32) : Prop where
  inner : ∀ (s l : Fin 32) (p q : Fin 16), (x1 (ix3 0 (in512 s p) (in512 l q)) : EReal)
    = (((if s.val ≤ l.val then reach A (C q) B (l.val - s.val) p else 0) + (if l.val ≤ s.val then reach D (G q) E (s.val - l.val) p else 0) : ℝ) : EReal)
  enter : ∀ (s : Fin 32) (p : Fin 16), Lanes (fun j => (x2 (ix3 0 (in512 s p) j) : EReal)) (fun n => A n ^ (31 - s.val) * B n p) (fun n => D n ^ s.val * E n p)
  leave : ∀ (l : Fin 32) (q : Fin 16) (n : Fin 64),
    (L n → @Eq EReal (x3 (ix3 0 (in512 l q) ⟨n.val, by omega⟩)) ((C q n * A n ^ (l.val + 1)).re : ℝ)
      ∧ @Eq EReal (x3 (ix3 0 (in512 l q) ⟨64 + n.val, by omega⟩)) ((-(C q n * A n ^ (l.val + 1)).im : ℝ)))
    ∧ (M n → @Eq EReal (x3 (ix3 0 (in512 l q) ⟨128 + n.val, by omega⟩)) ((G q n * D n ^ (32 - l.val)).re : ℝ)
      ∧ @Eq EReal (x3 (ix3 0 (in512 l q) ⟨192 + n.val, by omega⟩)) ((-(G q n * D n ^ (32 - l.val)).im : ℝ)))
  idle : ∀ n, ¬ L n → ∀ p, B n p = 0
  idle' : ∀ n, ¬ M n → ∀ p, E n p = 0
  decay : Decays L M (k1_pay4 x4) (fun n => A n ^ 32) (fun n => D n ^ 32)

theorem re_sum (u : Fin 32 → Fin 16 → ℝ) (W : Fin 32 → ℂ) (B : Fin 16 → ℂ) :
    ∑ s, ∑ p, u s p * (W s * B p).re = (∑ s, W s * ∑ p, B p * (u s p : ℂ)).re := by
  rw [Complex.re_sum]
  refine sum_congr rfl fun s _ => ?_
  rw [mul_sum, Complex.re_sum]
  refine sum_congr rfl fun p _ => ?_
  rw [← Complex.re_ofReal_mul]; congr 1; ring
theorem im_sum (u : Fin 32 → Fin 16 → ℝ) (W : Fin 32 → ℂ) (B : Fin 16 → ℂ) :
    ∑ s, ∑ p, u s p * (W s * B p).im = (∑ s, W s * ∑ p, B p * (u s p : ℂ)).im := by
  rw [Complex.im_sum]
  refine sum_congr rfl fun s _ => ?_
  rw [mul_sum, Complex.im_sum]
  refine sum_congr rfl fun p _ => ?_
  rw [← Complex.im_ofReal_mul]; congr 1; ring

section
variable {L M : Fin 64 → Prop} {A D : Fin 64 → ℂ} {B E : Fin 64 → Fin 16 → ℂ} {C G : Fin 16 → Fin 64 → ℂ}
  {x0 x1 : Vec Ideal S1x512x512 .bf16} {x2 x3 : Vec Ideal S1x512x256 .bf16} {x4 : Vec Ideal S1x2x256 .f32} {U : Fin 2 → ℕ → Fin 16 → ℝ}

/-- What every chunk adds to the states. -/
theorem added_lanes (h : Chunk L M A D B E C G x1 x2 x3 x4)
    (hu : ∀ b c s p, (x0 (ix3 0 (at512 b c) (in512 s p)) : EReal) = (U b (32 * c.val + s.val) p : ℝ)) (b : Fin 2) (c : Fin 256) :
    Lanes (fun j => (added x0 x2 (ix2 (at512 b c) j) : EReal))
      (fun n => gap (A n ^ 32) (fun c => state (A n) (drive (B n) (U b)) (32 * c)) 1 c.val)
      (fun n => gap (D n ^ 32) (fun c => state (D n) (drive (E n) (back (U b))) (32 * c)) 1 (255 - c.val)) := by
  have e : ∀ (j : Fin 256) (f : Fin 32 → Fin 16 → ℝ), (∀ s p, (x2 (ix3 0 (in512 s p) j) : EReal) = (f s p : ℝ)) →
      (added x0 x2 (ix2 (at512 b c) j) : EReal) = ((∑ s, ∑ p, U b (32 * c.val + s.val) p * f s p : ℝ) : EReal) := by
    intro j f hf
    rw [added_apply, sum512, Cert.Attn.coe_sum]
    refine sum_congr rfl fun s _ => ?_
    rw [Cert.Attn.coe_sum]
    refine sum_congr rfl fun p _ => ?_
    rw [hu b c s p, hf s p, EReal.coe_mul]
  intro n
  refine ⟨?_, ?_, ?_, ?_⟩
  · refine (e _ _ fun s p => (h.enter s p n).1).trans ?_
    rw [re_sum]; exact congrArg (fun z : ℂ => ((z.re : ℝ) : EReal)) (gap_one (A n) (drive (B n) (U b)) c.val).symm
  · refine (e _ _ fun s p => (h.enter s p n).2.1).trans ?_
    rw [im_sum]; exact congrArg (fun z : ℂ => ((z.im : ℝ) : EReal)) (gap_one (A n) (drive (B n) (U b)) c.val).symm
  · refine (e _ _ fun s p => (h.enter s p n).2.2.1).trans ?_
    rw [re_sum]; exact congrArg (fun z : ℂ => ((z.re : ℝ) : EReal)) (back_one (D n) (E n) (U b) c.val c.isLt).symm
  · refine (e _ _ fun s p => (h.enter s p n).2.2.2).trans ?_
    rw [im_sum]; exact congrArg (fun z : ℂ => ((z.im : ℝ) : EReal)) (back_one (D n) (E n) (U b) c.val c.isLt).symm

/-- What a state adds to an output: its two lanes by the two weights, or nothing when the state is zero. -/
theorem lane_pair {a b x y : EReal} {w z : ℂ} {P : Prop} (ha : a = (w.re : ℝ)) (hb : b = (w.im : ℝ)) (h : P → x = (z.re : ℝ) ∧ y = ((-z.im : ℝ) : EReal))
    (h0 : ¬ P → w = 0) : a * x + b * y = (((z * w).re : ℝ) : EReal) := by
  by_cases hp : P
  · rw [ha, hb, (h hp).1, (h hp).2, ← EReal.coe_mul, ← EReal.coe_mul, ← EReal.coe_add, EReal.coe_eq_coe_iff, Complex.mul_re]; ring
  · rw [ha, hb, h0 hp, mul_zero, Complex.zero_re, Complex.zero_im, EReal.coe_zero, zero_mul, zero_mul, add_zero]

/-- The block of a group: at every position the outputs of both recurrences. -/
theorem conv_entry (h : Chunk L M A D B E C G x1 x2 x3 x4)
    (hu : ∀ b c s p, (x0 (ix3 0 (at512 b c) (in512 s p)) : EReal) = (U b (32 * c.val + s.val) p : ℝ)) (b : Fin 2) (c : Fin 256) (l : Fin 32) (q : Fin 16) :
    (out1_5 x0 x1 x2 x3 x4 (ix3 0 (at512 b c) (in512 l q)) : EReal)
      = ((seen A (C q) B (U b) (32 * c.val + l.val + 1) + seen D (G q) E (back (U b)) (8192 - (32 * c.val + l.val)) : ℝ) : EReal) := by
  rw [conv_body, final_apply]
  have st := states_lanes (added x0 x2) (k1_pay4 x4) (fun n => A n ^ 32) (fun n => D n ^ 32)
    (fun b n c => state (A n) (drive (B n) (U b)) (32 * c)) (fun b n c => state (D n) (drive (E n) (back (U b))) (32 * c))
    (fun b n => rfl) (fun b n => rfl) (fun n hn b t => state_zero _ (drive_zero (h.idle n hn) _) _) (fun n hn b t => state_zero _ (drive_zero (h.idle' n hn) _) _) h.decay (fun b c => added_lanes h hu b c) b c
  have m : (∑ k : Fin 512, (x0 (ix3 0 (at512 b c) k) : EReal) * x1 (ix3 0 k (in512 l q)))
      = ((∑ s : Fin 32, ∑ p, U b (32 * c.val + s.val) p * ((if s.val ≤ l.val then reach A (C q) B (l.val - s.val) p else 0)
          + (if l.val ≤ s.val then reach D (G q) E (s.val - l.val) p else 0)) : ℝ) : EReal) := by
    rw [sum512, Cert.Attn.coe_sum]
    refine sum_congr rfl fun s _ => ?_
    rw [Cert.Attn.coe_sum]
    refine sum_congr rfl fun p _ => ?_
    rw [hu b c s p, h.inner s l p q, EReal.coe_mul]
  have o : (∑ k : Fin 256, ((truncf .bf16 (states (added x0 x2) (k1_pay4 x4)) bitsLt_bf16_f32 : FVec Ideal S512x256 .bf16) (ix2 (at512 b c) k) : EReal) * x3 (ix3 0 (in512 l q) k))
      = ((∑ n, ((C q n * A n ^ (l.val + 1)) * state (A n) (drive (B n) (U b)) (32 * c.val)).re
          + ∑ n, ((G q n * D n ^ (32 - l.val)) * state (D n) (drive (E n) (back (U b))) (32 * (255 - c.val))).re : ℝ) : EReal) := by
    rw [sum256, ← sum_add_distrib, Cert.Attn.coe_sum]
    refine sum_congr rfl fun n _ => ?_
    obtain ⟨a0, a1, a2, a3⟩ := st n
    obtain ⟨f, g⟩ := h.leave l q n
    rw [EReal.coe_add, add_assoc]
    exact congrArg₂ (fun a b : EReal => a + b) (lane_pair a0 a1 f fun hn => state_zero _ (drive_zero (h.idle n hn) _) _)
      (lane_pair a2 a3 g fun hn => state_zero _ (drive_zero (h.idle' n hn) _) _)
  rw [m, o, ← EReal.coe_add, seen_split _ _ _ _ _ _ l.isLt, back_split _ _ _ _ _ _ c.isLt l.isLt, EReal.coe_eq_coe_iff]
  simp only [mul_add, sum_add_distrib]
  ring
end

end Cert.S5
-- ==== Proof.S5Weights.lean ====
/- The S5 scan: the entries of the four blocks the first call's body writes. -/
module

public import proofs.«01_k».proof.Proof.S5Params
public import proofs.«01_k».proof.Proof.S5Block

@[expose] public section

set_option maxRecDepth 16384

noncomputable section

namespace Cert.S5

open Cert.Kernel5Ideal Cert.Kernel5Ideal.Gen
open Idealize.ShloMosaic Idealize.ShloMosaic.TcCoe Idealize.ShloMosaic.Tactic
open Idealize.SL.Sem
open Finset

/-! ### The functions at an index -/

theorem line_apply (x : Vec Ideal S1x1x1x64 .f32) (n : Fin 64) : line x (ix2 0 n) = x (ix4 0 0 0 n) := by pointwise [line]
theorem table_apply (x : Vec Ideal S1x1x16x64 .f32) (p : Fin 16) (n : Fin 64) : table x (ix2 p n) = x (ix4 0 0 p n) := by pointwise [table]

theorem powRe_apply (t : V32) (lr li dt : V1) (k : Fin 32) (n : Fin 64) : (powRe t lr li dt (ix2 k n) : EReal)
    = Ideal.exp (t (ix2 k n) * (lr (ix2 0 n) * dt (ix2 0 n))) * Ideal.cos (t (ix2 k n) * (li (ix2 0 n) * dt (ix2 0 n))) := by
  pointwise [powRe]
theorem powIm_apply (t : V32) (lr li dt : V1) (k : Fin 32) (n : Fin 64) : (powIm t lr li dt (ix2 k n) : EReal)
    = Ideal.exp (t (ix2 k n) * (lr (ix2 0 n) * dt (ix2 0 n))) * Ideal.sin (t (ix2 k n) * (li (ix2 0 n) * dt (ix2 0 n))) := by
  pointwise [powIm]
theorem rowRe_apply (t lr li dt : V1) (n : Fin 64) : (rowRe t lr li dt (ix2 0 n) : EReal)
    = Ideal.exp (t (ix2 0 n) * (lr (ix2 0 n) * dt (ix2 0 n))) * Ideal.cos (t (ix2 0 n) * (li (ix2 0 n) * dt (ix2 0 n))) := by
  pointwise [rowRe]
theorem rowIm_apply (t lr li dt : V1) (n : Fin 64) : (rowIm t lr li dt (ix2 0 n) : EReal)
    = Ideal.exp (t (ix2 0 n) * (lr (ix2 0 n) * dt (ix2 0 n))) * Ideal.sin (t (ix2 0 n) * (li (ix2 0 n) * dt (ix2 0 n))) := by
  pointwise [rowIm]

theorem inRe_apply (lr li dt : V1) (br bi : V16) (p : Fin 16) (n : Fin 64) : (inRe lr li dt br bi (ix2 p n) : EReal)
    = facRe lr li dt (ix2 0 n) * br (ix2 p n) - facIm lr li dt (ix2 0 n) * bi (ix2 p n) := by
  pointwise [inRe]
theorem inIm_apply (lr li dt : V1) (br bi : V16) (p : Fin 16) (n : Fin 64) : (inIm lr li dt br bi (ix2 p n) : EReal)
    = facRe lr li dt (ix2 0 n) * bi (ix2 p n) + facIm lr li dt (ix2 0 n) * br (ix2 p n) := by
  pointwise [inIm]

theorem spread16_apply (c : V16) (k : Fin 32) (p : Fin 16) (n : Fin 64) : spread16 c (ix3 k p n) = c (ix2 p n) := by pointwise [spread16]
theorem spread32_apply (c : V32) (k : Fin 32) (p : Fin 16) (n : Fin 64) : spread32 c (ix3 k p n) = c (ix2 k n) := by pointwise [spread32]
theorem pairs_apply (x : FVec Ideal S32x16x64 .f32) (k : Fin 32) (p : Fin 16) (n : Fin 64) : pairs x (ix2 (in512 k p) n) = x (ix3 k p n) := by
  have e : ∀ h h', (ix3 ⟨(16 * k.val + p.val) / 16, h⟩ ⟨(16 * k.val + p.val) % 16, h'⟩ n : S32x16x64.Idx) = ix3 k p n := fun h h' => by
    congr 1 <;> exact Fin.ext (by simp only; omega)
  rw [← e (by omega) (by omega)]
  pointwise [pairs]

theorem lags_apply (br bi cr ci : V16) (pr pi : V32) (p : Fin 16) (j : Fin 512) : (lags br bi cr ci pr pi (ix2 p j) : EReal)
    = (∑ n : Fin 64, (br (ix2 p n) : EReal) * outRe cr ci pr pi (ix2 j n)) - ∑ n : Fin 64, (bi (ix2 p n) : EReal) * outIm cr ci pr pi (ix2 j n) := by
  pointwise [lags]

theorem upTo_apply (k : Fin 32) (n : Fin 64) : (upTo (ix2 k n) : EReal) = ((k.val : ℕ) : ℝ) := by
  have e : (upTo (ix2 k n) : EReal) = (FloatOps.sitofp (F := Ideal) FTy.f32 (BitVec.ofNat 32 k.val) : Ideal .f32) := by pointwise [upTo]
  have i : (BitVec.ofNat 32 k.val).toInt = (k.val : ℤ) := by
    rw [BitVec.toInt_eq_toNat_of_lt (by simp; omega)]; simp; omega
  refine e.trans (Eq.trans (show _ = (((BitVec.ofNat 32 k.val).toInt : ℝ) : EReal) from rfl) ?_)
  rw [i]; simp

theorem one_f32 : Ideal.ofBits .f32 0x3F800000#32 = ((1 : ℝ) : EReal) := by simp [Ideal.ofBits, Ideal.ieee, -EReal.coe_mul]; norm_num
theorem c31_f32 : Ideal.ofBits .f32 0x41F80000#32 = ((31 : ℝ) : EReal) := by simp [Ideal.ofBits, Ideal.ieee, -EReal.coe_mul]; norm_num
theorem c32_f32 : Ideal.ofBits .f32 0x42000000#32 = ((32 : ℝ) : EReal) := by simp [Ideal.ofBits, Ideal.ieee, -EReal.coe_mul]; norm_num

theorem downFrom_apply (k : Fin 32) (n : Fin 64) : (downFrom (ix2 k n) : EReal) = (((31 - k.val : ℕ) : ℕ) : ℝ) := by
  refine Eq.trans (show _ = Ideal.ofBits .f32 0x41F80000#32 - (upTo (ix2 k n) : EReal) from rfl) ?_
  rw [c31_f32, upTo_apply, ← EReal.coe_sub, Nat.cast_sub (by omega)]; norm_num
theorem upFrom_apply (k : Fin 32) (n : Fin 64) : (upFrom (ix2 k n) : EReal) = (((k.val + 1 : ℕ) : ℕ) : ℝ) := by
  refine Eq.trans (show _ = (upTo (ix2 k n) : EReal) + Ideal.ofBits .f32 0x3F800000#32 from rfl) ?_
  rw [one_f32, upTo_apply, ← EReal.coe_add]; push_cast; rfl
theorem downTo_apply (k : Fin 32) (n : Fin 64) : (downTo (ix2 k n) : EReal) = (((32 - k.val : ℕ) : ℕ) : ℝ) := by
  refine Eq.trans (show _ = Ideal.ofBits .f32 0x42000000#32 - (upTo (ix2 k n) : EReal) from rfl) ?_
  rw [c32_f32, upTo_apply, ← EReal.coe_sub, Nat.cast_sub (by omega)]; norm_num

/-! ### The values of one direction -/

/-- The numbers a direction's arrays hold: the two parts of the eigenvalues, the steps' lengths, the matrices. Only the eigenvalues of
    the states that `live` names are numbers. -/
structure Num where
  live : Fin 64 → Prop
  a : Fin 64 → ℝ
  b : Fin 64 → ℝ
  l : Fin 64 → ℝ
  br : Fin 16 → Fin 64 → ℝ
  bi : Fin 16 → Fin 64 → ℝ
  cr : Fin 16 → Fin 64 → ℝ
  ci : Fin 16 → Fin 64 → ℝ
  ne : ∀ n, live n → a n * a n + b n * b n ≠ 0

def Num.A (m : Num) (n : Fin 64) : ℂ := pole (m.a n) (m.b n) (m.l n)
open Classical in
/-- The weights into the states; an infinite eigenvalue makes them zero. -/
def Num.B (m : Num) (n : Fin 64) (p : Fin 16) : ℂ := if m.live n then fac (m.a n) (m.b n) (m.l n) * ⟨m.br p n, m.bi p n⟩ else 0
theorem Num.B_live (m : Num) {n : Fin 64} (hn : m.live n) (p : Fin 16) : m.B n p = fac (m.a n) (m.b n) (m.l n) * ⟨m.br p n, m.bi p n⟩ := if_pos hn
theorem Num.B_idle (m : Num) {n : Fin 64} (hn : ¬ m.live n) (p : Fin 16) : m.B n p = 0 := if_neg hn
def Num.C (m : Num) (q : Fin 16) (n : Fin 64) : ℂ := ⟨m.cr q n, m.ci q n⟩

structure Dir.Is (d : Dir) (m : Num) : Prop where
  lr : ∀ n, m.live n → (d.lr (ix2 0 n) : EReal) = (m.a n : ℝ)
  li : ∀ n, m.live n → (d.li (ix2 0 n) : EReal) = (m.b n : ℝ)
  top : ∀ n, ¬ m.live n → (d.lr (ix2 0 n) * d.lr (ix2 0 n) + d.li (ix2 0 n) * d.li (ix2 0 n) : EReal) = ⊤
  dt : ∀ n, (d.dt (ix2 0 n) : EReal) = (m.l n : ℝ)
  br : ∀ p n, (d.br (ix2 p n) : EReal) = (m.br p n : ℝ)
  bi : ∀ p n, (d.bi (ix2 p n) : EReal) = (m.bi p n : ℝ)
  cr : ∀ p n, (d.cr (ix2 p n) : EReal) = (m.cr p n : ℝ)
  ci : ∀ p n, (d.ci (ix2 p n) : EReal) = (m.ci p n : ℝ)

theorem power_re (k : ℕ) (a b l : ℝ) : Ideal.exp (((k : ℝ) : EReal) * ((a : EReal) * (l : EReal))) * Ideal.cos (((k : ℝ) : EReal) * ((b : EReal) * (l : EReal)))
    = ((pole a b l ^ k).re : ℝ) := by
  rw [pole, pow_re]
  simp only [← EReal.coe_mul, Ideal.exp_coe, Ideal.cos_coe]
theorem power_im (k : ℕ) (a b l : ℝ) : Ideal.exp (((k : ℝ) : EReal) * ((a : EReal) * (l : EReal))) * Ideal.sin (((k : ℝ) : EReal) * ((b : EReal) * (l : EReal)))
    = ((pole a b l ^ k).im : ℝ) := by
  rw [pole, pow_im]
  simp only [← EReal.coe_mul, Ideal.exp_coe, Ideal.sin_coe]

/-- A quotient by plus infinity is zero. -/
theorem div_top (x : EReal) : Ideal.div x ⊤ = 0 := by simp [Ideal.div]

section
variable {d : Dir} {m : Num} (h : d.Is m)
include h

theorem pr_val {t : V32} {e : ℕ → ℕ} (ht : ∀ (k : Fin 32) (n : Fin 64), (t (ix2 k n) : EReal) = ((e k.val : ℕ) : ℝ)) (k : Fin 32) (n : Fin 64)
    (hn : m.live n) : (d.pr t (ix2 k n) : EReal) = ((m.A n ^ e k.val).re : ℝ) := by
  rw [Dir.pr, powRe_apply, ht, h.lr n hn, h.li n hn, h.dt, power_re]; rfl
theorem pi_val {t : V32} {e : ℕ → ℕ} (ht : ∀ (k : Fin 32) (n : Fin 64), (t (ix2 k n) : EReal) = ((e k.val : ℕ) : ℝ)) (k : Fin 32) (n : Fin 64)
    (hn : m.live n) : (d.pi t (ix2 k n) : EReal) = ((m.A n ^ e k.val).im : ℝ) := by
  rw [Dir.pi, powIm_apply, ht, h.lr n hn, h.li n hn, h.dt, power_im]; rfl

theorem row_val {t : V1} {e : ℕ} (ht : ∀ n : Fin 64, (t (ix2 0 n) : EReal) = ((e : ℕ) : ℝ)) (n : Fin 64) (hn : m.live n) :
    (rowRe t d.lr d.li d.dt (ix2 0 n) : EReal) = ((m.A n ^ e).re : ℝ) ∧ (rowIm t d.lr d.li d.dt (ix2 0 n) : EReal) = ((m.A n ^ e).im : ℝ) := by
  rw [rowRe_apply, rowIm_apply, ht, h.lr n hn, h.li n hn, h.dt, power_re, power_im]; exact ⟨rfl, rfl⟩

theorem ones_val (n : Fin 64) (hn : m.live n) : (rowRe ones d.lr d.li d.dt (ix2 0 n) : EReal) = ((m.A n).re : ℝ) ∧ (rowIm ones d.lr d.li d.dt (ix2 0 n) : EReal) = ((m.A n).im : ℝ) := by
  have := row_val h (t := ones) (e := 1) (fun n => one_f32.trans (by simp)) n hn
  rwa [pow_one] at this

theorem facRe_val (n : Fin 64) (hn : m.live n) : (facRe d.lr d.li d.dt (ix2 0 n) : EReal) = ((fac (m.a n) (m.b n) (m.l n)).re : ℝ) := by
  refine Eq.trans (show _ = Ideal.div ((rowRe ones d.lr d.li d.dt (ix2 0 n) - Ideal.ofBits .f32 0x3F800000#32) * d.lr (ix2 0 n) + rowIm ones d.lr d.li d.dt (ix2 0 n) * d.li (ix2 0 n) : EReal)
    (d.lr (ix2 0 n) * d.lr (ix2 0 n) + d.li (ix2 0 n) * d.li (ix2 0 n) : EReal) from rfl) ?_
  rw [(ones_val h n hn).1, (ones_val h n hn).2, h.lr n hn, h.li n hn, one_f32]
  simp only [← EReal.coe_mul, ← EReal.coe_sub, ← EReal.coe_add]
  rw [Ideal.div_coe (m.ne n hn), ← EReal.coe_mul, EReal.coe_eq_coe_iff, mul_one_div]; rfl
theorem facIm_val (n : Fin 64) (hn : m.live n) : (facIm d.lr d.li d.dt (ix2 0 n) : EReal) = ((fac (m.a n) (m.b n) (m.l n)).im : ℝ) := by
  refine Eq.trans (show _ = Ideal.div (rowIm ones d.lr d.li d.dt (ix2 0 n) * d.lr (ix2 0 n) - (rowRe ones d.lr d.li d.dt (ix2 0 n) - Ideal.ofBits .f32 0x3F800000#32) * d.li (ix2 0 n) : EReal)
    (d.lr (ix2 0 n) * d.lr (ix2 0 n) + d.li (ix2 0 n) * d.li (ix2 0 n) : EReal) from rfl) ?_
  rw [(ones_val h n hn).1, (ones_val h n hn).2, h.lr n hn, h.li n hn, one_f32]
  simp only [← EReal.coe_mul, ← EReal.coe_sub, ← EReal.coe_add]
  rw [Ideal.div_coe (m.ne n hn), ← EReal.coe_mul, EReal.coe_eq_coe_iff, mul_one_div]; rfl

theorem facRe_idle (n : Fin 64) (hn : ¬ m.live n) : (facRe d.lr d.li d.dt (ix2 0 n) : EReal) = 0 := by
  refine Eq.trans (show _ = Ideal.div ((rowRe ones d.lr d.li d.dt (ix2 0 n) - Ideal.ofBits .f32 0x3F800000#32) * d.lr (ix2 0 n) + rowIm ones d.lr d.li d.dt (ix2 0 n) * d.li (ix2 0 n) : EReal)
    (d.lr (ix2 0 n) * d.lr (ix2 0 n) + d.li (ix2 0 n) * d.li (ix2 0 n) : EReal) from rfl) ?_
  rw [h.top n hn, div_top]
theorem facIm_idle (n : Fin 64) (hn : ¬ m.live n) : (facIm d.lr d.li d.dt (ix2 0 n) : EReal) = 0 := by
  refine Eq.trans (show _ = Ideal.div (rowIm ones d.lr d.li d.dt (ix2 0 n) * d.lr (ix2 0 n) - (rowRe ones d.lr d.li d.dt (ix2 0 n) - Ideal.ofBits .f32 0x3F800000#32) * d.li (ix2 0 n) : EReal)
    (d.lr (ix2 0 n) * d.lr (ix2 0 n) + d.li (ix2 0 n) * d.li (ix2 0 n) : EReal) from rfl) ?_
  rw [h.top n hn, div_top]

theorem ir_val (p : Fin 16) (n : Fin 64) : (d.ir (ix2 p n) : EReal) = ((m.B n p).re : ℝ) := by
  by_cases hn : m.live n
  · rw [Dir.ir, inRe_apply, facRe_val h n hn, facIm_val h n hn, h.br, h.bi, m.B_live hn, Complex.mul_re]
    simp only [EReal.coe_mul, EReal.coe_sub]
  · rw [Dir.ir, inRe_apply, facRe_idle h n hn, facIm_idle h n hn, m.B_idle hn]
    simp
theorem ii_val (p : Fin 16) (n : Fin 64) : (d.ii (ix2 p n) : EReal) = ((m.B n p).im : ℝ) := by
  by_cases hn : m.live n
  · rw [Dir.ii, inIm_apply, facRe_val h n hn, facIm_val h n hn, h.br, h.bi, m.B_live hn, Complex.mul_im]
    simp only [EReal.coe_mul, EReal.coe_add]
  · rw [Dir.ii, inIm_apply, facRe_idle h n hn, facIm_idle h n hn, m.B_idle hn]
    simp

variable {t : V32} {e : ℕ → ℕ} (ht : ∀ (k : Fin 32) (n : Fin 64), (t (ix2 k n) : EReal) = ((e k.val : ℕ) : ℝ))
include ht

theorem out_val (k : Fin 32) (q : Fin 16) (n : Fin 64) (hn : m.live n) :
    (outRe d.cr d.ci (d.pr t) (d.pi t) (ix2 (in512 k q) n) : EReal) = ((m.C q n * m.A n ^ e k.val).re : ℝ)
      ∧ (outIm d.cr d.ci (d.pr t) (d.pi t) (ix2 (in512 k q) n) : EReal) = ((m.C q n * m.A n ^ e k.val).im : ℝ) := by
  constructor
  · rw [outRe, pairs_apply]
    refine Eq.trans (show _ = (spread16 d.cr (ix3 k q n) : EReal) * spread32 (d.pr t) (ix3 k q n) - spread16 d.ci (ix3 k q n) * spread32 (d.pi t) (ix3 k q n) from rfl) ?_
    rw [spread16_apply, spread16_apply, spread32_apply, spread32_apply, h.cr, h.ci, pr_val h ht k n hn, pi_val h ht k n hn, Complex.mul_re]
    simp only [EReal.coe_mul, EReal.coe_sub]; rfl
  · rw [outIm, pairs_apply]
    refine Eq.trans (show _ = (spread16 d.cr (ix3 k q n) : EReal) * spread32 (d.pi t) (ix3 k q n) + spread16 d.ci (ix3 k q n) * spread32 (d.pr t) (ix3 k q n) from rfl) ?_
    rw [spread16_apply, spread16_apply, spread32_apply, spread32_apply, h.cr, h.ci, pr_val h ht k n hn, pi_val h ht k n hn, Complex.mul_im]
    simp only [EReal.coe_mul, EReal.coe_add]; rfl

theorem ent_val (k : Fin 32) (p : Fin 16) (n : Fin 64) :
    (entRe d.ir d.ii (d.pr t) (d.pi t) (ix2 (in512 k p) n) : EReal) = ((m.A n ^ e k.val * m.B n p).re : ℝ)
      ∧ (entIm d.ir d.ii (d.pr t) (d.pi t) (ix2 (in512 k p) n) : EReal) = ((m.A n ^ e k.val * m.B n p).im : ℝ) := by
  by_cases hn : m.live n
  swap
  · constructor
    · rw [entRe, pairs_apply]
      refine Eq.trans (show _ = (spread32 (d.pr t) (ix3 k p n) : EReal) * spread16 d.ir (ix3 k p n) - spread32 (d.pi t) (ix3 k p n) * spread16 d.ii (ix3 k p n) from rfl) ?_
      rw [spread16_apply, spread16_apply, ir_val h, ii_val h, m.B_idle hn]
      simp
    · rw [entIm, pairs_apply]
      refine Eq.trans (show _ = (spread32 (d.pr t) (ix3 k p n) : EReal) * spread16 d.ii (ix3 k p n) + spread32 (d.pi t) (ix3 k p n) * spread16 d.ir (ix3 k p n) from rfl) ?_
      rw [spread16_apply, spread16_apply, ir_val h, ii_val h, m.B_idle hn]
      simp
  constructor
  · rw [entRe, pairs_apply]
    refine Eq.trans (show _ = (spread32 (d.pr t) (ix3 k p n) : EReal) * spread16 d.ir (ix3 k p n) - spread32 (d.pi t) (ix3 k p n) * spread16 d.ii (ix3 k p n) from rfl) ?_
    rw [spread16_apply, spread16_apply, spread32_apply, spread32_apply, ir_val h, ii_val h, pr_val h ht k n hn, pi_val h ht k n hn, Complex.mul_re]
    simp only [EReal.coe_mul, EReal.coe_sub]
  · rw [entIm, pairs_apply]
    refine Eq.trans (show _ = (spread32 (d.pr t) (ix3 k p n) : EReal) * spread16 d.ii (ix3 k p n) + spread32 (d.pi t) (ix3 k p n) * spread16 d.ir (ix3 k p n) from rfl) ?_
    rw [spread16_apply, spread16_apply, spread32_apply, spread32_apply, ir_val h, ii_val h, pr_val h ht k n hn, pi_val h ht k n hn, Complex.mul_im]
    simp only [EReal.coe_mul, EReal.coe_add]

theorem lag_val (k : Fin 32) (p q : Fin 16) : (d.lag t (ix2 p (in512 k q)) : EReal) = (reach m.A (m.C q) m.B (e k.val) p : ℝ) := by
  have r : ∀ n, (d.ir (ix2 p n) : EReal) * outRe d.cr d.ci (d.pr t) (d.pi t) (ix2 (in512 k q) n) = (((m.B n p).re * (m.C q n * m.A n ^ e k.val).re : ℝ) : EReal) := fun n => by
    by_cases hn : m.live n
    · rw [ir_val h, (out_val h ht k q n hn).1, EReal.coe_mul]
    · rw [ir_val h, m.B_idle hn]; simp
  have i : ∀ n, (d.ii (ix2 p n) : EReal) * outIm d.cr d.ci (d.pr t) (d.pi t) (ix2 (in512 k q) n) = (((m.B n p).im * (m.C q n * m.A n ^ e k.val).im : ℝ) : EReal) := fun n => by
    by_cases hn : m.live n
    · rw [ii_val h, (out_val h ht k q n hn).2, EReal.coe_mul]
    · rw [ii_val h, m.B_idle hn]; simp
  rw [Dir.lag, lags_apply, reach]
  simp only [r, i, Complex.mul_re (m.B _ p)]
  simp only [← Cert.Attn.coe_sum, ← EReal.coe_sub, EReal.coe_eq_coe_iff, Finset.sum_sub_distrib]
end

theorem minus_apply (x : V512) (r : Fin 512) (n : Fin 64) {y : ℝ} (hx : (x (ix2 r n) : EReal) = y) : (minus x (ix2 r n) : EReal) = ((-y : ℝ) : EReal) := by
  refine Eq.trans (show _ = Ideal.ofBits .f32 0x00000000#32 - (x (ix2 r n) : EReal) from rfl) ?_
  rw [zero_f32, hx, zero_sub, EReal.coe_neg]

/-! ### The blocks -/

theorem past (n : Fin 64) : (128 + n.val < 64 ↔ False) ∧ (128 + n.val - 64 < 64 ↔ False) ∧ 128 + n.val - 64 - 64 = n.val
    ∧ (192 + n.val < 64 ↔ False) ∧ (192 + n.val - 64 < 64 ↔ False) ∧ (192 + n.val - 64 - 64 < 64 ↔ False) ∧ 192 + n.val - 64 - 64 - 64 = n.val := by
  refine ⟨?_, ?_, ?_, ?_, ?_, ?_, ?_⟩ <;> first | omega | exact iff_of_false (by omega) id

theorem quarters_enter (f g u v : V512) (r : Fin 512) (n : Fin 64) :
    k0_pay126 f g u v (ix3 0 r ⟨n.val, by omega⟩) = f (ix2 r n) ∧ k0_pay126 f g u v (ix3 0 r ⟨64 + n.val, by omega⟩) = g (ix2 r n)
      ∧ k0_pay126 f g u v (ix3 0 r ⟨128 + n.val, by omega⟩) = u (ix2 r n) ∧ k0_pay126 f g u v (ix3 0 r ⟨192 + n.val, by omega⟩) = v (ix2 r n) := by
  refine ⟨?_, ?_, ?_, ?_⟩
  · pointwise [k0_pay126]
  · pointwise [k0_pay126]
  · pointwise [k0_pay126]
    simp only [(past n).1, (past n).2.1, (past n).2.2.1, n.isLt, dite_true, dite_false, Fin.eta]
  · pointwise [k0_pay126]
    simp only [(past n).2.2.2.1, (past n).2.2.2.2.1, (past n).2.2.2.2.2.1, (past n).2.2.2.2.2.2, dite_false, Fin.eta]
theorem quarters_leave (f g u v : V512) (r : Fin 512) (n : Fin 64) :
    k0_pay1 (k0_pay127 f g u v) (ix3 0 r ⟨n.val, by omega⟩) = f (ix2 r n) ∧ k0_pay1 (k0_pay127 f g u v) (ix3 0 r ⟨64 + n.val, by omega⟩) = g (ix2 r n)
      ∧ k0_pay1 (k0_pay127 f g u v) (ix3 0 r ⟨128 + n.val, by omega⟩) = u (ix2 r n) ∧ k0_pay1 (k0_pay127 f g u v) (ix3 0 r ⟨192 + n.val, by omega⟩) = v (ix2 r n) := by
  refine ⟨?_, ?_, ?_, ?_⟩
  · pointwise [k0_pay1, k0_pay127]
  · pointwise [k0_pay1, k0_pay127]
  · pointwise [k0_pay1, k0_pay127]
    simp only [(past n).1, (past n).2.1, (past n).2.2.1, n.isLt, dite_true, dite_false, Fin.eta]
  · pointwise [k0_pay1, k0_pay127]
    simp only [(past n).2.2.2.1, (past n).2.2.2.2.1, (past n).2.2.2.2.2.1, (past n).2.2.2.2.2.2, dite_false, Fin.eta]
theorem quarters_decay (f g i u v w : V1) (n : Fin 64) :
    k0_pay2 f g i u v w (ix3 0 0 ⟨n.val, by omega⟩) = f (ix2 0 n) ∧ k0_pay2 f g i u v w (ix3 0 0 ⟨64 + n.val, by omega⟩) = f (ix2 0 n)
      ∧ k0_pay2 f g i u v w (ix3 0 0 ⟨128 + n.val, by omega⟩) = u (ix2 0 n) ∧ k0_pay2 f g i u v w (ix3 0 0 ⟨192 + n.val, by omega⟩) = u (ix2 0 n) := by
  refine ⟨?_, ?_, ?_, ?_⟩
  · pointwise [k0_pay2]
  · pointwise [k0_pay2]
  · pointwise [k0_pay2]
    simp only [(past n).1, (past n).2.1, (past n).2.2.1, n.isLt, dite_true, dite_false, Fin.eta]
  · pointwise [k0_pay2]
    simp only [(past n).2.2.2.1, (past n).2.2.2.2.1, (past n).2.2.2.2.2.1, (past n).2.2.2.2.2.2, dite_false, Fin.eta]
theorem quarters_turn (f g i u v w : V1) (n : Fin 64) :
    k0_pay2 f g i u v w (ix3 0 1 ⟨n.val, by omega⟩) = i (ix2 0 n) ∧ k0_pay2 f g i u v w (ix3 0 1 ⟨64 + n.val, by omega⟩) = g (ix2 0 n)
      ∧ k0_pay2 f g i u v w (ix3 0 1 ⟨128 + n.val, by omega⟩) = w (ix2 0 n) ∧ k0_pay2 f g i u v w (ix3 0 1 ⟨192 + n.val, by omega⟩) = v (ix2 0 n) := by
  refine ⟨?_, ?_, ?_, ?_⟩
  · pointwise [k0_pay2]
  · pointwise [k0_pay2]
  · pointwise [k0_pay2]
    simp only [(past n).1, (past n).2.1, (past n).2.2.1, n.isLt, dite_true, dite_false, Fin.eta]
  · pointwise [k0_pay2]
    simp only [(past n).2.2.2.1, (past n).2.2.2.2.1, (past n).2.2.2.2.2.1, (past n).2.2.2.2.2.2, dite_false, Fin.eta]

/-! ### The weights inside a chunk -/

/-- The lags of both directions, one after the other, at a place. -/
theorem rcat_low (f g : FVec Ideal S16x512 .f32) (p : Fin 16) (j : Fin 512) (hj : j.val < 496) :
    (k0_pay89 f g (ix2 p ⟨j.val, by omega⟩) : EReal) = g (ix2 p j) := by
  pointwise [k0_pay89]
  rw [dif_neg (by omega), add_zero]
theorem rcat_mid (f g : FVec Ideal S16x512 .f32) (p : Fin 16) (q : Fin 16) :
    (k0_pay89 f g (ix2 p ⟨496 + q.val, by omega⟩) : EReal) = g (ix2 p ⟨496 + q.val, by omega⟩) + f (ix2 p ⟨q.val, by omega⟩) := by
  pointwise [k0_pay89]
  rw [dif_pos (by omega), dif_pos (by omega)]
  have e : ∀ h, (⟨(496 + q.val + 1024 - 496) % 1024, h⟩ : Fin 512) = ⟨q.val, by omega⟩ := fun h => Fin.ext (by simp only; omega)
  rw [e]
theorem rcat_high (f g : FVec Ideal S16x512 .f32) (p : Fin 16) (j : Fin 512) (hj : 16 ≤ j.val) :
    (k0_pay89 f g (ix2 p ⟨496 + j.val, by omega⟩) : EReal) = f (ix2 p j) := by
  pointwise [k0_pay89]
  rw [dif_neg (by omega), dif_pos (by omega), zero_add]
  have e : ∀ h, (⟨(496 + j.val + 1024 - 496) % 1024, h⟩ : Fin 512) = j := fun h => Fin.ext (by simp only; omega)
  rw [e]

theorem window_apply (v : FVec Ideal S16x1024 .f32) (k : BitVec 32) (p : Fin 16) (j : Fin 512) :
    (window v k (ix3 0 p j) : EReal) = v (ix2 p ⟨(j.val + 1024 - k.toNat % 1024) % 1024, by omega⟩) := by
  pointwise [window]
theorem last_apply (v : FVec Ideal S16x1024 .f32) (p : Fin 16) (j : Fin 512) :
    (k0_pay125 v (ix3 0 p j) : EReal) = v (ix2 p ⟨j.val, by omega⟩) := by
  pointwise [k0_pay125]

/-- The block of the weights, entry by entry. -/
def moved (v : FVec Ideal S16x1024 .f32) : Vec Ideal S1x512x512 .bf16 :=
  fun y => v (ix2 ⟨(y 1).val % 16, by omega⟩ ⟨16 * (31 - (y 1).val / 16) + (y 2).val, by have : (y 2).val < 512 := (y 2).isLt; omega⟩)

theorem inner_apply (x0 x1 x2 : Vec Ideal S1x2x1x64 .f32) (x3 x4 x5 x6 : Vec Ideal S1x2x16x64 .f32) (y : S1x512x512.Idx) :
    out0_7 x0 x1 x2 x3 x4 x5 x6 y = moved (k0_pay152 x0 x1 x2 x3 x4 x5 x6) y := by
  rw [inner_eq]
  refine View.canon_apply_of_pieces (moved (k0_pay152 x0 x1 x2 x3 x4 x5 x6)) _ ?_ y ?_
  · generalize k0_pay152 x0 x1 x2 x3 x4 x5 x6 = v
    intro pc hp
    rw [List.mem_cons, List.mem_reverse, List.mem_ofFn] at hp
    rcases hp with rfl | ⟨s, rfl⟩
    · intro (x : S1x16x512.Idx)
      obtain ⟨p, j, rfl⟩ : ∃ (p : Fin 16) (j : Fin 512), x = ix3 0 p j := ⟨x 1, x 2, (eq_ix3 x).trans (congrArg (fun z => ix3 z (x 1) (x 2)) (Subsingleton.elim (α := Fin 1) _ _))⟩
      refine (last_apply v p j).trans ?_
      refine Eq.trans ?_ (show v (ix2 ⟨(496 + 1 * p.val) % 16, by omega⟩ ⟨16 * (31 - (496 + 1 * p.val) / 16) + (0 + 1 * j.val), by omega⟩) = _ from rfl)
      refine congrArg v ?_
      congr 1 <;> exact Fin.ext (by simp only; omega)
    · intro (x : S1x16x512.Idx)
      obtain ⟨p, j, rfl⟩ : ∃ (p : Fin 16) (j : Fin 512), x = ix3 0 p j := ⟨x 1, x 2, (eq_ix3 x).trans (congrArg (fun z => ix3 z (x 1) (x 2)) (Subsingleton.elim (α := Fin 1) _ _))⟩
      have hs := s.isLt
      refine (window_apply v _ p j).trans ?_
      refine Eq.trans ?_ (show v (ix2 ⟨(16 * s.val + 1 * p.val) % 16, by omega⟩ ⟨16 * (31 - (16 * s.val + 1 * p.val) / 16) + (0 + 1 * j.val), by omega⟩) = _ from rfl)
      have e : (BitVec.ofNat 32 (528 + 16 * s.val)).toNat = 528 + 16 * s.val := by simp; omega
      refine congrArg v ?_
      congr 1 <;> exact Fin.ext (by simp only [e]; omega)
  · generalize k0_pay152 x0 x1 x2 x3 x4 x5 x6 = v
    have := View.cover_of_tiled (⟨r0_35, k0_pay125 v⟩ :: (List.ofFn (piece v)).reverse : List (View.Piece (Elt Ideal) S1x512x512 .bf16)) S1x16x512.size (by rfl) y
    exact this

section
variable {x0 x1 x2 : Vec Ideal S1x2x1x64 .f32} {x3 x4 x5 x6 : Vec Ideal S1x2x16x64 .f32} {f g : Num}
  (hf : (fwd x0 x1 x2 x3 x4 x5 x6).Is f) (hg : (bwd x0 x1 x2 x3 x4 x5 x6).Is g)
include hf hg

theorem weights_inner (s l : Fin 32) (p q : Fin 16) : (out0_7 x0 x1 x2 x3 x4 x5 x6 (ix3 0 (in512 s p) (in512 l q)) : EReal)
    = (((if s.val ≤ l.val then reach f.A (f.C q) f.B (l.val - s.val) p else 0) + (if l.val ≤ s.val then reach g.A (g.C q) g.B (s.val - l.val) p else 0) : ℝ) : EReal) := by
  have hs := s.isLt
  have hl := l.isLt
  rw [inner_apply]
  have e : moved (k0_pay152 x0 x1 x2 x3 x4 x5 x6) (ix3 0 (in512 s p) (in512 l q))
      = k0_pay152 x0 x1 x2 x3 x4 x5 x6 (ix2 p ⟨16 * (31 - s.val) + (16 * l.val + q.val), by omega⟩) := by
    refine Eq.trans (show _ = k0_pay152 x0 x1 x2 x3 x4 x5 x6 (ix2 ⟨(16 * s.val + p.val) % 16, by omega⟩ ⟨16 * (31 - (16 * s.val + p.val) / 16) + (16 * l.val + q.val), by omega⟩) from rfl) ?_
    refine congrArg _ ?_
    congr 1 <;> exact Fin.ext (by simp only; omega)
  rw [e, lag_eq]
  rcases lt_trichotomy l.val s.val with h | h | h
  · rw [if_neg (by omega), if_pos (by omega), zero_add]
    have i := lag_val hg (e := fun k => 31 - k) downFrom_apply (⟨31 - s.val + l.val, by omega⟩ : Fin 32) p q
    simp only [show 31 - (31 - s.val + l.val) = s.val - l.val by omega] at i
    refine Eq.trans (congrArg _ ?_) ((rcat_low _ _ p (in512 ⟨31 - s.val + l.val, by omega⟩ q) (by simp only; omega)).trans i)
    congr 1; exact Fin.ext (by simp only; omega)
  · rw [if_pos (by omega), if_pos (by omega), add_comm (reach _ _ _ _ _), EReal.coe_add]
    have i := lag_val hg (e := fun k => 31 - k) downFrom_apply (⟨31, by omega⟩ : Fin 32) p q
    have j := lag_val hf (e := fun k => k) upTo_apply (⟨0, by omega⟩ : Fin 32) p q
    simp only [show 31 - 31 = s.val - l.val by omega] at i
    simp only [show 0 = l.val - s.val by omega] at j
    refine Eq.trans (congrArg _ ?_) ((rcat_mid _ _ p q).trans (congrArg₂ (· + ·) (Eq.trans (congrArg _ ?_) i) (Eq.trans (congrArg _ ?_) j)))
    all_goals congr 1 <;> exact Fin.ext (by simp only; omega)
  · rw [if_pos (by omega), if_neg (by omega), add_zero]
    have i := lag_val hf (e := fun k => k) upTo_apply (⟨l.val - s.val, by omega⟩ : Fin 32) p q
    simp only at i
    refine Eq.trans (congrArg _ ?_) ((rcat_high _ _ p (in512 ⟨l.val - s.val, by omega⟩ q) (by simp only; omega)).trans i)
    congr 1; exact Fin.ext (by simp only; omega)

/-- What the first call leaves of a group. -/
theorem weights : Chunk f.live g.live f.A g.A f.B g.B f.C g.C (out0_7 x0 x1 x2 x3 x4 x5 x6) (out0_8 x0 x1 x2 x3 x4 x5 x6) (out0_9 x0 x1 x2 x3 x4 x5 x6) (out0_10 x0 x1 x2 x3 x4 x5 x6) where
  inner := weights_inner hf hg
  enter s p n := by
    rw [enter_eq]
    obtain ⟨a, b, c, e⟩ := quarters_enter (entRe (fwd x0 x1 x2 x3 x4 x5 x6).ir (fwd x0 x1 x2 x3 x4 x5 x6).ii ((fwd x0 x1 x2 x3 x4 x5 x6).pr downFrom) ((fwd x0 x1 x2 x3 x4 x5 x6).pi downFrom))
        (entIm (fwd x0 x1 x2 x3 x4 x5 x6).ir (fwd x0 x1 x2 x3 x4 x5 x6).ii ((fwd x0 x1 x2 x3 x4 x5 x6).pr downFrom) ((fwd x0 x1 x2 x3 x4 x5 x6).pi downFrom))
        (entRe (bwd x0 x1 x2 x3 x4 x5 x6).ir (bwd x0 x1 x2 x3 x4 x5 x6).ii ((bwd x0 x1 x2 x3 x4 x5 x6).pr upTo) ((bwd x0 x1 x2 x3 x4 x5 x6).pi upTo))
        (entIm (bwd x0 x1 x2 x3 x4 x5 x6).ir (bwd x0 x1 x2 x3 x4 x5 x6).ii ((bwd x0 x1 x2 x3 x4 x5 x6).pr upTo) ((bwd x0 x1 x2 x3 x4 x5 x6).pi upTo)) (in512 s p) n
    have v := ent_val hf (e := fun k => 31 - k) downFrom_apply s p n
    have w := ent_val hg (e := fun k => k) upTo_apply s p n
    exact ⟨a.trans v.1, b.trans v.2, c.trans w.1, e.trans w.2⟩
  leave l q n := by
    rw [leave_eq]
    obtain ⟨a, b, c, e⟩ := quarters_leave (outRe (fwd x0 x1 x2 x3 x4 x5 x6).cr (fwd x0 x1 x2 x3 x4 x5 x6).ci ((fwd x0 x1 x2 x3 x4 x5 x6).pr upFrom) ((fwd x0 x1 x2 x3 x4 x5 x6).pi upFrom))
        (minus (outIm (fwd x0 x1 x2 x3 x4 x5 x6).cr (fwd x0 x1 x2 x3 x4 x5 x6).ci ((fwd x0 x1 x2 x3 x4 x5 x6).pr upFrom) ((fwd x0 x1 x2 x3 x4 x5 x6).pi upFrom)))
        (outRe (bwd x0 x1 x2 x3 x4 x5 x6).cr (bwd x0 x1 x2 x3 x4 x5 x6).ci ((bwd x0 x1 x2 x3 x4 x5 x6).pr downTo) ((bwd x0 x1 x2 x3 x4 x5 x6).pi downTo))
        (minus (outIm (bwd x0 x1 x2 x3 x4 x5 x6).cr (bwd x0 x1 x2 x3 x4 x5 x6).ci ((bwd x0 x1 x2 x3 x4 x5 x6).pr downTo) ((bwd x0 x1 x2 x3 x4 x5 x6).pi downTo))) (in512 l q) n
    have v := out_val hf (e := fun k => k + 1) upFrom_apply l q n
    have w := out_val hg (e := fun k => 32 - k) downTo_apply l q n
    exact ⟨fun hn => ⟨a.trans (v hn).1, b.trans (minus_apply _ _ _ (v hn).2)⟩, fun hn => ⟨c.trans (w hn).1, e.trans (minus_apply _ _ _ (w hn).2)⟩⟩
  idle n hn p := f.B_idle hn p
  idle' n hn p := g.B_idle hn p
  decay := by
    have hw : ∀ n : Fin 64, (whole (ix2 0 n) : EReal) = ((32 : ℕ) : ℝ) := fun n => c32_f32.trans (by norm_num)
    have z : ∀ (x : V1) (n : Fin 64) {y : ℝ}, (x (ix2 0 n) : EReal) = y → (subf zeros x (ix2 0 n) : EReal) = ((-y : ℝ) : EReal) := fun x n y hx => by
      refine Eq.trans (show _ = Ideal.ofBits .f32 0x00000000#32 - (x (ix2 0 n) : EReal) from rfl) ?_
      rw [zero_f32, hx, zero_sub, EReal.coe_neg]
    have t0 : ∀ (d : FVec Ideal S2x256 .f32) (j : Fin 128), extractStridedSlice S1x128 ![0, 0] d slices_S2x256_o0_0_S1x128 (ix2 0 j) = d (ix2 0 ⟨j.val, by omega⟩) := fun d j => by pointwise
    have t1 : ∀ (d : FVec Ideal S2x256 .f32) (j : Fin 128), extractStridedSlice S1x128 ![1, 0] d slices_S2x256_o1_0_S1x128 (ix2 0 j) = d (ix2 1 ⟨j.val, by omega⟩) := fun d j => by pointwise
    have t2 : ∀ (d : FVec Ideal S2x256 .f32) (j : Fin 128), extractStridedSlice S1x128 ![0, 128] d slices_S2x256_o0_128_S1x128 (ix2 0 j) = d (ix2 0 ⟨128 + j.val, by omega⟩) := fun d j => by pointwise
    have t3 : ∀ (d : FVec Ideal S2x256 .f32) (j : Fin 128), extractStridedSlice S1x128 ![1, 128] d slices_S2x256_o1_128_S1x128 (ix2 0 j) = d (ix2 1 ⟨128 + j.val, by omega⟩) := fun d j => by pointwise
    rw [decay_eq]
    constructor <;> intro n hn
    · have v := row_val hf hw n hn
      rw [t0, t0, t1, t1, decay_apply, decay_apply, decay_apply, decay_apply]
      exact ⟨(quarters_decay _ _ _ _ _ _ n).1.trans v.1, (quarters_decay _ _ _ _ _ _ n).2.1.trans v.1, (quarters_turn _ _ _ _ _ _ n).1.trans (z _ _ v.2),
        (quarters_turn _ _ _ _ _ _ n).2.1.trans v.2⟩
    · have v := row_val hg hw n hn
      have e : ∀ h h', (⟨128 + (64 + n.val), h⟩ : Fin 256) = ⟨192 + n.val, h'⟩ := fun _ _ => Fin.ext (by simp only; omega)
      rw [t2, t2, t3, t3, decay_apply, decay_apply, decay_apply, decay_apply]
      exact ⟨(quarters_decay _ _ _ _ _ _ n).2.2.1.trans v.1, (congrArg _ (congrArg _ (e _ (by omega)))).trans ((quarters_decay _ _ _ _ _ _ n).2.2.2.trans v.1),
        (quarters_turn _ _ _ _ _ _ n).2.2.1.trans (z _ _ v.2), (congrArg _ (congrArg _ (e _ (by omega)))).trans ((quarters_turn _ _ _ _ _ _ n).2.2.2.trans v.2)⟩
end

end Cert.S5
-- ==== Proof.S5Run.lean ====
/- The S5 scan's program: both calls run, and the result's buffer holds what the last host lines leave. -/
module

public import proofs.«01_k».proof.Proof.Gen.Kernel5Ideal.Frame
public import proofs.«01_k».proof.Proof.S5Weights

@[expose] public section

set_option maxRecDepth 16384

noncomputable section

namespace Cert.S5

open Cert.Kernel5Ideal Cert.Kernel5Ideal.Gen
open Idealize.ShloMosaic Idealize.ShloMosaic.TcCoe Idealize.ShloMosaic.Tactic
open Idealize.SL Idealize.SL.RA Idealize.SL.BI Idealize.SL.Sem
open scoped Idealize.SL.BI
open Idealize.ShloMosaic.Rounds
open Idealize.SL.BI.BIBase Idealize.SL.BI.Laws Idealize.SL.ProofMode

variable (m : (ℓ : Loc nD τ sig) → Buf (Elt Ideal) ℓ) (ρ : Dev nD → PrngReg)

/-- The tokens both pipelines start from. -/
abbrev tokens : UR sig nD τ := initOf (Pipeline.cells cfgs cellOf_inj) (Pipeline.launchToks cfgs cellOf_inj)

/-- The tokens are those of the pipelines, and no device takes anything besides. -/
theorem tokens_dealt : (ownU tokens : sProp (MT nD τ sig Unit (Elt Ideal) ℕ (UR sig nD τ) ℕ))
    ⊢ iprop(|={Set.univ}=> (BI.own (emb₁ tokens) ∗ bigSep Finset.univ (fun _ : Dev nD => (BI.emp : sProp (MT nD τ sig Unit (Elt Ideal) ℕ (UR sig nD τ) ℕ))))) := by
  rw [BI.bigSep_emp_const]
  iintro Ht
  imodintro
  isplitl [Ht]
  · iapply (show (ownU tokens : sProp (MT nD τ sig Unit (Elt Ideal) ℕ (UR sig nD τ) ℕ)) ⊢ BI.own (emb₁ tokens) from .rfl)
    iexact Ht
  · iempintro

set_option backward.isDefEq.respectTransparency.types false in
/-- Every execution ends, and then the result's buffer holds what the last host lines leave there. -/
theorem run_scan : θ_run (defs (F := Ideal)) (onTc (τ := τ) (main (F := Ideal))) ⟨m, fun _ => 0, ρ⟩ (fun r => ∀ c : Dev nD,
    r.2.mem ((c.tc : Thread nD τ).loc main_v22) = W5 m ρ c (Proc.devRef .tc main_v22)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_nil, Pipeline.Seg.pipes_region, Pipeline.Seg.pipes_host]; decide)
    (G := fun _ => iprop(emp)) (u₀ := tokens) (hu₀ := tokens_dealt) (O₀ := 0) (hL := fun _ _ => rfl)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hbufs, Hreg, Howed⟩
      isplitr [Howed]
      · isplitl [Hbufs] <;> iassumption
      · iexact Howed⟩)
    (hinit := by
      refine Pipeline.initEach L lv fun c => ?_
      have e : unscopedBufs c (fun b => m ((c : Thread nD τ).loc b)) = (StableHlo.held (c : Thread nD τ) (Pipeline.ucRefs τ sig) (W0 m ρ c) : sProp (MT nD τ sig Unit (Elt Ideal) ℕ (UR sig nD τ) ℕ)) :=
        Pipeline.unscopedBufs_held c (W0 m ρ c)
      rw [e]
      iintro ⟨⟨Hbufs, -, Howed, -, Hreg, -⟩, -⟩
      imodintro
      isplitl [Hbufs]
      · iexact Hbufs
      · isplitl [Hreg]
        · iexists _; iexact Hreg
        · iexists ∅; iexact Howed)
    (QY := fun c s => ∀ b ∈ Pipeline.ucRefs τ sig, s.mem (((c : Thread nD τ)).1, b) = W5 m ρ c b)
    (hfin := fun c s' => by
      iintro ⟨⟨Hbufs, -⟩, Hs⟩
      unfold StableHlo.held
      imodintro
      iapply (pointsTo_read_all (Pipeline.ucRefs τ sig) (fun b => (((c : Thread nD τ)).1, b)) (W5 m ρ c) s')
      isplitl [Hbufs] <;> iassumption)
    (hQ := fun s h _ c => h c _ (mem_uc main_v22 (by decide)))

end Cert.S5

end
-- ==== Proof.S5Values.lean ====
/- The S5 scan: the numbers its arguments hold, and the outputs they determine. -/
module

public import proofs.«01_k».proof.Proof.S5Weights

@[expose] public section

set_option maxRecDepth 16384

noncomputable section

namespace Cert.S5

open Cert.Kernel5Ideal Cert.Kernel5Ideal.Gen
open Idealize.ShloMosaic Idealize.ShloMosaic.TcCoe Idealize.ShloMosaic.Tactic
open Idealize.SL.Sem

/-- The scan's arguments: the inputs, the eigenvalues' two parts, the steps' logarithms, and both parts of the matrices into and out of
    the states. -/
structure Given where
  u : S2x8192x512.Idx → EReal
  ar : S2x32x64.Idx → EReal
  ai : S2x32x64.Idx → EReal
  ld : S2x32.Idx → EReal
  br : S2x32x64x16.Idx → EReal
  bi : S2x32x64x16.Idx → EReal
  cr : S2x32x16x64.Idx → EReal
  ci : S2x32x16x64.Idx → EReal

/-- Both parts of a state's eigenvalue are numbers. -/
def Given.Finite (x : Given) (i : S2x32x64.Idx) : Prop := x.ar i = ((x.ar i).toReal : EReal) ∧ x.ai i = ((x.ai i).toReal : EReal)

/-- The inputs and the matrices are numbers, the steps have a length, and no eigenvalue is zero. -/
structure Given.Regular (x : Given) : Prop where
  u : ∀ i, x.u i = ((x.u i).toReal : EReal)
  dt : ∀ i, Ideal.exp (x.ld i) = ((Ideal.exp (x.ld i)).toReal : EReal)
  br : ∀ i, x.br i = ((x.br i).toReal : EReal)
  bi : ∀ i, x.bi i = ((x.bi i).toReal : EReal)
  cr : ∀ i, x.cr i = ((x.cr i).toReal : EReal)
  ci : ∀ i, x.ci i = ((x.ci i).toReal : EReal)
  ne : ∀ i, ¬ (x.ar i = 0 ∧ x.ai i = 0)

/-- The square of an eigenvalue's absolute value is not zero when it is a number, and infinite when it is none. -/
theorem square_ne {a b : EReal} (ha : a = (a.toReal : EReal)) (hb : b = (b.toReal : EReal)) (h : ¬ (a = 0 ∧ b = 0)) :
    a.toReal * a.toReal + b.toReal * b.toReal ≠ 0 := by
  intro e
  have a0 : a.toReal = 0 := by nlinarith [mul_self_nonneg a.toReal, mul_self_nonneg b.toReal]
  have b0 : b.toReal = 0 := by nlinarith [mul_self_nonneg a.toReal, mul_self_nonneg b.toReal]
  rw [a0, EReal.coe_zero] at ha
  rw [b0, EReal.coe_zero] at hb
  exact h ⟨ha, hb⟩
theorem square_top {a b : EReal} (h : ¬ (a = (a.toReal : EReal) ∧ b = (b.toReal : EReal))) : a * a + b * b = ⊤ := by
  have s : ∀ c : EReal, c * c = ⊤ ∨ c = (c.toReal : EReal) ∧ c * c = ((c.toReal * c.toReal : ℝ) : EReal) := by
    intro c
    induction c with
    | bot => exact Or.inl (by simp)
    | top => exact Or.inl (by simp)
    | coe r => exact Or.inr ⟨by simp, by simp [EReal.coe_mul]⟩
  rcases s a with ea | ⟨ha, ea⟩ <;> rcases s b with eb | ⟨hb, eb⟩
  · rw [ea, eb]; rfl
  · rw [ea, eb, EReal.top_add_coe]
  · rw [ea, eb, EReal.coe_add_top]
  · exact absurd ⟨ha, hb⟩ h

variable {x : Given} (h : x.Regular)

/-- The parameters of one direction of one group. -/
def numbers (d : Fin 2) (g : Fin 32) : Num where
  live n := x.Finite (ix3 d g n)
  a n := (x.ar (ix3 d g n)).toReal
  b n := (x.ai (ix3 d g n)).toReal
  l _ := (Ideal.exp (x.ld (ix2 d g))).toReal
  br p n := (x.br (ix4 d g n p)).toReal
  bi p n := (x.bi (ix4 d g n p)).toReal
  cr q n := (x.cr (ix4 d g q n)).toReal
  ci q n := (x.ci (ix4 d g q n)).toReal
  ne n hn := square_ne hn.1 hn.2 (h.ne (ix3 d g n))

/-- The inputs of one group of one sequence. -/
def inputs (_ : x.Regular) (b : Fin 2) (g : Fin 32) (t : ℕ) (p : Fin 16) : ℝ :=
  (x.u (ix3 b ⟨t % 8192, by omega⟩ ⟨16 * g.val + p.val, by omega⟩)).toReal

/-- The output of one group's coordinate at one position: both recurrences together. -/
def value (b : Fin 2) (t : ℕ) (g : Fin 32) (q : Fin 16) : ℝ :=
  seen (numbers h 0 g).A ((numbers h 0 g).C q) (numbers h 0 g).B (inputs h b g) (t + 1)
    + seen (numbers h 1 g).A ((numbers h 1 g).C q) (numbers h 1 g).B (back (inputs h b g)) (8192 - t)

/-- The outputs of all positions, one row for each. -/
def valueAt (w : Fin 16384) (k : Fin 512) : EReal :=
  ((value h ⟨w.val / 8192, by omega⟩ (w.val % 8192) ⟨k.val / 16, by omega⟩ ⟨k.val % 16, by omega⟩ : ℝ) : EReal)

end Cert.S5

end
-- ==== Proof.S5Entries.lean ====
/- The S5 scan: what the host lines hand to both calls, and the calls' blocks. -/
module

public import proofs.«01_k».proof.Proof.S5Values
public import proofs.«01_k».proof.Proof.S5Run
public import Idealize.ShloMosaic.Lib.Pipeline.ValueKit

@[expose] public section

set_option maxRecDepth 16384

noncomputable section

namespace Cert.S5

open Cert.Kernel5Ideal Cert.Kernel5Ideal.Gen
open Idealize.ShloMosaic Idealize.ShloMosaic.TcCoe Idealize.ShloMosaic.Tactic
open Idealize.SL.Sem

variable (m : (ℓ : Loc nD τ sig) → Buf (Elt Ideal) ℓ) (ρ : Dev nD → PrngReg) (c : Dev nD)

/-- The arguments as the program finds them. -/
def given : Given where
  u := m ((c : Thread nD τ).loc main_arg0)
  ar := m ((c : Thread nD τ).loc main_arg1)
  ai := m ((c : Thread nD τ).loc main_arg2)
  ld := m ((c : Thread nD τ).loc main_arg3)
  br := m ((c : Thread nD τ).loc main_arg4)
  bi := m ((c : Thread nD τ).loc main_arg5)
  cr := m ((c : Thread nD τ).loc main_arg6)
  ci := m ((c : Thread nD τ).loc main_arg7)

/-! ## The arrays that the first host lines leave -/

/-- The eigenvalues' real parts, by group. -/
theorem entry_ar (g : Fin 32) (d : Fin 2) (n : Fin 64) : (Gen.V1 m ρ c main_v3 : Vec Ideal S32x2x1x64 .f32) (ix4 g d 0 n) = (given m c).ar (ix3 d g n) := by
  simp only [Gen.V1, W1, hostOps0]
  after_results_simp
  pointwise
  rfl

/-- The eigenvalues' imaginary parts, by group. -/
theorem entry_ai (g : Fin 32) (d : Fin 2) (n : Fin 64) : (Gen.V1 m ρ c main_v5 : Vec Ideal S32x2x1x64 .f32) (ix4 g d 0 n) = (given m c).ai (ix3 d g n) := by
  simp only [Gen.V1, W1, hostOps0]
  after_results_simp
  pointwise
  rfl

/-- The steps' logarithms, by group, the same for every state. -/
theorem entry_ld (g : Fin 32) (d : Fin 2) (n : Fin 64) : (Gen.V1 m ρ c main_v7 : Vec Ideal S32x2x1x64 .f32) (ix4 g d 0 n) = (given m c).ld (ix2 d g) := by
  simp only [Gen.V1, W1, hostOps0]
  after_results_simp
  pointwise
  rfl

/-- The matrices into the states, by group and turned over. -/
theorem entry_br (g : Fin 32) (d : Fin 2) (p : Fin 16) (n : Fin 64) : (Gen.V1 m ρ c main_v8 : Vec Ideal S32x2x16x64 .f32) (ix4 g d p n) = (given m c).br (ix4 d g n p) := by
  simp only [Gen.V1, W1, hostOps0]
  after_results_simp
  pointwise
  rfl
theorem entry_bi (g : Fin 32) (d : Fin 2) (p : Fin 16) (n : Fin 64) : (Gen.V1 m ρ c main_v9 : Vec Ideal S32x2x16x64 .f32) (ix4 g d p n) = (given m c).bi (ix4 d g n p) := by
  simp only [Gen.V1, W1, hostOps0]
  after_results_simp
  pointwise
  rfl

/-- The matrices out of the states, by group. -/
theorem entry_cr (g : Fin 32) (d : Fin 2) (q : Fin 16) (n : Fin 64) : (Gen.V1 m ρ c main_v10 : Vec Ideal S32x2x16x64 .f32) (ix4 g d q n) = (given m c).cr (ix4 d g q n) := by
  simp only [Gen.V1, W1, hostOps0]
  after_results_simp
  pointwise
  rfl
theorem entry_ci (g : Fin 32) (d : Fin 2) (q : Fin 16) (n : Fin 64) : (Gen.V1 m ρ c main_v11 : Vec Ideal S32x2x16x64 .f32) (ix4 g d q n) = (given m c).ci (ix4 d g q n) := by
  simp only [Gen.V1, W1, hostOps0]
  after_results_simp
  pointwise
  rfl

/-! ## The first call's blocks -/

theorem index0_0 : ∀ t : Fin cfg0.N, win0_0.index t = ![t.val, 0, 0, 0] := by decide +kernel
theorem index0_1 : ∀ t : Fin cfg0.N, win0_1.index t = ![t.val, 0, 0, 0] := by decide +kernel
theorem index0_2 : ∀ t : Fin cfg0.N, win0_2.index t = ![t.val, 0, 0, 0] := by decide +kernel
theorem index0_3 : ∀ t : Fin cfg0.N, win0_3.index t = ![t.val, 0, 0, 0] := by decide +kernel
theorem index0_4 : ∀ t : Fin cfg0.N, win0_4.index t = ![t.val, 0, 0, 0] := by decide +kernel
theorem index0_5 : ∀ t : Fin cfg0.N, win0_5.index t = ![t.val, 0, 0, 0] := by decide +kernel
theorem index0_6 : ∀ t : Fin cfg0.N, win0_6.index t = ![t.val, 0, 0, 0] := by decide +kernel
theorem index0_7 : ∀ t : Fin cfg0.N, win0_7.index t = ![t.val, 0, 0] := by decide +kernel
theorem index0_8 : ∀ t : Fin cfg0.N, win0_8.index t = ![t.val, 0, 0] := by decide +kernel
theorem index0_9 : ∀ t : Fin cfg0.N, win0_9.index t = ![t.val, 0, 0] := by decide +kernel
theorem index0_10 : ∀ t : Fin cfg0.N, win0_10.index t = ![t.val, 0, 0] := by decide +kernel
theorem group_lt (t : Fin cfg0.N) : t.val < 32 := t.isLt

/-- The group of a point. -/
def group (t : Fin cfg0.N) : Fin 32 := ⟨t.val, group_lt t⟩

theorem at_ar (t : Fin cfg0.N) (d : Fin 2) (n : Fin 64) :
    (iblk0 (Gen.V1 m ρ) c 0 t : Vec Ideal S1x2x1x64 .f32) (ix4 0 d 0 n) = (given m c).ar (ix3 d (group t) n) := by
  rw [← entry_ar m ρ c (group t) d n]
  blk_ext [iblk0, index0_0 t, group]
theorem at_ai (t : Fin cfg0.N) (d : Fin 2) (n : Fin 64) :
    (iblk0 (Gen.V1 m ρ) c 1 t : Vec Ideal S1x2x1x64 .f32) (ix4 0 d 0 n) = (given m c).ai (ix3 d (group t) n) := by
  rw [← entry_ai m ρ c (group t) d n]
  blk_ext [iblk0, index0_1 t, group]
theorem at_ld (t : Fin cfg0.N) (d : Fin 2) (n : Fin 64) :
    (iblk0 (Gen.V1 m ρ) c 2 t : Vec Ideal S1x2x1x64 .f32) (ix4 0 d 0 n) = (given m c).ld (ix2 d (group t)) := by
  rw [← entry_ld m ρ c (group t) d n]
  blk_ext [iblk0, index0_2 t, group]
theorem at_br (t : Fin cfg0.N) (d : Fin 2) (p : Fin 16) (n : Fin 64) :
    (iblk0 (Gen.V1 m ρ) c 3 t : Vec Ideal S1x2x16x64 .f32) (ix4 0 d p n) = (given m c).br (ix4 d (group t) n p) := by
  rw [← entry_br m ρ c (group t) d p n]
  blk_ext [iblk0, index0_3 t, group]
theorem at_bi (t : Fin cfg0.N) (d : Fin 2) (p : Fin 16) (n : Fin 64) :
    (iblk0 (Gen.V1 m ρ) c 4 t : Vec Ideal S1x2x16x64 .f32) (ix4 0 d p n) = (given m c).bi (ix4 d (group t) n p) := by
  rw [← entry_bi m ρ c (group t) d p n]
  blk_ext [iblk0, index0_4 t, group]
theorem at_cr (t : Fin cfg0.N) (d : Fin 2) (q : Fin 16) (n : Fin 64) :
    (iblk0 (Gen.V1 m ρ) c 5 t : Vec Ideal S1x2x16x64 .f32) (ix4 0 d q n) = (given m c).cr (ix4 d (group t) q n) := by
  rw [← entry_cr m ρ c (group t) d q n]
  blk_ext [iblk0, index0_5 t, group]
theorem at_ci (t : Fin cfg0.N) (d : Fin 2) (q : Fin 16) (n : Fin 64) :
    (iblk0 (Gen.V1 m ρ) c 6 t : Vec Ideal S1x2x16x64 .f32) (ix4 0 d q n) = (given m c).ci (ix4 d (group t) q n) := by
  rw [← entry_ci m ρ c (group t) d q n]
  blk_ext [iblk0, index0_6 t, group]

/-! ## The two directions of a block -/

theorem line_fwd (x : Vec Ideal S1x2x1x64 .f32) (n : Fin 64) : line (View.ld x r0_0) (ix2 0 n) = x (ix4 0 0 0 n) := by
  rw [line_apply]
  exact congrArg x (funext fun a => Fin.ext (by fin_cases a <;> simp [Rect.emb_apply]))
theorem line_bwd (x : Vec Ideal S1x2x1x64 .f32) (n : Fin 64) : line (View.ld x r0_2) (ix2 0 n) = x (ix4 0 1 0 n) := by
  rw [line_apply]
  exact congrArg x (funext fun a => Fin.ext (by fin_cases a <;> simp [Rect.emb_apply]))
theorem table_fwd (x : Vec Ideal S1x2x16x64 .f32) (p : Fin 16) (n : Fin 64) : table (View.ld x r0_1) (ix2 p n) = x (ix4 0 0 p n) := by
  rw [table_apply]
  exact congrArg x (funext fun a => Fin.ext (by fin_cases a <;> simp [Rect.emb_apply]))
theorem table_bwd (x : Vec Ideal S1x2x16x64 .f32) (p : Fin 16) (n : Fin 64) : table (View.ld x r0_3) (ix2 p n) = x (ix4 0 1 p n) := by
  rw [table_apply]
  exact congrArg x (funext fun a => Fin.ext (by fin_cases a <;> simp [Rect.emb_apply]))

variable (h : (given m c).Regular)

/-- The exponential of a step's logarithm. -/
theorem exp_line {v : V1} {n : Fin 64} {r : EReal} (e : v (ix2 0 n) = r) (hr : Ideal.exp r = ((Ideal.exp r).toReal : EReal)) :
    ((exp v : V1) (ix2 0 n) : EReal) = ((Ideal.exp r).toReal : ℝ) := by
  refine Eq.trans (show _ = Ideal.exp (v (ix2 0 n)) from rfl) ?_
  rw [e]
  exact hr
/-- The square of the absolute value of an eigenvalue that is no number. -/
theorem sum_line {v w : V1} {n : Fin 64} {a b : EReal} (ev : v (ix2 0 n) = a) (ew : w (ix2 0 n) = b)
    (h : ¬ (a = (a.toReal : EReal) ∧ b = (b.toReal : EReal))) : (v (ix2 0 n) * v (ix2 0 n) + w (ix2 0 n) * w (ix2 0 n) : EReal) = ⊤ := by
  rw [ev, ew]
  exact square_top h

/-- A point's first direction holds its group's parameters. -/
theorem fwd_is (t : Fin cfg0.N) : (fwd (iblk0 (Gen.V1 m ρ) c 0 t) (iblk0 (Gen.V1 m ρ) c 1 t) (iblk0 (Gen.V1 m ρ) c 2 t) (iblk0 (Gen.V1 m ρ) c 3 t) (iblk0 (Gen.V1 m ρ) c 4 t)
    (iblk0 (Gen.V1 m ρ) c 5 t) (iblk0 (Gen.V1 m ρ) c 6 t)).Is (numbers h 0 (group t)) where
  lr n hn := ((line_fwd _ n).trans (at_ar m ρ c t 0 n)).trans hn.1
  li n hn := ((line_fwd _ n).trans (at_ai m ρ c t 0 n)).trans hn.2
  top n hn := sum_line ((line_fwd _ n).trans (at_ar m ρ c t 0 n)) ((line_fwd _ n).trans (at_ai m ρ c t 0 n)) hn
  dt n := exp_line ((line_fwd _ n).trans (at_ld m ρ c t 0 n)) (h.dt _)
  br p n := ((table_fwd _ p n).trans (at_br m ρ c t 0 p n)).trans (h.br _)
  bi p n := ((table_fwd _ p n).trans (at_bi m ρ c t 0 p n)).trans (h.bi _)
  cr p n := ((table_fwd _ p n).trans (at_cr m ρ c t 0 p n)).trans (h.cr _)
  ci p n := ((table_fwd _ p n).trans (at_ci m ρ c t 0 p n)).trans (h.ci _)

/-- The same for its second direction. -/
theorem bwd_is (t : Fin cfg0.N) : (bwd (iblk0 (Gen.V1 m ρ) c 0 t) (iblk0 (Gen.V1 m ρ) c 1 t) (iblk0 (Gen.V1 m ρ) c 2 t) (iblk0 (Gen.V1 m ρ) c 3 t) (iblk0 (Gen.V1 m ρ) c 4 t)
    (iblk0 (Gen.V1 m ρ) c 5 t) (iblk0 (Gen.V1 m ρ) c 6 t)).Is (numbers h 1 (group t)) where
  lr n hn := ((line_bwd _ n).trans (at_ar m ρ c t 1 n)).trans hn.1
  li n hn := ((line_bwd _ n).trans (at_ai m ρ c t 1 n)).trans hn.2
  top n hn := sum_line ((line_bwd _ n).trans (at_ar m ρ c t 1 n)) ((line_bwd _ n).trans (at_ai m ρ c t 1 n)) hn
  dt n := exp_line ((line_bwd _ n).trans (at_ld m ρ c t 1 n)) (h.dt _)
  br p n := ((table_bwd _ p n).trans (at_br m ρ c t 1 p n)).trans (h.br _)
  bi p n := ((table_bwd _ p n).trans (at_bi m ρ c t 1 p n)).trans (h.bi _)
  cr p n := ((table_bwd _ p n).trans (at_cr m ρ c t 1 p n)).trans (h.cr _)
  ci p n := ((table_bwd _ p n).trans (at_ci m ρ c t 1 p n)).trans (h.ci _)

end Cert.S5

end
-- ==== Proof.S5Result.lean ====
/- The S5 scan's result over the extended reals: every output is the formula of the arguments. -/
module

public import proofs.«01_k».proof.Proof.S5Entries

@[expose] public section

set_option maxRecDepth 16384

noncomputable section

namespace Cert.S5

open Cert.Kernel5Ideal Cert.Kernel5Ideal.Gen
open Idealize.ShloMosaic Idealize.ShloMosaic.TcCoe Idealize.ShloMosaic.Tactic
open Idealize.SL.Sem

variable (m : (ℓ : Loc nD τ sig) → Buf (Elt Ideal) ℓ) (ρ : Dev nD → PrngReg) (c : Dev nD)

/-! ## What the first call leaves -/

/-- The four blocks that a point of the first call writes. -/
def inner (t : Fin cfg0.N) : Vec Ideal S1x512x512 .bf16 := out0_7 (iblk0 (Gen.V1 m ρ) c 0 t) (iblk0 (Gen.V1 m ρ) c 1 t) (iblk0 (Gen.V1 m ρ) c 2 t)
  (iblk0 (Gen.V1 m ρ) c 3 t) (iblk0 (Gen.V1 m ρ) c 4 t) (iblk0 (Gen.V1 m ρ) c 5 t) (iblk0 (Gen.V1 m ρ) c 6 t)
def entering (t : Fin cfg0.N) : Vec Ideal S1x512x256 .bf16 := out0_8 (iblk0 (Gen.V1 m ρ) c 0 t) (iblk0 (Gen.V1 m ρ) c 1 t) (iblk0 (Gen.V1 m ρ) c 2 t)
  (iblk0 (Gen.V1 m ρ) c 3 t) (iblk0 (Gen.V1 m ρ) c 4 t) (iblk0 (Gen.V1 m ρ) c 5 t) (iblk0 (Gen.V1 m ρ) c 6 t)
def leaving (t : Fin cfg0.N) : Vec Ideal S1x512x256 .bf16 := out0_9 (iblk0 (Gen.V1 m ρ) c 0 t) (iblk0 (Gen.V1 m ρ) c 1 t) (iblk0 (Gen.V1 m ρ) c 2 t)
  (iblk0 (Gen.V1 m ρ) c 3 t) (iblk0 (Gen.V1 m ρ) c 4 t) (iblk0 (Gen.V1 m ρ) c 5 t) (iblk0 (Gen.V1 m ρ) c 6 t)
def decaying (t : Fin cfg0.N) : Vec Ideal S1x2x256 .f32 := out0_10 (iblk0 (Gen.V1 m ρ) c 0 t) (iblk0 (Gen.V1 m ρ) c 1 t) (iblk0 (Gen.V1 m ρ) c 2 t)
  (iblk0 (Gen.V1 m ρ) c 3 t) (iblk0 (Gen.V1 m ρ) c 4 t) (iblk0 (Gen.V1 m ρ) c 5 t) (iblk0 (Gen.V1 m ρ) c 6 t)

/-- The arrays after the first call: every group's block in its place. -/
theorem array_inner : (dat0 (Gen.V1 m ρ) c).arrAt 7 cfg0.N = (fun i : S32x512x512.Idx => inner m ρ c (i 0) (ix3 0 (i 1) (i 2))) := by
  refine (dat0 (Gen.V1 m ρ) c).arrAt_eq_of_covers 7 _ (by decide +kernel) fun t hf y => ?_
  blk_simp
  rw [after0_7]
  obtain ⟨a, b, rfl⟩ : ∃ (a : Fin 512) (b : Fin 512), y = ix3 0 a b := ⟨y 1, y 2, (eq_ix3 y).trans (congrArg (fun z => ix3 z (y 1) (y 2)) (Subsingleton.elim (α := Fin 1) _ _))⟩
  have e : ((cfg0.win 7).blk t).view.emb (ix3 0 a b) = (ix3 (group t) a b : S32x512x512.Idx) := by
    funext k
    refine Fin.ext ?_
    fin_cases k <;> blk_simp [index0_7 t, group] <;> rfl
  rw [e]
  rfl
theorem array_entering : (dat0 (Gen.V1 m ρ) c).arrAt 8 cfg0.N = (fun i : S32x512x256.Idx => entering m ρ c (i 0) (ix3 0 (i 1) (i 2))) := by
  refine (dat0 (Gen.V1 m ρ) c).arrAt_eq_of_covers 8 _ (by decide +kernel) fun t hf y => ?_
  blk_simp
  rw [after0_8]
  obtain ⟨a, b, rfl⟩ : ∃ (a : Fin 512) (b : Fin 256), y = ix3 0 a b := ⟨y 1, y 2, (eq_ix3 y).trans (congrArg (fun z => ix3 z (y 1) (y 2)) (Subsingleton.elim (α := Fin 1) _ _))⟩
  have e : ((cfg0.win 8).blk t).view.emb (ix3 0 a b) = (ix3 (group t) a b : S32x512x256.Idx) := by
    funext k
    refine Fin.ext ?_
    fin_cases k <;> blk_simp [index0_8 t, group] <;> rfl
  rw [e]
  rfl
theorem array_leaving : (dat0 (Gen.V1 m ρ) c).arrAt 9 cfg0.N = (fun i : S32x512x256.Idx => leaving m ρ c (i 0) (ix3 0 (i 1) (i 2))) := by
  refine (dat0 (Gen.V1 m ρ) c).arrAt_eq_of_covers 9 _ (by decide +kernel) fun t hf y => ?_
  blk_simp
  rw [after0_9]
  obtain ⟨a, b, rfl⟩ : ∃ (a : Fin 512) (b : Fin 256), y = ix3 0 a b := ⟨y 1, y 2, (eq_ix3 y).trans (congrArg (fun z => ix3 z (y 1) (y 2)) (Subsingleton.elim (α := Fin 1) _ _))⟩
  have e : ((cfg0.win 9).blk t).view.emb (ix3 0 a b) = (ix3 (group t) a b : S32x512x256.Idx) := by
    funext k
    refine Fin.ext ?_
    fin_cases k <;> blk_simp [index0_9 t, group] <;> rfl
  rw [e]
  rfl
theorem array_decaying : (dat0 (Gen.V1 m ρ) c).arrAt 10 cfg0.N = (fun i : S32x2x256.Idx => decaying m ρ c (i 0) (ix3 0 (i 1) (i 2))) := by
  refine (dat0 (Gen.V1 m ρ) c).arrAt_eq_of_covers 10 _ (by decide +kernel) fun t hf y => ?_
  blk_simp
  rw [after0_10]
  obtain ⟨a, b, rfl⟩ : ∃ (a : Fin 2) (b : Fin 256), y = ix3 0 a b := ⟨y 1, y 2, (eq_ix3 y).trans (congrArg (fun z => ix3 z (y 1) (y 2)) (Subsingleton.elim (α := Fin 1) _ _))⟩
  have e : ((cfg0.win 10).blk t).view.emb (ix3 0 a b) = (ix3 (group t) a b : S32x2x256.Idx) := by
    funext k
    refine Fin.ext ?_
    fin_cases k <;> blk_simp [index0_10 t, group] <;> rfl
  rw [e]
  rfl

/-! ## The second call's blocks -/

theorem index1_0 : ∀ t : Fin cfg1.N, win1_0.index t = ![t.val, 0, 0] := by decide +kernel
theorem index1_1 : ∀ t : Fin cfg1.N, win1_1.index t = ![t.val, 0, 0] := by decide +kernel
theorem index1_2 : ∀ t : Fin cfg1.N, win1_2.index t = ![t.val, 0, 0] := by decide +kernel
theorem index1_3 : ∀ t : Fin cfg1.N, win1_3.index t = ![t.val, 0, 0] := by decide +kernel
theorem index1_4 : ∀ t : Fin cfg1.N, win1_4.index t = ![t.val, 0, 0] := by decide +kernel
theorem index1_5 : ∀ t : Fin cfg1.N, win1_5.index t = ![t.val, 0, 0] := by decide +kernel
theorem point_lt (t : Fin cfg1.N) : t.val < 32 := t.isLt

/-- The first call's array is the second one's input. -/
theorem handed_inner : Gen.V3 m ρ c main_v12_0 = (fun i : S32x512x512.Idx => inner m ρ c (i 0) (ix3 0 (i 1) (i 2))) :=
  ((W3_of m ρ c main_v12_0 (by decide)).trans (W2_arr m ρ c 7)).trans (array_inner m ρ c)
theorem handed_entering : Gen.V3 m ρ c main_v12_1 = (fun i : S32x512x256.Idx => entering m ρ c (i 0) (ix3 0 (i 1) (i 2))) :=
  ((W3_of m ρ c main_v12_1 (by decide)).trans (W2_arr m ρ c 8)).trans (array_entering m ρ c)
theorem handed_leaving : Gen.V3 m ρ c main_v12_2 = (fun i : S32x512x256.Idx => leaving m ρ c (i 0) (ix3 0 (i 1) (i 2))) :=
  ((W3_of m ρ c main_v12_2 (by decide)).trans (W2_arr m ρ c 9)).trans (array_leaving m ρ c)
theorem handed_decaying : Gen.V3 m ρ c main_v12_3 = (fun i : S32x2x256.Idx => decaying m ρ c (i 0) (ix3 0 (i 1) (i 2))) :=
  ((W3_of m ρ c main_v12_3 (by decide)).trans (W2_arr m ρ c 10)).trans (array_decaying m ρ c)

theorem at_inner (t : Fin cfg1.N) : (iblk1 (Gen.V3 m ρ) c 1 t : Vec Ideal S1x512x512 .bf16) = inner m ρ c ⟨t.val, point_lt t⟩ := by
  funext y
  obtain ⟨a, b, rfl⟩ : ∃ (a : Fin 512) (b : Fin 512), y = ix3 0 a b := ⟨y 1, y 2, (eq_ix3 y).trans (congrArg (fun z => ix3 z (y 1) (y 2)) (Subsingleton.elim (α := Fin 1) _ _))⟩
  have e : (iblk1 (Gen.V3 m ρ) c 1 t : Vec Ideal S1x512x512 .bf16) (ix3 0 a b) = (Gen.V3 m ρ c main_v12_0 : Vec Ideal S32x512x512 .bf16) (ix3 ⟨t.val, point_lt t⟩ a b) := by
    blk_ext [iblk1, index1_1 t]
  rw [e, handed_inner]
  rfl
theorem at_entering (t : Fin cfg1.N) : (iblk1 (Gen.V3 m ρ) c 2 t : Vec Ideal S1x512x256 .bf16) = entering m ρ c ⟨t.val, point_lt t⟩ := by
  funext y
  obtain ⟨a, b, rfl⟩ : ∃ (a : Fin 512) (b : Fin 256), y = ix3 0 a b := ⟨y 1, y 2, (eq_ix3 y).trans (congrArg (fun z => ix3 z (y 1) (y 2)) (Subsingleton.elim (α := Fin 1) _ _))⟩
  have e : (iblk1 (Gen.V3 m ρ) c 2 t : Vec Ideal S1x512x256 .bf16) (ix3 0 a b) = (Gen.V3 m ρ c main_v12_1 : Vec Ideal S32x512x256 .bf16) (ix3 ⟨t.val, point_lt t⟩ a b) := by
    blk_ext [iblk1, index1_2 t]
  rw [e, handed_entering]
  rfl
theorem at_leaving (t : Fin cfg1.N) : (iblk1 (Gen.V3 m ρ) c 3 t : Vec Ideal S1x512x256 .bf16) = leaving m ρ c ⟨t.val, point_lt t⟩ := by
  funext y
  obtain ⟨a, b, rfl⟩ : ∃ (a : Fin 512) (b : Fin 256), y = ix3 0 a b := ⟨y 1, y 2, (eq_ix3 y).trans (congrArg (fun z => ix3 z (y 1) (y 2)) (Subsingleton.elim (α := Fin 1) _ _))⟩
  have e : (iblk1 (Gen.V3 m ρ) c 3 t : Vec Ideal S1x512x256 .bf16) (ix3 0 a b) = (Gen.V3 m ρ c main_v12_2 : Vec Ideal S32x512x256 .bf16) (ix3 ⟨t.val, point_lt t⟩ a b) := by
    blk_ext [iblk1, index1_3 t]
  rw [e, handed_leaving]
  rfl
theorem at_decaying (t : Fin cfg1.N) : (iblk1 (Gen.V3 m ρ) c 4 t : Vec Ideal S1x2x256 .f32) = decaying m ρ c ⟨t.val, point_lt t⟩ := by
  funext y
  obtain ⟨a, b, rfl⟩ : ∃ (a : Fin 2) (b : Fin 256), y = ix3 0 a b := ⟨y 1, y 2, (eq_ix3 y).trans (congrArg (fun z => ix3 z (y 1) (y 2)) (Subsingleton.elim (α := Fin 1) _ _))⟩
  have e : (iblk1 (Gen.V3 m ρ) c 4 t : Vec Ideal S1x2x256 .f32) (ix3 0 a b) = (Gen.V3 m ρ c main_v12_3 : Vec Ideal S32x2x256 .f32) (ix3 ⟨t.val, point_lt t⟩ a b) := by
    blk_ext [iblk1, index1_4 t]
  rw [e, handed_decaying]
  rfl

/-- The inputs as the second call finds them: by group, then by chunk, then by the place in the chunk. -/
theorem entry_u (g : Fin 32) (r : Fin 512) (k : Fin 512) : (Gen.V3 m ρ c main_v17 : Vec Ideal S32x512x512 .bf16) (ix3 g r k)
    = (given m c).u (ix3 ⟨r.val / 256, by omega⟩ ⟨32 * (r.val % 256) + k.val / 16, by omega⟩ ⟨16 * g.val + k.val % 16, by omega⟩) := by
  have e : W2 m ρ c (Proc.devRef .tc main_arg0) = m ((c : Thread nD τ).loc main_arg0) := W2_args m ρ c main_arg0 (by decide)
  simp only [Gen.V3, W3, hostOps1]
  after_results_simp
  rw [e]
  pointwise
  refine congrArg (given m c).u ?_
  congr 1 <;> exact Fin.ext (by simp only; omega)

theorem at_u (t : Fin cfg1.N) (r k : Fin 512) : (iblk1 (Gen.V3 m ρ) c 0 t : Vec Ideal S1x512x512 .bf16) (ix3 0 r k)
    = (given m c).u (ix3 ⟨r.val / 256, by omega⟩ ⟨32 * (r.val % 256) + k.val / 16, by omega⟩ ⟨16 * t.val + k.val % 16, by have := point_lt t; omega⟩) := by
  refine Eq.trans ?_ (entry_u m ρ c ⟨t.val, point_lt t⟩ r k)
  blk_ext [iblk1, index1_0 t]

section
variable (h : (given m c).Regular)
include h

/-- The second call finds the first one's weights. -/
theorem chunk (t : Fin cfg1.N) : Chunk (numbers h 0 ⟨t.val, point_lt t⟩).live (numbers h 1 ⟨t.val, point_lt t⟩).live (numbers h 0 ⟨t.val, point_lt t⟩).A (numbers h 1 ⟨t.val, point_lt t⟩).A (numbers h 0 ⟨t.val, point_lt t⟩).B (numbers h 1 ⟨t.val, point_lt t⟩).B
    (numbers h 0 ⟨t.val, point_lt t⟩).C (numbers h 1 ⟨t.val, point_lt t⟩).C
    (iblk1 (Gen.V3 m ρ) c 1 t) (iblk1 (Gen.V3 m ρ) c 2 t) (iblk1 (Gen.V3 m ρ) c 3 t) (iblk1 (Gen.V3 m ρ) c 4 t) := by
  have e := weights (fwd_is m ρ c h ⟨t.val, point_lt t⟩) (bwd_is m ρ c h ⟨t.val, point_lt t⟩)
  rw [at_inner, at_entering, at_leaving, at_decaying]
  exact e

theorem block_u (t : Fin cfg1.N) (b : Fin 2) (d : Fin 256) (s : Fin 32) (p : Fin 16) :
    @Eq EReal ((iblk1 (Gen.V3 m ρ) c 0 t : Vec Ideal S1x512x512 .bf16) (ix3 0 (at512 b d) (in512 s p)))
      (inputs h b ⟨t.val, point_lt t⟩ (32 * d.val + s.val) p : ℝ) := by
  refine ((at_u m ρ c t _ _).trans ?_).trans (h.u _)
  refine congrArg (given m c).u ?_
  congr 1 <;> exact Fin.ext (by simp only; omega)

/-- A group's block of outputs. -/
theorem block_value (t : Fin cfg1.N) (r k : Fin 512) :
    (out1_5 (iblk1 (Gen.V3 m ρ) c 0 t) (iblk1 (Gen.V3 m ρ) c 1 t) (iblk1 (Gen.V3 m ρ) c 2 t) (iblk1 (Gen.V3 m ρ) c 3 t) (iblk1 (Gen.V3 m ρ) c 4 t) (ix3 0 r k) : EReal)
      = (value h ⟨r.val / 256, by omega⟩ (32 * (r.val % 256) + k.val / 16) ⟨t.val, point_lt t⟩ ⟨k.val % 16, by omega⟩ : ℝ) := by
  have e := conv_entry (U := fun b => inputs h b ⟨t.val, point_lt t⟩) (chunk m ρ c h t) (fun b d s p => block_u m ρ c h t b d s p)
    ⟨r.val / 256, by omega⟩ ⟨r.val % 256, by omega⟩ ⟨k.val / 16, by omega⟩ ⟨k.val % 16, by omega⟩
  rw [show at512 ⟨r.val / 256, by omega⟩ ⟨r.val % 256, by omega⟩ = r from Fin.ext (by simp only; omega),
    show in512 ⟨k.val / 16, by omega⟩ ⟨k.val % 16, by omega⟩ = k from Fin.ext (by simp only; omega)] at e
  exact e

omit h in
/-- An output of a group, by its row and lane of the second call's array. -/
def outcome (h : (given m c).Regular) (g : Fin 32) (r k : Fin 512) : EReal :=
  (value h ⟨r.val / 256, by omega⟩ (32 * (r.val % 256) + k.val / 16) g ⟨k.val % 16, by omega⟩ : ℝ)

/-- The second call's array. -/
theorem array_result : (dat1 (Gen.V3 m ρ) c).arrAt 5 cfg1.N = (fun i : S32x512x512.Idx => outcome m c h (i 0) (i 1) (i 2)) := by
  refine (dat1 (Gen.V3 m ρ) c).arrAt_eq_of_covers 5 _ (by decide +kernel) fun t hf y => ?_
  blk_simp
  rw [after1_5]
  obtain ⟨a, b, rfl⟩ : ∃ (a : Fin 512) (b : Fin 512), y = ix3 0 a b := ⟨y 1, y 2, (eq_ix3 y).trans (congrArg (fun z => ix3 z (y 1) (y 2)) (Subsingleton.elim (α := Fin 1) _ _))⟩
  have e : ((cfg1.win 5).blk t).view.emb (ix3 0 a b) = (ix3 ⟨t.val, point_lt t⟩ a b : S32x512x512.Idx) := by
    funext k
    refine Fin.ext ?_
    fin_cases k <;> blk_simp [index1_5 t] <;> rfl
  rw [e]
  exact block_value m ρ c h t a b

/-- The result: every output of every position. -/
theorem result_value : W5 m ρ c (Proc.devRef .tc main_v22) = (fun i : S16384x512.Idx => valueAt h (i 0) (i 1)) := by
  have e : W4 m ρ c (Proc.devRef .tc main_v18) = _ := (W4_arr m ρ c 5).trans (array_result m ρ c h)
  simp only [W5, hostOps2]
  after_results_simp
  rw [e]
  funext i
  obtain ⟨w, k, rfl⟩ : ∃ (w : Fin 16384) (k : Fin 512), i = ix2 w k := ⟨i 0, i 1, eq_ix2 i⟩
  pointwise
  refine congrArg (fun z : ℝ => (z : EReal)) ?_
  congr 1
  · exact Fin.ext (by simp only; omega)
  · simp only; omega
  · exact Fin.ext (by simp only; omega)

end

end Cert.S5

end
-- ==== Proof.S5Setup.lean ====
/- The S5 scan's reference before its loop: the decays, the weighed inputs of both directions. -/
module

public import proofs.«01_k».proof.Proof.S5Values
public import proofs.«01_k».proof.Proof.Gen.Reference5Ideal.Run
public import proofs.«01_k».proof.Proof.Gen.Reference5Ideal.Step

@[expose] public section

set_option maxRecDepth 16384

noncomputable section

namespace Cert.S5Ref

open Cert.Reference5Ideal Cert.Reference5Ideal.Gen Cert.Reference5Ideal.Step Cert.S5
open Idealize.ShloMosaic Idealize.ShloMosaic.TcCoe Idealize.ShloMosaic.Tactic
open Idealize.SL.Sem Finset

variable {x : Given} (h : x.Regular)

/-- A group's inputs in the order in which a direction takes them: from the first on, or from the last back. -/
def order (h : x.Regular) (d b : Fin 2) (g : Fin 32) : ℕ → Fin 16 → ℝ := if d = 0 then inputs h b g else back (inputs h b g)

include h

/-- The decays of the states whose eigenvalues are numbers. -/
theorem decay_re (d : Fin 2) (g : Fin 32) (n : Fin 64) (hn : (numbers h d g).live n) :
    @Eq EReal (A_main_v13 (F := Ideal) x.u x.ar x.ai x.ld x.br x.bi (ix3 d g n)) (((numbers h d g).A n).re : ℝ) := by
  pointwise [A_main_v13, A_main_v12, A_main_v11, A_main_v10, A_main_v9, A_main_v8, A_main_v7, A_main_v6, A_main_v5]
  rw [hn.1, hn.2, h.dt]
  simp only [← EReal.coe_mul, Ideal.exp_coe, Ideal.cos_coe]
  rw [Num.A, pole, Complex.exp_re]; rfl
theorem decay_im (d : Fin 2) (g : Fin 32) (n : Fin 64) (hn : (numbers h d g).live n) :
    @Eq EReal (A_main_v17 (F := Ideal) x.u x.ar x.ai x.ld x.br x.bi (ix3 d g n)) (((numbers h d g).A n).im : ℝ) := by
  pointwise [A_main_v17, A_main_v16, A_main_v15, A_main_v14, A_main_v9, A_main_v8, A_main_v7, A_main_v6, A_main_v5]
  rw [hn.1, hn.2, h.dt]
  simp only [← EReal.coe_mul, Ideal.exp_coe, Ideal.sin_coe]
  rw [Num.A, pole, Complex.exp_im]; rfl

/-- The steps' factors. -/
theorem factor_re (d : Fin 2) (g : Fin 32) (n : Fin 64) (hn : (numbers h d g).live n) : @Eq EReal (A_main_v26 (F := Ideal) x.u x.ar x.ai x.ld x.br x.bi (ix3 d g n))
    ((fac ((numbers h d g).a n) ((numbers h d g).b n) ((numbers h d g).l n)).re : ℝ) := by
  pointwise [A_main_v26, A_main_v25, A_main_v24, A_main_v23, A_main_v22, A_main_v20, A_main_v19, A_main_v18, K_main_v21, K_main_cst]
  rw [decay_re h d g n hn, decay_im h d g n hn, ← EReal.coe_one, hn.1, hn.2]
  simp only [← EReal.coe_mul, ← EReal.coe_sub, ← EReal.coe_add]
  rw [Ideal.div_coe (square_ne hn.1 hn.2 (h.ne (ix3 d g n))), ← EReal.coe_mul, EReal.coe_eq_coe_iff, mul_one_div]; rfl
theorem factor_im (d : Fin 2) (g : Fin 32) (n : Fin 64) (hn : (numbers h d g).live n) : @Eq EReal (A_main_v30 (F := Ideal) x.u x.ar x.ai x.ld x.br x.bi (ix3 d g n))
    ((fac ((numbers h d g).a n) ((numbers h d g).b n) ((numbers h d g).l n)).im : ℝ) := by
  pointwise [A_main_v30, A_main_v29, A_main_v28, A_main_v27, A_main_v22, A_main_v20, A_main_v19, A_main_v18, K_main_v21, K_main_cst]
  rw [decay_re h d g n hn, decay_im h d g n hn, ← EReal.coe_one, hn.1, hn.2]
  simp only [← EReal.coe_mul, ← EReal.coe_sub, ← EReal.coe_add]
  rw [Ideal.div_coe (square_ne hn.1 hn.2 (h.ne (ix3 d g n))), ← EReal.coe_mul, EReal.coe_eq_coe_iff, mul_one_div]; rfl

/-- An infinite eigenvalue makes both zero. -/
theorem factor_re_idle (d : Fin 2) (g : Fin 32) (n : Fin 64) (hn : ¬ (numbers h d g).live n) :
    @Eq EReal (A_main_v26 (F := Ideal) x.u x.ar x.ai x.ld x.br x.bi (ix3 d g n)) 0 := by
  refine Eq.trans (show _ = Ideal.div (A_main_v25 (F := Ideal) x.u x.ar x.ai x.ld x.br x.bi (ix3 d g n))
    (x.ar (ix3 d g n) * x.ar (ix3 d g n) + x.ai (ix3 d g n) * x.ai (ix3 d g n)) from rfl) ?_
  rw [square_top hn, div_top]
theorem factor_im_idle (d : Fin 2) (g : Fin 32) (n : Fin 64) (hn : ¬ (numbers h d g).live n) :
    @Eq EReal (A_main_v30 (F := Ideal) x.u x.ar x.ai x.ld x.br x.bi (ix3 d g n)) 0 := by
  refine Eq.trans (show _ = Ideal.div (A_main_v29 (F := Ideal) x.u x.ar x.ai x.ld x.br x.bi (ix3 d g n))
    (x.ar (ix3 d g n) * x.ar (ix3 d g n) + x.ai (ix3 d g n) * x.ai (ix3 d g n)) from rfl) ?_
  rw [square_top hn, div_top]

/-- The matrices into the states. -/
theorem weight_re (d : Fin 2) (g : Fin 32) (n : Fin 64) (p : Fin 16) :
    @Eq EReal (A_main_v37 (F := Ideal) x.u x.ar x.ai x.ld x.br x.bi (ix4 d g n p)) (((numbers h d g).B n p).re : ℝ) := by
  pointwise [A_main_v37, A_main_v36, A_main_v35, A_main_v34, A_main_v33, A_main_v32, A_main_v31]
  by_cases hn : (numbers h d g).live n
  · rw [factor_re h d g n hn, factor_im h d g n hn, h.br, h.bi]
    simp only [← EReal.coe_mul, ← EReal.coe_sub]
    rw [Num.B_live _ hn, Complex.mul_re]; rfl
  · rw [factor_re_idle h d g n hn, factor_im_idle h d g n hn, Num.B_idle _ hn]
    simp
theorem weight_im (d : Fin 2) (g : Fin 32) (n : Fin 64) (p : Fin 16) :
    @Eq EReal (A_main_v44 (F := Ideal) x.u x.ar x.ai x.ld x.br x.bi (ix4 d g n p)) (((numbers h d g).B n p).im : ℝ) := by
  pointwise [A_main_v44, A_main_v43, A_main_v42, A_main_v41, A_main_v40, A_main_v39, A_main_v38]
  by_cases hn : (numbers h d g).live n
  · rw [factor_re h d g n hn, factor_im h d g n hn, h.br, h.bi]
    simp only [← EReal.coe_mul, ← EReal.coe_add]
    rw [Num.B_live _ hn, Complex.mul_im]; rfl
  · rw [factor_re_idle h d g n hn, factor_im_idle h d g n hn, Num.B_idle _ hn]
    simp

/-- The inputs in both orders. -/
theorem order_apply (t : Fin 8192) (d b : Fin 2) (g : Fin 32) (p : Fin 16) :
    @Eq EReal (A_main_v4 (F := Ideal) x.u x.ar x.ai x.ld x.br x.bi (ix5 d b t g p)) (order h d b g t.val p : ℝ) := by
  fin_cases d
  · refine Eq.trans (b := x.u (ix3 b ⟨t.val % 8192, by omega⟩ ⟨16 * g.val + p.val, by omega⟩)) ?_ (h.u _)
    pointwise [A_main_v4, A_main_v3, A_main_v2, A_main_v1, A_main_v0]
    refine congrArg x.u ?_
    congr 1 <;> exact Fin.ext (by simp only; omega)
  · refine Eq.trans (b := x.u (ix3 b ⟨(8191 - t.val) % 8192, by omega⟩ ⟨16 * g.val + p.val, by omega⟩)) ?_ (h.u _)
    pointwise [A_main_v4, A_main_v3, A_main_v2, A_main_v1, A_main_v0]
    refine congrArg x.u ?_
    simp only [List.mem_singleton, Fin.isValue]
    congr 1 <;> exact Fin.ext (by simp [Fin.rev]; omega)

/-- What the loop adds at every step. -/
theorem added_re (t : Fin 8192) (d b : Fin 2) (g : Fin 32) (n : Fin 64) : @Eq EReal (A_main_v46 (F := Ideal) x.u x.ar x.ai x.ld x.br x.bi (ix5 t d b g n))
    ((drive ((numbers h d g).B n) (order h d b g) t.val).re : ℝ) := by
  pointwise [A_main_v46, A_main_v45]
  rw [drive, Complex.re_sum, Cert.Attn.coe_sum]
  refine sum_congr rfl fun p _ => ?_
  rw [order_apply h, weight_re h, ← EReal.coe_mul, Complex.re_mul_ofReal, mul_comm]
theorem added_im (t : Fin 8192) (d b : Fin 2) (g : Fin 32) (n : Fin 64) : @Eq EReal (A_main_v48 (F := Ideal) x.u x.ar x.ai x.ld x.br x.bi (ix5 t d b g n))
    ((drive ((numbers h d g).B n) (order h d b g) t.val).im : ℝ) := by
  pointwise [A_main_v48, A_main_v47]
  rw [drive, Complex.im_sum, Cert.Attn.coe_sum]
  refine sum_congr rfl fun p _ => ?_
  rw [order_apply h, weight_im h, ← EReal.coe_mul, Complex.im_mul_ofReal, mul_comm]

end Cert.S5Ref

end
-- ==== Proof.S5Loop.lean ====
/- The S5 scan's reference: what its loop holds before every step, and its result. -/
module

public import proofs.«01_k».proof.Proof.S5Setup
public import Idealize.ShloMosaic.Lib.DynamicIndex

@[expose] public section

set_option maxRecDepth 16384

noncomputable section

namespace Cert.S5Ref

open Cert.Reference5Ideal Cert.Reference5Ideal.Gen Cert.Reference5Ideal.Value Cert.Reference5Ideal.Step Cert.S5
open Idealize.ShloMosaic Idealize.ShloMosaic.TcCoe Idealize.ShloMosaic.Tactic Idealize.ShloMosaic.StableHlo
open Idealize.SL.Sem Finset

/-! ## Where a step reads and writes -/

/-- The place of a step whose number is `k`. -/
def place (k : BitVec 32) : Fin 5 → ℤ := fun a =>
  ((![constantI S_ 32 k, constantI S_ 32 0#32, constantI S_ 32 0#32, constantI S_ 32 0#32, constantI S_ 32 0#32] : Fin 5 → IVec S_ 32) a (Shape.Idx.first h_S_)).toInt

theorem place_eq {j : ℕ} (hj : j < 8192) (a : Fin 5) : place (BitVec.ofNat 32 j) a = ((![j, 0, 0, 0, 0] : Fin 5 → ℕ) a : ℤ) := by
  fin_cases a
  · show (BitVec.ofNat 32 j).toInt = (j : ℤ)
    rw [BitVec.toInt_eq_toNat_of_lt (by simp only [BitVec.toNat_ofNat]; omega), BitVec.toNat_ofNat]
    omega
  all_goals rfl

theorem place_fits {j : ℕ} (hj : j < 8192) : S8192x2x2x32x64.Slices (![j, 0, 0, 0, 0] : Fin 5 → ℕ) S1x2x2x32x64 :=
  ⟨rfl, fun a => by fin_cases a <;> simp [S8192x2x2x32x64, S1x2x2x32x64] <;> omega⟩

theorem taken {j : ℕ} (hj : j < 8192) (v : FVec Ideal S8192x2x2x32x64 .f32) (d b : Fin 2) (g : Fin 32) (n : Fin 64) :
    Host.dynamicSlice S1x2x2x32x64 v (place (BitVec.ofNat 32 j)) sliceFits_S8192x2x2x32x64_S1x2x2x32x64 (ix5 0 d b g n) = v (ix5 ⟨j, hj⟩ d b g n) := by
  rw [Host.dynamicSlice_eq_extractStridedSlice S1x2x2x32x64 v _ ![j, 0, 0, 0, 0] _ (place_fits hj) (place_eq hj)]
  pointwise

theorem placed {j : ℕ} (hj : j < 8192) (v : FVec Ideal S8192x2x2x32x64 .f32) (u : FVec Ideal S1x2x2x32x64 .f32) (t : Fin 8192) (d b : Fin 2) (g : Fin 32) (n : Fin 64) :
    Host.dynamicUpdateSlice v u (place (BitVec.ofNat 32 j)) updateFits_S8192x2x2x32x64_S1x2x2x32x64 (ix5 t d b g n)
      = if t.val = j then u (ix5 0 d b g n) else v (ix5 t d b g n) := by
  rw [Host.dynamicUpdateSlice_eq_updateSlice v u _ _ ![j, 0, 0, 0, 0] (fun a => ?_) (place_fits hj)]
  · pointwise
    by_cases e : t.val = j
    · rw [dif_pos (by omega), if_pos e]
      refine congrArg u ?_
      congr 1
      exact Fin.ext (by simp only [Fin.val_zero]; omega)
    · rw [dif_neg (by omega), if_neg e]
  · rw [place_eq hj]
    have := (place_fits hj).2 a
    omega

/-! ## A step -/

/-- The states' real parts after a step. -/
def nextRe (k : BitVec 32) (v : FVec Ideal S8192x2x2x32x64 .f32) (p q : FVec Ideal S2x1x32x64 .f32) (r i : FVec Ideal S2x2x32x64 .f32) : FVec Ideal S2x2x32x64 .f32 :=
  addf (subf (mulf (broadcastInDim S2x2x32x64 ![0, 1, 2, 3] bcast_S2x1x32x64_S2x2x32x64_0_1_2_3 p) r) (mulf (broadcastInDim S2x2x32x64 ![0, 1, 2, 3] bcast_S2x1x32x64_S2x2x32x64_0_1_2_3 q) i))
    (shapeCast S2x2x32x64 (Host.dynamicSlice S1x2x2x32x64 v (place k) sliceFits_S8192x2x2x32x64_S1x2x2x32x64) shapeCasts_S1x2x2x32x64_S2x2x32x64)
/-- The imaginary parts. -/
def nextIm (k : BitVec 32) (v : FVec Ideal S8192x2x2x32x64 .f32) (p q : FVec Ideal S2x1x32x64 .f32) (r i : FVec Ideal S2x2x32x64 .f32) : FVec Ideal S2x2x32x64 .f32 :=
  addf (addf (mulf (broadcastInDim S2x2x32x64 ![0, 1, 2, 3] bcast_S2x1x32x64_S2x2x32x64_0_1_2_3 p) i) (mulf (broadcastInDim S2x2x32x64 ![0, 1, 2, 3] bcast_S2x1x32x64_S2x2x32x64_0_1_2_3 q) r))
    (shapeCast S2x2x32x64 (Host.dynamicSlice S1x2x2x32x64 v (place k) sliceFits_S8192x2x2x32x64_S1x2x2x32x64) shapeCasts_S1x2x2x32x64_S2x2x32x64)

/-- An array of outputs with a step's states put in. -/
def kept (k : BitVec 32) (o : FVec Ideal S8192x2x2x32x64 .f32) (s : FVec Ideal S2x2x32x64 .f32) : FVec Ideal S8192x2x2x32x64 .f32 :=
  Host.dynamicUpdateSlice o (broadcastInDim S1x2x2x32x64 ![1, 2, 3, 4] bcast_S2x2x32x64_S1x2x2x32x64_1_2_3_4 s) (place k) updateFits_S8192x2x2x32x64_S1x2x2x32x64

theorem nextRe_apply {j : ℕ} (hj : j < 8192) (v : FVec Ideal S8192x2x2x32x64 .f32) (p q : FVec Ideal S2x1x32x64 .f32) (r i : FVec Ideal S2x2x32x64 .f32) (d b : Fin 2) (g : Fin 32) (n : Fin 64) :
    (nextRe (BitVec.ofNat 32 j) v p q r i (ix4 d b g n) : EReal) = p (ix4 d 0 g n) * r (ix4 d b g n) - q (ix4 d 0 g n) * i (ix4 d b g n) + v (ix5 ⟨j, hj⟩ d b g n) := by
  rw [← taken hj v d b g n]
  unfold nextRe
  generalize Host.dynamicSlice S1x2x2x32x64 v (place (BitVec.ofNat 32 j)) sliceFits_S8192x2x2x32x64_S1x2x2x32x64 = w
  pointwise
theorem nextIm_apply {j : ℕ} (hj : j < 8192) (v : FVec Ideal S8192x2x2x32x64 .f32) (p q : FVec Ideal S2x1x32x64 .f32) (r i : FVec Ideal S2x2x32x64 .f32) (d b : Fin 2) (g : Fin 32) (n : Fin 64) :
    (nextIm (BitVec.ofNat 32 j) v p q r i (ix4 d b g n) : EReal) = p (ix4 d 0 g n) * i (ix4 d b g n) + q (ix4 d 0 g n) * r (ix4 d b g n) + v (ix5 ⟨j, hj⟩ d b g n) := by
  rw [← taken hj v d b g n]
  unfold nextIm
  generalize Host.dynamicSlice S1x2x2x32x64 v (place (BitVec.ofNat 32 j)) sliceFits_S8192x2x2x32x64_S1x2x2x32x64 = w
  pointwise
theorem kept_apply {j : ℕ} (hj : j < 8192) (o : FVec Ideal S8192x2x2x32x64 .f32) (s : FVec Ideal S2x2x32x64 .f32) (t : Fin 8192) (d b : Fin 2) (g : Fin 32) (n : Fin 64) :
    kept (BitVec.ofNat 32 j) o s (ix5 t d b g n) = if t.val = j then s (ix4 d b g n) else o (ix5 t d b g n) := by
  rw [kept, placed hj]
  have e : broadcastInDim S1x2x2x32x64 ![1, 2, 3, 4] bcast_S2x2x32x64_S1x2x2x32x64_1_2_3_4 s (ix5 0 d b g n) = s (ix4 d b g n) := by pointwise
  rw [e]

/-! ## The loop -/

section
variable {x : Given} (h : x.Regular)

/-- The states of one group of one sequence in one direction. -/
def at_step (h : x.Regular) (d b : Fin 2) (g : Fin 32) (n : Fin 64) (t : ℕ) : ℂ :=
  state ((numbers h d g).A n) (drive ((numbers h d g).B n) (order h d b g)) t

theorem at_step_succ (d b : Fin 2) (g : Fin 32) (n : Fin 64) (t : ℕ) :
    at_step h d b g n (t + 1) = (numbers h d g).A n * at_step h d b g n t + drive ((numbers h d g).B n) (order h d b g) t := rfl

/-- A state whose eigenvalue is infinite stays zero. -/
theorem at_step_idle (d b : Fin 2) (g : Fin 32) {n : Fin 64} (hn : ¬ (numbers h d g).live n) (t : ℕ) : at_step h d b g n t = 0 :=
  state_zero _ (drive_zero (Num.B_idle _ hn) _) t

/-- The buffers before step `j`: the number, the inputs and decays, the states after `j` steps, and every earlier step's states. -/
structure Held (V : Valuation τ sig (Elt Ideal)) (j : ℕ) : Prop where
  no : V (Proc.devRef .tc main_v54_4) = constantI S_ 32 (BitVec.ofNat 32 j)
  inRe : ∀ (t : Fin 8192) (d b : Fin 2) (g : Fin 32) (n : Fin 64), @Eq EReal (V (Proc.devRef .tc main_v54_0) (ix5 t d b g n)) ((drive ((numbers h d g).B n) (order h d b g) t.val).re : ℝ)
  inIm : ∀ (t : Fin 8192) (d b : Fin 2) (g : Fin 32) (n : Fin 64), @Eq EReal (V (Proc.devRef .tc main_v54_1) (ix5 t d b g n)) ((drive ((numbers h d g).B n) (order h d b g) t.val).im : ℝ)
  aRe : ∀ (d : Fin 2) (g : Fin 32) (n : Fin 64), (numbers h d g).live n → @Eq EReal (V (Proc.devRef .tc main_v54_2) (ix4 d 0 g n)) (((numbers h d g).A n).re : ℝ)
  aIm : ∀ (d : Fin 2) (g : Fin 32) (n : Fin 64), (numbers h d g).live n → @Eq EReal (V (Proc.devRef .tc main_v54_3) (ix4 d 0 g n)) (((numbers h d g).A n).im : ℝ)
  sRe : ∀ (d b : Fin 2) (g : Fin 32) (n : Fin 64), @Eq EReal (V (Proc.devRef .tc main_v54_5) (ix4 d b g n)) ((at_step h d b g n j).re : ℝ)
  sIm : ∀ (d b : Fin 2) (g : Fin 32) (n : Fin 64), @Eq EReal (V (Proc.devRef .tc main_v54_6) (ix4 d b g n)) ((at_step h d b g n j).im : ℝ)
  oRe : ∀ (t : Fin 8192) (d b : Fin 2) (g : Fin 32) (n : Fin 64), t.val < j → @Eq EReal (V (Proc.devRef .tc main_v54_7) (ix5 t d b g n)) ((at_step h d b g n (t.val + 1)).re : ℝ)
  oIm : ∀ (t : Fin 8192) (d b : Fin 2) (g : Fin 32) (n : Fin 64), t.val < j → @Eq EReal (V (Proc.devRef .tc main_v54_8) (ix5 t d b g n)) ((at_step h d b g n (t.val + 1)).im : ℝ)

variable {h} {V : Valuation τ sig (Elt Ideal)} {j : ℕ}

theorem next_re (H : Held h V j) (hj : j < 8192) (d b : Fin 2) (g : Fin 32) (n : Fin 64) :
    @Eq EReal (nextRe (BitVec.ofNat 32 j) (V (Proc.devRef .tc main_v54_0)) (V (Proc.devRef .tc main_v54_2)) (V (Proc.devRef .tc main_v54_3)) (V (Proc.devRef .tc main_v54_5))
      (V (Proc.devRef .tc main_v54_6)) (ix4 d b g n)) ((at_step h d b g n (j + 1)).re : ℝ) := by
  by_cases hn : (numbers h d g).live n
  swap
  · rw [nextRe_apply hj, H.sRe, H.sIm, H.inRe, drive_zero (Num.B_idle _ hn), at_step_idle h d b g hn, at_step_idle h d b g hn]
    simp
  rw [nextRe_apply hj, H.aRe d g n hn, H.aIm d g n hn, H.sRe, H.sIm, H.inRe]
  simp only [← EReal.coe_mul, ← EReal.coe_sub, ← EReal.coe_add]
  rw [at_step_succ, Complex.add_re, Complex.mul_re]
theorem next_im (H : Held h V j) (hj : j < 8192) (d b : Fin 2) (g : Fin 32) (n : Fin 64) :
    @Eq EReal (nextIm (BitVec.ofNat 32 j) (V (Proc.devRef .tc main_v54_1)) (V (Proc.devRef .tc main_v54_2)) (V (Proc.devRef .tc main_v54_3)) (V (Proc.devRef .tc main_v54_5))
      (V (Proc.devRef .tc main_v54_6)) (ix4 d b g n)) ((at_step h d b g n (j + 1)).im : ℝ) := by
  by_cases hn : (numbers h d g).live n
  swap
  · rw [nextIm_apply hj, H.sRe, H.sIm, H.inIm, drive_zero (Num.B_idle _ hn), at_step_idle h d b g hn, at_step_idle h d b g hn]
    simp
  rw [nextIm_apply hj, H.aRe d g n hn, H.aIm d g n hn, H.sRe, H.sIm, H.inIm]
  simp only [← EReal.coe_mul, ← EReal.coe_sub, ← EReal.coe_add]
  rw [at_step_succ, Complex.add_im, Complex.mul_im]

theorem res_re (H : Held h V j) : res_main_while0b_v74 V = nextRe (BitVec.ofNat 32 j) (V (Proc.devRef .tc main_v54_0)) (V (Proc.devRef .tc main_v54_2)) (V (Proc.devRef .tc main_v54_3))
    (V (Proc.devRef .tc main_v54_5)) (V (Proc.devRef .tc main_v54_6)) := by
  unfold res_main_while0b_v74
  rw [H.no]; rfl
theorem res_im (H : Held h V j) : res_main_while0b_v80 V = nextIm (BitVec.ofNat 32 j) (V (Proc.devRef .tc main_v54_1)) (V (Proc.devRef .tc main_v54_2)) (V (Proc.devRef .tc main_v54_3))
    (V (Proc.devRef .tc main_v54_5)) (V (Proc.devRef .tc main_v54_6)) := by
  unfold res_main_while0b_v80
  rw [H.no]; rfl

theorem kept_re (H : Held h V j) : STEP V (Proc.devRef .tc main_v54_7) = kept (BitVec.ofNat 32 j) (V (Proc.devRef .tc main_v54_7)) (res_main_while0b_v74 V) := by
  rw [STEP_main_v54_7]
  unfold Value.step_main_v54_7
  rw [H.no]; rfl
theorem kept_im (H : Held h V j) : STEP V (Proc.devRef .tc main_v54_8) = kept (BitVec.ofNat 32 j) (V (Proc.devRef .tc main_v54_8)) (res_main_while0b_v80 V) := by
  rw [STEP_main_v54_8]
  unfold Value.step_main_v54_8
  rw [H.no]; rfl

theorem Held.next (H : Held h V j) (hj : j < 8192) : Held h (STEP V) (j + 1) where
  no := by
    rw [STEP_main_v54_4]; unfold Value.step_main_v54_4; rw [H.no]; funext i
    show BitVec.ofNat 32 j + 1#32 = _
    simp only [BitVec.ofNat_add]; rfl
  inRe := by rw [STEP_main_v54_0]; exact H.inRe
  inIm := by rw [STEP_main_v54_1]; exact H.inIm
  aRe := by rw [STEP_main_v54_2]; exact H.aRe
  aIm := by rw [STEP_main_v54_3]; exact H.aIm
  sRe := by
    rw [STEP_main_v54_5]; unfold Value.step_main_v54_5; rw [res_re H]; exact next_re H hj
  sIm := by
    rw [STEP_main_v54_6]; unfold Value.step_main_v54_6; rw [res_im H]; exact next_im H hj
  oRe t d b g n ht := by
    rw [kept_re H, kept_apply hj, res_re H]
    by_cases e : t.val = j
    · rw [if_pos e, e]; exact next_re H hj d b g n
    · rw [if_neg e]; exact H.oRe t d b g n (by omega)
  oIm t d b g n ht := by
    rw [kept_im H, kept_apply hj, res_im H]
    by_cases e : t.val = j
    · rw [if_pos e, e]; exact next_im H hj d b g n
    · rw [if_neg e]; exact H.oIm t d b g n (by omega)

end

/-! ## From the arguments to the result -/

variable (m : (ℓ : Loc nD τ sig) → Buf (Elt Ideal) ℓ) (c : Dev nD)

/-- The reference's arguments. -/
def given : Given where
  u := m ((c.tc : Thread nD τ).loc main_arg0)
  ar := m ((c.tc : Thread nD τ).loc main_arg1)
  ai := m ((c.tc : Thread nD τ).loc main_arg2)
  ld := m ((c.tc : Thread nD τ).loc main_arg3)
  br := m ((c.tc : Thread nD τ).loc main_arg4)
  bi := m ((c.tc : Thread nD τ).loc main_arg5)
  cr := m ((c.tc : Thread nD τ).loc main_arg6)
  ci := m ((c.tc : Thread nD τ).loc main_arg7)

/-- What the loop's buffers hold at its start. -/
theorem start_no : entryContents preI m c (Proc.devRef .tc main_v54_4) = constantI S_ 32 (BitVec.ofNat 32 0) := by
  simp only [entryContents, afterL_cons, afterL_nil]; after_reads_simp; rfl
theorem start_inRe : entryContents preI m c (Proc.devRef .tc main_v54_0)
    = A_main_v46 (given m c).u (given m c).ar (given m c).ai (given m c).ld (given m c).br (given m c).bi := by
  simp only [entryContents, afterL_cons, afterL_nil]; after_reads_simp; rfl
theorem start_inIm : entryContents preI m c (Proc.devRef .tc main_v54_1)
    = A_main_v48 (given m c).u (given m c).ar (given m c).ai (given m c).ld (given m c).br (given m c).bi := by
  simp only [entryContents, afterL_cons, afterL_nil]; after_reads_simp; rfl
theorem start_aRe : entryContents preI m c (Proc.devRef .tc main_v54_2)
    = A_main_v49 (given m c).u (given m c).ar (given m c).ai (given m c).ld (given m c).br (given m c).bi := by
  simp only [entryContents, afterL_cons, afterL_nil]; after_reads_simp; rfl
theorem start_aIm : entryContents preI m c (Proc.devRef .tc main_v54_3)
    = A_main_v50 (given m c).u (given m c).ar (given m c).ai (given m c).ld (given m c).br (given m c).bi := by
  simp only [entryContents, afterL_cons, afterL_nil]; after_reads_simp; rfl
theorem start_sRe : entryContents preI m c (Proc.devRef .tc main_v54_5) = K_main_v51 (F := Ideal) := by
  simp only [entryContents, afterL_cons, afterL_nil]; after_reads_simp; rfl
theorem start_sIm : entryContents preI m c (Proc.devRef .tc main_v54_6) = K_main_v51 (F := Ideal) := by
  simp only [entryContents, afterL_cons, afterL_nil]; after_reads_simp; rfl

theorem start_zero (d b : Fin 2) (g : Fin 32) (n : Fin 64) : @Eq EReal (K_main_v51 (F := Ideal) (ix4 d b g n)) ((0 : ℝ) : EReal) := by
  pointwise [K_main_v51, K_main_cst_0]
  exact EReal.coe_zero.symm

variable {m c}
theorem start (h : (given m c).Regular) : Held h (entryContents preI m c) 0 where
  no := start_no m c
  inRe := by rw [start_inRe]; exact added_re h
  inIm := by rw [start_inIm]; exact added_im h
  aRe d g n hn := by
    rw [start_aRe]
    refine Eq.trans ?_ (decay_re h d g n hn)
    pointwise [A_main_v49]
  aIm d g n hn := by
    rw [start_aIm]
    refine Eq.trans ?_ (decay_im h d g n hn)
    pointwise [A_main_v50]
  sRe d b g n := by rw [start_sRe]; exact start_zero d b g n
  sIm d b g n := by rw [start_sIm]; exact start_zero d b g n
  oRe t d b g n ht := absurd ht (Nat.not_lt_zero _)
  oIm t d b g n ht := absurd ht (Nat.not_lt_zero _)

theorem held (h : (given m c).Regular) : ∀ j, j ≤ 8192 → Held h (STEP^[j] (entryContents preI m c)) j
  | 0, _ => start h
  | j + 1, hj => by
    rw [Function.iterate_succ_apply']
    exact (held h j (by omega)).next (by omega)

/-- An output from the states of its group. -/
theorem output (h : (given m c).Regular) (o p : FVec Ideal S8192x2x2x32x64 .f32) (t : Fin 8192) (d b : Fin 2) (g : Fin 32) (q : Fin 16)
    (ho : ∀ n, @Eq EReal (o (ix5 t d b g n)) ((at_step h d b g n (t.val + 1)).re : ℝ)) (hp : ∀ n, @Eq EReal (p (ix5 t d b g n)) ((at_step h d b g n (t.val + 1)).im : ℝ)) :
    ((∑ n : Fin 64, (o (ix5 t d b g n) * (given m c).cr (ix4 d g q n) : EReal)) - ∑ n : Fin 64, (p (ix5 t d b g n) * (given m c).ci (ix4 d g q n) : EReal) : EReal)
      = (seen (numbers h d g).A ((numbers h d g).C q) (numbers h d g).B (order h d b g) (t.val + 1) : ℝ) := by
  have e : ∀ n, (o (ix5 t d b g n) * (given m c).cr (ix4 d g q n) : EReal)
      = (((at_step h d b g n (t.val + 1)).re * ((given m c).cr (ix4 d g q n)).toReal : ℝ) : EReal) := fun n => by
    rw [EReal.coe_mul, ← h.cr, ho]
  have e' : ∀ n, (p (ix5 t d b g n) * (given m c).ci (ix4 d g q n) : EReal)
      = (((at_step h d b g n (t.val + 1)).im * ((given m c).ci (ix4 d g q n)).toReal : ℝ) : EReal) := fun n => by
    rw [EReal.coe_mul, ← h.ci, hp]
  rw [sum_congr rfl fun n _ => e n, sum_congr rfl fun n _ => e' n, ← Cert.Attn.coe_sum, ← Cert.Attn.coe_sum, ← EReal.coe_sub, ← sum_sub_distrib]
  refine congrArg (fun z : ℝ => (z : EReal)) (sum_congr rfl fun n _ => ?_)
  rw [Complex.mul_re]
  show _ = ((given m c).cr (ix4 d g q n)).toReal * (at_step h d b g n (t.val + 1)).re - ((given m c).ci (ix4 d g q n)).toReal * (at_step h d b g n (t.val + 1)).im
  ring

/-- The operations after the loop, read at one output. -/
theorem result_apply (s : State Ideal) (cr ci : FVec Ideal S2x32x16x64 .f32) (w : Fin 16384) (k : Fin 512) (T : Fin 8192) (hT : T.val = 8191 - w.val % 8192) :
    @Eq EReal (R_main_v66 s cr ci (ix2 w k))
      (((∑ n : Fin 64, ((s.main_v54_7 : FVec Ideal S8192x2x2x32x64 .f32) (ix5 ⟨w.val % 8192, by omega⟩ 0 ⟨w.val / 8192, by omega⟩ ⟨k.val / 16, by omega⟩ n) * cr (ix4 0 ⟨k.val / 16, by omega⟩ ⟨k.val % 16, by omega⟩ n) : EReal))
        - ∑ n : Fin 64, ((s.main_v54_8 : FVec Ideal S8192x2x2x32x64 .f32) (ix5 ⟨w.val % 8192, by omega⟩ 0 ⟨w.val / 8192, by omega⟩ ⟨k.val / 16, by omega⟩ n) * ci (ix4 0 ⟨k.val / 16, by omega⟩ ⟨k.val % 16, by omega⟩ n) : EReal))
      + ((∑ n : Fin 64, ((s.main_v54_7 : FVec Ideal S8192x2x2x32x64 .f32) (ix5 T 1 ⟨w.val / 8192, by omega⟩ ⟨k.val / 16, by omega⟩ n) * cr (ix4 1 ⟨k.val / 16, by omega⟩ ⟨k.val % 16, by omega⟩ n) : EReal))
        - ∑ n : Fin 64, ((s.main_v54_8 : FVec Ideal S8192x2x2x32x64 .f32) (ix5 T 1 ⟨w.val / 8192, by omega⟩ ⟨k.val / 16, by omega⟩ n) * ci (ix4 1 ⟨k.val / 16, by omega⟩ ⟨k.val % 16, by omega⟩ n) : EReal))) := by
  have eT : T = Fin.rev ⟨w.val % 8192, by omega⟩ := Fin.ext (by rw [hT, Fin.val_rev]; simp only; omega)
  rw [eT]
  pointwise [R_main_v66]
  rfl

/-- The reference's result: every output of every position. -/
theorem result_value (h : (given m c).Regular) : out_main_v66 (STEP^[8192] (entryContents preI m c)) = (fun i : S16384x512.Idx => valueAt h (i 0) (i 1)) := by
  have H := held h 8192 le_rfl
  have a6 := iter_main_arg6 m c 8192
  have a7 := iter_main_arg7 m c 8192
  generalize STEP^[8192] (entryContents preI m c) = V at H a6 a7
  have e : out_main_v66 V = R_main_v66 (F := Ideal) ⟨V (Proc.devRef .tc main_v54_5), V (Proc.devRef .tc main_v54_6), V (Proc.devRef .tc main_v54_7), V (Proc.devRef .tc main_v54_8),
      V (Proc.devRef .tc main_v54_0), V (Proc.devRef .tc main_v54_1), V (Proc.devRef .tc main_v54_2), V (Proc.devRef .tc main_v54_3)⟩ (given m c).cr (given m c).ci := by
    unfold out_main_v66
    rw [a6, a7]
    rfl
  rw [e]
  funext i
  obtain ⟨w, k, rfl⟩ : ∃ (w : Fin 16384) (k : Fin 512), i = ix2 w k := ⟨i 0, i 1, eq_ix2 i⟩
  have f := output h (V (Proc.devRef .tc main_v54_7)) (V (Proc.devRef .tc main_v54_8)) ⟨w.val % 8192, by omega⟩ 0 ⟨w.val / 8192, by omega⟩ ⟨k.val / 16, by omega⟩ ⟨k.val % 16, by omega⟩
    (fun n => H.oRe _ _ _ _ n (Fin.isLt _)) (fun n => H.oIm _ _ _ _ n (Fin.isLt _))
  have g := output h (V (Proc.devRef .tc main_v54_7)) (V (Proc.devRef .tc main_v54_8)) ⟨8191 - w.val % 8192, by omega⟩ 1 ⟨w.val / 8192, by omega⟩ ⟨k.val / 16, by omega⟩ ⟨k.val % 16, by omega⟩
    (fun n => H.oRe _ _ _ _ n (Fin.isLt _)) (fun n => H.oIm _ _ _ _ n (Fin.isLt _))
  refine (result_apply _ _ _ w k ⟨8191 - w.val % 8192, by omega⟩ rfl).trans ((congrArg₂ (fun a b : EReal => a + b) f g).trans ?_)
  refine (EReal.coe_add _ _).symm.trans (congrArg (fun z : ℝ => (z : EReal)) ?_)
  simp only [show 8191 - w.val % 8192 + 1 = 8192 - w.val % 8192 by omega]
  rfl

end Cert.S5Ref

end
-- ==== Proof.S5Claims.lean ====
/- The claims about the S5 scan: what the precondition says, the reference's frame, and the equality of the two results. -/
module

public import proofs.«01_k».proof.Defs
public import proofs.«01_k».proof.Proof.Claims
public import proofs.«01_k».proof.Proof.S5Run
public import proofs.«01_k».proof.Proof.S5Result
public import proofs.«01_k».proof.Proof.S5Loop
public import Idealize.ShloMosaic.Lib.Claim
public import Idealize.ShloMosaic.Lib.Quiescent

@[expose] public section

set_option maxRecDepth 16384

noncomputable section

namespace Cert.S5

open Idealize.ShloMosaic Idealize.ShloMosaic.TcCoe Idealize.ShloMosaic.Tactic
open Idealize.SL.Sem

/-- The predicate's side conditions. -/
theorem pre_facts : Cert.Pre_scan_regular.Facts where
  bcast_S_S2x8192x512 := by decide
  bcast_S_S2x32x64 := by decide
  bcast_S_S2x32 := by decide
  bcast_S_S2x32x64x16 := by decide
  bcast_S_S2x32x16x64 := by decide

/-- A step's length is a real number when its logarithm is below infinity. -/
theorem real_length (x : EReal) (h : Ideal.cmp .olt x (Ideal.ofBits .f32 0x7F800000#32) = 1#1) : Ideal.exp x = ((Ideal.exp x).toReal : EReal) := by
  rw [Cert.Attn.top_f32] at h
  induction x using EReal.rec with
  | bot => rw [Ideal.exp_bot]; rfl
  | coe r => rw [Ideal.exp_coe, EReal.toReal_coe]
  | top => simp [Ideal.cmp] at h

/-- An eigenvalue of which one part is not zero is not zero. -/
theorem parts_ne {a b : EReal} (h : Ideal.cmp .une a (Ideal.ofBits .f32 0x00000000#32) ||| Ideal.cmp .une b (Ideal.ofBits .f32 0x00000000#32) = 1#1) :
    ¬ (a = 0 ∧ b = 0) := by
  rintro ⟨ha, hb⟩
  rw [zero_f32, ha, hb] at h
  simp [Ideal.cmp] at h

/-- The precondition makes the arguments regular. -/
theorem regular [Cert.Pre_scan_regular.Facts] (x : Given)
    (h : (Cert.Pre_scan_regular.fn (F := Ideal) x.u x.ar x.ai x.ld x.br x.bi x.cr x.ci) = (fun _ => 1#1, fun _ => 1#1, fun _ => 1#1, fun _ => 1#1, fun _ => 1#1, fun _ => 1#1, fun _ => 1#1)) :
    x.Regular := by
  have h0 := congrArg (fun z => z.1) h
  have h1 := congrArg (fun z => z.2.1) h
  have h2 := congrArg (fun z => z.2.2.1) h
  have h3 := congrArg (fun z => z.2.2.2.1) h
  have h4 := congrArg (fun z => z.2.2.2.2.1) h
  have h5 := congrArg (fun z => z.2.2.2.2.2.1) h
  have h6 := congrArg (fun z => z.2.2.2.2.2.2) h
  exact ⟨fun i => Cert.Attn.real_of_abs_lt _ (congrFun h0 i), fun i => real_length _ (congrFun h5 i), fun i => Cert.Attn.real_of_abs_lt _ (congrFun h1 i),
    fun i => Cert.Attn.real_of_abs_lt _ (congrFun h2 i), fun i => Cert.Attn.real_of_abs_lt _ (congrFun h3 i), fun i => Cert.Attn.real_of_abs_lt _ (congrFun h4 i),
    fun i => parts_ne (congrFun h6 i)⟩

/-- The reference leaves its arguments as they were and every semaphore at zero. -/
theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- Where the arguments agree, the reference has the kernel's. -/
theorem given_eq (m : (ℓ : Loc Cert.Kernel5Ideal.nD Cert.Kernel5Ideal.τ Cert.Kernel5Ideal.sig) → Buf (Elt Ideal) ℓ)
    (m' : (ℓ : Loc Cert.Reference5Ideal.nD Cert.Reference5Ideal.τ Cert.Reference5Ideal.sig) → Buf (Elt Ideal) ℓ) (c : Dev Cert.Kernel5Ideal.nD)
    (h : m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) :
    Cert.S5Ref.given m' c = given m c := by
  obtain ⟨h0, h1, h2, h3, h4, h5, h6, h7⟩ := h
  unfold Cert.S5Ref.given given
  rw [h0, h1, h2, h3, h4, h5, h6, h7]

/-- The outputs that regular arguments determine; of others nothing is said. -/
def scanned (x : Given) : FVec Ideal Cert.Kernel5Ideal.S16384x512 .f32 :=
  open Classical in if h : x.Regular then fun i => valueAt h (i 0) (i 1) else fun _ => (0 : EReal)
theorem scanned_eq {x : Given} (h : x.Regular) : scanned x = fun i => valueAt h (i 0) (i 1) := dif_pos h

/-- The two programs end with the same result, when the inputs, the matrices and the steps' lengths are finite and no eigenvalue is zero. -/
theorem results_equal (hP : Cert.Pre_scan_regular.Facts) : Cert.algebraic_Kernel5Ideal_Reference5Ideal_pre_scan_regular (hPre_scan_regular := hP) := by
  intro m g m' g' hpre hagree
  have hr : ∀ c, (given m c).Regular := fun c => by
    obtain ⟨h0, h1, h2, h3, h4, h5, h6⟩ := hpre c
    exact regular (given m c) (Prod.ext h0 (Prod.ext h1 (Prod.ext h2 (Prod.ext h3 (Prod.ext h4 (Prod.ext h5 h6))))))
  refine ⟨fun c => scanned (given m c),
    (θ_run Cert.Kernel5Ideal.defs _ _).mono (fun r h c => ⟨(h.1 c).trans ((result_value m g c (hr c)).trans (scanned_eq (hr c)).symm), h.2 c⟩)
    (θ_run_and (run_scan m g) (Cert.Kernel5Ideal.Gen.unchanged m g)), ?_⟩
  refine (θ_run Cert.Reference5Ideal.defs _ _).mono (fun r h c => ⟨(h c).1.trans ?_, (h c).2⟩) (Cert.Reference5Ideal.Value.run (F := Ideal) m' g')
  have e := given_eq m m' c (hagree c)
  have hr' : (Cert.S5Ref.given m' c).Regular := e ▸ hr c
  exact (Cert.S5Ref.result_value hr').trans ((scanned_eq hr').symm.trans (congrArg scanned e))

end Cert.S5

end
-- ==== Proof.Inner.lean ====
/- The gated embedding of a layer that is not the last, over the extended reals: what the call without the final norm computes at
   one grid point, its blocks from its arguments, and its result array as the formula of `Norm.lean`. -/
module

public import proofs.«01_k».proof.Proof.Embed
public import proofs.«01_k».proof.Proof.Gen.Kernel6Ideal.Value
public import Idealize.ShloMosaic.Lib.Pipeline.ValueKit

@[expose] public section

set_option maxRecDepth 16384

noncomputable section

namespace Cert.Inner

open Cert.Kernel6Ideal Cert.Kernel6Ideal.Gen Cert.Norm
open Idealize.ShloMosaic Idealize.ShloMosaic.TcCoe Idealize.ShloMosaic.Tactic
open Idealize.SL.Sem

/-- The last layer's call computes the same stream before its norm. -/
theorem same_stream (x0 : Vec Ideal S512x1024 .f32) (x1 : Vec Ideal S1024x512 .f32) (x2 : Vec Ideal S512x256 .f32)
    (x3 : Vec Ideal S1x1024 .f32) (x4 : Vec Ideal S1024x1024 .bf16) (x5 : Vec Ideal S256x1024 .bf16) :
    k0_pay1 x0 x1 x3 x4 x2 x5 = Cert.Kernel2Ideal.Gen.k0_pay2 x0 x1 x3 x4 x2 x5 := rfl

/-- What the body leaves at row `r` and column `j` of its block. -/
theorem block_apply (x0 : Vec Ideal S512x1024 .f32) (x1 : Vec Ideal S1024x512 .f32) (x2 : Vec Ideal S512x256 .f32)
    (x3 : Vec Ideal S1x1024 .f32) (x4 : Vec Ideal S1024x1024 .bf16) (x5 : Vec Ideal S256x1024 .bf16) (x6 : Vec Ideal S1x1024 .f32)
    (r : Fin 512) (j : Fin 1024) :
    out0_7 x0 x1 x2 x3 x4 x5 x6 (ix2 r j)
      = gated (fun k => x0 (ix2 r k) + x1 (ix2 k r)) (fun k => x2 (ix2 r k)) (fun k => x3 (ix2 0 k)) (fun k l => x4 (ix2 k l))
          (fun k l => x5 (ix2 k l)) j := by
  have z := Cert.Embed.zero2
  unfold out0_7
  rw [View.canon_unit_zero z, show View.ld x0 r0_0 = x0 from View.ld_unit_zero (S := S512x1024) z _ x0,
    show View.ld x1 r0_1 = x1 from View.ld_unit_zero (S := S1024x512) z _ x1,
    show View.ld x3 r0_2 = x3 from View.ld_unit_zero (S := S1x1024) z _ x3,
    show View.ld x4 r0_3 = x4 from View.ld_unit_zero (S := S1024x1024) z _ x4,
    show View.ld x2 r0_4 = x2 from View.ld_unit_zero (S := S512x256) z _ x2,
    show View.ld x5 r0_5 = x5 from View.ld_unit_zero (S := S256x1024) z _ x5, same_stream]
  exact Cert.Embed.gated_apply x0 x1 x2 x3 x4 x5 r j

variable (m : (ℓ : Loc nD τ sig) → Buf (Elt Ideal) ℓ) (c : Dev nD)

/-- The arguments as the program finds them, named as those of the last layer's call; the last gains are not read. -/
abbrev inX : S2x8192x1024.Idx → EReal := m ((c : Thread nD τ).loc main_arg0)
abbrev inE : S2x8192x1024.Idx → EReal := m ((c : Thread nD τ).loc main_arg1)
abbrev inP : S2x8192x256.Idx → EReal := m ((c : Thread nD τ).loc main_arg2)
abbrev inG : S1024.Idx → EReal := m ((c : Thread nD τ).loc main_arg3)
abbrev inGate : S1024x1024.Idx → EReal := m ((c : Thread nD τ).loc main_arg4)
abbrev inProj : S256x1024.Idx → EReal := m ((c : Thread nD τ).loc main_arg5)

/-! ## The blocks of a grid point, from the arguments -/

theorem index_rows : ∀ t : Fin cfg0.N, win0_0.index t = ![t.val, 0] ∧ win0_1.index t = ![0, t.val] ∧ win0_2.index t = ![t.val, 0] ∧ win0_7.index t = ![t.val, 0] := by
  decide +kernel
theorem index_whole : ∀ t : Fin cfg0.N, win0_3.index t = ![0, 0] ∧ win0_4.index t = ![0, 0] ∧ win0_5.index t = ![0, 0] := by decide +kernel
theorem point_lt (t : Fin cfg0.N) : t.val < 32 := t.isLt

/-- A point's row among all the rows. -/
abbrev rowOf (t : Fin cfg0.N) (r : Fin 512) : Fin 16384 := ⟨t.val * 512 + r.val, by have := point_lt t; omega⟩
/-- The batch and the position of a row. -/
abbrev batch (w : Fin 16384) : Fin 2 := ⟨w.val / 8192, by omega⟩
abbrev place (w : Fin 16384) : Fin 8192 := ⟨w.val % 8192, by omega⟩

/-- The stream's block. -/
theorem block_stream (t : Fin cfg0.N) (r : Fin 512) (k : Fin 1024) :
    (iblk m c 0 t : Vec Ideal S512x1024 .f32) (ix2 r k) = inX m c (ix3 (batch (rowOf t r)) (place (rowOf t r)) k) := by
  have h : (iblk m c 0 t : Vec Ideal S512x1024 .f32) (ix2 r k) = (V m c main_v0 : Vec Ideal S16384x1024 .f32) (ix2 (rowOf t r) k) := by
    blk_ext [iblk, (index_rows t).1]
  refine h.trans ?_
  generalize rowOf t r = w
  simp only [V, hostOps0, List.flatten_cons, List.flatten_nil, List.append_nil, List.cons_append, List.nil_append]
  after_results_simp
  pointwise

/-- The block of the experts' output, a row in each of its columns. -/
theorem block_experts (t : Fin cfg0.N) (k : Fin 1024) (r : Fin 512) :
    (iblk m c 1 t : Vec Ideal S1024x512 .f32) (ix2 k r) = inE m c (ix3 (batch (rowOf t r)) (place (rowOf t r)) k) := by
  have h : (iblk m c 1 t : Vec Ideal S1024x512 .f32) (ix2 k r) = (V m c main_v2 : Vec Ideal S1024x16384 .f32) (ix2 k (rowOf t r)) := by
    blk_ext [iblk, (index_rows t).2.1]
  refine h.trans ?_
  generalize rowOf t r = w
  simp only [V, hostOps0, List.flatten_cons, List.flatten_nil, List.append_nil, List.cons_append, List.nil_append]
  after_results_simp
  pointwise

/-- The embedding's block. -/
theorem block_embedding (t : Fin cfg0.N) (r : Fin 512) (k : Fin 256) :
    (iblk m c 2 t : Vec Ideal S512x256 .f32) (ix2 r k) = inP m c (ix3 (batch (rowOf t r)) (place (rowOf t r)) k) := by
  have h : (iblk m c 2 t : Vec Ideal S512x256 .f32) (ix2 r k) = (V m c main_v3 : Vec Ideal S16384x256 .f32) (ix2 (rowOf t r) k) := by
    blk_ext [iblk, (index_rows t).2.2.1]
  refine h.trans ?_
  generalize rowOf t r = w
  simp only [V, hostOps0, List.flatten_cons, List.flatten_nil, List.append_nil, List.cons_append, List.nil_append]
  after_results_simp
  pointwise

/-- The gains before the gate. -/
theorem block_gains (t : Fin cfg0.N) (k : Fin 1024) : (iblk m c 3 t : Vec Ideal S1x1024 .f32) (ix2 0 k) = inG m c (ix1 k) := by
  have h : (iblk m c 3 t : Vec Ideal S1x1024 .f32) (ix2 0 k) = (V m c main_v4 : Vec Ideal S1x1024 .f32) (ix2 0 k) := by
    blk_ext [iblk, (index_whole t).1]
  refine h.trans ?_
  simp only [V, hostOps0, List.flatten_cons, List.flatten_nil, List.append_nil, List.cons_append, List.nil_append]
  after_results_simp
  pointwise

/-- The gate's matrix. -/
theorem block_gate (t : Fin cfg0.N) (k l : Fin 1024) : (iblk m c 4 t : Vec Ideal S1024x1024 .bf16) (ix2 k l) = inGate m c (ix2 k l) := by
  have h : (iblk m c 4 t : Vec Ideal S1024x1024 .bf16) (ix2 k l) = (V m c main_v5 : Vec Ideal S1024x1024 .bf16) (ix2 k l) := by
    blk_ext [iblk, (index_whole t).2.1]
  refine h.trans ?_
  simp only [V, hostOps0, List.flatten_cons, List.flatten_nil, List.append_nil, List.cons_append, List.nil_append]
  after_results_simp
  pointwise

/-- The embedding's matrix. -/
theorem block_proj (t : Fin cfg0.N) (k : Fin 256) (l : Fin 1024) : (iblk m c 5 t : Vec Ideal S256x1024 .bf16) (ix2 k l) = inProj m c (ix2 k l) := by
  have h : (iblk m c 5 t : Vec Ideal S256x1024 .bf16) (ix2 k l) = (V m c main_v6 : Vec Ideal S256x1024 .bf16) (ix2 k l) := by
    blk_ext [iblk, (index_whole t).2.2]
  refine h.trans ?_
  simp only [V, hostOps0, List.flatten_cons, List.flatten_nil, List.append_nil, List.cons_append, List.nil_append]
  after_results_simp
  pointwise

/-! ## The result -/

/-- The stream that leaves the layer, at row `w` and column `j`. -/
def streamed (x e : S2x8192x1024.Idx → EReal) (p : S2x8192x256.Idx → EReal) (g : S1024.Idx → EReal) (wg : S1024x1024.Idx → EReal)
    (wp : S256x1024.Idx → EReal) (w : Fin 16384) (j : Fin 1024) : EReal :=
  gated (fun k => x (ix3 (batch w) (place w) k) + e (ix3 (batch w) (place w) k)) (fun k => p (ix3 (batch w) (place w) k)) (fun k => g (ix1 k))
    (fun k l => wg (ix2 k l)) (fun k l => wp (ix2 k l)) j

/-- The result as an array of 16384 rows. -/
def outArr (i : S16384x1024.Idx) : EReal := streamed (inX m c) (inE m c) (inP m c) (inG m c) (inGate m c) (inProj m c) (i 0) (i 1)

/-- What a point leaves at row `r` and column `j` of its block. -/
theorem point_streamed (t : Fin cfg0.N) (r : Fin 512) (j : Fin 1024) :
    out0_7 (iblk m c 0 t) (iblk m c 1 t) (iblk m c 2 t) (iblk m c 3 t) (iblk m c 4 t) (iblk m c 5 t) (iblk m c 6 t) (ix2 r j)
      = streamed (inX m c) (inE m c) (inP m c) (inG m c) (inGate m c) (inProj m c) (rowOf t r) j := by
  refine (block_apply _ _ _ _ _ _ _ r j).trans ?_
  unfold streamed
  rw [funext fun k => congrArg₂ (fun a b : EReal => a + b) (block_stream m c t r k) (block_experts m c t k r), funext (block_embedding m c t r),
    funext (block_gains m c t), funext fun k => funext (block_gate m c t k), funext fun k => funext (block_proj m c t k)]

/-- The result's array after the run is the formula of the arguments. -/
theorem result_array : (dats m 0 c).arrAt 7 cfg0.N = outArr m c := by
  refine (dats m 0 c).arrAt_eq_of_covers 7 _ (by decide +kernel) fun t hf y => ?_
  blk_simp
  rw [after0_7]
  obtain ⟨r, n, rfl⟩ : ∃ (r : Fin 512) (n : Fin 1024), y = ix2 r n := ⟨y 0, y 1, eq_ix2 y⟩
  refine (point_streamed m c t r n).trans ?_
  have e0 : (((cfg0.win 7).blk t).view.emb (ix2 r n)) 0 = rowOf t r := Fin.ext (by blk_simp [(index_rows t).2.2.2])
  have e1 : (((cfg0.win 7).blk t).view.emb (ix2 r n)) 1 = n := Fin.ext (by blk_simp [(index_rows t).2.2.2])
  unfold outArr
  rw [e0, e1]

end Cert.Inner

end
-- ==== Proof.InnerClaims.lean ====
/- The claims about the gated embedding of a layer that is not the last: the reference's frame and the equality of the two results. -/
module

public import proofs.«01_k».proof.Defs
public import proofs.«01_k».proof.Proof.Inner
public import proofs.«01_k».proof.Proof.EmbedRefer
public import proofs.«01_k».proof.Proof.Gen.Reference6Ideal.Run
public import proofs.«01_k».proof.Proof.Gen.Reference6Ideal.Read
public import Idealize.ShloMosaic.Lib.Claim
public import Idealize.ShloMosaic.Lib.Quiescent

@[expose] public section

set_option maxRecDepth 16384

noncomputable section

namespace Cert.Inner

open Idealize.ShloMosaic Idealize.ShloMosaic.TcCoe Idealize.ShloMosaic.Tactic
open Idealize.SL.Sem

/-- The reference leaves its arguments as they were and every semaphore at zero. -/
theorem frame_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The reference's result: the lines before the last layer's final norm, as rows. -/
theorem ref_streamed (x0 x1 : Vec Ideal Cert.Reference6Ideal.S2x8192x1024 .f32) (x2 : Vec Ideal Cert.Reference6Ideal.S2x8192x256 .f32)
    (x3 : Vec Ideal Cert.Reference6Ideal.S1024 .f32) (x4 : Vec Ideal Cert.Reference6Ideal.S1024x1024 .f32)
    (x5 : Vec Ideal Cert.Reference6Ideal.S256x1024 .f32) (w : Fin 16384) (j : Fin 1024) :
    Cert.Reference6Ideal.Read.val_main_v24 (F := Ideal) x0 x1 x2 x3 x4 x5 (ix2 w j) = streamed x0 x1 x2 x3 x4 x5 w j := by
  have h : Cert.Reference6Ideal.Read.val_main_v23 (F := Ideal) x0 x1 x2 x3 x4 x5 = Cert.Reference2Ideal.Read.val_main_v23 (F := Ideal) x0 x1 x2 x3 x4 x5 := rfl
  pointwise [Cert.Reference6Ideal.Read.val_main_v24]
  rw [h]
  exact Cert.Embed.ref_gated x0 x1 x2 x3 x4 x5 (batch w) (place w) j

/-- The two programs end with the same result. -/
theorem results_equal : Cert.algebraic_Kernel6Ideal_Reference6Ideal := by
  intro m g m' g' _ hagree
  refine ⟨fun c => outArr m c, (θ_run Cert.Kernel6Ideal.defs _ _).mono (fun r h c => ⟨(h c).1.trans (result_array m c), (h c).2⟩)
    (Cert.Kernel6Ideal.Value.run_blocks (F := Ideal) m g), ?_⟩
  refine (θ_run Cert.Reference6Ideal.defs _ _).mono (fun r h c => ⟨(h c).1.trans ?_, (h c).2⟩) (Cert.Reference6Ideal.Value.run (F := Ideal) m' g')
  obtain ⟨a0, a1, a2, a3, a4, a5, -⟩ := hagree c
  refine (Cert.Reference6Ideal.Read.val_main_v24_eq (F := Ideal) _ _ _ _ _ _).trans ?_
  rw [a0, a1, a2, a3, a4, a5]
  funext i
  obtain ⟨w, j, rfl⟩ : ∃ (w : Fin 16384) (j : Fin 1024), i = ix2 w j := ⟨i 0, i 1, eq_ix2 i⟩
  exact ref_streamed (inX m c) (inE m c) (inP m c) (inG m c) (inGate m c) (inProj m c) w j

end Cert.Inner

end
-- ==== Proof.lean ====
/- The certificate's proof. Of the attention: the frames of the printed program, of its idealization and of the reference, and the
   equality of the idealization's result with the reference's when every query and key is finite. Of the gated embedding, with
   the final norm and without it, of the output projection and of the input projection: the same frames, and the same equality
   without a precondition. Of the S5 group's scan: the same frames, and the same equality when the inputs, the matrices and the
   steps' lengths are finite and no eigenvalue is zero. -/
module

public import proofs.«01_k».proof.Defs
public import proofs.«01_k».proof.Proof.Printed
public import proofs.«01_k».proof.Proof.Claims
public import proofs.«01_k».proof.Proof.EmbedClaims
public import proofs.«01_k».proof.Proof.MixClaims
public import proofs.«01_k».proof.Proof.ProjClaims
public import proofs.«01_k».proof.Proof.S5Claims
public import proofs.«01_k».proof.Proof.InnerClaims
public import proofs.«01_k».proof.Proof.Gen.Kernel2.Frame
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read

@[expose] public section

noncomputable section

namespace Cert.Proof

/-- Every claim of the certificate, with the programs' side conditions. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts, Cert.Kernel6.Gen.facts,
    Cert.Kernel6Ideal.Gen.facts, Cert.Reference6Ideal.Gen.facts, Cert.Attn.pre_facts,
    Cert.S5.pre_facts,
    fun m g _ => Cert.Attn.frame_printed m g,
    fun m g _ => Cert.Attn.frame m g,
    fun m g _ => Cert.Attn.frame m g,
    Cert.Attn.frame_reference,
    fun m g _ => Cert.Attn.frame_reference m g trivial,
    fun m g _ => Cert.Kernel2.Gen.frame m g,
    fun m g _ => Cert.Kernel2Ideal.Gen.frame m g,
    Cert.Embed.frame_reference,
    fun m g _ => Cert.Kernel3.Gen.frame m g,
    fun m g _ => Cert.Kernel3Ideal.Gen.frame m g,
    Cert.Mix.frame_reference,
    fun m g _ => Cert.Kernel4.Gen.frame m g,
    fun m g _ => Cert.Kernel4Ideal.Gen.frame m g,
    Cert.Proj.frame_reference,
    fun m g _ => Cert.Kernel5.Gen.frame m g,
    fun m g _ => Cert.Kernel5Ideal.Gen.frame m g,
    fun m g _ => Cert.Kernel5Ideal.Gen.frame m g,
    Cert.S5.frame_reference,
    fun m g _ => Cert.S5.frame_reference m g trivial,
    fun m g _ => Cert.Kernel6.Gen.frame m g,
    fun m g _ => Cert.Kernel6Ideal.Gen.frame m g,
    Cert.Inner.frame_reference,
    trivial,
    Cert.Attn.results_equal Cert.Attn.pre_facts,
    trivial,
    Cert.Embed.results_equal,
    trivial,
    Cert.Mix.results_equal,
    trivial,
    Cert.Proj.results_equal,
    trivial,
    Cert.S5.results_equal Cert.S5.pre_facts,
    trivial,
    Cert.Inner.results_equal⟩

end Cert.Proof

end
